-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def Pre_ConvOut (m : (ℓ : Loc Cert.ConvOut.nD Cert.ConvOut.τ Cert.ConvOut.sig) → Buf (Elt Bits) ℓ) : Prop :=
  True

def Pre_ConvOutIdeal (m : (ℓ : Loc Cert.ConvOutIdeal.nD Cert.ConvOutIdeal.τ Cert.ConvOutIdeal.sig) → Buf (Elt Ideal) ℓ) : Prop :=
  True

def Pre_ConvOutRefIdeal (m : (ℓ : Loc Cert.ConvOutRefIdeal.nD Cert.ConvOutRefIdeal.τ Cert.ConvOutRefIdeal.sig) → Buf (Elt Ideal) ℓ) : Prop :=
  True

def Pre_Rwkv (m : (ℓ : Loc Cert.Rwkv.nD Cert.Rwkv.τ Cert.Rwkv.sig) → Buf (Elt Bits) ℓ) : Prop :=
  True

def Pre_RwkvIdeal (m : (ℓ : Loc Cert.RwkvIdeal.nD Cert.RwkvIdeal.τ Cert.RwkvIdeal.sig) → Buf (Elt Ideal) ℓ) : Prop :=
  True

def Pre_RwkvIdeal_finite_key [hPre_finite_key : Cert.Pre_finite_key.Facts] (m : (ℓ : Loc Cert.RwkvIdeal.nD Cert.RwkvIdeal.τ Cert.RwkvIdeal.sig) → Buf (Elt Ideal) ℓ) : Prop :=
  ∀ c : Dev Cert.RwkvIdeal.nD,
    (Cert.Pre_finite_key.fn (F := Ideal) (m ((c.tc : Thread Cert.RwkvIdeal.nD Cert.RwkvIdeal.τ).loc Cert.RwkvIdeal.main_arg0)) (m ((c.tc : Thread Cert.RwkvIdeal.nD Cert.RwkvIdeal.τ).loc Cert.RwkvIdeal.main_arg1)) (m ((c.tc : Thread Cert.RwkvIdeal.nD Cert.RwkvIdeal.τ).loc Cert.RwkvIdeal.main_arg2)) (m ((c.tc : Thread Cert.RwkvIdeal.nD Cert.RwkvIdeal.τ).loc Cert.RwkvIdeal.main_arg3)) (m ((c.tc : Thread Cert.RwkvIdeal.nD Cert.RwkvIdeal.τ).loc Cert.RwkvIdeal.main_arg4)) (m ((c.tc : Thread Cert.RwkvIdeal.nD Cert.RwkvIdeal.τ).loc Cert.RwkvIdeal.main_arg5)) (m ((c.tc : Thread Cert.RwkvIdeal.nD Cert.RwkvIdeal.τ).loc Cert.RwkvIdeal.main_arg6)) (m ((c.tc : Thread Cert.RwkvIdeal.nD Cert.RwkvIdeal.τ).loc Cert.RwkvIdeal.main_arg7)) (m ((c.tc : Thread Cert.RwkvIdeal.nD Cert.RwkvIdeal.τ).loc Cert.RwkvIdeal.main_arg8)) (m ((c.tc : Thread Cert.RwkvIdeal.nD Cert.RwkvIdeal.τ).loc Cert.RwkvIdeal.main_arg9)) (m ((c.tc : Thread Cert.RwkvIdeal.nD Cert.RwkvIdeal.τ).loc Cert.RwkvIdeal.main_arg10)) (m ((c.tc : Thread Cert.RwkvIdeal.nD Cert.RwkvIdeal.τ).loc Cert.RwkvIdeal.main_arg11)) (m ((c.tc : Thread Cert.RwkvIdeal.nD Cert.RwkvIdeal.τ).loc Cert.RwkvIdeal.main_arg12)) (m ((c.tc : Thread Cert.RwkvIdeal.nD Cert.RwkvIdeal.τ).loc Cert.RwkvIdeal.main_arg13)) (m ((c.tc : Thread Cert.RwkvIdeal.nD Cert.RwkvIdeal.τ).loc Cert.RwkvIdeal.main_arg14))).1 = (fun _ => 1#1)
    ∧ (Cert.Pre_finite_key.fn (F := Ideal) (m ((c.tc : Thread Cert.RwkvIdeal.nD Cert.RwkvIdeal.τ).loc Cert.RwkvIdeal.main_arg0)) (m ((c.tc : Thread Cert.RwkvIdeal.nD Cert.RwkvIdeal.τ).loc Cert.RwkvIdeal.main_arg1)) (m ((c.tc : Thread Cert.RwkvIdeal.nD Cert.RwkvIdeal.τ).loc Cert.RwkvIdeal.main_arg2)) (m ((c.tc : Thread Cert.RwkvIdeal.nD Cert.RwkvIdeal.τ).loc Cert.RwkvIdeal.main_arg3)) (m ((c.tc : Thread Cert.RwkvIdeal.nD Cert.RwkvIdeal.τ).loc Cert.RwkvIdeal.main_arg4)) (m ((c.tc : Thread Cert.RwkvIdeal.nD Cert.RwkvIdeal.τ).loc Cert.RwkvIdeal.main_arg5)) (m ((c.tc : Thread Cert.RwkvIdeal.nD Cert.RwkvIdeal.τ).loc Cert.RwkvIdeal.main_arg6)) (m ((c.tc : Thread Cert.RwkvIdeal.nD Cert.RwkvIdeal.τ).loc Cert.RwkvIdeal.main_arg7)) (m ((c.tc : Thread Cert.RwkvIdeal.nD Cert.RwkvIdeal.τ).loc Cert.RwkvIdeal.main_arg8)) (m ((c.tc : Thread Cert.RwkvIdeal.nD Cert.RwkvIdeal.τ).loc Cert.RwkvIdeal.main_arg9)) (m ((c.tc : Thread Cert.RwkvIdeal.nD Cert.RwkvIdeal.τ).loc Cert.RwkvIdeal.main_arg10)) (m ((c.tc : Thread Cert.RwkvIdeal.nD Cert.RwkvIdeal.τ).loc Cert.RwkvIdeal.main_arg11)) (m ((c.tc : Thread Cert.RwkvIdeal.nD Cert.RwkvIdeal.τ).loc Cert.RwkvIdeal.main_arg12)) (m ((c.tc : Thread Cert.RwkvIdeal.nD Cert.RwkvIdeal.τ).loc Cert.RwkvIdeal.main_arg13)) (m ((c.tc : Thread Cert.RwkvIdeal.nD Cert.RwkvIdeal.τ).loc Cert.RwkvIdeal.main_arg14))).2.1 = (fun _ => 1#1)
    ∧ (Cert.Pre_finite_key.fn (F := Ideal) (m ((c.tc : Thread Cert.RwkvIdeal.nD Cert.RwkvIdeal.τ).loc Cert.RwkvIdeal.main_arg0)) (m ((c.tc : Thread Cert.RwkvIdeal.nD Cert.RwkvIdeal.τ).loc Cert.RwkvIdeal.main_arg1)) (m ((c.tc : Thread Cert.RwkvIdeal.nD Cert.RwkvIdeal.τ).loc Cert.RwkvIdeal.main_arg2)) (m ((c.tc : Thread Cert.RwkvIdeal.nD Cert.RwkvIdeal.τ).loc Cert.RwkvIdeal.main_arg3)) (m ((c.tc : Thread Cert.RwkvIdeal.nD Cert.RwkvIdeal.τ).loc Cert.RwkvIdeal.main_arg4)) (m ((c.tc : Thread Cert.RwkvIdeal.nD Cert.RwkvIdeal.τ).loc Cert.RwkvIdeal.main_arg5)) (m ((c.tc : Thread Cert.RwkvIdeal.nD Cert.RwkvIdeal.τ).loc Cert.RwkvIdeal.main_arg6)) (m ((c.tc : Thread Cert.RwkvIdeal.nD Cert.RwkvIdeal.τ).loc Cert.RwkvIdeal.main_arg7)) (m ((c.tc : Thread Cert.RwkvIdeal.nD Cert.RwkvIdeal.τ).loc Cert.RwkvIdeal.main_arg8)) (m ((c.tc : Thread Cert.RwkvIdeal.nD Cert.RwkvIdeal.τ).loc Cert.RwkvIdeal.main_arg9)) (m ((c.tc : Thread Cert.RwkvIdeal.nD Cert.RwkvIdeal.τ).loc Cert.RwkvIdeal.main_arg10)) (m ((c.tc : Thread Cert.RwkvIdeal.nD Cert.RwkvIdeal.τ).loc Cert.RwkvIdeal.main_arg11)) (m ((c.tc : Thread Cert.RwkvIdeal.nD Cert.RwkvIdeal.τ).loc Cert.RwkvIdeal.main_arg12)) (m ((c.tc : Thread Cert.RwkvIdeal.nD Cert.RwkvIdeal.τ).loc Cert.RwkvIdeal.main_arg13)) (m ((c.tc : Thread Cert.RwkvIdeal.nD Cert.RwkvIdeal.τ).loc Cert.RwkvIdeal.main_arg14))).2.2.1 = (fun _ => 1#1)
    ∧ (Cert.Pre_finite_key.fn (F := Ideal) (m ((c.tc : Thread Cert.RwkvIdeal.nD Cert.RwkvIdeal.τ).loc Cert.RwkvIdeal.main_arg0)) (m ((c.tc : Thread Cert.RwkvIdeal.nD Cert.RwkvIdeal.τ).loc Cert.RwkvIdeal.main_arg1)) (m ((c.tc : Thread Cert.RwkvIdeal.nD Cert.RwkvIdeal.τ).loc Cert.RwkvIdeal.main_arg2)) (m ((c.tc : Thread Cert.RwkvIdeal.nD Cert.RwkvIdeal.τ).loc Cert.RwkvIdeal.main_arg3)) (m ((c.tc : Thread Cert.RwkvIdeal.nD Cert.RwkvIdeal.τ).loc Cert.RwkvIdeal.main_arg4)) (m ((c.tc : Thread Cert.RwkvIdeal.nD Cert.RwkvIdeal.τ).loc Cert.RwkvIdeal.main_arg5)) (m ((c.tc : Thread Cert.RwkvIdeal.nD Cert.RwkvIdeal.τ).loc Cert.RwkvIdeal.main_arg6)) (m ((c.tc : Thread Cert.RwkvIdeal.nD Cert.RwkvIdeal.τ).loc Cert.RwkvIdeal.main_arg7)) (m ((c.tc : Thread Cert.RwkvIdeal.nD Cert.RwkvIdeal.τ).loc Cert.RwkvIdeal.main_arg8)) (m ((c.tc : Thread Cert.RwkvIdeal.nD Cert.RwkvIdeal.τ).loc Cert.RwkvIdeal.main_arg9)) (m ((c.tc : Thread Cert.RwkvIdeal.nD Cert.RwkvIdeal.τ).loc Cert.RwkvIdeal.main_arg10)) (m ((c.tc : Thread Cert.RwkvIdeal.nD Cert.RwkvIdeal.τ).loc Cert.RwkvIdeal.main_arg11)) (m ((c.tc : Thread Cert.RwkvIdeal.nD Cert.RwkvIdeal.τ).loc Cert.RwkvIdeal.main_arg12)) (m ((c.tc : Thread Cert.RwkvIdeal.nD Cert.RwkvIdeal.τ).loc Cert.RwkvIdeal.main_arg13)) (m ((c.tc : Thread Cert.RwkvIdeal.nD Cert.RwkvIdeal.τ).loc Cert.RwkvIdeal.main_arg14))).2.2.2 = (fun _ => 1#1)

def Pre_RwkvRefIdeal (m : (ℓ : Loc Cert.RwkvRefIdeal.nD Cert.RwkvRefIdeal.τ Cert.RwkvRefIdeal.sig) → Buf (Elt Ideal) ℓ) : Prop :=
  True

def Pre_RwkvRefIdeal_finite_key [hPre_finite_key : Cert.Pre_finite_key.Facts] (m : (ℓ : Loc Cert.RwkvRefIdeal.nD Cert.RwkvRefIdeal.τ Cert.RwkvRefIdeal.sig) → Buf (Elt Ideal) ℓ) : Prop :=
  ∀ c : Dev Cert.RwkvRefIdeal.nD,
    (Cert.Pre_finite_key.fn (F := Ideal) (m ((c.tc : Thread Cert.RwkvRefIdeal.nD Cert.RwkvRefIdeal.τ).loc Cert.RwkvRefIdeal.main_arg0)) (m ((c.tc : Thread Cert.RwkvRefIdeal.nD Cert.RwkvRefIdeal.τ).loc Cert.RwkvRefIdeal.main_arg1)) (m ((c.tc : Thread Cert.RwkvRefIdeal.nD Cert.RwkvRefIdeal.τ).loc Cert.RwkvRefIdeal.main_arg2)) (m ((c.tc : Thread Cert.RwkvRefIdeal.nD Cert.RwkvRefIdeal.τ).loc Cert.RwkvRefIdeal.main_arg3)) (m ((c.tc : Thread Cert.RwkvRefIdeal.nD Cert.RwkvRefIdeal.τ).loc Cert.RwkvRefIdeal.main_arg4)) (m ((c.tc : Thread Cert.RwkvRefIdeal.nD Cert.RwkvRefIdeal.τ).loc Cert.RwkvRefIdeal.main_arg5)) (m ((c.tc : Thread Cert.RwkvRefIdeal.nD Cert.RwkvRefIdeal.τ).loc Cert.RwkvRefIdeal.main_arg6)) (m ((c.tc : Thread Cert.RwkvRefIdeal.nD Cert.RwkvRefIdeal.τ).loc Cert.RwkvRefIdeal.main_arg7)) (m ((c.tc : Thread Cert.RwkvRefIdeal.nD Cert.RwkvRefIdeal.τ).loc Cert.RwkvRefIdeal.main_arg8)) (m ((c.tc : Thread Cert.RwkvRefIdeal.nD Cert.RwkvRefIdeal.τ).loc Cert.RwkvRefIdeal.main_arg9)) (m ((c.tc : Thread Cert.RwkvRefIdeal.nD Cert.RwkvRefIdeal.τ).loc Cert.RwkvRefIdeal.main_arg10)) (m ((c.tc : Thread Cert.RwkvRefIdeal.nD Cert.RwkvRefIdeal.τ).loc Cert.RwkvRefIdeal.main_arg11)) (m ((c.tc : Thread Cert.RwkvRefIdeal.nD Cert.RwkvRefIdeal.τ).loc Cert.RwkvRefIdeal.main_arg12)) (m ((c.tc : Thread Cert.RwkvRefIdeal.nD Cert.RwkvRefIdeal.τ).loc Cert.RwkvRefIdeal.main_arg13)) (m ((c.tc : Thread Cert.RwkvRefIdeal.nD Cert.RwkvRefIdeal.τ).loc Cert.RwkvRefIdeal.main_arg14))).1 = (fun _ => 1#1)
    ∧ (Cert.Pre_finite_key.fn (F := Ideal) (m ((c.tc : Thread Cert.RwkvRefIdeal.nD Cert.RwkvRefIdeal.τ).loc Cert.RwkvRefIdeal.main_arg0)) (m ((c.tc : Thread Cert.RwkvRefIdeal.nD Cert.RwkvRefIdeal.τ).loc Cert.RwkvRefIdeal.main_arg1)) (m ((c.tc : Thread Cert.RwkvRefIdeal.nD Cert.RwkvRefIdeal.τ).loc Cert.RwkvRefIdeal.main_arg2)) (m ((c.tc : Thread Cert.RwkvRefIdeal.nD Cert.RwkvRefIdeal.τ).loc Cert.RwkvRefIdeal.main_arg3)) (m ((c.tc : Thread Cert.RwkvRefIdeal.nD Cert.RwkvRefIdeal.τ).loc Cert.RwkvRefIdeal.main_arg4)) (m ((c.tc : Thread Cert.RwkvRefIdeal.nD Cert.RwkvRefIdeal.τ).loc Cert.RwkvRefIdeal.main_arg5)) (m ((c.tc : Thread Cert.RwkvRefIdeal.nD Cert.RwkvRefIdeal.τ).loc Cert.RwkvRefIdeal.main_arg6)) (m ((c.tc : Thread Cert.RwkvRefIdeal.nD Cert.RwkvRefIdeal.τ).loc Cert.RwkvRefIdeal.main_arg7)) (m ((c.tc : Thread Cert.RwkvRefIdeal.nD Cert.RwkvRefIdeal.τ).loc Cert.RwkvRefIdeal.main_arg8)) (m ((c.tc : Thread Cert.RwkvRefIdeal.nD Cert.RwkvRefIdeal.τ).loc Cert.RwkvRefIdeal.main_arg9)) (m ((c.tc : Thread Cert.RwkvRefIdeal.nD Cert.RwkvRefIdeal.τ).loc Cert.RwkvRefIdeal.main_arg10)) (m ((c.tc : Thread Cert.RwkvRefIdeal.nD Cert.RwkvRefIdeal.τ).loc Cert.RwkvRefIdeal.main_arg11)) (m ((c.tc : Thread Cert.RwkvRefIdeal.nD Cert.RwkvRefIdeal.τ).loc Cert.RwkvRefIdeal.main_arg12)) (m ((c.tc : Thread Cert.RwkvRefIdeal.nD Cert.RwkvRefIdeal.τ).loc Cert.RwkvRefIdeal.main_arg13)) (m ((c.tc : Thread Cert.RwkvRefIdeal.nD Cert.RwkvRefIdeal.τ).loc Cert.RwkvRefIdeal.main_arg14))).2.1 = (fun _ => 1#1)
    ∧ (Cert.Pre_finite_key.fn (F := Ideal) (m ((c.tc : Thread Cert.RwkvRefIdeal.nD Cert.RwkvRefIdeal.τ).loc Cert.RwkvRefIdeal.main_arg0)) (m ((c.tc : Thread Cert.RwkvRefIdeal.nD Cert.RwkvRefIdeal.τ).loc Cert.RwkvRefIdeal.main_arg1)) (m ((c.tc : Thread Cert.RwkvRefIdeal.nD Cert.RwkvRefIdeal.τ).loc Cert.RwkvRefIdeal.main_arg2)) (m ((c.tc : Thread Cert.RwkvRefIdeal.nD Cert.RwkvRefIdeal.τ).loc Cert.RwkvRefIdeal.main_arg3)) (m ((c.tc : Thread Cert.RwkvRefIdeal.nD Cert.RwkvRefIdeal.τ).loc Cert.RwkvRefIdeal.main_arg4)) (m ((c.tc : Thread Cert.RwkvRefIdeal.nD Cert.RwkvRefIdeal.τ).loc Cert.RwkvRefIdeal.main_arg5)) (m ((c.tc : Thread Cert.RwkvRefIdeal.nD Cert.RwkvRefIdeal.τ).loc Cert.RwkvRefIdeal.main_arg6)) (m ((c.tc : Thread Cert.RwkvRefIdeal.nD Cert.RwkvRefIdeal.τ).loc Cert.RwkvRefIdeal.main_arg7)) (m ((c.tc : Thread Cert.RwkvRefIdeal.nD Cert.RwkvRefIdeal.τ).loc Cert.RwkvRefIdeal.main_arg8)) (m ((c.tc : Thread Cert.RwkvRefIdeal.nD Cert.RwkvRefIdeal.τ).loc Cert.RwkvRefIdeal.main_arg9)) (m ((c.tc : Thread Cert.RwkvRefIdeal.nD Cert.RwkvRefIdeal.τ).loc Cert.RwkvRefIdeal.main_arg10)) (m ((c.tc : Thread Cert.RwkvRefIdeal.nD Cert.RwkvRefIdeal.τ).loc Cert.RwkvRefIdeal.main_arg11)) (m ((c.tc : Thread Cert.RwkvRefIdeal.nD Cert.RwkvRefIdeal.τ).loc Cert.RwkvRefIdeal.main_arg12)) (m ((c.tc : Thread Cert.RwkvRefIdeal.nD Cert.RwkvRefIdeal.τ).loc Cert.RwkvRefIdeal.main_arg13)) (m ((c.tc : Thread Cert.RwkvRefIdeal.nD Cert.RwkvRefIdeal.τ).loc Cert.RwkvRefIdeal.main_arg14))).2.2.1 = (fun _ => 1#1)
    ∧ (Cert.Pre_finite_key.fn (F := Ideal) (m ((c.tc : Thread Cert.RwkvRefIdeal.nD Cert.RwkvRefIdeal.τ).loc Cert.RwkvRefIdeal.main_arg0)) (m ((c.tc : Thread Cert.RwkvRefIdeal.nD Cert.RwkvRefIdeal.τ).loc Cert.RwkvRefIdeal.main_arg1)) (m ((c.tc : Thread Cert.RwkvRefIdeal.nD Cert.RwkvRefIdeal.τ).loc Cert.RwkvRefIdeal.main_arg2)) (m ((c.tc : Thread Cert.RwkvRefIdeal.nD Cert.RwkvRefIdeal.τ).loc Cert.RwkvRefIdeal.main_arg3)) (m ((c.tc : Thread Cert.RwkvRefIdeal.nD Cert.RwkvRefIdeal.τ).loc Cert.RwkvRefIdeal.main_arg4)) (m ((c.tc : Thread Cert.RwkvRefIdeal.nD Cert.RwkvRefIdeal.τ).loc Cert.RwkvRefIdeal.main_arg5)) (m ((c.tc : Thread Cert.RwkvRefIdeal.nD Cert.RwkvRefIdeal.τ).loc Cert.RwkvRefIdeal.main_arg6)) (m ((c.tc : Thread Cert.RwkvRefIdeal.nD Cert.RwkvRefIdeal.τ).loc Cert.RwkvRefIdeal.main_arg7)) (m ((c.tc : Thread Cert.RwkvRefIdeal.nD Cert.RwkvRefIdeal.τ).loc Cert.RwkvRefIdeal.main_arg8)) (m ((c.tc : Thread Cert.RwkvRefIdeal.nD Cert.RwkvRefIdeal.τ).loc Cert.RwkvRefIdeal.main_arg9)) (m ((c.tc : Thread Cert.RwkvRefIdeal.nD Cert.RwkvRefIdeal.τ).loc Cert.RwkvRefIdeal.main_arg10)) (m ((c.tc : Thread Cert.RwkvRefIdeal.nD Cert.RwkvRefIdeal.τ).loc Cert.RwkvRefIdeal.main_arg11)) (m ((c.tc : Thread Cert.RwkvRefIdeal.nD Cert.RwkvRefIdeal.τ).loc Cert.RwkvRefIdeal.main_arg12)) (m ((c.tc : Thread Cert.RwkvRefIdeal.nD Cert.RwkvRefIdeal.τ).loc Cert.RwkvRefIdeal.main_arg13)) (m ((c.tc : Thread Cert.RwkvRefIdeal.nD Cert.RwkvRefIdeal.τ).loc Cert.RwkvRefIdeal.main_arg14))).2.2.2 = (fun _ => 1#1)

def Pre_Readout (m : (ℓ : Loc Cert.Readout.nD Cert.Readout.τ Cert.Readout.sig) → Buf (Elt Bits) ℓ) : Prop :=
  True

def Pre_ReadoutIdeal (m : (ℓ : Loc Cert.ReadoutIdeal.nD Cert.ReadoutIdeal.τ Cert.ReadoutIdeal.sig) → Buf (Elt Ideal) ℓ) : Prop :=
  True

def Pre_ReadoutIdeal_finite_heads [hPre_finite_heads : Cert.Pre_finite_heads.Facts] (m : (ℓ : Loc Cert.ReadoutIdeal.nD Cert.ReadoutIdeal.τ Cert.ReadoutIdeal.sig) → Buf (Elt Ideal) ℓ) : Prop :=
  ∀ c : Dev Cert.ReadoutIdeal.nD,
    (Cert.Pre_finite_heads.fn (F := Ideal) (m ((c.tc : Thread Cert.ReadoutIdeal.nD Cert.ReadoutIdeal.τ).loc Cert.ReadoutIdeal.main_arg0)) (m ((c.tc : Thread Cert.ReadoutIdeal.nD Cert.ReadoutIdeal.τ).loc Cert.ReadoutIdeal.main_arg1)) (m ((c.tc : Thread Cert.ReadoutIdeal.nD Cert.ReadoutIdeal.τ).loc Cert.ReadoutIdeal.main_arg2)) (m ((c.tc : Thread Cert.ReadoutIdeal.nD Cert.ReadoutIdeal.τ).loc Cert.ReadoutIdeal.main_arg3)) (m ((c.tc : Thread Cert.ReadoutIdeal.nD Cert.ReadoutIdeal.τ).loc Cert.ReadoutIdeal.main_arg4)) (m ((c.tc : Thread Cert.ReadoutIdeal.nD Cert.ReadoutIdeal.τ).loc Cert.ReadoutIdeal.main_arg5)) (m ((c.tc : Thread Cert.ReadoutIdeal.nD Cert.ReadoutIdeal.τ).loc Cert.ReadoutIdeal.main_arg6)) (m ((c.tc : Thread Cert.ReadoutIdeal.nD Cert.ReadoutIdeal.τ).loc Cert.ReadoutIdeal.main_arg7)) (m ((c.tc : Thread Cert.ReadoutIdeal.nD Cert.ReadoutIdeal.τ).loc Cert.ReadoutIdeal.main_arg8)) (m ((c.tc : Thread Cert.ReadoutIdeal.nD Cert.ReadoutIdeal.τ).loc Cert.ReadoutIdeal.main_arg9)) (m ((c.tc : Thread Cert.ReadoutIdeal.nD Cert.ReadoutIdeal.τ).loc Cert.ReadoutIdeal.main_arg10)) (m ((c.tc : Thread Cert.ReadoutIdeal.nD Cert.ReadoutIdeal.τ).loc Cert.ReadoutIdeal.main_arg11)) (m ((c.tc : Thread Cert.ReadoutIdeal.nD Cert.ReadoutIdeal.τ).loc Cert.ReadoutIdeal.main_arg12))).1 = (fun _ => 1#1)
    ∧ (Cert.Pre_finite_heads.fn (F := Ideal) (m ((c.tc : Thread Cert.ReadoutIdeal.nD Cert.ReadoutIdeal.τ).loc Cert.ReadoutIdeal.main_arg0)) (m ((c.tc : Thread Cert.ReadoutIdeal.nD Cert.ReadoutIdeal.τ).loc Cert.ReadoutIdeal.main_arg1)) (m ((c.tc : Thread Cert.ReadoutIdeal.nD Cert.ReadoutIdeal.τ).loc Cert.ReadoutIdeal.main_arg2)) (m ((c.tc : Thread Cert.ReadoutIdeal.nD Cert.ReadoutIdeal.τ).loc Cert.ReadoutIdeal.main_arg3)) (m ((c.tc : Thread Cert.ReadoutIdeal.nD Cert.ReadoutIdeal.τ).loc Cert.ReadoutIdeal.main_arg4)) (m ((c.tc : Thread Cert.ReadoutIdeal.nD Cert.ReadoutIdeal.τ).loc Cert.ReadoutIdeal.main_arg5)) (m ((c.tc : Thread Cert.ReadoutIdeal.nD Cert.ReadoutIdeal.τ).loc Cert.ReadoutIdeal.main_arg6)) (m ((c.tc : Thread Cert.ReadoutIdeal.nD Cert.ReadoutIdeal.τ).loc Cert.ReadoutIdeal.main_arg7)) (m ((c.tc : Thread Cert.ReadoutIdeal.nD Cert.ReadoutIdeal.τ).loc Cert.ReadoutIdeal.main_arg8)) (m ((c.tc : Thread Cert.ReadoutIdeal.nD Cert.ReadoutIdeal.τ).loc Cert.ReadoutIdeal.main_arg9)) (m ((c.tc : Thread Cert.ReadoutIdeal.nD Cert.ReadoutIdeal.τ).loc Cert.ReadoutIdeal.main_arg10)) (m ((c.tc : Thread Cert.ReadoutIdeal.nD Cert.ReadoutIdeal.τ).loc Cert.ReadoutIdeal.main_arg11)) (m ((c.tc : Thread Cert.ReadoutIdeal.nD Cert.ReadoutIdeal.τ).loc Cert.ReadoutIdeal.main_arg12))).2.1 = (fun _ => 1#1)
    ∧ (Cert.Pre_finite_heads.fn (F := Ideal) (m ((c.tc : Thread Cert.ReadoutIdeal.nD Cert.ReadoutIdeal.τ).loc Cert.ReadoutIdeal.main_arg0)) (m ((c.tc : Thread Cert.ReadoutIdeal.nD Cert.ReadoutIdeal.τ).loc Cert.ReadoutIdeal.main_arg1)) (m ((c.tc : Thread Cert.ReadoutIdeal.nD Cert.ReadoutIdeal.τ).loc Cert.ReadoutIdeal.main_arg2)) (m ((c.tc : Thread Cert.ReadoutIdeal.nD Cert.ReadoutIdeal.τ).loc Cert.ReadoutIdeal.main_arg3)) (m ((c.tc : Thread Cert.ReadoutIdeal.nD Cert.ReadoutIdeal.τ).loc Cert.ReadoutIdeal.main_arg4)) (m ((c.tc : Thread Cert.ReadoutIdeal.nD Cert.ReadoutIdeal.τ).loc Cert.ReadoutIdeal.main_arg5)) (m ((c.tc : Thread Cert.ReadoutIdeal.nD Cert.ReadoutIdeal.τ).loc Cert.ReadoutIdeal.main_arg6)) (m ((c.tc : Thread Cert.ReadoutIdeal.nD Cert.ReadoutIdeal.τ).loc Cert.ReadoutIdeal.main_arg7)) (m ((c.tc : Thread Cert.ReadoutIdeal.nD Cert.ReadoutIdeal.τ).loc Cert.ReadoutIdeal.main_arg8)) (m ((c.tc : Thread Cert.ReadoutIdeal.nD Cert.ReadoutIdeal.τ).loc Cert.ReadoutIdeal.main_arg9)) (m ((c.tc : Thread Cert.ReadoutIdeal.nD Cert.ReadoutIdeal.τ).loc Cert.ReadoutIdeal.main_arg10)) (m ((c.tc : Thread Cert.ReadoutIdeal.nD Cert.ReadoutIdeal.τ).loc Cert.ReadoutIdeal.main_arg11)) (m ((c.tc : Thread Cert.ReadoutIdeal.nD Cert.ReadoutIdeal.τ).loc Cert.ReadoutIdeal.main_arg12))).2.2.1 = (fun _ => 1#1)
    ∧ (Cert.Pre_finite_heads.fn (F := Ideal) (m ((c.tc : Thread Cert.ReadoutIdeal.nD Cert.ReadoutIdeal.τ).loc Cert.ReadoutIdeal.main_arg0)) (m ((c.tc : Thread Cert.ReadoutIdeal.nD Cert.ReadoutIdeal.τ).loc Cert.ReadoutIdeal.main_arg1)) (m ((c.tc : Thread Cert.ReadoutIdeal.nD Cert.ReadoutIdeal.τ).loc Cert.ReadoutIdeal.main_arg2)) (m ((c.tc : Thread Cert.ReadoutIdeal.nD Cert.ReadoutIdeal.τ).loc Cert.ReadoutIdeal.main_arg3)) (m ((c.tc : Thread Cert.ReadoutIdeal.nD Cert.ReadoutIdeal.τ).loc Cert.ReadoutIdeal.main_arg4)) (m ((c.tc : Thread Cert.ReadoutIdeal.nD Cert.ReadoutIdeal.τ).loc Cert.ReadoutIdeal.main_arg5)) (m ((c.tc : Thread Cert.ReadoutIdeal.nD Cert.ReadoutIdeal.τ).loc Cert.ReadoutIdeal.main_arg6)) (m ((c.tc : Thread Cert.ReadoutIdeal.nD Cert.ReadoutIdeal.τ).loc Cert.ReadoutIdeal.main_arg7)) (m ((c.tc : Thread Cert.ReadoutIdeal.nD Cert.ReadoutIdeal.τ).loc Cert.ReadoutIdeal.main_arg8)) (m ((c.tc : Thread Cert.ReadoutIdeal.nD Cert.ReadoutIdeal.τ).loc Cert.ReadoutIdeal.main_arg9)) (m ((c.tc : Thread Cert.ReadoutIdeal.nD Cert.ReadoutIdeal.τ).loc Cert.ReadoutIdeal.main_arg10)) (m ((c.tc : Thread Cert.ReadoutIdeal.nD Cert.ReadoutIdeal.τ).loc Cert.ReadoutIdeal.main_arg11)) (m ((c.tc : Thread Cert.ReadoutIdeal.nD Cert.ReadoutIdeal.τ).loc Cert.ReadoutIdeal.main_arg12))).2.2.2.1 = (fun _ => 1#1)
    ∧ (Cert.Pre_finite_heads.fn (F := Ideal) (m ((c.tc : Thread Cert.ReadoutIdeal.nD Cert.ReadoutIdeal.τ).loc Cert.ReadoutIdeal.main_arg0)) (m ((c.tc : Thread Cert.ReadoutIdeal.nD Cert.ReadoutIdeal.τ).loc Cert.ReadoutIdeal.main_arg1)) (m ((c.tc : Thread Cert.ReadoutIdeal.nD Cert.ReadoutIdeal.τ).loc Cert.ReadoutIdeal.main_arg2)) (m ((c.tc : Thread Cert.ReadoutIdeal.nD Cert.ReadoutIdeal.τ).loc Cert.ReadoutIdeal.main_arg3)) (m ((c.tc : Thread Cert.ReadoutIdeal.nD Cert.ReadoutIdeal.τ).loc Cert.ReadoutIdeal.main_arg4)) (m ((c.tc : Thread Cert.ReadoutIdeal.nD Cert.ReadoutIdeal.τ).loc Cert.ReadoutIdeal.main_arg5)) (m ((c.tc : Thread Cert.ReadoutIdeal.nD Cert.ReadoutIdeal.τ).loc Cert.ReadoutIdeal.main_arg6)) (m ((c.tc : Thread Cert.ReadoutIdeal.nD Cert.ReadoutIdeal.τ).loc Cert.ReadoutIdeal.main_arg7)) (m ((c.tc : Thread Cert.ReadoutIdeal.nD Cert.ReadoutIdeal.τ).loc Cert.ReadoutIdeal.main_arg8)) (m ((c.tc : Thread Cert.ReadoutIdeal.nD Cert.ReadoutIdeal.τ).loc Cert.ReadoutIdeal.main_arg9)) (m ((c.tc : Thread Cert.ReadoutIdeal.nD Cert.ReadoutIdeal.τ).loc Cert.ReadoutIdeal.main_arg10)) (m ((c.tc : Thread Cert.ReadoutIdeal.nD Cert.ReadoutIdeal.τ).loc Cert.ReadoutIdeal.main_arg11)) (m ((c.tc : Thread Cert.ReadoutIdeal.nD Cert.ReadoutIdeal.τ).loc Cert.ReadoutIdeal.main_arg12))).2.2.2.2.1 = (fun _ => 1#1)
    ∧ (Cert.Pre_finite_heads.fn (F := Ideal) (m ((c.tc : Thread Cert.ReadoutIdeal.nD Cert.ReadoutIdeal.τ).loc Cert.ReadoutIdeal.main_arg0)) (m ((c.tc : Thread Cert.ReadoutIdeal.nD Cert.ReadoutIdeal.τ).loc Cert.ReadoutIdeal.main_arg1)) (m ((c.tc : Thread Cert.ReadoutIdeal.nD Cert.ReadoutIdeal.τ).loc Cert.ReadoutIdeal.main_arg2)) (m ((c.tc : Thread Cert.ReadoutIdeal.nD Cert.ReadoutIdeal.τ).loc Cert.ReadoutIdeal.main_arg3)) (m ((c.tc : Thread Cert.ReadoutIdeal.nD Cert.ReadoutIdeal.τ).loc Cert.ReadoutIdeal.main_arg4)) (m ((c.tc : Thread Cert.ReadoutIdeal.nD Cert.ReadoutIdeal.τ).loc Cert.ReadoutIdeal.main_arg5)) (m ((c.tc : Thread Cert.ReadoutIdeal.nD Cert.ReadoutIdeal.τ).loc Cert.ReadoutIdeal.main_arg6)) (m ((c.tc : Thread Cert.ReadoutIdeal.nD Cert.ReadoutIdeal.τ).loc Cert.ReadoutIdeal.main_arg7)) (m ((c.tc : Thread Cert.ReadoutIdeal.nD Cert.ReadoutIdeal.τ).loc Cert.ReadoutIdeal.main_arg8)) (m ((c.tc : Thread Cert.ReadoutIdeal.nD Cert.ReadoutIdeal.τ).loc Cert.ReadoutIdeal.main_arg9)) (m ((c.tc : Thread Cert.ReadoutIdeal.nD Cert.ReadoutIdeal.τ).loc Cert.ReadoutIdeal.main_arg10)) (m ((c.tc : Thread Cert.ReadoutIdeal.nD Cert.ReadoutIdeal.τ).loc Cert.ReadoutIdeal.main_arg11)) (m ((c.tc : Thread Cert.ReadoutIdeal.nD Cert.ReadoutIdeal.τ).loc Cert.ReadoutIdeal.main_arg12))).2.2.2.2.2 = (fun _ => 1#1)

def Pre_ReadoutRefIdeal (m : (ℓ : Loc Cert.ReadoutRefIdeal.nD Cert.ReadoutRefIdeal.τ Cert.ReadoutRefIdeal.sig) → Buf (Elt Ideal) ℓ) : Prop :=
  True

def Pre_ReadoutRefIdeal_finite_heads [hPre_finite_heads : Cert.Pre_finite_heads.Facts] (m : (ℓ : Loc Cert.ReadoutRefIdeal.nD Cert.ReadoutRefIdeal.τ Cert.ReadoutRefIdeal.sig) → Buf (Elt Ideal) ℓ) : Prop :=
  ∀ c : Dev Cert.ReadoutRefIdeal.nD,
    (Cert.Pre_finite_heads.fn (F := Ideal) (m ((c.tc : Thread Cert.ReadoutRefIdeal.nD Cert.ReadoutRefIdeal.τ).loc Cert.ReadoutRefIdeal.main_arg0)) (m ((c.tc : Thread Cert.ReadoutRefIdeal.nD Cert.ReadoutRefIdeal.τ).loc Cert.ReadoutRefIdeal.main_arg1)) (m ((c.tc : Thread Cert.ReadoutRefIdeal.nD Cert.ReadoutRefIdeal.τ).loc Cert.ReadoutRefIdeal.main_arg2)) (m ((c.tc : Thread Cert.ReadoutRefIdeal.nD Cert.ReadoutRefIdeal.τ).loc Cert.ReadoutRefIdeal.main_arg3)) (m ((c.tc : Thread Cert.ReadoutRefIdeal.nD Cert.ReadoutRefIdeal.τ).loc Cert.ReadoutRefIdeal.main_arg4)) (m ((c.tc : Thread Cert.ReadoutRefIdeal.nD Cert.ReadoutRefIdeal.τ).loc Cert.ReadoutRefIdeal.main_arg5)) (m ((c.tc : Thread Cert.ReadoutRefIdeal.nD Cert.ReadoutRefIdeal.τ).loc Cert.ReadoutRefIdeal.main_arg6)) (m ((c.tc : Thread Cert.ReadoutRefIdeal.nD Cert.ReadoutRefIdeal.τ).loc Cert.ReadoutRefIdeal.main_arg7)) (m ((c.tc : Thread Cert.ReadoutRefIdeal.nD Cert.ReadoutRefIdeal.τ).loc Cert.ReadoutRefIdeal.main_arg8)) (m ((c.tc : Thread Cert.ReadoutRefIdeal.nD Cert.ReadoutRefIdeal.τ).loc Cert.ReadoutRefIdeal.main_arg9)) (m ((c.tc : Thread Cert.ReadoutRefIdeal.nD Cert.ReadoutRefIdeal.τ).loc Cert.ReadoutRefIdeal.main_arg10)) (m ((c.tc : Thread Cert.ReadoutRefIdeal.nD Cert.ReadoutRefIdeal.τ).loc Cert.ReadoutRefIdeal.main_arg11)) (m ((c.tc : Thread Cert.ReadoutRefIdeal.nD Cert.ReadoutRefIdeal.τ).loc Cert.ReadoutRefIdeal.main_arg12))).1 = (fun _ => 1#1)
    ∧ (Cert.Pre_finite_heads.fn (F := Ideal) (m ((c.tc : Thread Cert.ReadoutRefIdeal.nD Cert.ReadoutRefIdeal.τ).loc Cert.ReadoutRefIdeal.main_arg0)) (m ((c.tc : Thread Cert.ReadoutRefIdeal.nD Cert.ReadoutRefIdeal.τ).loc Cert.ReadoutRefIdeal.main_arg1)) (m ((c.tc : Thread Cert.ReadoutRefIdeal.nD Cert.ReadoutRefIdeal.τ).loc Cert.ReadoutRefIdeal.main_arg2)) (m ((c.tc : Thread Cert.ReadoutRefIdeal.nD Cert.ReadoutRefIdeal.τ).loc Cert.ReadoutRefIdeal.main_arg3)) (m ((c.tc : Thread Cert.ReadoutRefIdeal.nD Cert.ReadoutRefIdeal.τ).loc Cert.ReadoutRefIdeal.main_arg4)) (m ((c.tc : Thread Cert.ReadoutRefIdeal.nD Cert.ReadoutRefIdeal.τ).loc Cert.ReadoutRefIdeal.main_arg5)) (m ((c.tc : Thread Cert.ReadoutRefIdeal.nD Cert.ReadoutRefIdeal.τ).loc Cert.ReadoutRefIdeal.main_arg6)) (m ((c.tc : Thread Cert.ReadoutRefIdeal.nD Cert.ReadoutRefIdeal.τ).loc Cert.ReadoutRefIdeal.main_arg7)) (m ((c.tc : Thread Cert.ReadoutRefIdeal.nD Cert.ReadoutRefIdeal.τ).loc Cert.ReadoutRefIdeal.main_arg8)) (m ((c.tc : Thread Cert.ReadoutRefIdeal.nD Cert.ReadoutRefIdeal.τ).loc Cert.ReadoutRefIdeal.main_arg9)) (m ((c.tc : Thread Cert.ReadoutRefIdeal.nD Cert.ReadoutRefIdeal.τ).loc Cert.ReadoutRefIdeal.main_arg10)) (m ((c.tc : Thread Cert.ReadoutRefIdeal.nD Cert.ReadoutRefIdeal.τ).loc Cert.ReadoutRefIdeal.main_arg11)) (m ((c.tc : Thread Cert.ReadoutRefIdeal.nD Cert.ReadoutRefIdeal.τ).loc Cert.ReadoutRefIdeal.main_arg12))).2.1 = (fun _ => 1#1)
    ∧ (Cert.Pre_finite_heads.fn (F := Ideal) (m ((c.tc : Thread Cert.ReadoutRefIdeal.nD Cert.ReadoutRefIdeal.τ).loc Cert.ReadoutRefIdeal.main_arg0)) (m ((c.tc : Thread Cert.ReadoutRefIdeal.nD Cert.ReadoutRefIdeal.τ).loc Cert.ReadoutRefIdeal.main_arg1)) (m ((c.tc : Thread Cert.ReadoutRefIdeal.nD Cert.ReadoutRefIdeal.τ).loc Cert.ReadoutRefIdeal.main_arg2)) (m ((c.tc : Thread Cert.ReadoutRefIdeal.nD Cert.ReadoutRefIdeal.τ).loc Cert.ReadoutRefIdeal.main_arg3)) (m ((c.tc : Thread Cert.ReadoutRefIdeal.nD Cert.ReadoutRefIdeal.τ).loc Cert.ReadoutRefIdeal.main_arg4)) (m ((c.tc : Thread Cert.ReadoutRefIdeal.nD Cert.ReadoutRefIdeal.τ).loc Cert.ReadoutRefIdeal.main_arg5)) (m ((c.tc : Thread Cert.ReadoutRefIdeal.nD Cert.ReadoutRefIdeal.τ).loc Cert.ReadoutRefIdeal.main_arg6)) (m ((c.tc : Thread Cert.ReadoutRefIdeal.nD Cert.ReadoutRefIdeal.τ).loc Cert.ReadoutRefIdeal.main_arg7)) (m ((c.tc : Thread Cert.ReadoutRefIdeal.nD Cert.ReadoutRefIdeal.τ).loc Cert.ReadoutRefIdeal.main_arg8)) (m ((c.tc : Thread Cert.ReadoutRefIdeal.nD Cert.ReadoutRefIdeal.τ).loc Cert.ReadoutRefIdeal.main_arg9)) (m ((c.tc : Thread Cert.ReadoutRefIdeal.nD Cert.ReadoutRefIdeal.τ).loc Cert.ReadoutRefIdeal.main_arg10)) (m ((c.tc : Thread Cert.ReadoutRefIdeal.nD Cert.ReadoutRefIdeal.τ).loc Cert.ReadoutRefIdeal.main_arg11)) (m ((c.tc : Thread Cert.ReadoutRefIdeal.nD Cert.ReadoutRefIdeal.τ).loc Cert.ReadoutRefIdeal.main_arg12))).2.2.1 = (fun _ => 1#1)
    ∧ (Cert.Pre_finite_heads.fn (F := Ideal) (m ((c.tc : Thread Cert.ReadoutRefIdeal.nD Cert.ReadoutRefIdeal.τ).loc Cert.ReadoutRefIdeal.main_arg0)) (m ((c.tc : Thread Cert.ReadoutRefIdeal.nD Cert.ReadoutRefIdeal.τ).loc Cert.ReadoutRefIdeal.main_arg1)) (m ((c.tc : Thread Cert.ReadoutRefIdeal.nD Cert.ReadoutRefIdeal.τ).loc Cert.ReadoutRefIdeal.main_arg2)) (m ((c.tc : Thread Cert.ReadoutRefIdeal.nD Cert.ReadoutRefIdeal.τ).loc Cert.ReadoutRefIdeal.main_arg3)) (m ((c.tc : Thread Cert.ReadoutRefIdeal.nD Cert.ReadoutRefIdeal.τ).loc Cert.ReadoutRefIdeal.main_arg4)) (m ((c.tc : Thread Cert.ReadoutRefIdeal.nD Cert.ReadoutRefIdeal.τ).loc Cert.ReadoutRefIdeal.main_arg5)) (m ((c.tc : Thread Cert.ReadoutRefIdeal.nD Cert.ReadoutRefIdeal.τ).loc Cert.ReadoutRefIdeal.main_arg6)) (m ((c.tc : Thread Cert.ReadoutRefIdeal.nD Cert.ReadoutRefIdeal.τ).loc Cert.ReadoutRefIdeal.main_arg7)) (m ((c.tc : Thread Cert.ReadoutRefIdeal.nD Cert.ReadoutRefIdeal.τ).loc Cert.ReadoutRefIdeal.main_arg8)) (m ((c.tc : Thread Cert.ReadoutRefIdeal.nD Cert.ReadoutRefIdeal.τ).loc Cert.ReadoutRefIdeal.main_arg9)) (m ((c.tc : Thread Cert.ReadoutRefIdeal.nD Cert.ReadoutRefIdeal.τ).loc Cert.ReadoutRefIdeal.main_arg10)) (m ((c.tc : Thread Cert.ReadoutRefIdeal.nD Cert.ReadoutRefIdeal.τ).loc Cert.ReadoutRefIdeal.main_arg11)) (m ((c.tc : Thread Cert.ReadoutRefIdeal.nD Cert.ReadoutRefIdeal.τ).loc Cert.ReadoutRefIdeal.main_arg12))).2.2.2.1 = (fun _ => 1#1)
    ∧ (Cert.Pre_finite_heads.fn (F := Ideal) (m ((c.tc : Thread Cert.ReadoutRefIdeal.nD Cert.ReadoutRefIdeal.τ).loc Cert.ReadoutRefIdeal.main_arg0)) (m ((c.tc : Thread Cert.ReadoutRefIdeal.nD Cert.ReadoutRefIdeal.τ).loc Cert.ReadoutRefIdeal.main_arg1)) (m ((c.tc : Thread Cert.ReadoutRefIdeal.nD Cert.ReadoutRefIdeal.τ).loc Cert.ReadoutRefIdeal.main_arg2)) (m ((c.tc : Thread Cert.ReadoutRefIdeal.nD Cert.ReadoutRefIdeal.τ).loc Cert.ReadoutRefIdeal.main_arg3)) (m ((c.tc : Thread Cert.ReadoutRefIdeal.nD Cert.ReadoutRefIdeal.τ).loc Cert.ReadoutRefIdeal.main_arg4)) (m ((c.tc : Thread Cert.ReadoutRefIdeal.nD Cert.ReadoutRefIdeal.τ).loc Cert.ReadoutRefIdeal.main_arg5)) (m ((c.tc : Thread Cert.ReadoutRefIdeal.nD Cert.ReadoutRefIdeal.τ).loc Cert.ReadoutRefIdeal.main_arg6)) (m ((c.tc : Thread Cert.ReadoutRefIdeal.nD Cert.ReadoutRefIdeal.τ).loc Cert.ReadoutRefIdeal.main_arg7)) (m ((c.tc : Thread Cert.ReadoutRefIdeal.nD Cert.ReadoutRefIdeal.τ).loc Cert.ReadoutRefIdeal.main_arg8)) (m ((c.tc : Thread Cert.ReadoutRefIdeal.nD Cert.ReadoutRefIdeal.τ).loc Cert.ReadoutRefIdeal.main_arg9)) (m ((c.tc : Thread Cert.ReadoutRefIdeal.nD Cert.ReadoutRefIdeal.τ).loc Cert.ReadoutRefIdeal.main_arg10)) (m ((c.tc : Thread Cert.ReadoutRefIdeal.nD Cert.ReadoutRefIdeal.τ).loc Cert.ReadoutRefIdeal.main_arg11)) (m ((c.tc : Thread Cert.ReadoutRefIdeal.nD Cert.ReadoutRefIdeal.τ).loc Cert.ReadoutRefIdeal.main_arg12))).2.2.2.2.1 = (fun _ => 1#1)
    ∧ (Cert.Pre_finite_heads.fn (F := Ideal) (m ((c.tc : Thread Cert.ReadoutRefIdeal.nD Cert.ReadoutRefIdeal.τ).loc Cert.ReadoutRefIdeal.main_arg0)) (m ((c.tc : Thread Cert.ReadoutRefIdeal.nD Cert.ReadoutRefIdeal.τ).loc Cert.ReadoutRefIdeal.main_arg1)) (m ((c.tc : Thread Cert.ReadoutRefIdeal.nD Cert.ReadoutRefIdeal.τ).loc Cert.ReadoutRefIdeal.main_arg2)) (m ((c.tc : Thread Cert.ReadoutRefIdeal.nD Cert.ReadoutRefIdeal.τ).loc Cert.ReadoutRefIdeal.main_arg3)) (m ((c.tc : Thread Cert.ReadoutRefIdeal.nD Cert.ReadoutRefIdeal.τ).loc Cert.ReadoutRefIdeal.main_arg4)) (m ((c.tc : Thread Cert.ReadoutRefIdeal.nD Cert.ReadoutRefIdeal.τ).loc Cert.ReadoutRefIdeal.main_arg5)) (m ((c.tc : Thread Cert.ReadoutRefIdeal.nD Cert.ReadoutRefIdeal.τ).loc Cert.ReadoutRefIdeal.main_arg6)) (m ((c.tc : Thread Cert.ReadoutRefIdeal.nD Cert.ReadoutRefIdeal.τ).loc Cert.ReadoutRefIdeal.main_arg7)) (m ((c.tc : Thread Cert.ReadoutRefIdeal.nD Cert.ReadoutRefIdeal.τ).loc Cert.ReadoutRefIdeal.main_arg8)) (m ((c.tc : Thread Cert.ReadoutRefIdeal.nD Cert.ReadoutRefIdeal.τ).loc Cert.ReadoutRefIdeal.main_arg9)) (m ((c.tc : Thread Cert.ReadoutRefIdeal.nD Cert.ReadoutRefIdeal.τ).loc Cert.ReadoutRefIdeal.main_arg10)) (m ((c.tc : Thread Cert.ReadoutRefIdeal.nD Cert.ReadoutRefIdeal.τ).loc Cert.ReadoutRefIdeal.main_arg11)) (m ((c.tc : Thread Cert.ReadoutRefIdeal.nD Cert.ReadoutRefIdeal.τ).loc Cert.ReadoutRefIdeal.main_arg12))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ConvOut [hConvOut : Cert.ConvOut.Facts] : Prop :=
  ∀ (m : (ℓ : Loc Cert.ConvOut.nD Cert.ConvOut.τ Cert.ConvOut.sig) → Buf (Elt Bits) ℓ) (g : Dev Cert.ConvOut.nD → PrngReg), Pre_ConvOut m →
    θ_run (Cert.ConvOut.defs (F := Bits)) (onTc (τ := Cert.ConvOut.τ) (Cert.ConvOut.main (F := Bits))) ⟨m, fun _ => 0, g⟩ (fun r => (∀ c : Dev Cert.ConvOut.nD,
      r.2.mem ((c.tc : Thread Cert.ConvOut.nD Cert.ConvOut.τ).loc Cert.ConvOut.main_arg0) = m ((c.tc : Thread Cert.ConvOut.nD Cert.ConvOut.τ).loc Cert.ConvOut.main_arg0)
      ∧ r.2.mem ((c.tc : Thread Cert.ConvOut.nD Cert.ConvOut.τ).loc Cert.ConvOut.main_arg1) = m ((c.tc : Thread Cert.ConvOut.nD Cert.ConvOut.τ).loc Cert.ConvOut.main_arg1)
      ∧ r.2.mem ((c.tc : Thread Cert.ConvOut.nD Cert.ConvOut.τ).loc Cert.ConvOut.main_arg2) = m ((c.tc : Thread Cert.ConvOut.nD Cert.ConvOut.τ).loc Cert.ConvOut.main_arg2)
      ∧ r.2.mem ((c.tc : Thread Cert.ConvOut.nD Cert.ConvOut.τ).loc Cert.ConvOut.main_arg3) = m ((c.tc : Thread Cert.ConvOut.nD Cert.ConvOut.τ).loc Cert.ConvOut.main_arg3)
      ∧ r.2.mem ((c.tc : Thread Cert.ConvOut.nD Cert.ConvOut.τ).loc Cert.ConvOut.main_arg4) = m ((c.tc : Thread Cert.ConvOut.nD Cert.ConvOut.τ).loc Cert.ConvOut.main_arg4)
      ∧ r.2.mem ((c.tc : Thread Cert.ConvOut.nD Cert.ConvOut.τ).loc Cert.ConvOut.main_arg5) = m ((c.tc : Thread Cert.ConvOut.nD Cert.ConvOut.τ).loc Cert.ConvOut.main_arg5)
      ∧ r.2.mem ((c.tc : Thread Cert.ConvOut.nD Cert.ConvOut.τ).loc Cert.ConvOut.main_arg6) = m ((c.tc : Thread Cert.ConvOut.nD Cert.ConvOut.τ).loc Cert.ConvOut.main_arg6))
      ∧ r.2.sem = fun _ => 0)

def quiescent_ConvOutIdeal [hConvOutIdeal : Cert.ConvOutIdeal.Facts] : Prop :=
  ∀ (m : (ℓ : Loc Cert.ConvOutIdeal.nD Cert.ConvOutIdeal.τ Cert.ConvOutIdeal.sig) → Buf (Elt Ideal) ℓ) (g : Dev Cert.ConvOutIdeal.nD → PrngReg), Pre_ConvOutIdeal m →
    θ_run (Cert.ConvOutIdeal.defs (F := Ideal)) (onTc (τ := Cert.ConvOutIdeal.τ) (Cert.ConvOutIdeal.main (F := Ideal))) ⟨m, fun _ => 0, g⟩ (fun r => (∀ c : Dev Cert.ConvOutIdeal.nD,
      r.2.mem ((c.tc : Thread Cert.ConvOutIdeal.nD Cert.ConvOutIdeal.τ).loc Cert.ConvOutIdeal.main_arg0) = m ((c.tc : Thread Cert.ConvOutIdeal.nD Cert.ConvOutIdeal.τ).loc Cert.ConvOutIdeal.main_arg0)
      ∧ r.2.mem ((c.tc : Thread Cert.ConvOutIdeal.nD Cert.ConvOutIdeal.τ).loc Cert.ConvOutIdeal.main_arg1) = m ((c.tc : Thread Cert.ConvOutIdeal.nD Cert.ConvOutIdeal.τ).loc Cert.ConvOutIdeal.main_arg1)
      ∧ r.2.mem ((c.tc : Thread Cert.ConvOutIdeal.nD Cert.ConvOutIdeal.τ).loc Cert.ConvOutIdeal.main_arg2) = m ((c.tc : Thread Cert.ConvOutIdeal.nD Cert.ConvOutIdeal.τ).loc Cert.ConvOutIdeal.main_arg2)
      ∧ r.2.mem ((c.tc : Thread Cert.ConvOutIdeal.nD Cert.ConvOutIdeal.τ).loc Cert.ConvOutIdeal.main_arg3) = m ((c.tc : Thread Cert.ConvOutIdeal.nD Cert.ConvOutIdeal.τ).loc Cert.ConvOutIdeal.main_arg3)
      ∧ r.2.mem ((c.tc : Thread Cert.ConvOutIdeal.nD Cert.ConvOutIdeal.τ).loc Cert.ConvOutIdeal.main_arg4) = m ((c.tc : Thread Cert.ConvOutIdeal.nD Cert.ConvOutIdeal.τ).loc Cert.ConvOutIdeal.main_arg4)
      ∧ r.2.mem ((c.tc : Thread Cert.ConvOutIdeal.nD Cert.ConvOutIdeal.τ).loc Cert.ConvOutIdeal.main_arg5) = m ((c.tc : Thread Cert.ConvOutIdeal.nD Cert.ConvOutIdeal.τ).loc Cert.ConvOutIdeal.main_arg5)
      ∧ r.2.mem ((c.tc : Thread Cert.ConvOutIdeal.nD Cert.ConvOutIdeal.τ).loc Cert.ConvOutIdeal.main_arg6) = m ((c.tc : Thread Cert.ConvOutIdeal.nD Cert.ConvOutIdeal.τ).loc Cert.ConvOutIdeal.main_arg6))
      ∧ r.2.sem = fun _ => 0)

def quiescent_ConvOutRefIdeal [hConvOutRefIdeal : Cert.ConvOutRefIdeal.Facts] : Prop :=
  ∀ (m : (ℓ : Loc Cert.ConvOutRefIdeal.nD Cert.ConvOutRefIdeal.τ Cert.ConvOutRefIdeal.sig) → Buf (Elt Ideal) ℓ) (g : Dev Cert.ConvOutRefIdeal.nD → PrngReg), Pre_ConvOutRefIdeal m →
    θ_run (Cert.ConvOutRefIdeal.defs (F := Ideal)) (onTc (τ := Cert.ConvOutRefIdeal.τ) (Cert.ConvOutRefIdeal.main (F := Ideal))) ⟨m, fun _ => 0, g⟩ (fun r => (∀ c : Dev Cert.ConvOutRefIdeal.nD,
      r.2.mem ((c.tc : Thread Cert.ConvOutRefIdeal.nD Cert.ConvOutRefIdeal.τ).loc Cert.ConvOutRefIdeal.main_arg0) = m ((c.tc : Thread Cert.ConvOutRefIdeal.nD Cert.ConvOutRefIdeal.τ).loc Cert.ConvOutRefIdeal.main_arg0)
      ∧ r.2.mem ((c.tc : Thread Cert.ConvOutRefIdeal.nD Cert.ConvOutRefIdeal.τ).loc Cert.ConvOutRefIdeal.main_arg1) = m ((c.tc : Thread Cert.ConvOutRefIdeal.nD Cert.ConvOutRefIdeal.τ).loc Cert.ConvOutRefIdeal.main_arg1)
      ∧ r.2.mem ((c.tc : Thread Cert.ConvOutRefIdeal.nD Cert.ConvOutRefIdeal.τ).loc Cert.ConvOutRefIdeal.main_arg2) = m ((c.tc : Thread Cert.ConvOutRefIdeal.nD Cert.ConvOutRefIdeal.τ).loc Cert.ConvOutRefIdeal.main_arg2)
      ∧ r.2.mem ((c.tc : Thread Cert.ConvOutRefIdeal.nD Cert.ConvOutRefIdeal.τ).loc Cert.ConvOutRefIdeal.main_arg3) = m ((c.tc : Thread Cert.ConvOutRefIdeal.nD Cert.ConvOutRefIdeal.τ).loc Cert.ConvOutRefIdeal.main_arg3)
      ∧ r.2.mem ((c.tc : Thread Cert.ConvOutRefIdeal.nD Cert.ConvOutRefIdeal.τ).loc Cert.ConvOutRefIdeal.main_arg4) = m ((c.tc : Thread Cert.ConvOutRefIdeal.nD Cert.ConvOutRefIdeal.τ).loc Cert.ConvOutRefIdeal.main_arg4)
      ∧ r.2.mem ((c.tc : Thread Cert.ConvOutRefIdeal.nD Cert.ConvOutRefIdeal.τ).loc Cert.ConvOutRefIdeal.main_arg5) = m ((c.tc : Thread Cert.ConvOutRefIdeal.nD Cert.ConvOutRefIdeal.τ).loc Cert.ConvOutRefIdeal.main_arg5)
      ∧ r.2.mem ((c.tc : Thread Cert.ConvOutRefIdeal.nD Cert.ConvOutRefIdeal.τ).loc Cert.ConvOutRefIdeal.main_arg6) = m ((c.tc : Thread Cert.ConvOutRefIdeal.nD Cert.ConvOutRefIdeal.τ).loc Cert.ConvOutRefIdeal.main_arg6))
      ∧ r.2.sem = fun _ => 0)

def quiescent_Rwkv [hRwkv : Cert.Rwkv.Facts] : Prop :=
  ∀ (m : (ℓ : Loc Cert.Rwkv.nD Cert.Rwkv.τ Cert.Rwkv.sig) → Buf (Elt Bits) ℓ) (g : Dev Cert.Rwkv.nD → PrngReg), Pre_Rwkv m →
    θ_run (Cert.Rwkv.defs (F := Bits)) (onTc (τ := Cert.Rwkv.τ) (Cert.Rwkv.main (F := Bits))) ⟨m, fun _ => 0, g⟩ (fun r => (∀ c : Dev Cert.Rwkv.nD,
      r.2.mem ((c.tc : Thread Cert.Rwkv.nD Cert.Rwkv.τ).loc Cert.Rwkv.main_arg0) = m ((c.tc : Thread Cert.Rwkv.nD Cert.Rwkv.τ).loc Cert.Rwkv.main_arg0)
      ∧ r.2.mem ((c.tc : Thread Cert.Rwkv.nD Cert.Rwkv.τ).loc Cert.Rwkv.main_arg1) = m ((c.tc : Thread Cert.Rwkv.nD Cert.Rwkv.τ).loc Cert.Rwkv.main_arg1)
      ∧ r.2.mem ((c.tc : Thread Cert.Rwkv.nD Cert.Rwkv.τ).loc Cert.Rwkv.main_arg2) = m ((c.tc : Thread Cert.Rwkv.nD Cert.Rwkv.τ).loc Cert.Rwkv.main_arg2)
      ∧ r.2.mem ((c.tc : Thread Cert.Rwkv.nD Cert.Rwkv.τ).loc Cert.Rwkv.main_arg3) = m ((c.tc : Thread Cert.Rwkv.nD Cert.Rwkv.τ).loc Cert.Rwkv.main_arg3)
      ∧ r.2.mem ((c.tc : Thread Cert.Rwkv.nD Cert.Rwkv.τ).loc Cert.Rwkv.main_arg4) = m ((c.tc : Thread Cert.Rwkv.nD Cert.Rwkv.τ).loc Cert.Rwkv.main_arg4)
      ∧ r.2.mem ((c.tc : Thread Cert.Rwkv.nD Cert.Rwkv.τ).loc Cert.Rwkv.main_arg5) = m ((c.tc : Thread Cert.Rwkv.nD Cert.Rwkv.τ).loc Cert.Rwkv.main_arg5)
      ∧ r.2.mem ((c.tc : Thread Cert.Rwkv.nD Cert.Rwkv.τ).loc Cert.Rwkv.main_arg6) = m ((c.tc : Thread Cert.Rwkv.nD Cert.Rwkv.τ).loc Cert.Rwkv.main_arg6)
      ∧ r.2.mem ((c.tc : Thread Cert.Rwkv.nD Cert.Rwkv.τ).loc Cert.Rwkv.main_arg7) = m ((c.tc : Thread Cert.Rwkv.nD Cert.Rwkv.τ).loc Cert.Rwkv.main_arg7)
      ∧ r.2.mem ((c.tc : Thread Cert.Rwkv.nD Cert.Rwkv.τ).loc Cert.Rwkv.main_arg8) = m ((c.tc : Thread Cert.Rwkv.nD Cert.Rwkv.τ).loc Cert.Rwkv.main_arg8)
      ∧ r.2.mem ((c.tc : Thread Cert.Rwkv.nD Cert.Rwkv.τ).loc Cert.Rwkv.main_arg9) = m ((c.tc : Thread Cert.Rwkv.nD Cert.Rwkv.τ).loc Cert.Rwkv.main_arg9)
      ∧ r.2.mem ((c.tc : Thread Cert.Rwkv.nD Cert.Rwkv.τ).loc Cert.Rwkv.main_arg10) = m ((c.tc : Thread Cert.Rwkv.nD Cert.Rwkv.τ).loc Cert.Rwkv.main_arg10)
      ∧ r.2.mem ((c.tc : Thread Cert.Rwkv.nD Cert.Rwkv.τ).loc Cert.Rwkv.main_arg11) = m ((c.tc : Thread Cert.Rwkv.nD Cert.Rwkv.τ).loc Cert.Rwkv.main_arg11)
      ∧ r.2.mem ((c.tc : Thread Cert.Rwkv.nD Cert.Rwkv.τ).loc Cert.Rwkv.main_arg12) = m ((c.tc : Thread Cert.Rwkv.nD Cert.Rwkv.τ).loc Cert.Rwkv.main_arg12)
      ∧ r.2.mem ((c.tc : Thread Cert.Rwkv.nD Cert.Rwkv.τ).loc Cert.Rwkv.main_arg13) = m ((c.tc : Thread Cert.Rwkv.nD Cert.Rwkv.τ).loc Cert.Rwkv.main_arg13)
      ∧ r.2.mem ((c.tc : Thread Cert.Rwkv.nD Cert.Rwkv.τ).loc Cert.Rwkv.main_arg14) = m ((c.tc : Thread Cert.Rwkv.nD Cert.Rwkv.τ).loc Cert.Rwkv.main_arg14))
      ∧ r.2.sem = fun _ => 0)

def quiescent_RwkvIdeal [hRwkvIdeal : Cert.RwkvIdeal.Facts] : Prop :=
  ∀ (m : (ℓ : Loc Cert.RwkvIdeal.nD Cert.RwkvIdeal.τ Cert.RwkvIdeal.sig) → Buf (Elt Ideal) ℓ) (g : Dev Cert.RwkvIdeal.nD → PrngReg), Pre_RwkvIdeal m →
    θ_run (Cert.RwkvIdeal.defs (F := Ideal)) (onTc (τ := Cert.RwkvIdeal.τ) (Cert.RwkvIdeal.main (F := Ideal))) ⟨m, fun _ => 0, g⟩ (fun r => (∀ c : Dev Cert.RwkvIdeal.nD,
      r.2.mem ((c.tc : Thread Cert.RwkvIdeal.nD Cert.RwkvIdeal.τ).loc Cert.RwkvIdeal.main_arg0) = m ((c.tc : Thread Cert.RwkvIdeal.nD Cert.RwkvIdeal.τ).loc Cert.RwkvIdeal.main_arg0)
      ∧ r.2.mem ((c.tc : Thread Cert.RwkvIdeal.nD Cert.RwkvIdeal.τ).loc Cert.RwkvIdeal.main_arg1) = m ((c.tc : Thread Cert.RwkvIdeal.nD Cert.RwkvIdeal.τ).loc Cert.RwkvIdeal.main_arg1)
      ∧ r.2.mem ((c.tc : Thread Cert.RwkvIdeal.nD Cert.RwkvIdeal.τ).loc Cert.RwkvIdeal.main_arg2) = m ((c.tc : Thread Cert.RwkvIdeal.nD Cert.RwkvIdeal.τ).loc Cert.RwkvIdeal.main_arg2)
      ∧ r.2.mem ((c.tc : Thread Cert.RwkvIdeal.nD Cert.RwkvIdeal.τ).loc Cert.RwkvIdeal.main_arg3) = m ((c.tc : Thread Cert.RwkvIdeal.nD Cert.RwkvIdeal.τ).loc Cert.RwkvIdeal.main_arg3)
      ∧ r.2.mem ((c.tc : Thread Cert.RwkvIdeal.nD Cert.RwkvIdeal.τ).loc Cert.RwkvIdeal.main_arg4) = m ((c.tc : Thread Cert.RwkvIdeal.nD Cert.RwkvIdeal.τ).loc Cert.RwkvIdeal.main_arg4)
      ∧ r.2.mem ((c.tc : Thread Cert.RwkvIdeal.nD Cert.RwkvIdeal.τ).loc Cert.RwkvIdeal.main_arg5) = m ((c.tc : Thread Cert.RwkvIdeal.nD Cert.RwkvIdeal.τ).loc Cert.RwkvIdeal.main_arg5)
      ∧ r.2.mem ((c.tc : Thread Cert.RwkvIdeal.nD Cert.RwkvIdeal.τ).loc Cert.RwkvIdeal.main_arg6) = m ((c.tc : Thread Cert.RwkvIdeal.nD Cert.RwkvIdeal.τ).loc Cert.RwkvIdeal.main_arg6)
      ∧ r.2.mem ((c.tc : Thread Cert.RwkvIdeal.nD Cert.RwkvIdeal.τ).loc Cert.RwkvIdeal.main_arg7) = m ((c.tc : Thread Cert.RwkvIdeal.nD Cert.RwkvIdeal.τ).loc Cert.RwkvIdeal.main_arg7)
      ∧ r.2.mem ((c.tc : Thread Cert.RwkvIdeal.nD Cert.RwkvIdeal.τ).loc Cert.RwkvIdeal.main_arg8) = m ((c.tc : Thread Cert.RwkvIdeal.nD Cert.RwkvIdeal.τ).loc Cert.RwkvIdeal.main_arg8)
      ∧ r.2.mem ((c.tc : Thread Cert.RwkvIdeal.nD Cert.RwkvIdeal.τ).loc Cert.RwkvIdeal.main_arg9) = m ((c.tc : Thread Cert.RwkvIdeal.nD Cert.RwkvIdeal.τ).loc Cert.RwkvIdeal.main_arg9)
      ∧ r.2.mem ((c.tc : Thread Cert.RwkvIdeal.nD Cert.RwkvIdeal.τ).loc Cert.RwkvIdeal.main_arg10) = m ((c.tc : Thread Cert.RwkvIdeal.nD Cert.RwkvIdeal.τ).loc Cert.RwkvIdeal.main_arg10)
      ∧ r.2.mem ((c.tc : Thread Cert.RwkvIdeal.nD Cert.RwkvIdeal.τ).loc Cert.RwkvIdeal.main_arg11) = m ((c.tc : Thread Cert.RwkvIdeal.nD Cert.RwkvIdeal.τ).loc Cert.RwkvIdeal.main_arg11)
      ∧ r.2.mem ((c.tc : Thread Cert.RwkvIdeal.nD Cert.RwkvIdeal.τ).loc Cert.RwkvIdeal.main_arg12) = m ((c.tc : Thread Cert.RwkvIdeal.nD Cert.RwkvIdeal.τ).loc Cert.RwkvIdeal.main_arg12)
      ∧ r.2.mem ((c.tc : Thread Cert.RwkvIdeal.nD Cert.RwkvIdeal.τ).loc Cert.RwkvIdeal.main_arg13) = m ((c.tc : Thread Cert.RwkvIdeal.nD Cert.RwkvIdeal.τ).loc Cert.RwkvIdeal.main_arg13)
      ∧ r.2.mem ((c.tc : Thread Cert.RwkvIdeal.nD Cert.RwkvIdeal.τ).loc Cert.RwkvIdeal.main_arg14) = m ((c.tc : Thread Cert.RwkvIdeal.nD Cert.RwkvIdeal.τ).loc Cert.RwkvIdeal.main_arg14))
      ∧ r.2.sem = fun _ => 0)

def quiescent_RwkvIdeal_pre_finite_key [hRwkvIdeal : Cert.RwkvIdeal.Facts] [hPre_finite_key : Cert.Pre_finite_key.Facts] : Prop :=
  ∀ (m : (ℓ : Loc Cert.RwkvIdeal.nD Cert.RwkvIdeal.τ Cert.RwkvIdeal.sig) → Buf (Elt Ideal) ℓ) (g : Dev Cert.RwkvIdeal.nD → PrngReg), Pre_RwkvIdeal_finite_key m →
    θ_run (Cert.RwkvIdeal.defs (F := Ideal)) (onTc (τ := Cert.RwkvIdeal.τ) (Cert.RwkvIdeal.main (F := Ideal))) ⟨m, fun _ => 0, g⟩ (fun r => (∀ c : Dev Cert.RwkvIdeal.nD,
      r.2.mem ((c.tc : Thread Cert.RwkvIdeal.nD Cert.RwkvIdeal.τ).loc Cert.RwkvIdeal.main_arg0) = m ((c.tc : Thread Cert.RwkvIdeal.nD Cert.RwkvIdeal.τ).loc Cert.RwkvIdeal.main_arg0)
      ∧ r.2.mem ((c.tc : Thread Cert.RwkvIdeal.nD Cert.RwkvIdeal.τ).loc Cert.RwkvIdeal.main_arg1) = m ((c.tc : Thread Cert.RwkvIdeal.nD Cert.RwkvIdeal.τ).loc Cert.RwkvIdeal.main_arg1)
      ∧ r.2.mem ((c.tc : Thread Cert.RwkvIdeal.nD Cert.RwkvIdeal.τ).loc Cert.RwkvIdeal.main_arg2) = m ((c.tc : Thread Cert.RwkvIdeal.nD Cert.RwkvIdeal.τ).loc Cert.RwkvIdeal.main_arg2)
      ∧ r.2.mem ((c.tc : Thread Cert.RwkvIdeal.nD Cert.RwkvIdeal.τ).loc Cert.RwkvIdeal.main_arg3) = m ((c.tc : Thread Cert.RwkvIdeal.nD Cert.RwkvIdeal.τ).loc Cert.RwkvIdeal.main_arg3)
      ∧ r.2.mem ((c.tc : Thread Cert.RwkvIdeal.nD Cert.RwkvIdeal.τ).loc Cert.RwkvIdeal.main_arg4) = m ((c.tc : Thread Cert.RwkvIdeal.nD Cert.RwkvIdeal.τ).loc Cert.RwkvIdeal.main_arg4)
      ∧ r.2.mem ((c.tc : Thread Cert.RwkvIdeal.nD Cert.RwkvIdeal.τ).loc Cert.RwkvIdeal.main_arg5) = m ((c.tc : Thread Cert.RwkvIdeal.nD Cert.RwkvIdeal.τ).loc Cert.RwkvIdeal.main_arg5)
      ∧ r.2.mem ((c.tc : Thread Cert.RwkvIdeal.nD Cert.RwkvIdeal.τ).loc Cert.RwkvIdeal.main_arg6) = m ((c.tc : Thread Cert.RwkvIdeal.nD Cert.RwkvIdeal.τ).loc Cert.RwkvIdeal.main_arg6)
      ∧ r.2.mem ((c.tc : Thread Cert.RwkvIdeal.nD Cert.RwkvIdeal.τ).loc Cert.RwkvIdeal.main_arg7) = m ((c.tc : Thread Cert.RwkvIdeal.nD Cert.RwkvIdeal.τ).loc Cert.RwkvIdeal.main_arg7)
      ∧ r.2.mem ((c.tc : Thread Cert.RwkvIdeal.nD Cert.RwkvIdeal.τ).loc Cert.RwkvIdeal.main_arg8) = m ((c.tc : Thread Cert.RwkvIdeal.nD Cert.RwkvIdeal.τ).loc Cert.RwkvIdeal.main_arg8)
      ∧ r.2.mem ((c.tc : Thread Cert.RwkvIdeal.nD Cert.RwkvIdeal.τ).loc Cert.RwkvIdeal.main_arg9) = m ((c.tc : Thread Cert.RwkvIdeal.nD Cert.RwkvIdeal.τ).loc Cert.RwkvIdeal.main_arg9)
      ∧ r.2.mem ((c.tc : Thread Cert.RwkvIdeal.nD Cert.RwkvIdeal.τ).loc Cert.RwkvIdeal.main_arg10) = m ((c.tc : Thread Cert.RwkvIdeal.nD Cert.RwkvIdeal.τ).loc Cert.RwkvIdeal.main_arg10)
      ∧ r.2.mem ((c.tc : Thread Cert.RwkvIdeal.nD Cert.RwkvIdeal.τ).loc Cert.RwkvIdeal.main_arg11) = m ((c.tc : Thread Cert.RwkvIdeal.nD Cert.RwkvIdeal.τ).loc Cert.RwkvIdeal.main_arg11)
      ∧ r.2.mem ((c.tc : Thread Cert.RwkvIdeal.nD Cert.RwkvIdeal.τ).loc Cert.RwkvIdeal.main_arg12) = m ((c.tc : Thread Cert.RwkvIdeal.nD Cert.RwkvIdeal.τ).loc Cert.RwkvIdeal.main_arg12)
      ∧ r.2.mem ((c.tc : Thread Cert.RwkvIdeal.nD Cert.RwkvIdeal.τ).loc Cert.RwkvIdeal.main_arg13) = m ((c.tc : Thread Cert.RwkvIdeal.nD Cert.RwkvIdeal.τ).loc Cert.RwkvIdeal.main_arg13)
      ∧ r.2.mem ((c.tc : Thread Cert.RwkvIdeal.nD Cert.RwkvIdeal.τ).loc Cert.RwkvIdeal.main_arg14) = m ((c.tc : Thread Cert.RwkvIdeal.nD Cert.RwkvIdeal.τ).loc Cert.RwkvIdeal.main_arg14))
      ∧ r.2.sem = fun _ => 0)

def quiescent_RwkvRefIdeal [hRwkvRefIdeal : Cert.RwkvRefIdeal.Facts] : Prop :=
  ∀ (m : (ℓ : Loc Cert.RwkvRefIdeal.nD Cert.RwkvRefIdeal.τ Cert.RwkvRefIdeal.sig) → Buf (Elt Ideal) ℓ) (g : Dev Cert.RwkvRefIdeal.nD → PrngReg), Pre_RwkvRefIdeal m →
    θ_run (Cert.RwkvRefIdeal.defs (F := Ideal)) (onTc (τ := Cert.RwkvRefIdeal.τ) (Cert.RwkvRefIdeal.main (F := Ideal))) ⟨m, fun _ => 0, g⟩ (fun r => (∀ c : Dev Cert.RwkvRefIdeal.nD,
      r.2.mem ((c.tc : Thread Cert.RwkvRefIdeal.nD Cert.RwkvRefIdeal.τ).loc Cert.RwkvRefIdeal.main_arg0) = m ((c.tc : Thread Cert.RwkvRefIdeal.nD Cert.RwkvRefIdeal.τ).loc Cert.RwkvRefIdeal.main_arg0)
      ∧ r.2.mem ((c.tc : Thread Cert.RwkvRefIdeal.nD Cert.RwkvRefIdeal.τ).loc Cert.RwkvRefIdeal.main_arg1) = m ((c.tc : Thread Cert.RwkvRefIdeal.nD Cert.RwkvRefIdeal.τ).loc Cert.RwkvRefIdeal.main_arg1)
      ∧ r.2.mem ((c.tc : Thread Cert.RwkvRefIdeal.nD Cert.RwkvRefIdeal.τ).loc Cert.RwkvRefIdeal.main_arg2) = m ((c.tc : Thread Cert.RwkvRefIdeal.nD Cert.RwkvRefIdeal.τ).loc Cert.RwkvRefIdeal.main_arg2)
      ∧ r.2.mem ((c.tc : Thread Cert.RwkvRefIdeal.nD Cert.RwkvRefIdeal.τ).loc Cert.RwkvRefIdeal.main_arg3) = m ((c.tc : Thread Cert.RwkvRefIdeal.nD Cert.RwkvRefIdeal.τ).loc Cert.RwkvRefIdeal.main_arg3)
      ∧ r.2.mem ((c.tc : Thread Cert.RwkvRefIdeal.nD Cert.RwkvRefIdeal.τ).loc Cert.RwkvRefIdeal.main_arg4) = m ((c.tc : Thread Cert.RwkvRefIdeal.nD Cert.RwkvRefIdeal.τ).loc Cert.RwkvRefIdeal.main_arg4)
      ∧ r.2.mem ((c.tc : Thread Cert.RwkvRefIdeal.nD Cert.RwkvRefIdeal.τ).loc Cert.RwkvRefIdeal.main_arg5) = m ((c.tc : Thread Cert.RwkvRefIdeal.nD Cert.RwkvRefIdeal.τ).loc Cert.RwkvRefIdeal.main_arg5)
      ∧ r.2.mem ((c.tc : Thread Cert.RwkvRefIdeal.nD Cert.RwkvRefIdeal.τ).loc Cert.RwkvRefIdeal.main_arg6) = m ((c.tc : Thread Cert.RwkvRefIdeal.nD Cert.RwkvRefIdeal.τ).loc Cert.RwkvRefIdeal.main_arg6)
      ∧ r.2.mem ((c.tc : Thread Cert.RwkvRefIdeal.nD Cert.RwkvRefIdeal.τ).loc Cert.RwkvRefIdeal.main_arg7) = m ((c.tc : Thread Cert.RwkvRefIdeal.nD Cert.RwkvRefIdeal.τ).loc Cert.RwkvRefIdeal.main_arg7)
      ∧ r.2.mem ((c.tc : Thread Cert.RwkvRefIdeal.nD Cert.RwkvRefIdeal.τ).loc Cert.RwkvRefIdeal.main_arg8) = m ((c.tc : Thread Cert.RwkvRefIdeal.nD Cert.RwkvRefIdeal.τ).loc Cert.RwkvRefIdeal.main_arg8)
      ∧ r.2.mem ((c.tc : Thread Cert.RwkvRefIdeal.nD Cert.RwkvRefIdeal.τ).loc Cert.RwkvRefIdeal.main_arg9) = m ((c.tc : Thread Cert.RwkvRefIdeal.nD Cert.RwkvRefIdeal.τ).loc Cert.RwkvRefIdeal.main_arg9)
      ∧ r.2.mem ((c.tc : Thread Cert.RwkvRefIdeal.nD Cert.RwkvRefIdeal.τ).loc Cert.RwkvRefIdeal.main_arg10) = m ((c.tc : Thread Cert.RwkvRefIdeal.nD Cert.RwkvRefIdeal.τ).loc Cert.RwkvRefIdeal.main_arg10)
      ∧ r.2.mem ((c.tc : Thread Cert.RwkvRefIdeal.nD Cert.RwkvRefIdeal.τ).loc Cert.RwkvRefIdeal.main_arg11) = m ((c.tc : Thread Cert.RwkvRefIdeal.nD Cert.RwkvRefIdeal.τ).loc Cert.RwkvRefIdeal.main_arg11)
      ∧ r.2.mem ((c.tc : Thread Cert.RwkvRefIdeal.nD Cert.RwkvRefIdeal.τ).loc Cert.RwkvRefIdeal.main_arg12) = m ((c.tc : Thread Cert.RwkvRefIdeal.nD Cert.RwkvRefIdeal.τ).loc Cert.RwkvRefIdeal.main_arg12)
      ∧ r.2.mem ((c.tc : Thread Cert.RwkvRefIdeal.nD Cert.RwkvRefIdeal.τ).loc Cert.RwkvRefIdeal.main_arg13) = m ((c.tc : Thread Cert.RwkvRefIdeal.nD Cert.RwkvRefIdeal.τ).loc Cert.RwkvRefIdeal.main_arg13)
      ∧ r.2.mem ((c.tc : Thread Cert.RwkvRefIdeal.nD Cert.RwkvRefIdeal.τ).loc Cert.RwkvRefIdeal.main_arg14) = m ((c.tc : Thread Cert.RwkvRefIdeal.nD Cert.RwkvRefIdeal.τ).loc Cert.RwkvRefIdeal.main_arg14))
      ∧ r.2.sem = fun _ => 0)

def quiescent_RwkvRefIdeal_pre_finite_key [hRwkvRefIdeal : Cert.RwkvRefIdeal.Facts] [hPre_finite_key : Cert.Pre_finite_key.Facts] : Prop :=
  ∀ (m : (ℓ : Loc Cert.RwkvRefIdeal.nD Cert.RwkvRefIdeal.τ Cert.RwkvRefIdeal.sig) → Buf (Elt Ideal) ℓ) (g : Dev Cert.RwkvRefIdeal.nD → PrngReg), Pre_RwkvRefIdeal_finite_key m →
    θ_run (Cert.RwkvRefIdeal.defs (F := Ideal)) (onTc (τ := Cert.RwkvRefIdeal.τ) (Cert.RwkvRefIdeal.main (F := Ideal))) ⟨m, fun _ => 0, g⟩ (fun r => (∀ c : Dev Cert.RwkvRefIdeal.nD,
      r.2.mem ((c.tc : Thread Cert.RwkvRefIdeal.nD Cert.RwkvRefIdeal.τ).loc Cert.RwkvRefIdeal.main_arg0) = m ((c.tc : Thread Cert.RwkvRefIdeal.nD Cert.RwkvRefIdeal.τ).loc Cert.RwkvRefIdeal.main_arg0)
      ∧ r.2.mem ((c.tc : Thread Cert.RwkvRefIdeal.nD Cert.RwkvRefIdeal.τ).loc Cert.RwkvRefIdeal.main_arg1) = m ((c.tc : Thread Cert.RwkvRefIdeal.nD Cert.RwkvRefIdeal.τ).loc Cert.RwkvRefIdeal.main_arg1)
      ∧ r.2.mem ((c.tc : Thread Cert.RwkvRefIdeal.nD Cert.RwkvRefIdeal.τ).loc Cert.RwkvRefIdeal.main_arg2) = m ((c.tc : Thread Cert.RwkvRefIdeal.nD Cert.RwkvRefIdeal.τ).loc Cert.RwkvRefIdeal.main_arg2)
      ∧ r.2.mem ((c.tc : Thread Cert.RwkvRefIdeal.nD Cert.RwkvRefIdeal.τ).loc Cert.RwkvRefIdeal.main_arg3) = m ((c.tc : Thread Cert.RwkvRefIdeal.nD Cert.RwkvRefIdeal.τ).loc Cert.RwkvRefIdeal.main_arg3)
      ∧ r.2.mem ((c.tc : Thread Cert.RwkvRefIdeal.nD Cert.RwkvRefIdeal.τ).loc Cert.RwkvRefIdeal.main_arg4) = m ((c.tc : Thread Cert.RwkvRefIdeal.nD Cert.RwkvRefIdeal.τ).loc Cert.RwkvRefIdeal.main_arg4)
      ∧ r.2.mem ((c.tc : Thread Cert.RwkvRefIdeal.nD Cert.RwkvRefIdeal.τ).loc Cert.RwkvRefIdeal.main_arg5) = m ((c.tc : Thread Cert.RwkvRefIdeal.nD Cert.RwkvRefIdeal.τ).loc Cert.RwkvRefIdeal.main_arg5)
      ∧ r.2.mem ((c.tc : Thread Cert.RwkvRefIdeal.nD Cert.RwkvRefIdeal.τ).loc Cert.RwkvRefIdeal.main_arg6) = m ((c.tc : Thread Cert.RwkvRefIdeal.nD Cert.RwkvRefIdeal.τ).loc Cert.RwkvRefIdeal.main_arg6)
      ∧ r.2.mem ((c.tc : Thread Cert.RwkvRefIdeal.nD Cert.RwkvRefIdeal.τ).loc Cert.RwkvRefIdeal.main_arg7) = m ((c.tc : Thread Cert.RwkvRefIdeal.nD Cert.RwkvRefIdeal.τ).loc Cert.RwkvRefIdeal.main_arg7)
      ∧ r.2.mem ((c.tc : Thread Cert.RwkvRefIdeal.nD Cert.RwkvRefIdeal.τ).loc Cert.RwkvRefIdeal.main_arg8) = m ((c.tc : Thread Cert.RwkvRefIdeal.nD Cert.RwkvRefIdeal.τ).loc Cert.RwkvRefIdeal.main_arg8)
      ∧ r.2.mem ((c.tc : Thread Cert.RwkvRefIdeal.nD Cert.RwkvRefIdeal.τ).loc Cert.RwkvRefIdeal.main_arg9) = m ((c.tc : Thread Cert.RwkvRefIdeal.nD Cert.RwkvRefIdeal.τ).loc Cert.RwkvRefIdeal.main_arg9)
      ∧ r.2.mem ((c.tc : Thread Cert.RwkvRefIdeal.nD Cert.RwkvRefIdeal.τ).loc Cert.RwkvRefIdeal.main_arg10) = m ((c.tc : Thread Cert.RwkvRefIdeal.nD Cert.RwkvRefIdeal.τ).loc Cert.RwkvRefIdeal.main_arg10)
      ∧ r.2.mem ((c.tc : Thread Cert.RwkvRefIdeal.nD Cert.RwkvRefIdeal.τ).loc Cert.RwkvRefIdeal.main_arg11) = m ((c.tc : Thread Cert.RwkvRefIdeal.nD Cert.RwkvRefIdeal.τ).loc Cert.RwkvRefIdeal.main_arg11)
      ∧ r.2.mem ((c.tc : Thread Cert.RwkvRefIdeal.nD Cert.RwkvRefIdeal.τ).loc Cert.RwkvRefIdeal.main_arg12) = m ((c.tc : Thread Cert.RwkvRefIdeal.nD Cert.RwkvRefIdeal.τ).loc Cert.RwkvRefIdeal.main_arg12)
      ∧ r.2.mem ((c.tc : Thread Cert.RwkvRefIdeal.nD Cert.RwkvRefIdeal.τ).loc Cert.RwkvRefIdeal.main_arg13) = m ((c.tc : Thread Cert.RwkvRefIdeal.nD Cert.RwkvRefIdeal.τ).loc Cert.RwkvRefIdeal.main_arg13)
      ∧ r.2.mem ((c.tc : Thread Cert.RwkvRefIdeal.nD Cert.RwkvRefIdeal.τ).loc Cert.RwkvRefIdeal.main_arg14) = m ((c.tc : Thread Cert.RwkvRefIdeal.nD Cert.RwkvRefIdeal.τ).loc Cert.RwkvRefIdeal.main_arg14))
      ∧ r.2.sem = fun _ => 0)

def quiescent_Readout [hReadout : Cert.Readout.Facts] : Prop :=
  ∀ (m : (ℓ : Loc Cert.Readout.nD Cert.Readout.τ Cert.Readout.sig) → Buf (Elt Bits) ℓ) (g : Dev Cert.Readout.nD → PrngReg), Pre_Readout m →
    θ_run (Cert.Readout.defs (F := Bits)) (onTc (τ := Cert.Readout.τ) (Cert.Readout.main (F := Bits))) ⟨m, fun _ => 0, g⟩ (fun r => (∀ c : Dev Cert.Readout.nD,
      r.2.mem ((c.tc : Thread Cert.Readout.nD Cert.Readout.τ).loc Cert.Readout.main_arg0) = m ((c.tc : Thread Cert.Readout.nD Cert.Readout.τ).loc Cert.Readout.main_arg0)
      ∧ r.2.mem ((c.tc : Thread Cert.Readout.nD Cert.Readout.τ).loc Cert.Readout.main_arg1) = m ((c.tc : Thread Cert.Readout.nD Cert.Readout.τ).loc Cert.Readout.main_arg1)
      ∧ r.2.mem ((c.tc : Thread Cert.Readout.nD Cert.Readout.τ).loc Cert.Readout.main_arg2) = m ((c.tc : Thread Cert.Readout.nD Cert.Readout.τ).loc Cert.Readout.main_arg2)
      ∧ r.2.mem ((c.tc : Thread Cert.Readout.nD Cert.Readout.τ).loc Cert.Readout.main_arg3) = m ((c.tc : Thread Cert.Readout.nD Cert.Readout.τ).loc Cert.Readout.main_arg3)
      ∧ r.2.mem ((c.tc : Thread Cert.Readout.nD Cert.Readout.τ).loc Cert.Readout.main_arg4) = m ((c.tc : Thread Cert.Readout.nD Cert.Readout.τ).loc Cert.Readout.main_arg4)
      ∧ r.2.mem ((c.tc : Thread Cert.Readout.nD Cert.Readout.τ).loc Cert.Readout.main_arg5) = m ((c.tc : Thread Cert.Readout.nD Cert.Readout.τ).loc Cert.Readout.main_arg5)
      ∧ r.2.mem ((c.tc : Thread Cert.Readout.nD Cert.Readout.τ).loc Cert.Readout.main_arg6) = m ((c.tc : Thread Cert.Readout.nD Cert.Readout.τ).loc Cert.Readout.main_arg6)
      ∧ r.2.mem ((c.tc : Thread Cert.Readout.nD Cert.Readout.τ).loc Cert.Readout.main_arg7) = m ((c.tc : Thread Cert.Readout.nD Cert.Readout.τ).loc Cert.Readout.main_arg7)
      ∧ r.2.mem ((c.tc : Thread Cert.Readout.nD Cert.Readout.τ).loc Cert.Readout.main_arg8) = m ((c.tc : Thread Cert.Readout.nD Cert.Readout.τ).loc Cert.Readout.main_arg8)
      ∧ r.2.mem ((c.tc : Thread Cert.Readout.nD Cert.Readout.τ).loc Cert.Readout.main_arg9) = m ((c.tc : Thread Cert.Readout.nD Cert.Readout.τ).loc Cert.Readout.main_arg9)
      ∧ r.2.mem ((c.tc : Thread Cert.Readout.nD Cert.Readout.τ).loc Cert.Readout.main_arg10) = m ((c.tc : Thread Cert.Readout.nD Cert.Readout.τ).loc Cert.Readout.main_arg10)
      ∧ r.2.mem ((c.tc : Thread Cert.Readout.nD Cert.Readout.τ).loc Cert.Readout.main_arg11) = m ((c.tc : Thread Cert.Readout.nD Cert.Readout.τ).loc Cert.Readout.main_arg11)
      ∧ r.2.mem ((c.tc : Thread Cert.Readout.nD Cert.Readout.τ).loc Cert.Readout.main_arg12) = m ((c.tc : Thread Cert.Readout.nD Cert.Readout.τ).loc Cert.Readout.main_arg12))
      ∧ r.2.sem = fun _ => 0)

def quiescent_ReadoutIdeal [hReadoutIdeal : Cert.ReadoutIdeal.Facts] : Prop :=
  ∀ (m : (ℓ : Loc Cert.ReadoutIdeal.nD Cert.ReadoutIdeal.τ Cert.ReadoutIdeal.sig) → Buf (Elt Ideal) ℓ) (g : Dev Cert.ReadoutIdeal.nD → PrngReg), Pre_ReadoutIdeal m →
    θ_run (Cert.ReadoutIdeal.defs (F := Ideal)) (onTc (τ := Cert.ReadoutIdeal.τ) (Cert.ReadoutIdeal.main (F := Ideal))) ⟨m, fun _ => 0, g⟩ (fun r => (∀ c : Dev Cert.ReadoutIdeal.nD,
      r.2.mem ((c.tc : Thread Cert.ReadoutIdeal.nD Cert.ReadoutIdeal.τ).loc Cert.ReadoutIdeal.main_arg0) = m ((c.tc : Thread Cert.ReadoutIdeal.nD Cert.ReadoutIdeal.τ).loc Cert.ReadoutIdeal.main_arg0)
      ∧ r.2.mem ((c.tc : Thread Cert.ReadoutIdeal.nD Cert.ReadoutIdeal.τ).loc Cert.ReadoutIdeal.main_arg1) = m ((c.tc : Thread Cert.ReadoutIdeal.nD Cert.ReadoutIdeal.τ).loc Cert.ReadoutIdeal.main_arg1)
      ∧ r.2.mem ((c.tc : Thread Cert.ReadoutIdeal.nD Cert.ReadoutIdeal.τ).loc Cert.ReadoutIdeal.main_arg2) = m ((c.tc : Thread Cert.ReadoutIdeal.nD Cert.ReadoutIdeal.τ).loc Cert.ReadoutIdeal.main_arg2)
      ∧ r.2.mem ((c.tc : Thread Cert.ReadoutIdeal.nD Cert.ReadoutIdeal.τ).loc Cert.ReadoutIdeal.main_arg3) = m ((c.tc : Thread Cert.ReadoutIdeal.nD Cert.ReadoutIdeal.τ).loc Cert.ReadoutIdeal.main_arg3)
      ∧ r.2.mem ((c.tc : Thread Cert.ReadoutIdeal.nD Cert.ReadoutIdeal.τ).loc Cert.ReadoutIdeal.main_arg4) = m ((c.tc : Thread Cert.ReadoutIdeal.nD Cert.ReadoutIdeal.τ).loc Cert.ReadoutIdeal.main_arg4)
      ∧ r.2.mem ((c.tc : Thread Cert.ReadoutIdeal.nD Cert.ReadoutIdeal.τ).loc Cert.ReadoutIdeal.main_arg5) = m ((c.tc : Thread Cert.ReadoutIdeal.nD Cert.ReadoutIdeal.τ).loc Cert.ReadoutIdeal.main_arg5)
      ∧ r.2.mem ((c.tc : Thread Cert.ReadoutIdeal.nD Cert.ReadoutIdeal.τ).loc Cert.ReadoutIdeal.main_arg6) = m ((c.tc : Thread Cert.ReadoutIdeal.nD Cert.ReadoutIdeal.τ).loc Cert.ReadoutIdeal.main_arg6)
      ∧ r.2.mem ((c.tc : Thread Cert.ReadoutIdeal.nD Cert.ReadoutIdeal.τ).loc Cert.ReadoutIdeal.main_arg7) = m ((c.tc : Thread Cert.ReadoutIdeal.nD Cert.ReadoutIdeal.τ).loc Cert.ReadoutIdeal.main_arg7)
      ∧ r.2.mem ((c.tc : Thread Cert.ReadoutIdeal.nD Cert.ReadoutIdeal.τ).loc Cert.ReadoutIdeal.main_arg8) = m ((c.tc : Thread Cert.ReadoutIdeal.nD Cert.ReadoutIdeal.τ).loc Cert.ReadoutIdeal.main_arg8)
      ∧ r.2.mem ((c.tc : Thread Cert.ReadoutIdeal.nD Cert.ReadoutIdeal.τ).loc Cert.ReadoutIdeal.main_arg9) = m ((c.tc : Thread Cert.ReadoutIdeal.nD Cert.ReadoutIdeal.τ).loc Cert.ReadoutIdeal.main_arg9)
      ∧ r.2.mem ((c.tc : Thread Cert.ReadoutIdeal.nD Cert.ReadoutIdeal.τ).loc Cert.ReadoutIdeal.main_arg10) = m ((c.tc : Thread Cert.ReadoutIdeal.nD Cert.ReadoutIdeal.τ).loc Cert.ReadoutIdeal.main_arg10)
      ∧ r.2.mem ((c.tc : Thread Cert.ReadoutIdeal.nD Cert.ReadoutIdeal.τ).loc Cert.ReadoutIdeal.main_arg11) = m ((c.tc : Thread Cert.ReadoutIdeal.nD Cert.ReadoutIdeal.τ).loc Cert.ReadoutIdeal.main_arg11)
      ∧ r.2.mem ((c.tc : Thread Cert.ReadoutIdeal.nD Cert.ReadoutIdeal.τ).loc Cert.ReadoutIdeal.main_arg12) = m ((c.tc : Thread Cert.ReadoutIdeal.nD Cert.ReadoutIdeal.τ).loc Cert.ReadoutIdeal.main_arg12))
      ∧ r.2.sem = fun _ => 0)

def quiescent_ReadoutIdeal_pre_finite_heads [hReadoutIdeal : Cert.ReadoutIdeal.Facts] [hPre_finite_heads : Cert.Pre_finite_heads.Facts] : Prop :=
  ∀ (m : (ℓ : Loc Cert.ReadoutIdeal.nD Cert.ReadoutIdeal.τ Cert.ReadoutIdeal.sig) → Buf (Elt Ideal) ℓ) (g : Dev Cert.ReadoutIdeal.nD → PrngReg), Pre_ReadoutIdeal_finite_heads m →
    θ_run (Cert.ReadoutIdeal.defs (F := Ideal)) (onTc (τ := Cert.ReadoutIdeal.τ) (Cert.ReadoutIdeal.main (F := Ideal))) ⟨m, fun _ => 0, g⟩ (fun r => (∀ c : Dev Cert.ReadoutIdeal.nD,
      r.2.mem ((c.tc : Thread Cert.ReadoutIdeal.nD Cert.ReadoutIdeal.τ).loc Cert.ReadoutIdeal.main_arg0) = m ((c.tc : Thread Cert.ReadoutIdeal.nD Cert.ReadoutIdeal.τ).loc Cert.ReadoutIdeal.main_arg0)
      ∧ r.2.mem ((c.tc : Thread Cert.ReadoutIdeal.nD Cert.ReadoutIdeal.τ).loc Cert.ReadoutIdeal.main_arg1) = m ((c.tc : Thread Cert.ReadoutIdeal.nD Cert.ReadoutIdeal.τ).loc Cert.ReadoutIdeal.main_arg1)
      ∧ r.2.mem ((c.tc : Thread Cert.ReadoutIdeal.nD Cert.ReadoutIdeal.τ).loc Cert.ReadoutIdeal.main_arg2) = m ((c.tc : Thread Cert.ReadoutIdeal.nD Cert.ReadoutIdeal.τ).loc Cert.ReadoutIdeal.main_arg2)
      ∧ r.2.mem ((c.tc : Thread Cert.ReadoutIdeal.nD Cert.ReadoutIdeal.τ).loc Cert.ReadoutIdeal.main_arg3) = m ((c.tc : Thread Cert.ReadoutIdeal.nD Cert.ReadoutIdeal.τ).loc Cert.ReadoutIdeal.main_arg3)
      ∧ r.2.mem ((c.tc : Thread Cert.ReadoutIdeal.nD Cert.ReadoutIdeal.τ).loc Cert.ReadoutIdeal.main_arg4) = m ((c.tc : Thread Cert.ReadoutIdeal.nD Cert.ReadoutIdeal.τ).loc Cert.ReadoutIdeal.main_arg4)
      ∧ r.2.mem ((c.tc : Thread Cert.ReadoutIdeal.nD Cert.ReadoutIdeal.τ).loc Cert.ReadoutIdeal.main_arg5) = m ((c.tc : Thread Cert.ReadoutIdeal.nD Cert.ReadoutIdeal.τ).loc Cert.ReadoutIdeal.main_arg5)
      ∧ r.2.mem ((c.tc : Thread Cert.ReadoutIdeal.nD Cert.ReadoutIdeal.τ).loc Cert.ReadoutIdeal.main_arg6) = m ((c.tc : Thread Cert.ReadoutIdeal.nD Cert.ReadoutIdeal.τ).loc Cert.ReadoutIdeal.main_arg6)
      ∧ r.2.mem ((c.tc : Thread Cert.ReadoutIdeal.nD Cert.ReadoutIdeal.τ).loc Cert.ReadoutIdeal.main_arg7) = m ((c.tc : Thread Cert.ReadoutIdeal.nD Cert.ReadoutIdeal.τ).loc Cert.ReadoutIdeal.main_arg7)
      ∧ r.2.mem ((c.tc : Thread Cert.ReadoutIdeal.nD Cert.ReadoutIdeal.τ).loc Cert.ReadoutIdeal.main_arg8) = m ((c.tc : Thread Cert.ReadoutIdeal.nD Cert.ReadoutIdeal.τ).loc Cert.ReadoutIdeal.main_arg8)
      ∧ r.2.mem ((c.tc : Thread Cert.ReadoutIdeal.nD Cert.ReadoutIdeal.τ).loc Cert.ReadoutIdeal.main_arg9) = m ((c.tc : Thread Cert.ReadoutIdeal.nD Cert.ReadoutIdeal.τ).loc Cert.ReadoutIdeal.main_arg9)
      ∧ r.2.mem ((c.tc : Thread Cert.ReadoutIdeal.nD Cert.ReadoutIdeal.τ).loc Cert.ReadoutIdeal.main_arg10) = m ((c.tc : Thread Cert.ReadoutIdeal.nD Cert.ReadoutIdeal.τ).loc Cert.ReadoutIdeal.main_arg10)
      ∧ r.2.mem ((c.tc : Thread Cert.ReadoutIdeal.nD Cert.ReadoutIdeal.τ).loc Cert.ReadoutIdeal.main_arg11) = m ((c.tc : Thread Cert.ReadoutIdeal.nD Cert.ReadoutIdeal.τ).loc Cert.ReadoutIdeal.main_arg11)
      ∧ r.2.mem ((c.tc : Thread Cert.ReadoutIdeal.nD Cert.ReadoutIdeal.τ).loc Cert.ReadoutIdeal.main_arg12) = m ((c.tc : Thread Cert.ReadoutIdeal.nD Cert.ReadoutIdeal.τ).loc Cert.ReadoutIdeal.main_arg12))
      ∧ r.2.sem = fun _ => 0)

def quiescent_ReadoutRefIdeal [hReadoutRefIdeal : Cert.ReadoutRefIdeal.Facts] : Prop :=
  ∀ (m : (ℓ : Loc Cert.ReadoutRefIdeal.nD Cert.ReadoutRefIdeal.τ Cert.ReadoutRefIdeal.sig) → Buf (Elt Ideal) ℓ) (g : Dev Cert.ReadoutRefIdeal.nD → PrngReg), Pre_ReadoutRefIdeal m →
    θ_run (Cert.ReadoutRefIdeal.defs (F := Ideal)) (onTc (τ := Cert.ReadoutRefIdeal.τ) (Cert.ReadoutRefIdeal.main (F := Ideal))) ⟨m, fun _ => 0, g⟩ (fun r => (∀ c : Dev Cert.ReadoutRefIdeal.nD,
      r.2.mem ((c.tc : Thread Cert.ReadoutRefIdeal.nD Cert.ReadoutRefIdeal.τ).loc Cert.ReadoutRefIdeal.main_arg0) = m ((c.tc : Thread Cert.ReadoutRefIdeal.nD Cert.ReadoutRefIdeal.τ).loc Cert.ReadoutRefIdeal.main_arg0)
      ∧ r.2.mem ((c.tc : Thread Cert.ReadoutRefIdeal.nD Cert.ReadoutRefIdeal.τ).loc Cert.ReadoutRefIdeal.main_arg1) = m ((c.tc : Thread Cert.ReadoutRefIdeal.nD Cert.ReadoutRefIdeal.τ).loc Cert.ReadoutRefIdeal.main_arg1)
      ∧ r.2.mem ((c.tc : Thread Cert.ReadoutRefIdeal.nD Cert.ReadoutRefIdeal.τ).loc Cert.ReadoutRefIdeal.main_arg2) = m ((c.tc : Thread Cert.ReadoutRefIdeal.nD Cert.ReadoutRefIdeal.τ).loc Cert.ReadoutRefIdeal.main_arg2)
      ∧ r.2.mem ((c.tc : Thread Cert.ReadoutRefIdeal.nD Cert.ReadoutRefIdeal.τ).loc Cert.ReadoutRefIdeal.main_arg3) = m ((c.tc : Thread Cert.ReadoutRefIdeal.nD Cert.ReadoutRefIdeal.τ).loc Cert.ReadoutRefIdeal.main_arg3)
      ∧ r.2.mem ((c.tc : Thread Cert.ReadoutRefIdeal.nD Cert.ReadoutRefIdeal.τ).loc Cert.ReadoutRefIdeal.main_arg4) = m ((c.tc : Thread Cert.ReadoutRefIdeal.nD Cert.ReadoutRefIdeal.τ).loc Cert.ReadoutRefIdeal.main_arg4)
      ∧ r.2.mem ((c.tc : Thread Cert.ReadoutRefIdeal.nD Cert.ReadoutRefIdeal.τ).loc Cert.ReadoutRefIdeal.main_arg5) = m ((c.tc : Thread Cert.ReadoutRefIdeal.nD Cert.ReadoutRefIdeal.τ).loc Cert.ReadoutRefIdeal.main_arg5)
      ∧ r.2.mem ((c.tc : Thread Cert.ReadoutRefIdeal.nD Cert.ReadoutRefIdeal.τ).loc Cert.ReadoutRefIdeal.main_arg6) = m ((c.tc : Thread Cert.ReadoutRefIdeal.nD Cert.ReadoutRefIdeal.τ).loc Cert.ReadoutRefIdeal.main_arg6)
      ∧ r.2.mem ((c.tc : Thread Cert.ReadoutRefIdeal.nD Cert.ReadoutRefIdeal.τ).loc Cert.ReadoutRefIdeal.main_arg7) = m ((c.tc : Thread Cert.ReadoutRefIdeal.nD Cert.ReadoutRefIdeal.τ).loc Cert.ReadoutRefIdeal.main_arg7)
      ∧ r.2.mem ((c.tc : Thread Cert.ReadoutRefIdeal.nD Cert.ReadoutRefIdeal.τ).loc Cert.ReadoutRefIdeal.main_arg8) = m ((c.tc : Thread Cert.ReadoutRefIdeal.nD Cert.ReadoutRefIdeal.τ).loc Cert.ReadoutRefIdeal.main_arg8)
      ∧ r.2.mem ((c.tc : Thread Cert.ReadoutRefIdeal.nD Cert.ReadoutRefIdeal.τ).loc Cert.ReadoutRefIdeal.main_arg9) = m ((c.tc : Thread Cert.ReadoutRefIdeal.nD Cert.ReadoutRefIdeal.τ).loc Cert.ReadoutRefIdeal.main_arg9)
      ∧ r.2.mem ((c.tc : Thread Cert.ReadoutRefIdeal.nD Cert.ReadoutRefIdeal.τ).loc Cert.ReadoutRefIdeal.main_arg10) = m ((c.tc : Thread Cert.ReadoutRefIdeal.nD Cert.ReadoutRefIdeal.τ).loc Cert.ReadoutRefIdeal.main_arg10)
      ∧ r.2.mem ((c.tc : Thread Cert.ReadoutRefIdeal.nD Cert.ReadoutRefIdeal.τ).loc Cert.ReadoutRefIdeal.main_arg11) = m ((c.tc : Thread Cert.ReadoutRefIdeal.nD Cert.ReadoutRefIdeal.τ).loc Cert.ReadoutRefIdeal.main_arg11)
      ∧ r.2.mem ((c.tc : Thread Cert.ReadoutRefIdeal.nD Cert.ReadoutRefIdeal.τ).loc Cert.ReadoutRefIdeal.main_arg12) = m ((c.tc : Thread Cert.ReadoutRefIdeal.nD Cert.ReadoutRefIdeal.τ).loc Cert.ReadoutRefIdeal.main_arg12))
      ∧ r.2.sem = fun _ => 0)

def quiescent_ReadoutRefIdeal_pre_finite_heads [hReadoutRefIdeal : Cert.ReadoutRefIdeal.Facts] [hPre_finite_heads : Cert.Pre_finite_heads.Facts] : Prop :=
  ∀ (m : (ℓ : Loc Cert.ReadoutRefIdeal.nD Cert.ReadoutRefIdeal.τ Cert.ReadoutRefIdeal.sig) → Buf (Elt Ideal) ℓ) (g : Dev Cert.ReadoutRefIdeal.nD → PrngReg), Pre_ReadoutRefIdeal_finite_heads m →
    θ_run (Cert.ReadoutRefIdeal.defs (F := Ideal)) (onTc (τ := Cert.ReadoutRefIdeal.τ) (Cert.ReadoutRefIdeal.main (F := Ideal))) ⟨m, fun _ => 0, g⟩ (fun r => (∀ c : Dev Cert.ReadoutRefIdeal.nD,
      r.2.mem ((c.tc : Thread Cert.ReadoutRefIdeal.nD Cert.ReadoutRefIdeal.τ).loc Cert.ReadoutRefIdeal.main_arg0) = m ((c.tc : Thread Cert.ReadoutRefIdeal.nD Cert.ReadoutRefIdeal.τ).loc Cert.ReadoutRefIdeal.main_arg0)
      ∧ r.2.mem ((c.tc : Thread Cert.ReadoutRefIdeal.nD Cert.ReadoutRefIdeal.τ).loc Cert.ReadoutRefIdeal.main_arg1) = m ((c.tc : Thread Cert.ReadoutRefIdeal.nD Cert.ReadoutRefIdeal.τ).loc Cert.ReadoutRefIdeal.main_arg1)
      ∧ r.2.mem ((c.tc : Thread Cert.ReadoutRefIdeal.nD Cert.ReadoutRefIdeal.τ).loc Cert.ReadoutRefIdeal.main_arg2) = m ((c.tc : Thread Cert.ReadoutRefIdeal.nD Cert.ReadoutRefIdeal.τ).loc Cert.ReadoutRefIdeal.main_arg2)
      ∧ r.2.mem ((c.tc : Thread Cert.ReadoutRefIdeal.nD Cert.ReadoutRefIdeal.τ).loc Cert.ReadoutRefIdeal.main_arg3) = m ((c.tc : Thread Cert.ReadoutRefIdeal.nD Cert.ReadoutRefIdeal.τ).loc Cert.ReadoutRefIdeal.main_arg3)
      ∧ r.2.mem ((c.tc : Thread Cert.ReadoutRefIdeal.nD Cert.ReadoutRefIdeal.τ).loc Cert.ReadoutRefIdeal.main_arg4) = m ((c.tc : Thread Cert.ReadoutRefIdeal.nD Cert.ReadoutRefIdeal.τ).loc Cert.ReadoutRefIdeal.main_arg4)
      ∧ r.2.mem ((c.tc : Thread Cert.ReadoutRefIdeal.nD Cert.ReadoutRefIdeal.τ).loc Cert.ReadoutRefIdeal.main_arg5) = m ((c.tc : Thread Cert.ReadoutRefIdeal.nD Cert.ReadoutRefIdeal.τ).loc Cert.ReadoutRefIdeal.main_arg5)
      ∧ r.2.mem ((c.tc : Thread Cert.ReadoutRefIdeal.nD Cert.ReadoutRefIdeal.τ).loc Cert.ReadoutRefIdeal.main_arg6) = m ((c.tc : Thread Cert.ReadoutRefIdeal.nD Cert.ReadoutRefIdeal.τ).loc Cert.ReadoutRefIdeal.main_arg6)
      ∧ r.2.mem ((c.tc : Thread Cert.ReadoutRefIdeal.nD Cert.ReadoutRefIdeal.τ).loc Cert.ReadoutRefIdeal.main_arg7) = m ((c.tc : Thread Cert.ReadoutRefIdeal.nD Cert.ReadoutRefIdeal.τ).loc Cert.ReadoutRefIdeal.main_arg7)
      ∧ r.2.mem ((c.tc : Thread Cert.ReadoutRefIdeal.nD Cert.ReadoutRefIdeal.τ).loc Cert.ReadoutRefIdeal.main_arg8) = m ((c.tc : Thread Cert.ReadoutRefIdeal.nD Cert.ReadoutRefIdeal.τ).loc Cert.ReadoutRefIdeal.main_arg8)
      ∧ r.2.mem ((c.tc : Thread Cert.ReadoutRefIdeal.nD Cert.ReadoutRefIdeal.τ).loc Cert.ReadoutRefIdeal.main_arg9) = m ((c.tc : Thread Cert.ReadoutRefIdeal.nD Cert.ReadoutRefIdeal.τ).loc Cert.ReadoutRefIdeal.main_arg9)
      ∧ r.2.mem ((c.tc : Thread Cert.ReadoutRefIdeal.nD Cert.ReadoutRefIdeal.τ).loc Cert.ReadoutRefIdeal.main_arg10) = m ((c.tc : Thread Cert.ReadoutRefIdeal.nD Cert.ReadoutRefIdeal.τ).loc Cert.ReadoutRefIdeal.main_arg10)
      ∧ r.2.mem ((c.tc : Thread Cert.ReadoutRefIdeal.nD Cert.ReadoutRefIdeal.τ).loc Cert.ReadoutRefIdeal.main_arg11) = m ((c.tc : Thread Cert.ReadoutRefIdeal.nD Cert.ReadoutRefIdeal.τ).loc Cert.ReadoutRefIdeal.main_arg11)
      ∧ r.2.mem ((c.tc : Thread Cert.ReadoutRefIdeal.nD Cert.ReadoutRefIdeal.τ).loc Cert.ReadoutRefIdeal.main_arg12) = m ((c.tc : Thread Cert.ReadoutRefIdeal.nD Cert.ReadoutRefIdeal.τ).loc Cert.ReadoutRefIdeal.main_arg12))
      ∧ r.2.sem = fun _ => 0)

def preserves_Kernel_KernelIdeal : Prop :=
  True

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_ConvOut_ConvOutIdeal : Prop :=
  True

def algebraic_ConvOutIdeal_ConvOutRefIdeal [hConvOutIdeal : Cert.ConvOutIdeal.Facts] [hConvOutRefIdeal : Cert.ConvOutRefIdeal.Facts] : Prop :=
  ∀ (m : (ℓ : Loc Cert.ConvOutIdeal.nD Cert.ConvOutIdeal.τ Cert.ConvOutIdeal.sig) → Buf (Elt Ideal) ℓ) (g : Dev Cert.ConvOutIdeal.nD → PrngReg)
    (m' : (ℓ : Loc Cert.ConvOutRefIdeal.nD Cert.ConvOutRefIdeal.τ Cert.ConvOutRefIdeal.sig) → Buf (Elt Ideal) ℓ) (g' : Dev Cert.ConvOutRefIdeal.nD → PrngReg), Pre_ConvOutIdeal m →
    (∀ c : Dev Cert.ConvOutIdeal.nD,
      m' ((c.tc : Thread Cert.ConvOutRefIdeal.nD Cert.ConvOutRefIdeal.τ).loc Cert.ConvOutRefIdeal.main_arg0) = m ((c.tc : Thread Cert.ConvOutIdeal.nD Cert.ConvOutIdeal.τ).loc Cert.ConvOutIdeal.main_arg0)
      ∧ m' ((c.tc : Thread Cert.ConvOutRefIdeal.nD Cert.ConvOutRefIdeal.τ).loc Cert.ConvOutRefIdeal.main_arg1) = m ((c.tc : Thread Cert.ConvOutIdeal.nD Cert.ConvOutIdeal.τ).loc Cert.ConvOutIdeal.main_arg1)
      ∧ m' ((c.tc : Thread Cert.ConvOutRefIdeal.nD Cert.ConvOutRefIdeal.τ).loc Cert.ConvOutRefIdeal.main_arg2) = m ((c.tc : Thread Cert.ConvOutIdeal.nD Cert.ConvOutIdeal.τ).loc Cert.ConvOutIdeal.main_arg2)
      ∧ m' ((c.tc : Thread Cert.ConvOutRefIdeal.nD Cert.ConvOutRefIdeal.τ).loc Cert.ConvOutRefIdeal.main_arg3) = m ((c.tc : Thread Cert.ConvOutIdeal.nD Cert.ConvOutIdeal.τ).loc Cert.ConvOutIdeal.main_arg3)
      ∧ m' ((c.tc : Thread Cert.ConvOutRefIdeal.nD Cert.ConvOutRefIdeal.τ).loc Cert.ConvOutRefIdeal.main_arg4) = m ((c.tc : Thread Cert.ConvOutIdeal.nD Cert.ConvOutIdeal.τ).loc Cert.ConvOutIdeal.main_arg4)
      ∧ m' ((c.tc : Thread Cert.ConvOutRefIdeal.nD Cert.ConvOutRefIdeal.τ).loc Cert.ConvOutRefIdeal.main_arg5) = m ((c.tc : Thread Cert.ConvOutIdeal.nD Cert.ConvOutIdeal.τ).loc Cert.ConvOutIdeal.main_arg5)
      ∧ m' ((c.tc : Thread Cert.ConvOutRefIdeal.nD Cert.ConvOutRefIdeal.τ).loc Cert.ConvOutRefIdeal.main_arg6) = m ((c.tc : Thread Cert.ConvOutIdeal.nD Cert.ConvOutIdeal.τ).loc Cert.ConvOutIdeal.main_arg6)) →
    ∃ (v0 : (c : Dev Cert.ConvOutIdeal.nD) → Buf (Elt Ideal) ((c.tc : Thread Cert.ConvOutIdeal.nD Cert.ConvOutIdeal.τ).loc Cert.ConvOutIdeal.main_v0)),
      θ_run (Cert.ConvOutIdeal.defs (F := Ideal)) (onTc (τ := Cert.ConvOutIdeal.τ) (Cert.ConvOutIdeal.main (F := Ideal))) ⟨m, fun _ => 0, g⟩ (fun r => ∀ c : Dev Cert.ConvOutIdeal.nD,
          r.2.mem ((c.tc : Thread Cert.ConvOutIdeal.nD Cert.ConvOutIdeal.τ).loc Cert.ConvOutIdeal.main_v0) = v0 c
          ∧ r.2.mem ((c.tc : Thread Cert.ConvOutIdeal.nD Cert.ConvOutIdeal.τ).loc Cert.ConvOutIdeal.main_arg0) = m ((c.tc : Thread Cert.ConvOutIdeal.nD Cert.ConvOutIdeal.τ).loc Cert.ConvOutIdeal.main_arg0)
          ∧ r.2.mem ((c.tc : Thread Cert.ConvOutIdeal.nD Cert.ConvOutIdeal.τ).loc Cert.ConvOutIdeal.main_arg1) = m ((c.tc : Thread Cert.ConvOutIdeal.nD Cert.ConvOutIdeal.τ).loc Cert.ConvOutIdeal.main_arg1)
          ∧ r.2.mem ((c.tc : Thread Cert.ConvOutIdeal.nD Cert.ConvOutIdeal.τ).loc Cert.ConvOutIdeal.main_arg2) = m ((c.tc : Thread Cert.ConvOutIdeal.nD Cert.ConvOutIdeal.τ).loc Cert.ConvOutIdeal.main_arg2)
          ∧ r.2.mem ((c.tc : Thread Cert.ConvOutIdeal.nD Cert.ConvOutIdeal.τ).loc Cert.ConvOutIdeal.main_arg3) = m ((c.tc : Thread Cert.ConvOutIdeal.nD Cert.ConvOutIdeal.τ).loc Cert.ConvOutIdeal.main_arg3)
          ∧ r.2.mem ((c.tc : Thread Cert.ConvOutIdeal.nD Cert.ConvOutIdeal.τ).loc Cert.ConvOutIdeal.main_arg4) = m ((c.tc : Thread Cert.ConvOutIdeal.nD Cert.ConvOutIdeal.τ).loc Cert.ConvOutIdeal.main_arg4)
          ∧ r.2.mem ((c.tc : Thread Cert.ConvOutIdeal.nD Cert.ConvOutIdeal.τ).loc Cert.ConvOutIdeal.main_arg5) = m ((c.tc : Thread Cert.ConvOutIdeal.nD Cert.ConvOutIdeal.τ).loc Cert.ConvOutIdeal.main_arg5)
          ∧ r.2.mem ((c.tc : Thread Cert.ConvOutIdeal.nD Cert.ConvOutIdeal.τ).loc Cert.ConvOutIdeal.main_arg6) = m ((c.tc : Thread Cert.ConvOutIdeal.nD Cert.ConvOutIdeal.τ).loc Cert.ConvOutIdeal.main_arg6))
      ∧ θ_run (Cert.ConvOutRefIdeal.defs (F := Ideal)) (onTc (τ := Cert.ConvOutRefIdeal.τ) (Cert.ConvOutRefIdeal.main (F := Ideal))) ⟨m', fun _ => 0, g'⟩ (fun r => ∀ c : Dev Cert.ConvOutRefIdeal.nD,
          r.2.mem ((c.tc : Thread Cert.ConvOutRefIdeal.nD Cert.ConvOutRefIdeal.τ).loc Cert.ConvOutRefIdeal.main_v30) = v0 c
          ∧ r.2.mem ((c.tc : Thread Cert.ConvOutRefIdeal.nD Cert.ConvOutRefIdeal.τ).loc Cert.ConvOutRefIdeal.main_arg0) = m' ((c.tc : Thread Cert.ConvOutRefIdeal.nD Cert.ConvOutRefIdeal.τ).loc Cert.ConvOutRefIdeal.main_arg0)
          ∧ r.2.mem ((c.tc : Thread Cert.ConvOutRefIdeal.nD Cert.ConvOutRefIdeal.τ).loc Cert.ConvOutRefIdeal.main_arg1) = m' ((c.tc : Thread Cert.ConvOutRefIdeal.nD Cert.ConvOutRefIdeal.τ).loc Cert.ConvOutRefIdeal.main_arg1)
          ∧ r.2.mem ((c.tc : Thread Cert.ConvOutRefIdeal.nD Cert.ConvOutRefIdeal.τ).loc Cert.ConvOutRefIdeal.main_arg2) = m' ((c.tc : Thread Cert.ConvOutRefIdeal.nD Cert.ConvOutRefIdeal.τ).loc Cert.ConvOutRefIdeal.main_arg2)
          ∧ r.2.mem ((c.tc : Thread Cert.ConvOutRefIdeal.nD Cert.ConvOutRefIdeal.τ).loc Cert.ConvOutRefIdeal.main_arg3) = m' ((c.tc : Thread Cert.ConvOutRefIdeal.nD Cert.ConvOutRefIdeal.τ).loc Cert.ConvOutRefIdeal.main_arg3)
          ∧ r.2.mem ((c.tc : Thread Cert.ConvOutRefIdeal.nD Cert.ConvOutRefIdeal.τ).loc Cert.ConvOutRefIdeal.main_arg4) = m' ((c.tc : Thread Cert.ConvOutRefIdeal.nD Cert.ConvOutRefIdeal.τ).loc Cert.ConvOutRefIdeal.main_arg4)
          ∧ r.2.mem ((c.tc : Thread Cert.ConvOutRefIdeal.nD Cert.ConvOutRefIdeal.τ).loc Cert.ConvOutRefIdeal.main_arg5) = m' ((c.tc : Thread Cert.ConvOutRefIdeal.nD Cert.ConvOutRefIdeal.τ).loc Cert.ConvOutRefIdeal.main_arg5)
          ∧ r.2.mem ((c.tc : Thread Cert.ConvOutRefIdeal.nD Cert.ConvOutRefIdeal.τ).loc Cert.ConvOutRefIdeal.main_arg6) = m' ((c.tc : Thread Cert.ConvOutRefIdeal.nD Cert.ConvOutRefIdeal.τ).loc Cert.ConvOutRefIdeal.main_arg6))

def preserves_Rwkv_RwkvIdeal : Prop :=
  True

def algebraic_RwkvIdeal_RwkvRefIdeal_pre_finite_key [hRwkvIdeal : Cert.RwkvIdeal.Facts] [hRwkvRefIdeal : Cert.RwkvRefIdeal.Facts] [hPre_finite_key : Cert.Pre_finite_key.Facts] : Prop :=
  ∀ (m : (ℓ : Loc Cert.RwkvIdeal.nD Cert.RwkvIdeal.τ Cert.RwkvIdeal.sig) → Buf (Elt Ideal) ℓ) (g : Dev Cert.RwkvIdeal.nD → PrngReg)
    (m' : (ℓ : Loc Cert.RwkvRefIdeal.nD Cert.RwkvRefIdeal.τ Cert.RwkvRefIdeal.sig) → Buf (Elt Ideal) ℓ) (g' : Dev Cert.RwkvRefIdeal.nD → PrngReg), Pre_RwkvIdeal_finite_key m →
    (∀ c : Dev Cert.RwkvIdeal.nD,
      m' ((c.tc : Thread Cert.RwkvRefIdeal.nD Cert.RwkvRefIdeal.τ).loc Cert.RwkvRefIdeal.main_arg0) = m ((c.tc : Thread Cert.RwkvIdeal.nD Cert.RwkvIdeal.τ).loc Cert.RwkvIdeal.main_arg0)
      ∧ m' ((c.tc : Thread Cert.RwkvRefIdeal.nD Cert.RwkvRefIdeal.τ).loc Cert.RwkvRefIdeal.main_arg1) = m ((c.tc : Thread Cert.RwkvIdeal.nD Cert.RwkvIdeal.τ).loc Cert.RwkvIdeal.main_arg1)
      ∧ m' ((c.tc : Thread Cert.RwkvRefIdeal.nD Cert.RwkvRefIdeal.τ).loc Cert.RwkvRefIdeal.main_arg2) = m ((c.tc : Thread Cert.RwkvIdeal.nD Cert.RwkvIdeal.τ).loc Cert.RwkvIdeal.main_arg2)
      ∧ m' ((c.tc : Thread Cert.RwkvRefIdeal.nD Cert.RwkvRefIdeal.τ).loc Cert.RwkvRefIdeal.main_arg3) = m ((c.tc : Thread Cert.RwkvIdeal.nD Cert.RwkvIdeal.τ).loc Cert.RwkvIdeal.main_arg3)
      ∧ m' ((c.tc : Thread Cert.RwkvRefIdeal.nD Cert.RwkvRefIdeal.τ).loc Cert.RwkvRefIdeal.main_arg4) = m ((c.tc : Thread Cert.RwkvIdeal.nD Cert.RwkvIdeal.τ).loc Cert.RwkvIdeal.main_arg4)
      ∧ m' ((c.tc : Thread Cert.RwkvRefIdeal.nD Cert.RwkvRefIdeal.τ).loc Cert.RwkvRefIdeal.main_arg5) = m ((c.tc : Thread Cert.RwkvIdeal.nD Cert.RwkvIdeal.τ).loc Cert.RwkvIdeal.main_arg5)
      ∧ m' ((c.tc : Thread Cert.RwkvRefIdeal.nD Cert.RwkvRefIdeal.τ).loc Cert.RwkvRefIdeal.main_arg6) = m ((c.tc : Thread Cert.RwkvIdeal.nD Cert.RwkvIdeal.τ).loc Cert.RwkvIdeal.main_arg6)
      ∧ m' ((c.tc : Thread Cert.RwkvRefIdeal.nD Cert.RwkvRefIdeal.τ).loc Cert.RwkvRefIdeal.main_arg7) = m ((c.tc : Thread Cert.RwkvIdeal.nD Cert.RwkvIdeal.τ).loc Cert.RwkvIdeal.main_arg7)
      ∧ m' ((c.tc : Thread Cert.RwkvRefIdeal.nD Cert.RwkvRefIdeal.τ).loc Cert.RwkvRefIdeal.main_arg8) = m ((c.tc : Thread Cert.RwkvIdeal.nD Cert.RwkvIdeal.τ).loc Cert.RwkvIdeal.main_arg8)
      ∧ m' ((c.tc : Thread Cert.RwkvRefIdeal.nD Cert.RwkvRefIdeal.τ).loc Cert.RwkvRefIdeal.main_arg9) = m ((c.tc : Thread Cert.RwkvIdeal.nD Cert.RwkvIdeal.τ).loc Cert.RwkvIdeal.main_arg9)
      ∧ m' ((c.tc : Thread Cert.RwkvRefIdeal.nD Cert.RwkvRefIdeal.τ).loc Cert.RwkvRefIdeal.main_arg10) = m ((c.tc : Thread Cert.RwkvIdeal.nD Cert.RwkvIdeal.τ).loc Cert.RwkvIdeal.main_arg10)
      ∧ m' ((c.tc : Thread Cert.RwkvRefIdeal.nD Cert.RwkvRefIdeal.τ).loc Cert.RwkvRefIdeal.main_arg11) = m ((c.tc : Thread Cert.RwkvIdeal.nD Cert.RwkvIdeal.τ).loc Cert.RwkvIdeal.main_arg11)
      ∧ m' ((c.tc : Thread Cert.RwkvRefIdeal.nD Cert.RwkvRefIdeal.τ).loc Cert.RwkvRefIdeal.main_arg12) = m ((c.tc : Thread Cert.RwkvIdeal.nD Cert.RwkvIdeal.τ).loc Cert.RwkvIdeal.main_arg12)
      ∧ m' ((c.tc : Thread Cert.RwkvRefIdeal.nD Cert.RwkvRefIdeal.τ).loc Cert.RwkvRefIdeal.main_arg13) = m ((c.tc : Thread Cert.RwkvIdeal.nD Cert.RwkvIdeal.τ).loc Cert.RwkvIdeal.main_arg13)
      ∧ m' ((c.tc : Thread Cert.RwkvRefIdeal.nD Cert.RwkvRefIdeal.τ).loc Cert.RwkvRefIdeal.main_arg14) = m ((c.tc : Thread Cert.RwkvIdeal.nD Cert.RwkvIdeal.τ).loc Cert.RwkvIdeal.main_arg14)) →
    ∃ (v0 : (c : Dev Cert.RwkvIdeal.nD) → Buf (Elt Ideal) ((c.tc : Thread Cert.RwkvIdeal.nD Cert.RwkvIdeal.τ).loc Cert.RwkvIdeal.main_v0_0)) (v1 : (c : Dev Cert.RwkvIdeal.nD) → Buf (Elt Ideal) ((c.tc : Thread Cert.RwkvIdeal.nD Cert.RwkvIdeal.τ).loc Cert.RwkvIdeal.main_v0_1)) (v2 : (c : Dev Cert.RwkvIdeal.nD) → Buf (Elt Ideal) ((c.tc : Thread Cert.RwkvIdeal.nD Cert.RwkvIdeal.τ).loc Cert.RwkvIdeal.main_v0_2)) (v3 : (c : Dev Cert.RwkvIdeal.nD) → Buf (Elt Ideal) ((c.tc : Thread Cert.RwkvIdeal.nD Cert.RwkvIdeal.τ).loc Cert.RwkvIdeal.main_v0_3)) (v4 : (c : Dev Cert.RwkvIdeal.nD) → Buf (Elt Ideal) ((c.tc : Thread Cert.RwkvIdeal.nD Cert.RwkvIdeal.τ).loc Cert.RwkvIdeal.main_v0_4)) (v5 : (c : Dev Cert.RwkvIdeal.nD) → Buf (Elt Ideal) ((c.tc : Thread Cert.RwkvIdeal.nD Cert.RwkvIdeal.τ).loc Cert.RwkvIdeal.main_v0_5)) (v6 : (c : Dev Cert.RwkvIdeal.nD) → Buf (Elt Ideal) ((c.tc : Thread Cert.RwkvIdeal.nD Cert.RwkvIdeal.τ).loc Cert.RwkvIdeal.main_v0_6)) (v7 : (c : Dev Cert.RwkvIdeal.nD) → Buf (Elt Ideal) ((c.tc : Thread Cert.RwkvIdeal.nD Cert.RwkvIdeal.τ).loc Cert.RwkvIdeal.main_v0_7)) (v8 : (c : Dev Cert.RwkvIdeal.nD) → Buf (Elt Ideal) ((c.tc : Thread Cert.RwkvIdeal.nD Cert.RwkvIdeal.τ).loc Cert.RwkvIdeal.main_v0_8)) (v9 : (c : Dev Cert.RwkvIdeal.nD) → Buf (Elt Ideal) ((c.tc : Thread Cert.RwkvIdeal.nD Cert.RwkvIdeal.τ).loc Cert.RwkvIdeal.main_v0_9)),
      θ_run (Cert.RwkvIdeal.defs (F := Ideal)) (onTc (τ := Cert.RwkvIdeal.τ) (Cert.RwkvIdeal.main (F := Ideal))) ⟨m, fun _ => 0, g⟩ (fun r => ∀ c : Dev Cert.RwkvIdeal.nD,
          r.2.mem ((c.tc : Thread Cert.RwkvIdeal.nD Cert.RwkvIdeal.τ).loc Cert.RwkvIdeal.main_v0_0) = v0 c
          ∧ r.2.mem ((c.tc : Thread Cert.RwkvIdeal.nD Cert.RwkvIdeal.τ).loc Cert.RwkvIdeal.main_v0_1) = v1 c
          ∧ r.2.mem ((c.tc : Thread Cert.RwkvIdeal.nD Cert.RwkvIdeal.τ).loc Cert.RwkvIdeal.main_v0_2) = v2 c
          ∧ r.2.mem ((c.tc : Thread Cert.RwkvIdeal.nD Cert.RwkvIdeal.τ).loc Cert.RwkvIdeal.main_v0_3) = v3 c
          ∧ r.2.mem ((c.tc : Thread Cert.RwkvIdeal.nD Cert.RwkvIdeal.τ).loc Cert.RwkvIdeal.main_v0_4) = v4 c
          ∧ r.2.mem ((c.tc : Thread Cert.RwkvIdeal.nD Cert.RwkvIdeal.τ).loc Cert.RwkvIdeal.main_v0_5) = v5 c
          ∧ r.2.mem ((c.tc : Thread Cert.RwkvIdeal.nD Cert.RwkvIdeal.τ).loc Cert.RwkvIdeal.main_v0_6) = v6 c
          ∧ r.2.mem ((c.tc : Thread Cert.RwkvIdeal.nD Cert.RwkvIdeal.τ).loc Cert.RwkvIdeal.main_v0_7) = v7 c
          ∧ r.2.mem ((c.tc : Thread Cert.RwkvIdeal.nD Cert.RwkvIdeal.τ).loc Cert.RwkvIdeal.main_v0_8) = v8 c
          ∧ r.2.mem ((c.tc : Thread Cert.RwkvIdeal.nD Cert.RwkvIdeal.τ).loc Cert.RwkvIdeal.main_v0_9) = v9 c
          ∧ r.2.mem ((c.tc : Thread Cert.RwkvIdeal.nD Cert.RwkvIdeal.τ).loc Cert.RwkvIdeal.main_arg0) = m ((c.tc : Thread Cert.RwkvIdeal.nD Cert.RwkvIdeal.τ).loc Cert.RwkvIdeal.main_arg0)
          ∧ r.2.mem ((c.tc : Thread Cert.RwkvIdeal.nD Cert.RwkvIdeal.τ).loc Cert.RwkvIdeal.main_arg1) = m ((c.tc : Thread Cert.RwkvIdeal.nD Cert.RwkvIdeal.τ).loc Cert.RwkvIdeal.main_arg1)
          ∧ r.2.mem ((c.tc : Thread Cert.RwkvIdeal.nD Cert.RwkvIdeal.τ).loc Cert.RwkvIdeal.main_arg2) = m ((c.tc : Thread Cert.RwkvIdeal.nD Cert.RwkvIdeal.τ).loc Cert.RwkvIdeal.main_arg2)
          ∧ r.2.mem ((c.tc : Thread Cert.RwkvIdeal.nD Cert.RwkvIdeal.τ).loc Cert.RwkvIdeal.main_arg3) = m ((c.tc : Thread Cert.RwkvIdeal.nD Cert.RwkvIdeal.τ).loc Cert.RwkvIdeal.main_arg3)
          ∧ r.2.mem ((c.tc : Thread Cert.RwkvIdeal.nD Cert.RwkvIdeal.τ).loc Cert.RwkvIdeal.main_arg4) = m ((c.tc : Thread Cert.RwkvIdeal.nD Cert.RwkvIdeal.τ).loc Cert.RwkvIdeal.main_arg4)
          ∧ r.2.mem ((c.tc : Thread Cert.RwkvIdeal.nD Cert.RwkvIdeal.τ).loc Cert.RwkvIdeal.main_arg5) = m ((c.tc : Thread Cert.RwkvIdeal.nD Cert.RwkvIdeal.τ).loc Cert.RwkvIdeal.main_arg5)
          ∧ r.2.mem ((c.tc : Thread Cert.RwkvIdeal.nD Cert.RwkvIdeal.τ).loc Cert.RwkvIdeal.main_arg6) = m ((c.tc : Thread Cert.RwkvIdeal.nD Cert.RwkvIdeal.τ).loc Cert.RwkvIdeal.main_arg6)
          ∧ r.2.mem ((c.tc : Thread Cert.RwkvIdeal.nD Cert.RwkvIdeal.τ).loc Cert.RwkvIdeal.main_arg7) = m ((c.tc : Thread Cert.RwkvIdeal.nD Cert.RwkvIdeal.τ).loc Cert.RwkvIdeal.main_arg7)
          ∧ r.2.mem ((c.tc : Thread Cert.RwkvIdeal.nD Cert.RwkvIdeal.τ).loc Cert.RwkvIdeal.main_arg8) = m ((c.tc : Thread Cert.RwkvIdeal.nD Cert.RwkvIdeal.τ).loc Cert.RwkvIdeal.main_arg8)
          ∧ r.2.mem ((c.tc : Thread Cert.RwkvIdeal.nD Cert.RwkvIdeal.τ).loc Cert.RwkvIdeal.main_arg9) = m ((c.tc : Thread Cert.RwkvIdeal.nD Cert.RwkvIdeal.τ).loc Cert.RwkvIdeal.main_arg9)
          ∧ r.2.mem ((c.tc : Thread Cert.RwkvIdeal.nD Cert.RwkvIdeal.τ).loc Cert.RwkvIdeal.main_arg10) = m ((c.tc : Thread Cert.RwkvIdeal.nD Cert.RwkvIdeal.τ).loc Cert.RwkvIdeal.main_arg10)
          ∧ r.2.mem ((c.tc : Thread Cert.RwkvIdeal.nD Cert.RwkvIdeal.τ).loc Cert.RwkvIdeal.main_arg11) = m ((c.tc : Thread Cert.RwkvIdeal.nD Cert.RwkvIdeal.τ).loc Cert.RwkvIdeal.main_arg11)
          ∧ r.2.mem ((c.tc : Thread Cert.RwkvIdeal.nD Cert.RwkvIdeal.τ).loc Cert.RwkvIdeal.main_arg12) = m ((c.tc : Thread Cert.RwkvIdeal.nD Cert.RwkvIdeal.τ).loc Cert.RwkvIdeal.main_arg12)
          ∧ r.2.mem ((c.tc : Thread Cert.RwkvIdeal.nD Cert.RwkvIdeal.τ).loc Cert.RwkvIdeal.main_arg13) = m ((c.tc : Thread Cert.RwkvIdeal.nD Cert.RwkvIdeal.τ).loc Cert.RwkvIdeal.main_arg13)
          ∧ r.2.mem ((c.tc : Thread Cert.RwkvIdeal.nD Cert.RwkvIdeal.τ).loc Cert.RwkvIdeal.main_arg14) = m ((c.tc : Thread Cert.RwkvIdeal.nD Cert.RwkvIdeal.τ).loc Cert.RwkvIdeal.main_arg14))
      ∧ θ_run (Cert.RwkvRefIdeal.defs (F := Ideal)) (onTc (τ := Cert.RwkvRefIdeal.τ) (Cert.RwkvRefIdeal.main (F := Ideal))) ⟨m', fun _ => 0, g'⟩ (fun r => ∀ c : Dev Cert.RwkvRefIdeal.nD,
          r.2.mem ((c.tc : Thread Cert.RwkvRefIdeal.nD Cert.RwkvRefIdeal.τ).loc Cert.RwkvRefIdeal.main_v49) = v0 c
          ∧ r.2.mem ((c.tc : Thread Cert.RwkvRefIdeal.nD Cert.RwkvRefIdeal.τ).loc Cert.RwkvRefIdeal.main_v63) = v1 c
          ∧ r.2.mem ((c.tc : Thread Cert.RwkvRefIdeal.nD Cert.RwkvRefIdeal.τ).loc Cert.RwkvRefIdeal.main_v53) = v2 c
          ∧ r.2.mem ((c.tc : Thread Cert.RwkvRefIdeal.nD Cert.RwkvRefIdeal.τ).loc Cert.RwkvRefIdeal.main_v170) = v3 c
          ∧ r.2.mem ((c.tc : Thread Cert.RwkvRefIdeal.nD Cert.RwkvRefIdeal.τ).loc Cert.RwkvRefIdeal.main_v113) = v4 c
          ∧ r.2.mem ((c.tc : Thread Cert.RwkvRefIdeal.nD Cert.RwkvRefIdeal.τ).loc Cert.RwkvRefIdeal.main_v159) = v5 c
          ∧ r.2.mem ((c.tc : Thread Cert.RwkvRefIdeal.nD Cert.RwkvRefIdeal.τ).loc Cert.RwkvRefIdeal.main_v122) = v6 c
          ∧ r.2.mem ((c.tc : Thread Cert.RwkvRefIdeal.nD Cert.RwkvRefIdeal.τ).loc Cert.RwkvRefIdeal.main_v168) = v7 c
          ∧ r.2.mem ((c.tc : Thread Cert.RwkvRefIdeal.nD Cert.RwkvRefIdeal.τ).loc Cert.RwkvRefIdeal.main_v123) = v8 c
          ∧ r.2.mem ((c.tc : Thread Cert.RwkvRefIdeal.nD Cert.RwkvRefIdeal.τ).loc Cert.RwkvRefIdeal.main_v169) = v9 c
          ∧ r.2.mem ((c.tc : Thread Cert.RwkvRefIdeal.nD Cert.RwkvRefIdeal.τ).loc Cert.RwkvRefIdeal.main_arg0) = m' ((c.tc : Thread Cert.RwkvRefIdeal.nD Cert.RwkvRefIdeal.τ).loc Cert.RwkvRefIdeal.main_arg0)
          ∧ r.2.mem ((c.tc : Thread Cert.RwkvRefIdeal.nD Cert.RwkvRefIdeal.τ).loc Cert.RwkvRefIdeal.main_arg1) = m' ((c.tc : Thread Cert.RwkvRefIdeal.nD Cert.RwkvRefIdeal.τ).loc Cert.RwkvRefIdeal.main_arg1)
          ∧ r.2.mem ((c.tc : Thread Cert.RwkvRefIdeal.nD Cert.RwkvRefIdeal.τ).loc Cert.RwkvRefIdeal.main_arg2) = m' ((c.tc : Thread Cert.RwkvRefIdeal.nD Cert.RwkvRefIdeal.τ).loc Cert.RwkvRefIdeal.main_arg2)
          ∧ r.2.mem ((c.tc : Thread Cert.RwkvRefIdeal.nD Cert.RwkvRefIdeal.τ).loc Cert.RwkvRefIdeal.main_arg3) = m' ((c.tc : Thread Cert.RwkvRefIdeal.nD Cert.RwkvRefIdeal.τ).loc Cert.RwkvRefIdeal.main_arg3)
          ∧ r.2.mem ((c.tc : Thread Cert.RwkvRefIdeal.nD Cert.RwkvRefIdeal.τ).loc Cert.RwkvRefIdeal.main_arg4) = m' ((c.tc : Thread Cert.RwkvRefIdeal.nD Cert.RwkvRefIdeal.τ).loc Cert.RwkvRefIdeal.main_arg4)
          ∧ r.2.mem ((c.tc : Thread Cert.RwkvRefIdeal.nD Cert.RwkvRefIdeal.τ).loc Cert.RwkvRefIdeal.main_arg5) = m' ((c.tc : Thread Cert.RwkvRefIdeal.nD Cert.RwkvRefIdeal.τ).loc Cert.RwkvRefIdeal.main_arg5)
          ∧ r.2.mem ((c.tc : Thread Cert.RwkvRefIdeal.nD Cert.RwkvRefIdeal.τ).loc Cert.RwkvRefIdeal.main_arg6) = m' ((c.tc : Thread Cert.RwkvRefIdeal.nD Cert.RwkvRefIdeal.τ).loc Cert.RwkvRefIdeal.main_arg6)
          ∧ r.2.mem ((c.tc : Thread Cert.RwkvRefIdeal.nD Cert.RwkvRefIdeal.τ).loc Cert.RwkvRefIdeal.main_arg7) = m' ((c.tc : Thread Cert.RwkvRefIdeal.nD Cert.RwkvRefIdeal.τ).loc Cert.RwkvRefIdeal.main_arg7)
          ∧ r.2.mem ((c.tc : Thread Cert.RwkvRefIdeal.nD Cert.RwkvRefIdeal.τ).loc Cert.RwkvRefIdeal.main_arg8) = m' ((c.tc : Thread Cert.RwkvRefIdeal.nD Cert.RwkvRefIdeal.τ).loc Cert.RwkvRefIdeal.main_arg8)
          ∧ r.2.mem ((c.tc : Thread Cert.RwkvRefIdeal.nD Cert.RwkvRefIdeal.τ).loc Cert.RwkvRefIdeal.main_arg9) = m' ((c.tc : Thread Cert.RwkvRefIdeal.nD Cert.RwkvRefIdeal.τ).loc Cert.RwkvRefIdeal.main_arg9)
          ∧ r.2.mem ((c.tc : Thread Cert.RwkvRefIdeal.nD Cert.RwkvRefIdeal.τ).loc Cert.RwkvRefIdeal.main_arg10) = m' ((c.tc : Thread Cert.RwkvRefIdeal.nD Cert.RwkvRefIdeal.τ).loc Cert.RwkvRefIdeal.main_arg10)
          ∧ r.2.mem ((c.tc : Thread Cert.RwkvRefIdeal.nD Cert.RwkvRefIdeal.τ).loc Cert.RwkvRefIdeal.main_arg11) = m' ((c.tc : Thread Cert.RwkvRefIdeal.nD Cert.RwkvRefIdeal.τ).loc Cert.RwkvRefIdeal.main_arg11)
          ∧ r.2.mem ((c.tc : Thread Cert.RwkvRefIdeal.nD Cert.RwkvRefIdeal.τ).loc Cert.RwkvRefIdeal.main_arg12) = m' ((c.tc : Thread Cert.RwkvRefIdeal.nD Cert.RwkvRefIdeal.τ).loc Cert.RwkvRefIdeal.main_arg12)
          ∧ r.2.mem ((c.tc : Thread Cert.RwkvRefIdeal.nD Cert.RwkvRefIdeal.τ).loc Cert.RwkvRefIdeal.main_arg13) = m' ((c.tc : Thread Cert.RwkvRefIdeal.nD Cert.RwkvRefIdeal.τ).loc Cert.RwkvRefIdeal.main_arg13)
          ∧ r.2.mem ((c.tc : Thread Cert.RwkvRefIdeal.nD Cert.RwkvRefIdeal.τ).loc Cert.RwkvRefIdeal.main_arg14) = m' ((c.tc : Thread Cert.RwkvRefIdeal.nD Cert.RwkvRefIdeal.τ).loc Cert.RwkvRefIdeal.main_arg14))

def preserves_Readout_ReadoutIdeal : Prop :=
  True

def algebraic_ReadoutIdeal_ReadoutRefIdeal_pre_finite_heads [hReadoutIdeal : Cert.ReadoutIdeal.Facts] [hReadoutRefIdeal : Cert.ReadoutRefIdeal.Facts] [hPre_finite_heads : Cert.Pre_finite_heads.Facts] : Prop :=
  ∀ (m : (ℓ : Loc Cert.ReadoutIdeal.nD Cert.ReadoutIdeal.τ Cert.ReadoutIdeal.sig) → Buf (Elt Ideal) ℓ) (g : Dev Cert.ReadoutIdeal.nD → PrngReg)
    (m' : (ℓ : Loc Cert.ReadoutRefIdeal.nD Cert.ReadoutRefIdeal.τ Cert.ReadoutRefIdeal.sig) → Buf (Elt Ideal) ℓ) (g' : Dev Cert.ReadoutRefIdeal.nD → PrngReg), Pre_ReadoutIdeal_finite_heads m →
    (∀ c : Dev Cert.ReadoutIdeal.nD,
      m' ((c.tc : Thread Cert.ReadoutRefIdeal.nD Cert.ReadoutRefIdeal.τ).loc Cert.ReadoutRefIdeal.main_arg0) = m ((c.tc : Thread Cert.ReadoutIdeal.nD Cert.ReadoutIdeal.τ).loc Cert.ReadoutIdeal.main_arg0)
      ∧ m' ((c.tc : Thread Cert.ReadoutRefIdeal.nD Cert.ReadoutRefIdeal.τ).loc Cert.ReadoutRefIdeal.main_arg1) = m ((c.tc : Thread Cert.ReadoutIdeal.nD Cert.ReadoutIdeal.τ).loc Cert.ReadoutIdeal.main_arg1)
      ∧ m' ((c.tc : Thread Cert.ReadoutRefIdeal.nD Cert.ReadoutRefIdeal.τ).loc Cert.ReadoutRefIdeal.main_arg2) = m ((c.tc : Thread Cert.ReadoutIdeal.nD Cert.ReadoutIdeal.τ).loc Cert.ReadoutIdeal.main_arg2)
      ∧ m' ((c.tc : Thread Cert.ReadoutRefIdeal.nD Cert.ReadoutRefIdeal.τ).loc Cert.ReadoutRefIdeal.main_arg3) = m ((c.tc : Thread Cert.ReadoutIdeal.nD Cert.ReadoutIdeal.τ).loc Cert.ReadoutIdeal.main_arg3)
      ∧ m' ((c.tc : Thread Cert.ReadoutRefIdeal.nD Cert.ReadoutRefIdeal.τ).loc Cert.ReadoutRefIdeal.main_arg4) = m ((c.tc : Thread Cert.ReadoutIdeal.nD Cert.ReadoutIdeal.τ).loc Cert.ReadoutIdeal.main_arg4)
      ∧ m' ((c.tc : Thread Cert.ReadoutRefIdeal.nD Cert.ReadoutRefIdeal.τ).loc Cert.ReadoutRefIdeal.main_arg5) = m ((c.tc : Thread Cert.ReadoutIdeal.nD Cert.ReadoutIdeal.τ).loc Cert.ReadoutIdeal.main_arg5)
      ∧ m' ((c.tc : Thread Cert.ReadoutRefIdeal.nD Cert.ReadoutRefIdeal.τ).loc Cert.ReadoutRefIdeal.main_arg6) = m ((c.tc : Thread Cert.ReadoutIdeal.nD Cert.ReadoutIdeal.τ).loc Cert.ReadoutIdeal.main_arg6)
      ∧ m' ((c.tc : Thread Cert.ReadoutRefIdeal.nD Cert.ReadoutRefIdeal.τ).loc Cert.ReadoutRefIdeal.main_arg7) = m ((c.tc : Thread Cert.ReadoutIdeal.nD Cert.ReadoutIdeal.τ).loc Cert.ReadoutIdeal.main_arg7)
      ∧ m' ((c.tc : Thread Cert.ReadoutRefIdeal.nD Cert.ReadoutRefIdeal.τ).loc Cert.ReadoutRefIdeal.main_arg8) = m ((c.tc : Thread Cert.ReadoutIdeal.nD Cert.ReadoutIdeal.τ).loc Cert.ReadoutIdeal.main_arg8)
      ∧ m' ((c.tc : Thread Cert.ReadoutRefIdeal.nD Cert.ReadoutRefIdeal.τ).loc Cert.ReadoutRefIdeal.main_arg9) = m ((c.tc : Thread Cert.ReadoutIdeal.nD Cert.ReadoutIdeal.τ).loc Cert.ReadoutIdeal.main_arg9)
      ∧ m' ((c.tc : Thread Cert.ReadoutRefIdeal.nD Cert.ReadoutRefIdeal.τ).loc Cert.ReadoutRefIdeal.main_arg10) = m ((c.tc : Thread Cert.ReadoutIdeal.nD Cert.ReadoutIdeal.τ).loc Cert.ReadoutIdeal.main_arg10)
      ∧ m' ((c.tc : Thread Cert.ReadoutRefIdeal.nD Cert.ReadoutRefIdeal.τ).loc Cert.ReadoutRefIdeal.main_arg11) = m ((c.tc : Thread Cert.ReadoutIdeal.nD Cert.ReadoutIdeal.τ).loc Cert.ReadoutIdeal.main_arg11)
      ∧ m' ((c.tc : Thread Cert.ReadoutRefIdeal.nD Cert.ReadoutRefIdeal.τ).loc Cert.ReadoutRefIdeal.main_arg12) = m ((c.tc : Thread Cert.ReadoutIdeal.nD Cert.ReadoutIdeal.τ).loc Cert.ReadoutIdeal.main_arg12)) →
    ∃ (v0 : (c : Dev Cert.ReadoutIdeal.nD) → Buf (Elt Ideal) ((c.tc : Thread Cert.ReadoutIdeal.nD Cert.ReadoutIdeal.τ).loc Cert.ReadoutIdeal.main_v3)),
      θ_run (Cert.ReadoutIdeal.defs (F := Ideal)) (onTc (τ := Cert.ReadoutIdeal.τ) (Cert.ReadoutIdeal.main (F := Ideal))) ⟨m, fun _ => 0, g⟩ (fun r => ∀ c : Dev Cert.ReadoutIdeal.nD,
          r.2.mem ((c.tc : Thread Cert.ReadoutIdeal.nD Cert.ReadoutIdeal.τ).loc Cert.ReadoutIdeal.main_v3) = v0 c
          ∧ r.2.mem ((c.tc : Thread Cert.ReadoutIdeal.nD Cert.ReadoutIdeal.τ).loc Cert.ReadoutIdeal.main_arg0) = m ((c.tc : Thread Cert.ReadoutIdeal.nD Cert.ReadoutIdeal.τ).loc Cert.ReadoutIdeal.main_arg0)
          ∧ r.2.mem ((c.tc : Thread Cert.ReadoutIdeal.nD Cert.ReadoutIdeal.τ).loc Cert.ReadoutIdeal.main_arg1) = m ((c.tc : Thread Cert.ReadoutIdeal.nD Cert.ReadoutIdeal.τ).loc Cert.ReadoutIdeal.main_arg1)
          ∧ r.2.mem ((c.tc : Thread Cert.ReadoutIdeal.nD Cert.ReadoutIdeal.τ).loc Cert.ReadoutIdeal.main_arg2) = m ((c.tc : Thread Cert.ReadoutIdeal.nD Cert.ReadoutIdeal.τ).loc Cert.ReadoutIdeal.main_arg2)
          ∧ r.2.mem ((c.tc : Thread Cert.ReadoutIdeal.nD Cert.ReadoutIdeal.τ).loc Cert.ReadoutIdeal.main_arg3) = m ((c.tc : Thread Cert.ReadoutIdeal.nD Cert.ReadoutIdeal.τ).loc Cert.ReadoutIdeal.main_arg3)
          ∧ r.2.mem ((c.tc : Thread Cert.ReadoutIdeal.nD Cert.ReadoutIdeal.τ).loc Cert.ReadoutIdeal.main_arg4) = m ((c.tc : Thread Cert.ReadoutIdeal.nD Cert.ReadoutIdeal.τ).loc Cert.ReadoutIdeal.main_arg4)
          ∧ r.2.mem ((c.tc : Thread Cert.ReadoutIdeal.nD Cert.ReadoutIdeal.τ).loc Cert.ReadoutIdeal.main_arg5) = m ((c.tc : Thread Cert.ReadoutIdeal.nD Cert.ReadoutIdeal.τ).loc Cert.ReadoutIdeal.main_arg5)
          ∧ r.2.mem ((c.tc : Thread Cert.ReadoutIdeal.nD Cert.ReadoutIdeal.τ).loc Cert.ReadoutIdeal.main_arg6) = m ((c.tc : Thread Cert.ReadoutIdeal.nD Cert.ReadoutIdeal.τ).loc Cert.ReadoutIdeal.main_arg6)
          ∧ r.2.mem ((c.tc : Thread Cert.ReadoutIdeal.nD Cert.ReadoutIdeal.τ).loc Cert.ReadoutIdeal.main_arg7) = m ((c.tc : Thread Cert.ReadoutIdeal.nD Cert.ReadoutIdeal.τ).loc Cert.ReadoutIdeal.main_arg7)
          ∧ r.2.mem ((c.tc : Thread Cert.ReadoutIdeal.nD Cert.ReadoutIdeal.τ).loc Cert.ReadoutIdeal.main_arg8) = m ((c.tc : Thread Cert.ReadoutIdeal.nD Cert.ReadoutIdeal.τ).loc Cert.ReadoutIdeal.main_arg8)
          ∧ r.2.mem ((c.tc : Thread Cert.ReadoutIdeal.nD Cert.ReadoutIdeal.τ).loc Cert.ReadoutIdeal.main_arg9) = m ((c.tc : Thread Cert.ReadoutIdeal.nD Cert.ReadoutIdeal.τ).loc Cert.ReadoutIdeal.main_arg9)
          ∧ r.2.mem ((c.tc : Thread Cert.ReadoutIdeal.nD Cert.ReadoutIdeal.τ).loc Cert.ReadoutIdeal.main_arg10) = m ((c.tc : Thread Cert.ReadoutIdeal.nD Cert.ReadoutIdeal.τ).loc Cert.ReadoutIdeal.main_arg10)
          ∧ r.2.mem ((c.tc : Thread Cert.ReadoutIdeal.nD Cert.ReadoutIdeal.τ).loc Cert.ReadoutIdeal.main_arg11) = m ((c.tc : Thread Cert.ReadoutIdeal.nD Cert.ReadoutIdeal.τ).loc Cert.ReadoutIdeal.main_arg11)
          ∧ r.2.mem ((c.tc : Thread Cert.ReadoutIdeal.nD Cert.ReadoutIdeal.τ).loc Cert.ReadoutIdeal.main_arg12) = m ((c.tc : Thread Cert.ReadoutIdeal.nD Cert.ReadoutIdeal.τ).loc Cert.ReadoutIdeal.main_arg12))
      ∧ θ_run (Cert.ReadoutRefIdeal.defs (F := Ideal)) (onTc (τ := Cert.ReadoutRefIdeal.τ) (Cert.ReadoutRefIdeal.main (F := Ideal))) ⟨m', fun _ => 0, g'⟩ (fun r => ∀ c : Dev Cert.ReadoutRefIdeal.nD,
          r.2.mem ((c.tc : Thread Cert.ReadoutRefIdeal.nD Cert.ReadoutRefIdeal.τ).loc Cert.ReadoutRefIdeal.main_v48) = v0 c
          ∧ r.2.mem ((c.tc : Thread Cert.ReadoutRefIdeal.nD Cert.ReadoutRefIdeal.τ).loc Cert.ReadoutRefIdeal.main_arg0) = m' ((c.tc : Thread Cert.ReadoutRefIdeal.nD Cert.ReadoutRefIdeal.τ).loc Cert.ReadoutRefIdeal.main_arg0)
          ∧ r.2.mem ((c.tc : Thread Cert.ReadoutRefIdeal.nD Cert.ReadoutRefIdeal.τ).loc Cert.ReadoutRefIdeal.main_arg1) = m' ((c.tc : Thread Cert.ReadoutRefIdeal.nD Cert.ReadoutRefIdeal.τ).loc Cert.ReadoutRefIdeal.main_arg1)
          ∧ r.2.mem ((c.tc : Thread Cert.ReadoutRefIdeal.nD Cert.ReadoutRefIdeal.τ).loc Cert.ReadoutRefIdeal.main_arg2) = m' ((c.tc : Thread Cert.ReadoutRefIdeal.nD Cert.ReadoutRefIdeal.τ).loc Cert.ReadoutRefIdeal.main_arg2)
          ∧ r.2.mem ((c.tc : Thread Cert.ReadoutRefIdeal.nD Cert.ReadoutRefIdeal.τ).loc Cert.ReadoutRefIdeal.main_arg3) = m' ((c.tc : Thread Cert.ReadoutRefIdeal.nD Cert.ReadoutRefIdeal.τ).loc Cert.ReadoutRefIdeal.main_arg3)
          ∧ r.2.mem ((c.tc : Thread Cert.ReadoutRefIdeal.nD Cert.ReadoutRefIdeal.τ).loc Cert.ReadoutRefIdeal.main_arg4) = m' ((c.tc : Thread Cert.ReadoutRefIdeal.nD Cert.ReadoutRefIdeal.τ).loc Cert.ReadoutRefIdeal.main_arg4)
          ∧ r.2.mem ((c.tc : Thread Cert.ReadoutRefIdeal.nD Cert.ReadoutRefIdeal.τ).loc Cert.ReadoutRefIdeal.main_arg5) = m' ((c.tc : Thread Cert.ReadoutRefIdeal.nD Cert.ReadoutRefIdeal.τ).loc Cert.ReadoutRefIdeal.main_arg5)
          ∧ r.2.mem ((c.tc : Thread Cert.ReadoutRefIdeal.nD Cert.ReadoutRefIdeal.τ).loc Cert.ReadoutRefIdeal.main_arg6) = m' ((c.tc : Thread Cert.ReadoutRefIdeal.nD Cert.ReadoutRefIdeal.τ).loc Cert.ReadoutRefIdeal.main_arg6)
          ∧ r.2.mem ((c.tc : Thread Cert.ReadoutRefIdeal.nD Cert.ReadoutRefIdeal.τ).loc Cert.ReadoutRefIdeal.main_arg7) = m' ((c.tc : Thread Cert.ReadoutRefIdeal.nD Cert.ReadoutRefIdeal.τ).loc Cert.ReadoutRefIdeal.main_arg7)
          ∧ r.2.mem ((c.tc : Thread Cert.ReadoutRefIdeal.nD Cert.ReadoutRefIdeal.τ).loc Cert.ReadoutRefIdeal.main_arg8) = m' ((c.tc : Thread Cert.ReadoutRefIdeal.nD Cert.ReadoutRefIdeal.τ).loc Cert.ReadoutRefIdeal.main_arg8)
          ∧ r.2.mem ((c.tc : Thread Cert.ReadoutRefIdeal.nD Cert.ReadoutRefIdeal.τ).loc Cert.ReadoutRefIdeal.main_arg9) = m' ((c.tc : Thread Cert.ReadoutRefIdeal.nD Cert.ReadoutRefIdeal.τ).loc Cert.ReadoutRefIdeal.main_arg9)
          ∧ r.2.mem ((c.tc : Thread Cert.ReadoutRefIdeal.nD Cert.ReadoutRefIdeal.τ).loc Cert.ReadoutRefIdeal.main_arg10) = m' ((c.tc : Thread Cert.ReadoutRefIdeal.nD Cert.ReadoutRefIdeal.τ).loc Cert.ReadoutRefIdeal.main_arg10)
          ∧ r.2.mem ((c.tc : Thread Cert.ReadoutRefIdeal.nD Cert.ReadoutRefIdeal.τ).loc Cert.ReadoutRefIdeal.main_arg11) = m' ((c.tc : Thread Cert.ReadoutRefIdeal.nD Cert.ReadoutRefIdeal.τ).loc Cert.ReadoutRefIdeal.main_arg11)
          ∧ r.2.mem ((c.tc : Thread Cert.ReadoutRefIdeal.nD Cert.ReadoutRefIdeal.τ).loc Cert.ReadoutRefIdeal.main_arg12) = m' ((c.tc : Thread Cert.ReadoutRefIdeal.nD Cert.ReadoutRefIdeal.τ).loc Cert.ReadoutRefIdeal.main_arg12))

def Claim : Prop :=
  ∃ (hKernel : Cert.Kernel.Facts) (hKernelIdeal : Cert.KernelIdeal.Facts) (hReferenceIdeal : Cert.ReferenceIdeal.Facts) (hConvOut : Cert.ConvOut.Facts) (hConvOutIdeal : Cert.ConvOutIdeal.Facts) (hConvOutRefIdeal : Cert.ConvOutRefIdeal.Facts) (hRwkv : Cert.Rwkv.Facts) (hRwkvIdeal : Cert.RwkvIdeal.Facts) (hRwkvRefIdeal : Cert.RwkvRefIdeal.Facts) (hReadout : Cert.Readout.Facts) (hReadoutIdeal : Cert.ReadoutIdeal.Facts) (hReadoutRefIdeal : Cert.ReadoutRefIdeal.Facts) (hPre_finite_qk : Cert.Pre_finite_qk.Facts) (hPre_finite_key : Cert.Pre_finite_key.Facts) (hPre_finite_heads : Cert.Pre_finite_heads.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_ConvOut (hConvOut := hConvOut)
    ∧ quiescent_ConvOutIdeal (hConvOutIdeal := hConvOutIdeal)
    ∧ quiescent_ConvOutRefIdeal (hConvOutRefIdeal := hConvOutRefIdeal)
    ∧ quiescent_Rwkv (hRwkv := hRwkv)
    ∧ quiescent_RwkvIdeal (hRwkvIdeal := hRwkvIdeal)
    ∧ quiescent_RwkvIdeal_pre_finite_key (hRwkvIdeal := hRwkvIdeal) (hPre_finite_key := hPre_finite_key)
    ∧ quiescent_RwkvRefIdeal (hRwkvRefIdeal := hRwkvRefIdeal)
    ∧ quiescent_RwkvRefIdeal_pre_finite_key (hRwkvRefIdeal := hRwkvRefIdeal) (hPre_finite_key := hPre_finite_key)
    ∧ quiescent_Readout (hReadout := hReadout)
    ∧ quiescent_ReadoutIdeal (hReadoutIdeal := hReadoutIdeal)
    ∧ quiescent_ReadoutIdeal_pre_finite_heads (hReadoutIdeal := hReadoutIdeal) (hPre_finite_heads := hPre_finite_heads)
    ∧ quiescent_ReadoutRefIdeal (hReadoutRefIdeal := hReadoutRefIdeal)
    ∧ quiescent_ReadoutRefIdeal_pre_finite_heads (hReadoutRefIdeal := hReadoutRefIdeal) (hPre_finite_heads := hPre_finite_heads)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_ConvOut_ConvOutIdeal
    ∧ algebraic_ConvOutIdeal_ConvOutRefIdeal (hConvOutIdeal := hConvOutIdeal) (hConvOutRefIdeal := hConvOutRefIdeal)
    ∧ preserves_Rwkv_RwkvIdeal
    ∧ algebraic_RwkvIdeal_RwkvRefIdeal_pre_finite_key (hRwkvIdeal := hRwkvIdeal) (hRwkvRefIdeal := hRwkvRefIdeal) (hPre_finite_key := hPre_finite_key)
    ∧ preserves_Readout_ReadoutIdeal
    ∧ algebraic_ReadoutIdeal_ReadoutRefIdeal_pre_finite_heads (hReadoutIdeal := hReadoutIdeal) (hReadoutRefIdeal := hReadoutRefIdeal) (hPre_finite_heads := hPre_finite_heads)
-- ==== Pre_finite_heads.lean ====
abbrev S8x4096x1024 : Shape := ⟨3, ![8, 4096, 1024]⟩
abbrev S1024 : Shape := ⟨1, ![1024]⟩
abbrev S1024x1024 : Shape := ⟨2, ![1024, 1024]⟩
abbrev S8x6x1024 : Shape := ⟨3, ![8, 6, 1024]⟩
abbrev S_ : Shape := ⟨0, ![]⟩

class Facts : Prop where
  bcast_S_S8x4096x1024 : S_.BroadcastsInDim S8x4096x1024 (![] : Fin 0 → Fin S8x4096x1024.rank)
  bcast_S_S1024 : S_.BroadcastsInDim S1024 (![] : Fin 0 → Fin S1024.rank)

variable [Facts]

def fn {F : FTy → Type} [FloatOps F] (main_arg0 : FVec F S8x4096x1024 .f32) (main_arg1 : FVec F S8x4096x1024 .f32) (main_arg2 : FVec F S8x4096x1024 .f32) (main_arg3 : FVec F S8x4096x1024 .f32) (main_arg4 : FVec F S8x4096x1024 .f32) (main_arg5 : FVec F S8x4096x1024 .f32) (main_arg6 : FVec F S8x4096x1024 .f32) (main_arg7 : FVec F S1024 .f32) (main_arg8 : FVec F S1024 .f32) (main_arg9 : FVec F S1024 .f32) (main_arg10 : FVec F S1024x1024 .bf16) (main_arg11 : FVec F S8x4096x1024 .f32) (main_arg12 : FVec F S8x6x1024 .f32) : IVec S8x4096x1024 1 × IVec S8x4096x1024 1 × IVec S8x4096x1024 1 × IVec S8x4096x1024 1 × IVec S8x4096x1024 1 × IVec S1024 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_v3 : FVec F S8x4096x1024 .f32 := Host.absf main_arg1
  let main_cst_0 : FVec F S_ .f32 := constant S_ .f32 0x7F800000#32
  let main_v4 : FVec F S8x4096x1024 .f32 := broadcastInDim S8x4096x1024 ![] bcast_S_S8x4096x1024 main_cst_0
  let main_v5 : IVec S8x4096x1024 1 := cmpf .olt main_v3 main_v4
  let main_v6 : FVec F S8x4096x1024 .f32 := Host.absf main_arg2
  let main_cst_1 : FVec F S_ .f32 := constant S_ .f32 0x7F800000#32
  let main_v7 : FVec F S8x4096x1024 .f32 := broadcastInDim S8x4096x1024 ![] bcast_S_S8x4096x1024 main_cst_1
  let main_v8 : IVec S8x4096x1024 1 := cmpf .olt main_v6 main_v7
  let main_v9 : FVec F S8x4096x1024 .f32 := Host.absf main_arg5
  let main_cst_2 : FVec F S_ .f32 := constant S_ .f32 0x7F800000#32
  let main_v10 : FVec F S8x4096x1024 .f32 := broadcastInDim S8x4096x1024 ![] bcast_S_S8x4096x1024 main_cst_2
  let main_v11 : IVec S8x4096x1024 1 := cmpf .olt main_v9 main_v10
  let main_v12 : FVec F S8x4096x1024 .f32 := Host.absf main_arg6
  let main_cst_3 : FVec F S_ .f32 := constant S_ .f32 0x7F800000#32
  let main_v13 : FVec F S8x4096x1024 .f32 := broadcastInDim S8x4096x1024 ![] bcast_S_S8x4096x1024 main_cst_3
  let main_v14 : IVec S8x4096x1024 1 := cmpf .olt main_v12 main_v13
  let main_v15 : FVec F S1024 .f32 := Host.absf main_arg7
  let main_cst_4 : FVec F S_ .f32 := constant S_ .f32 0x7F800000#32
  let main_v16 : FVec F S1024 .f32 := broadcastInDim S1024 ![] bcast_S_S1024 main_cst_4
  let main_v17 : IVec S1024 1 := cmpf .olt main_v15 main_v16
  (main_v2, main_v5, main_v8, main_v11, main_v14, main_v17)
-- ==== Pre_finite_key.lean ====
abbrev S8x4096x1024 : Shape := ⟨3, ![8, 4096, 1024]⟩
abbrev S6x1024 : Shape := ⟨2, ![6, 1024]⟩
abbrev S1024x1024 : Shape := ⟨2, ![1024, 1024]⟩
abbrev S1024x128 : Shape := ⟨2, ![1024, 128]⟩
abbrev S128x1024 : Shape := ⟨2, ![128, 1024]⟩
abbrev S2x1024 : Shape := ⟨2, ![2, 1024]⟩
abbrev S1x1024 : Shape := ⟨2, ![1, 1024]⟩
abbrev S_ : Shape := ⟨0, ![]⟩

class Facts : Prop where
  bcast_S_S8x4096x1024 : S_.BroadcastsInDim S8x4096x1024 (![] : Fin 0 → Fin S8x4096x1024.rank)
  slices_S6x1024_S1x1024_2_0 : S6x1024.Slices ![2, 0] S1x1024
  bcast_S_S1x1024 : S_.BroadcastsInDim S1x1024 (![] : Fin 0 → Fin S1x1024.rank)
  bitsLt_bf16_f32 : FTy.bits .bf16 < FTy.bits .f32
  bcast_S_S1024x1024 : S_.BroadcastsInDim S1024x1024 (![] : Fin 0 → Fin S1024x1024.rank)

variable [Facts]

def fn {F : FTy → Type} [FloatOps F] (main_arg0 : FVec F S8x4096x1024 .f32) (main_arg1 : FVec F S6x1024 .f32) (main_arg2 : FVec F S1024x1024 .bf16) (main_arg3 : FVec F S1024x1024 .bf16) (main_arg4 : FVec F S1024x1024 .bf16) (main_arg5 : FVec F S1024x128 .bf16) (main_arg6 : FVec F S128x1024 .bf16) (main_arg7 : FVec F S1024x128 .bf16) (main_arg8 : FVec F S128x1024 .bf16) (main_arg9 : FVec F S1024x128 .bf16) (main_arg10 : FVec F S128x1024 .bf16) (main_arg11 : FVec F S2x1024 .f32) (main_arg12 : FVec F S2x1024 .f32) (main_arg13 : FVec F S1x1024 .f32) (main_arg14 : FVec F S1x1024 .f32) : IVec S8x4096x1024 1 × IVec S1x1024 1 × IVec S1024x1024 1 × IVec S1x1024 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_v3 : FVec F S1x1024 .f32 := (extractStridedSlice S1x1024 ![2, 0] · slices_S6x1024_S1x1024_2_0) main_arg1
  let main_v4 : FVec F S1x1024 .f32 := Host.absf main_v3
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_v7 : FVec F S1024x1024 .f32 := (extf .f32 · bitsLt_bf16_f32) main_arg3
  let main_v8 : FVec F S1024x1024 .f32 := Host.absf main_v7
  let main_cst_1 : FVec F S_ .f32 := constant S_ .f32 0x7F800000#32
  let main_v9 : FVec F S1024x1024 .f32 := broadcastInDim S1024x1024 ![] bcast_S_S1024x1024 main_cst_1
  let main_v10 : IVec S1024x1024 1 := cmpf .olt main_v8 main_v9
  let main_v11 : FVec F S1x1024 .f32 := Host.absf main_arg13
  let main_cst_2 : FVec F S_ .f32 := constant S_ .f32 0x7F800000#32
  let main_v12 : FVec F S1x1024 .f32 := broadcastInDim S1x1024 ![] bcast_S_S1x1024 main_cst_2
  let main_v13 : IVec S1x1024 1 := cmpf .olt main_v11 main_v12
  (main_v2, main_v6, main_v10, main_v13)
-- ==== Pre_finite_qk.lean ====
abbrev S8x4096x512 : Shape := ⟨3, ![8, 4096, 512]⟩
abbrev S8x256x128 : Shape := ⟨3, ![8, 256, 128]⟩
abbrev S8x4096x128 : Shape := ⟨3, ![8, 4096, 128]⟩
abbrev S_ : Shape := ⟨0, ![]⟩

class Facts : Prop where
  bcast_S_S8x4096x512 : S_.BroadcastsInDim S8x4096x512 (![] : Fin 0 → Fin S8x4096x512.rank)
  bitsLt_bf16_f32 : FTy.bits .bf16 < FTy.bits .f32
  bcast_S_S8x256x128 : S_.BroadcastsInDim S8x256x128 (![] : Fin 0 → Fin S8x256x128.rank)
  bcast_S_S8x4096x128 : S_.BroadcastsInDim S8x4096x128 (![] : Fin 0 → Fin S8x4096x128.rank)

variable [Facts]

def fn {F : FTy → Type} [FloatOps F] (main_arg0 : FVec F S8x4096x512 .f32) (main_arg1 : FVec F S8x256x128 .bf16) (main_arg2 : FVec F S8x256x128 .bf16) (main_arg3 : FVec F S8x4096x128 .bf16) (main_arg4 : FVec F S8x4096x128 .bf16) : IVec S8x4096x512 1 × IVec S8x256x128 1 × IVec S8x4096x128 1 :=
  let main_v0 : FVec F S8x4096x512 .f32 := Host.absf main_arg0
  let main_cst : FVec F S_ .f32 := constant S_ .f32 0x7F800000#32
  let main_v1 : FVec F S8x4096x512 .f32 := broadcastInDim S8x4096x512 ![] bcast_S_S8x4096x512 main_cst
  let main_v2 : IVec S8x4096x512 1 := cmpf .olt main_v0 main_v1
  let main_v3 : FVec F S8x256x128 .f32 := (extf .f32 · bitsLt_bf16_f32) main_arg1
  let main_v4 : FVec F S8x256x128 .f32 := Host.absf main_v3
  let main_cst_0 : FVec F S_ .f32 := constant S_ .f32 0x7F800000#32
  let main_v5 : FVec F S8x256x128 .f32 := broadcastInDim S8x256x128 ![] bcast_S_S8x256x128 main_cst_0
  let main_v6 : IVec S8x256x128 1 := cmpf .olt main_v4 main_v5
  let main_v7 : FVec F S8x4096x128 .f32 := (extf .f32 · bitsLt_bf16_f32) main_arg3
  let main_v8 : FVec F S8x4096x128 .f32 := Host.absf main_v7
  let main_cst_1 : FVec F S_ .f32 := constant S_ .f32 0x7F800000#32
  let main_v9 : FVec F S8x4096x128 .f32 := broadcastInDim S8x4096x128 ![] bcast_S_S8x4096x128 main_cst_1
  let main_v10 : IVec S8x4096x128 1 := cmpf .olt main_v8 main_v9
  (main_v2, main_v6, main_v10)
-- ==== Kernel.lean ====
abbrev S8x4096x512 : Shape := ⟨3, ![8, 4096, 512]⟩
abbrev S8x256x128 : Shape := ⟨3, ![8, 256, 128]⟩
abbrev S8x4096x128 : Shape := ⟨3, ![8, 4096, 128]⟩
abbrev S1x256x512 : Shape := ⟨3, ![1, 256, 512]⟩
abbrev S1x256x128 : Shape := ⟨3, ![1, 256, 128]⟩
abbrev S1x4096x128 : Shape := ⟨3, ![1, 4096, 128]⟩
abbrev S256x128 : Shape := ⟨2, ![256, 128]⟩
abbrev S256x256 : Shape := ⟨2, ![256, 256]⟩
abbrev S4096x128 : Shape := ⟨2, ![4096, 128]⟩
abbrev S256x4096 : Shape := ⟨2, ![256, 4096]⟩
abbrev S256 : Shape := ⟨1, ![256]⟩
abbrev S256x1 : Shape := ⟨2, ![256, 1]⟩

abbrev nBuf : Space → Nat
  | .hbm => 6
  | .vmem => 12
  | .smem => 0
  | _ => 0

abbrev bufTy : (tb : Table) → Fin (tcTables nBuf tb) → BufTy
  | .hbm, ⟨0, _⟩ => ⟨S8x4096x512, .f32⟩
  | .hbm, ⟨1, _⟩ => ⟨S8x256x128, .bf16⟩
  | .hbm, ⟨2, _⟩ => ⟨S8x256x128, .bf16⟩
  | .hbm, ⟨3, _⟩ => ⟨S8x4096x128, .bf16⟩
  | .hbm, ⟨4, _⟩ => ⟨S8x4096x128, .bf16⟩
  | .hbm, ⟨5, _⟩ => ⟨S8x4096x512, .f32⟩
  | .local _ .vmem, ⟨0, _⟩ => ⟨S1x256x512, .f32⟩
  | .local _ .vmem, ⟨1, _⟩ => ⟨S1x256x512, .f32⟩
  | .local _ .vmem, ⟨2, _⟩ => ⟨S1x256x128, .bf16⟩
  | .local _ .vmem, ⟨3, _⟩ => ⟨S1x256x128, .bf16⟩
  | .local _ .vmem, ⟨4, _⟩ => ⟨S1x256x128, .bf16⟩
  | .local _ .vmem, ⟨5, _⟩ => ⟨S1x256x128, .bf16⟩
  | .local _ .vmem, ⟨6, _⟩ => ⟨S1x4096x128, .bf16⟩
  | .local _ .vmem, ⟨7, _⟩ => ⟨S1x4096x128, .bf16⟩
  | .local _ .vmem, ⟨8, _⟩ => ⟨S1x4096x128, .bf16⟩
  | .local _ .vmem, ⟨9, _⟩ => ⟨S1x4096x128, .bf16⟩
  | .local _ .vmem, ⟨10, _⟩ => ⟨S1x256x512, .f32⟩
  | .local _ .vmem, ⟨11, _⟩ => ⟨S1x256x512, .f32⟩
  | _, _ => ⟨S8x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S8x4096x512 : Shape := ⟨3, ![8, 4096, 512]⟩
abbrev S8x256x128 : Shape := ⟨3, ![8, 256, 128]⟩
abbrev S8x4096x128 : Shape := ⟨3, ![8, 4096, 128]⟩
abbrev S8x4096x2x4x64 : Shape := ⟨5, ![8, 4096, 2, 4, 64]⟩
abbrev S8x256x2x64 : Shape := ⟨4, ![8, 256, 2, 64]⟩
abbrev S8x4096x2x64 : Shape := ⟨4, ![8, 4096, 2, 64]⟩
abbrev S8x4352x2x64 : Shape := ⟨4, ![8, 4352, 2, 64]⟩
abbrev S8x2x4352x4096x4 : Shape := ⟨5, ![8, 2, 4352, 4096, 4]⟩
abbrev S8x2x4x4096x4352 : Shape := ⟨5, ![8, 2, 4, 4096, 4352]⟩
abbrev S_ : Shape := ⟨0, ![]⟩
abbrev S8x2x4x4096 : Shape := ⟨4, ![8, 2, 4, 4096]⟩
abbrev S8x2x4x4096x1 : Shape := ⟨5, ![8, 2, 4, 4096, 1]⟩
abbrev S8x2x64x4x4096 : Shape := ⟨5, ![8, 2, 64, 4, 4096]⟩

abbrev nBuf : Space → Nat
  | .hbm => 35
  | .vmem => 0
  | .smem => 0
  | _ => 0

abbrev bufTy : (tb : Table) → Fin (tcTables nBuf tb) → BufTy
  | .hbm, ⟨0, _⟩ => ⟨S8x4096x512, .f32⟩
  | .hbm, ⟨1, _⟩ => ⟨S8x256x128, .bf16⟩
  | .hbm, ⟨2, _⟩ => ⟨S8x256x128, .bf16⟩
  | .hbm, ⟨3, _⟩ => ⟨S8x4096x128, .bf16⟩
  | .hbm, ⟨4, _⟩ => ⟨S8x4096x128, .bf16⟩
  | .hbm, ⟨5, _⟩ => ⟨S8x4096x2x4x64, .f32⟩
  | .hbm, ⟨6, _⟩ => ⟨S8x256x128, .f32⟩
  | .hbm, ⟨7, _⟩ => ⟨S8x256x2x64, .f32⟩
  | .hbm, ⟨8, _⟩ => ⟨S8x4096x128, .f32⟩
  | .hbm, ⟨9, _⟩ => ⟨S8x4096x2x64, .f32⟩
  | .hbm, ⟨10, _⟩ => ⟨S8x4352x2x64, .f32⟩
  | .hbm, ⟨11, _⟩ => ⟨S8x256x128, .f32⟩
  | .hbm, ⟨12, _⟩ => ⟨S8x256x2x64, .f32⟩
  | .hbm, ⟨13, _⟩ => ⟨S8x4096x128, .f32⟩
  | .hbm, ⟨14, _⟩ => ⟨S8x4096x2x64, .f32⟩
  | .hbm, ⟨15, _⟩ => ⟨S8x4352x2x64, .f32⟩
  | .hbm, ⟨16, _⟩ => ⟨S8x2x4352x4096x4, .f32⟩
  | .hbm, ⟨17, _⟩ => ⟨S8x2x4x4096x4352, .f32⟩
  | .hbm, ⟨18, _⟩ => ⟨S_, .f32⟩
  | .hbm, ⟨19, _⟩ => ⟨S8x2x4x4096, .f32⟩
  | .hbm, ⟨20, _⟩ => ⟨S_, .f32⟩
  | .hbm, ⟨21, _⟩ => ⟨S8x2x4x4096, .f32⟩
  | .hbm, ⟨22, _⟩ => ⟨S8x2x4x4096, .f32⟩
  | .hbm, ⟨23, _⟩ => ⟨S8x2x4x4096x1, .f32⟩
  | .hbm, ⟨24, _⟩ => ⟨S8x2x4x4096x4352, .f32⟩
  | .hbm, ⟨25, _⟩ => ⟨S8x2x4x4096x4352, .f32⟩
  | .hbm, ⟨26, _⟩ => ⟨S8x2x4x4096x4352, .f32⟩
  | .hbm, ⟨27, _⟩ => ⟨S_, .f32⟩
  | .hbm, ⟨28, _⟩ => ⟨S8x2x4x4096, .f32⟩
  | .hbm, ⟨29, _⟩ => ⟨S8x2x4x4096x1, .f32⟩
  | .hbm, ⟨30, _⟩ => ⟨S8x2x4x4096x4352, .f32⟩
  | .hbm, ⟨31, _⟩ => ⟨S8x2x4x4096x4352, .f32⟩
  | .hbm, ⟨32, _⟩ => ⟨S8x2x64x4x4096, .f32⟩
  | .hbm, ⟨33, _⟩ => ⟨S8x4096x2x4x64, .f32⟩
  | .hbm, ⟨34, _⟩ => ⟨S8x4096x512, .f32⟩
  | _, _ => ⟨S8x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_1 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩

abbrev nD : Nat := 1
abbrev τ : Topo := Topo.v7x

variable {F : FTy → Type} [FloatOps F]
-- ==== ConvOut.lean ====
abbrev S8x4096x512 : Shape := ⟨3, ![8, 4096, 512]⟩
abbrev S3x512 : Shape := ⟨2, ![3, 512]⟩
abbrev S1024x1024 : Shape := ⟨2, ![1024, 1024]⟩
abbrev S8x4096x1024 : Shape := ⟨3, ![8, 4096, 1024]⟩
abbrev S8x6x1024 : Shape := ⟨3, ![8, 6, 1024]⟩
abbrev S1x256x512 : Shape := ⟨3, ![1, 256, 512]⟩
abbrev S1x8x512 : Shape := ⟨3, ![1, 8, 512]⟩
abbrev S1x256x1024 : Shape := ⟨3, ![1, 256, 1024]⟩
abbrev S1x6x1024 : Shape := ⟨3, ![1, 6, 1024]⟩
abbrev S256x512 : Shape := ⟨2, ![256, 512]⟩
abbrev S1x1x512 : Shape := ⟨3, ![1, 1, 512]⟩
abbrev S1x512 : Shape := ⟨2, ![1, 512]⟩
abbrev S512x1024 : Shape := ⟨2, ![512, 1024]⟩
abbrev S256x1024 : Shape := ⟨2, ![256, 1024]⟩
abbrev S1x1x1024 : Shape := ⟨3, ![1, 1, 1024]⟩
abbrev S1x1024 : Shape := ⟨2, ![1, 1024]⟩

abbrev nBuf : Space → Nat
  | .hbm => 8
  | .vmem => 18
  | .smem => 0
  | _ => 0

abbrev bufTy : (tb : Table) → Fin (tcTables nBuf tb) → BufTy
  | .hbm, ⟨0, _⟩ => ⟨S8x4096x512, .f32⟩
  | .hbm, ⟨1, _⟩ => ⟨S8x4096x512, .f32⟩
  | .hbm, ⟨2, _⟩ => ⟨S8x4096x512, .f32⟩
  | .hbm, ⟨3, _⟩ => ⟨S3x512, .f32⟩
  | .hbm, ⟨4, _⟩ => ⟨S1024x1024, .bf16⟩
  | .hbm, ⟨5, _⟩ => ⟨S8x4096x1024, .f32⟩
  | .hbm, ⟨6, _⟩ => ⟨S8x6x1024, .f32⟩
  | .hbm, ⟨7, _⟩ => ⟨S8x4096x1024, .f32⟩
  | .local _ .vmem, ⟨0, _⟩ => ⟨S1x256x512, .f32⟩
  | .local _ .vmem, ⟨1, _⟩ => ⟨S1x256x512, .f32⟩
  | .local _ .vmem, ⟨2, _⟩ => ⟨S1x8x512, .f32⟩
  | .local _ .vmem, ⟨3, _⟩ => ⟨S1x8x512, .f32⟩
  | .local _ .vmem, ⟨4, _⟩ => ⟨S1x8x512, .f32⟩
  | .local _ .vmem, ⟨5, _⟩ => ⟨S1x8x512, .f32⟩
  | .local _ .vmem, ⟨6, _⟩ => ⟨S1x256x512, .f32⟩
  | .local _ .vmem, ⟨7, _⟩ => ⟨S1x256x512, .f32⟩
  | .local _ .vmem, ⟨8, _⟩ => ⟨S1x256x512, .f32⟩
  | .local _ .vmem, ⟨9, _⟩ => ⟨S1x256x512, .f32⟩
  | .local _ .vmem, ⟨10, _⟩ => ⟨S3x512, .f32⟩
  | .local _ .vmem, ⟨11, _⟩ => ⟨S1024x1024, .bf16⟩
  | .local _ .vmem, ⟨12, _⟩ => ⟨S1x256x1024, .f32⟩
  | .local _ .vmem, ⟨13, _⟩ => ⟨S1x256x1024, .f32⟩
  | .local _ .vmem, ⟨14, _⟩ => ⟨S1x6x1024, .f32⟩
  | .local _ .vmem, ⟨15, _⟩ => ⟨S1x6x1024, .f32⟩
  | .local _ .vmem, ⟨16, _⟩ => ⟨S1x256x1024, .f32⟩
  | .local _ .vmem, ⟨17, _⟩ => ⟨S1x256x1024, .f32⟩
  | _, _ => ⟨S8x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  let c0_i32_0 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S3x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x6x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ConvOutRefIdeal.lean ====
abbrev S8x4096x512 : Shape := ⟨3, ![8, 4096, 512]⟩
abbrev S3x512 : Shape := ⟨2, ![3, 512]⟩
abbrev S1024x1024 : Shape := ⟨2, ![1024, 1024]⟩
abbrev S8x4096x1024 : Shape := ⟨3, ![8, 4096, 1024]⟩
abbrev S8x6x1024 : Shape := ⟨3, ![8, 6, 1024]⟩
abbrev S_ : Shape := ⟨0, ![]⟩
abbrev S8x4098x512 : Shape := ⟨3, ![8, 4098, 512]⟩
abbrev S1x512 : Shape := ⟨2, ![1, 512]⟩
abbrev S512 : Shape := ⟨1, ![512]⟩
abbrev S1x1x512 : Shape := ⟨3, ![1, 1, 512]⟩
abbrev S8x1x1024 : Shape := ⟨3, ![8, 1, 1024]⟩

abbrev nBuf : Space → Nat
  | .hbm => 41
  | .vmem => 0
  | .smem => 0
  | _ => 0

abbrev bufTy : (tb : Table) → Fin (tcTables nBuf tb) → BufTy
  | .hbm, ⟨0, _⟩ => ⟨S8x4096x512, .f32⟩
  | .hbm, ⟨1, _⟩ => ⟨S8x4096x512, .f32⟩
  | .hbm, ⟨2, _⟩ => ⟨S8x4096x512, .f32⟩
  | .hbm, ⟨3, _⟩ => ⟨S3x512, .f32⟩
  | .hbm, ⟨4, _⟩ => ⟨S1024x1024, .bf16⟩
  | .hbm, ⟨5, _⟩ => ⟨S8x4096x1024, .f32⟩
  | .hbm, ⟨6, _⟩ => ⟨S8x6x1024, .f32⟩
  | .hbm, ⟨7, _⟩ => ⟨S_, .i32⟩
  | .hbm, ⟨8, _⟩ => ⟨S_, .f32⟩
  | .hbm, ⟨9, _⟩ => ⟨S8x4098x512, .f32⟩
  | .hbm, ⟨10, _⟩ => ⟨S8x4096x512, .f32⟩
  | .hbm, ⟨11, _⟩ => ⟨S1x512, .f32⟩
  | .hbm, ⟨12, _⟩ => ⟨S512, .f32⟩
  | .hbm, ⟨13, _⟩ => ⟨S1x1x512, .f32⟩
  | .hbm, ⟨14, _⟩ => ⟨S8x4096x512, .f32⟩
  | .hbm, ⟨15, _⟩ => ⟨S8x4096x512, .f32⟩
  | .hbm, ⟨16, _⟩ => ⟨S_, .f32⟩
  | .hbm, ⟨17, _⟩ => ⟨S8x4096x512, .f32⟩
  | .hbm, ⟨18, _⟩ => ⟨S8x4096x512, .f32⟩
  | .hbm, ⟨19, _⟩ => ⟨S8x4096x512, .f32⟩
  | .hbm, ⟨20, _⟩ => ⟨S1x512, .f32⟩
  | .hbm, ⟨21, _⟩ => ⟨S512, .f32⟩
  | .hbm, ⟨22, _⟩ => ⟨S1x1x512, .f32⟩
  | .hbm, ⟨23, _⟩ => ⟨S8x4096x512, .f32⟩
  | .hbm, ⟨24, _⟩ => ⟨S8x4096x512, .f32⟩
  | .hbm, ⟨25, _⟩ => ⟨S8x4096x512, .f32⟩
  | .hbm, ⟨26, _⟩ => ⟨S8x4096x512, .f32⟩
  | .hbm, ⟨27, _⟩ => ⟨S1x512, .f32⟩
  | .hbm, ⟨28, _⟩ => ⟨S512, .f32⟩
  | .hbm, ⟨29, _⟩ => ⟨S1x1x512, .f32⟩
  | .hbm, ⟨30, _⟩ => ⟨S8x4096x512, .f32⟩
  | .hbm, ⟨31, _⟩ => ⟨S8x4096x512, .f32⟩
  | .hbm, ⟨32, _⟩ => ⟨S8x4096x512, .f32⟩
  | .hbm, ⟨33, _⟩ => ⟨S8x4096x512, .f32⟩
  | .hbm, ⟨34, _⟩ => ⟨S8x4096x1024, .f32⟩
  | .hbm, ⟨35, _⟩ => ⟨S1024x1024, .f32⟩
  | .hbm, ⟨36, _⟩ => ⟨S8x4096x1024, .f32⟩
  | .hbm, ⟨37, _⟩ => ⟨S8x1x1024, .f32⟩
  | .hbm, ⟨38, _⟩ => ⟨S8x4096x1024, .f32⟩
  | .hbm, ⟨39, _⟩ => ⟨S8x4096x1024, .f32⟩
  | .hbm, ⟨40, _⟩ => ⟨S8x4096x1024, .f32⟩
  | _, _ => ⟨S8x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_call0_v0 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩

abbrev nD : Nat := 1
abbrev τ : Topo := Topo.v7x

variable {F : FTy → Type} [FloatOps F]
-- ==== Rwkv.lean ====
abbrev S8x4096x1024 : Shape := ⟨3, ![8, 4096, 1024]⟩
abbrev S6x1024 : Shape := ⟨2, ![6, 1024]⟩
abbrev S1024x1024 : Shape := ⟨2, ![1024, 1024]⟩
abbrev S1024x128 : Shape := ⟨2, ![1024, 128]⟩
abbrev S128x1024 : Shape := ⟨2, ![128, 1024]⟩
abbrev S2x1024 : Shape := ⟨2, ![2, 1024]⟩
abbrev S1x1024 : Shape := ⟨2, ![1, 1024]⟩
abbrev S1x256x1024 : Shape := ⟨3, ![1, 256, 1024]⟩
abbrev S1x64x1024 : Shape := ⟨3, ![1, 64, 1024]⟩
abbrev S384x1024 : Shape := ⟨2, ![384, 1024]⟩
abbrev S256x1024 : Shape := ⟨2, ![256, 1024]⟩
abbrev S64x1024 : Shape := ⟨2, ![64, 1024]⟩
abbrev S256x256 : Shape := ⟨2, ![256, 256]⟩
abbrev S128x128 : Shape := ⟨2, ![128, 128]⟩
abbrev S256x128 : Shape := ⟨2, ![256, 128]⟩
abbrev S1x128 : Shape := ⟨2, ![1, 128]⟩
abbrev S1x256x128 : Shape := ⟨3, ![1, 256, 128]⟩

abbrev nBuf : Space → Nat
  | .hbm => 25
  | .vmem => 42
  | .smem => 0
  | _ => 0

abbrev bufTy : (tb : Table) → Fin (tcTables nBuf tb) → BufTy
  | .hbm, ⟨0, _⟩ => ⟨S8x4096x1024, .f32⟩
  | .hbm, ⟨1, _⟩ => ⟨S6x1024, .f32⟩
  | .hbm, ⟨2, _⟩ => ⟨S1024x1024, .bf16⟩
  | .hbm, ⟨3, _⟩ => ⟨S1024x1024, .bf16⟩
  | .hbm, ⟨4, _⟩ => ⟨S1024x1024, .bf16⟩
  | .hbm, ⟨5, _⟩ => ⟨S1024x128, .bf16⟩
  | .hbm, ⟨6, _⟩ => ⟨S128x1024, .bf16⟩
  | .hbm, ⟨7, _⟩ => ⟨S1024x128, .bf16⟩
  | .hbm, ⟨8, _⟩ => ⟨S128x1024, .bf16⟩
  | .hbm, ⟨9, _⟩ => ⟨S1024x128, .bf16⟩
  | .hbm, ⟨10, _⟩ => ⟨S128x1024, .bf16⟩
  | .hbm, ⟨11, _⟩ => ⟨S2x1024, .f32⟩
  | .hbm, ⟨12, _⟩ => ⟨S2x1024, .f32⟩
  | .hbm, ⟨13, _⟩ => ⟨S1x1024, .f32⟩
  | .hbm, ⟨14, _⟩ => ⟨S1x1024, .f32⟩
  | .hbm, ⟨15, _⟩ => ⟨S8x4096x1024, .f32⟩
  | .hbm, ⟨16, _⟩ => ⟨S8x4096x1024, .f32⟩
  | .hbm, ⟨17, _⟩ => ⟨S8x4096x1024, .f32⟩
  | .hbm, ⟨18, _⟩ => ⟨S8x4096x1024, .f32⟩
  | .hbm, ⟨19, _⟩ => ⟨S8x4096x1024, .f32⟩
  | .hbm, ⟨20, _⟩ => ⟨S8x4096x1024, .f32⟩
  | .hbm, ⟨21, _⟩ => ⟨S8x4096x1024, .f32⟩
  | .hbm, ⟨22, _⟩ => ⟨S8x4096x1024, .f32⟩
  | .hbm, ⟨23, _⟩ => ⟨S8x4096x1024, .f32⟩
  | .hbm, ⟨24, _⟩ => ⟨S8x4096x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x64x1024, .f32⟩
  | .local _ .vmem, ⟨3, _⟩ => ⟨S1x64x1024, .f32⟩
  | .local _ .vmem, ⟨4, _⟩ => ⟨S1x64x1024, .f32⟩
  | .local _ .vmem, ⟨5, _⟩ => ⟨S1x64x1024, .f32⟩
  | .local _ .vmem, ⟨6, _⟩ => ⟨S6x1024, .f32⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x128, .bf16⟩
  | .local _ .vmem, ⟨11, _⟩ => ⟨S128x1024, .bf16⟩
  | .local _ .vmem, ⟨12, _⟩ => ⟨S1024x128, .bf16⟩
  | .local _ .vmem, ⟨13, _⟩ => ⟨S128x1024, .bf16⟩
  | .local _ .vmem, ⟨14, _⟩ => ⟨S1024x128, .bf16⟩
  | .local _ .vmem, ⟨15, _⟩ => ⟨S128x1024, .bf16⟩
  | .local _ .vmem, ⟨16, _⟩ => ⟨S2x1024, .f32⟩
  | .local _ .vmem, ⟨17, _⟩ => ⟨S2x1024, .f32⟩
  | .local _ .vmem, ⟨18, _⟩ => ⟨S1x1024, .f32⟩
  | .local _ .vmem, ⟨19, _⟩ => ⟨S1x1024, .f32⟩
  | .local _ .vmem, ⟨20, _⟩ => ⟨S1x256x1024, .f32⟩
  | .local _ .vmem, ⟨21, _⟩ => ⟨S1x256x1024, .f32⟩
  | .local _ .vmem, ⟨22, _⟩ => ⟨S1x256x1024, .f32⟩
  | .local _ .vmem, ⟨23, _⟩ => ⟨S1x256x1024, .f32⟩
  | .local _ .vmem, ⟨24, _⟩ => ⟨S1x256x1024, .f32⟩
  | .local _ .vmem, ⟨25, _⟩ => ⟨S1x256x1024, .f32⟩
  | .local _ .vmem, ⟨26, _⟩ => ⟨S1x256x1024, .f32⟩
  | .local _ .vmem, ⟨27, _⟩ => ⟨S1x256x1024, .f32⟩
  | .local _ .vmem, ⟨28, _⟩ => ⟨S1x256x1024, .f32⟩
  | .local _ .vmem, ⟨29, _⟩ => ⟨S1x256x1024, .f32⟩
  | .local _ .vmem, ⟨30, _⟩ => ⟨S1x256x1024, .f32⟩
  | .local _ .vmem, ⟨31, _⟩ => ⟨S1x256x1024, .f32⟩
  | .local _ .vmem, ⟨32, _⟩ => ⟨S1x256x1024, .f32⟩
  | .local _ .vmem, ⟨33, _⟩ => ⟨S1x256x1024, .f32⟩
  | .local _ .vmem, ⟨34, _⟩ => ⟨S1x256x1024, .f32⟩
  | .local _ .vmem, ⟨35, _⟩ => ⟨S1x256x1024, .f32⟩
  | .local _ .vmem, ⟨36, _⟩ => ⟨S1x256x1024, .f32⟩
  | .local _ .vmem, ⟨37, _⟩ => ⟨S1x256x1024, .f32⟩
  | .local _ .vmem, ⟨38, _⟩ => ⟨S1x256x1024, .f32⟩
  | .local _ .vmem, ⟨39, _⟩ => ⟨S1x256x1024, .f32⟩
  | .local _ .vmem, ⟨40, _⟩ => ⟨S384x1024, .f32⟩
  | .local _ .vmem, ⟨41, _⟩ => ⟨S256x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0_0 : Ref sig .tc := ⟨.hbm, 15, rfl⟩
abbrev main_v0_1 : Ref sig .tc := ⟨.hbm, 16, rfl⟩
abbrev main_v0_2 : Ref sig .tc := ⟨.hbm, 17, rfl⟩
abbrev main_v0_3 : Ref sig .tc := ⟨.hbm, 18, rfl⟩
abbrev main_v0_4 : Ref sig .tc := ⟨.hbm, 19, rfl⟩
abbrev main_v0_5 : Ref sig .tc := ⟨.hbm, 20, rfl⟩
abbrev main_v0_6 : Ref sig .tc := ⟨.hbm, 21, rfl⟩
abbrev main_v0_7 : Ref sig .tc := ⟨.hbm, 22, rfl⟩
abbrev main_v0_8 : Ref sig .tc := ⟨.hbm, 23, rfl⟩
abbrev main_v0_9 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg17_0 : Ref sig .tc := ⟨.vmem, 20, rfl⟩
abbrev cc0_stg17_1 : Ref sig .tc := ⟨.vmem, 21, rfl⟩
abbrev cc0_stg18_0 : Ref sig .tc := ⟨.vmem, 22, rfl⟩
abbrev cc0_stg18_1 : Ref sig .tc := ⟨.vmem, 23, rfl⟩
abbrev cc0_stg19_0 : Ref sig .tc := ⟨.vmem, 24, rfl⟩
abbrev cc0_stg19_1 : Ref sig .tc := ⟨.vmem, 25, rfl⟩
abbrev cc0_stg20_0 : Ref sig .tc := ⟨.vmem, 26, rfl⟩
abbrev cc0_stg20_1 : Ref sig .tc := ⟨.vmem, 27, rfl⟩
abbrev cc0_stg21_0 : Ref sig .tc := ⟨.vmem, 28, rfl⟩
abbrev cc0_stg21_1 : Ref sig .tc := ⟨.vmem, 29, rfl⟩
abbrev cc0_stg22_0 : Ref sig .tc := ⟨.vmem, 30, rfl⟩
abbrev cc0_stg22_1 : Ref sig .tc := ⟨.vmem, 31, rfl⟩
abbrev cc0_stg23_0 : Ref sig .tc := ⟨.vmem, 32, rfl⟩
abbrev cc0_stg23_1 : Ref sig .tc := ⟨.vmem, 33, rfl⟩
abbrev cc0_stg24_0 : Ref sig .tc := ⟨.vmem, 34, rfl⟩
abbrev cc0_stg24_1 : Ref sig .tc := ⟨.vmem, 35, rfl⟩
abbrev cc0_stg25_0 : Ref sig .tc := ⟨.vmem, 36, rfl⟩
abbrev cc0_stg25_1 : Ref sig .tc := ⟨.vmem, 37, rfl⟩
abbrev cc0_stg26_0 : Ref sig .tc := ⟨.vmem, 38, rfl⟩
abbrev cc0_stg26_1 : Ref sig .tc := ⟨.vmem, 39, rfl⟩
abbrev cc0_scratch0 : Ref sig .tc := ⟨.vmem, 40, rfl⟩
abbrev cc0_scratch1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem17_0 : DmaSem sig := 20
abbrev cc0_sem17_1 : DmaSem sig := 21
abbrev cc0_sem18_0 : DmaSem sig := 22
abbrev cc0_sem18_1 : DmaSem sig := 23
abbrev cc0_sem19_0 : DmaSem sig := 24
abbrev cc0_sem19_1 : DmaSem sig := 25
abbrev cc0_sem20_0 : DmaSem sig := 26
abbrev cc0_sem20_1 : DmaSem sig := 27
abbrev cc0_sem21_0 : DmaSem sig := 28
abbrev cc0_sem21_1 : DmaSem sig := 29
abbrev cc0_sem22_0 : DmaSem sig := 30
abbrev cc0_sem22_1 : DmaSem sig := 31
abbrev cc0_sem23_0 : DmaSem sig := 32
abbrev cc0_sem23_1 : DmaSem sig := 33
abbrev cc0_sem24_0 : DmaSem sig := 34
abbrev cc0_sem24_1 : DmaSem sig := 35
abbrev cc0_sem25_0 : DmaSem sig := 36
abbrev cc0_sem25_1 : DmaSem sig := 37
abbrev cc0_sem26_0 : DmaSem sig := 38
abbrev cc0_sem26_1 : DmaSem sig := 39

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c4_i32 : BitVec 32 := 4#32
  let v1 : BitVec 32 := Scalar.muli v0 c4_i32
  let c63_i32 : BitVec 32 := 63#32
  let v2 : BitVec 32 := Scalar.minsi v1 c63_i32
  let c0_i32 : BitVec 32 := 0#32
  let c0_i32_0 : BitVec 32 := 0#32
  ![arg0.toNat, v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_22 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_23 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_24 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_25 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_26 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S6x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S128x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S128x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S2x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S2x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 2 → Memref sig .tc .vmem S1x256x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x256x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x256x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x256x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x256x1024 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S1x256x1024 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]

abbrev stage0_23 : Fin 2 → Memref sig .tc .vmem S1x256x1024 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, true]

abbrev stage0_24 : Fin 2 → Memref sig .tc .vmem S1x256x1024 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true, true]

abbrev stage0_25 : Fin 2 → Memref sig .tc .vmem S1x256x1024 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true, true]

abbrev stage0_26 : Fin 2 → Memref sig .tc .vmem S1x256x1024 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true, true]
-- ==== RwkvRefIdeal.lean ====
abbrev S8x4096x1024 : Shape := ⟨3, ![8, 4096, 1024]⟩
abbrev S6x1024 : Shape := ⟨2, ![6, 1024]⟩
abbrev S1024x1024 : Shape := ⟨2, ![1024, 1024]⟩
abbrev S1024x128 : Shape := ⟨2, ![1024, 128]⟩
abbrev S128x1024 : Shape := ⟨2, ![128, 1024]⟩
abbrev S2x1024 : Shape := ⟨2, ![2, 1024]⟩
abbrev S1x1024 : Shape := ⟨2, ![1, 1024]⟩
abbrev S8x64x64x1024 : Shape := ⟨4, ![8, 64, 64, 1024]⟩
abbrev S8x64x63x256 : Shape := ⟨4, ![8, 64, 63, 256]⟩
abbrev S_ : Shape := ⟨0, ![]⟩
abbrev S8x64x64x256 : Shape := ⟨4, ![8, 64, 64, 256]⟩
abbrev S8x63x64x256 : Shape := ⟨4, ![8, 63, 64, 256]⟩
abbrev S1024 : Shape := ⟨1, ![1024]⟩
abbrev S1x1x1024 : Shape := ⟨3, ![1, 1, 1024]⟩
abbrev S8x4096x128 : Shape := ⟨3, ![8, 4096, 128]⟩
abbrev S8x4096x16x64 : Shape := ⟨4, ![8, 4096, 16, 64]⟩
abbrev S8x4096x16 : Shape := ⟨3, ![8, 4096, 16]⟩
abbrev S8x4096x16x1 : Shape := ⟨4, ![8, 4096, 16, 1]⟩
abbrev S1024x64 : Shape := ⟨2, ![1024, 64]⟩
abbrev S64x1024 : Shape := ⟨2, ![64, 1024]⟩
abbrev S8x4096x64 : Shape := ⟨3, ![8, 4096, 64]⟩

abbrev nBuf : Space → Nat
  | .hbm => 234
  | .vmem => 0
  | .smem => 0
  | _ => 0

abbrev hbmTy0_0 (i : Nat) : BufTy := match i % 128 with
  | 0 => ⟨S8x4096x1024, .f32⟩
  | 1 => ⟨S6x1024, .f32⟩
  | 2 => ⟨S1024x1024, .bf16⟩
  | 3 => ⟨S1024x1024, .bf16⟩
  | 4 => ⟨S1024x1024, .bf16⟩
  | 5 => ⟨S1024x128, .bf16⟩
  | 6 => ⟨S128x1024, .bf16⟩
  | 7 => ⟨S1024x128, .bf16⟩
  | 8 => ⟨S128x1024, .bf16⟩
  | 9 => ⟨S1024x128, .bf16⟩
  | 10 => ⟨S128x1024, .bf16⟩
  | 11 => ⟨S2x1024, .f32⟩
  | 12 => ⟨S2x1024, .f32⟩
  | 13 => ⟨S1x1024, .f32⟩
  | 14 => ⟨S1x1024, .f32⟩
  | 15 => ⟨S8x64x64x1024, .f32⟩
  | 16 => ⟨S8x64x63x256, .f32⟩
  | 17 => ⟨S_, .i32⟩
  | 18 => ⟨S_, .f32⟩
  | 19 => ⟨S8x64x64x256, .f32⟩
  | 20 => ⟨S8x64x63x256, .f32⟩
  | 21 => ⟨S_, .i32⟩
  | 22 => ⟨S_, .f32⟩
  | 23 => ⟨S8x64x64x256, .f32⟩
  | 24 => ⟨S8x63x64x256, .f32⟩
  | 25 => ⟨S_, .i32⟩
  | 26 => ⟨S_, .f32⟩
  | 27 => ⟨S8x64x64x256, .f32⟩
  | 28 => ⟨S8x63x64x256, .f32⟩
  | 29 => ⟨S_, .i32⟩
  | 30 => ⟨S_, .f32⟩
  | 31 => ⟨S8x64x64x256, .f32⟩
  | 32 => ⟨S8x64x64x1024, .f32⟩
  | 33 => ⟨S8x4096x1024, .f32⟩
  | 34 => ⟨S8x4096x1024, .f32⟩
  | 35 => ⟨S1x1024, .f32⟩
  | 36 => ⟨S1024, .f32⟩
  | 37 => ⟨S1x1x1024, .f32⟩
  | 38 => ⟨S8x4096x1024, .f32⟩
  | 39 => ⟨S8x4096x1024, .f32⟩
  | 40 => ⟨S8x4096x1024, .f32⟩
  | 41 => ⟨S1x1024, .f32⟩
  | 42 => ⟨S1024, .f32⟩
  | 43 => ⟨S1x1x1024, .f32⟩
  | 44 => ⟨S8x4096x1024, .f32⟩
  | 45 => ⟨S8x4096x1024, .f32⟩
  | 46 => ⟨S8x4096x1024, .f32⟩
  | 47 => ⟨S1x1024, .f32⟩
  | 48 => ⟨S1024, .f32⟩
  | 49 => ⟨S1x1x1024, .f32⟩
  | 50 => ⟨S8x4096x1024, .f32⟩
  | 51 => ⟨S8x4096x1024, .f32⟩
  | 52 => ⟨S8x4096x1024, .f32⟩
  | 53 => ⟨S1x1024, .f32⟩
  | 54 => ⟨S1024, .f32⟩
  | 55 => ⟨S1x1x1024, .f32⟩
  | 56 => ⟨S8x4096x1024, .f32⟩
  | 57 => ⟨S8x4096x1024, .f32⟩
  | 58 => ⟨S8x4096x1024, .f32⟩
  | 59 => ⟨S1x1024, .f32⟩
  | 60 => ⟨S1024, .f32⟩
  | 61 => ⟨S1x1x1024, .f32⟩
  | 62 => ⟨S8x4096x1024, .f32⟩
  | 63 => ⟨S8x4096x1024, .f32⟩
  | 64 => ⟨S8x4096x1024, .f32⟩
  | 65 => ⟨S1x1024, .f32⟩
  | 66 => ⟨S1024, .f32⟩
  | 67 => ⟨S1x1x1024, .f32⟩
  | 68 => ⟨S8x4096x1024, .f32⟩
  | 69 => ⟨S8x4096x1024, .f32⟩
  | 70 => ⟨S8x4096x1024, .f32⟩
  | 71 => ⟨S1024x1024, .f32⟩
  | 72 => ⟨S8x4096x1024, .f32⟩
  | 73 => ⟨S1024x1024, .f32⟩
  | 74 => ⟨S8x4096x1024, .f32⟩
  | 75 => ⟨S1024x1024, .f32⟩
  | 76 => ⟨S8x4096x1024, .f32⟩
  | 77 => ⟨S1024x128, .f32⟩
  | 78 => ⟨S8x4096x128, .f32⟩
  | 79 => ⟨S8x4096x128, .f32⟩
  | 80 => ⟨S8x4096x128, .f32⟩
  | 81 => ⟨S_, .f32⟩
  | 82 => ⟨S8x4096x128, .f32⟩
  | 83 => ⟨S8x4096x128, .f32⟩
  | 84 => ⟨S_, .f32⟩
  | 85 => ⟨S8x4096x128, .f32⟩
  | 86 => ⟨S8x4096x128, .f32⟩
  | 87 => ⟨S128x1024, .f32⟩
  | 88 => ⟨S8x4096x1024, .f32⟩
  | 89 => ⟨S1024, .f32⟩
  | 90 => ⟨S1x1x1024, .f32⟩
  | 91 => ⟨S8x4096x1024, .f32⟩
  | 92 => ⟨S8x4096x1024, .f32⟩
  | 93 => ⟨S8x4096x16x64, .f32⟩
  | 94 => ⟨S8x4096x16x64, .f32⟩
  | 95 => ⟨S_, .f32⟩
  | 96 => ⟨S8x4096x16, .f32⟩
  | 97 => ⟨S8x4096x16x1, .f32⟩
  | 98 => ⟨S_, .f32⟩
  | 99 => ⟨S8x4096x16x1, .f32⟩
  | 100 => ⟨S8x4096x16x1, .f32⟩
  | 101 => ⟨S8x4096x16x1, .f32⟩
  | 102 => ⟨S8x4096x16x64, .f32⟩
  | 103 => ⟨S8x4096x16x64, .f32⟩
  | 104 => ⟨S8x4096x1024, .f32⟩
  | 105 => ⟨S1024x128, .f32⟩
  | 106 => ⟨S1024x64, .f32⟩
  | 107 => ⟨S128x1024, .f32⟩
  | 108 => ⟨S64x1024, .f32⟩
  | 109 => ⟨S1024x128, .f32⟩
  | 110 => ⟨S1024x64, .f32⟩
  | 111 => ⟨S128x1024, .f32⟩
  | 112 => ⟨S64x1024, .f32⟩
  | 113 => ⟨S1x1024, .f32⟩
  | 114 => ⟨S1024, .f32⟩
  | 115 => ⟨S8x4096x64, .f32⟩
  | 116 => ⟨S8x4096x64, .f32⟩
  | 117 => ⟨S8x4096x1024, .f32⟩
  | 118 => ⟨S1x1x1024, .f32⟩
  | 119 => ⟨S8x4096x1024, .f32⟩
  | 120 => ⟨S8x4096x1024, .f32⟩
  | 121 => ⟨S8x4096x1024, .f32⟩
  | 122 => ⟨S_, .f32⟩
  | 123 => ⟨S8x4096x1024, .f32⟩
  | 124 => ⟨S8x4096x1024, .f32⟩
  | 125 => ⟨S8x4096x1024, .f32⟩
  | 126 => ⟨S8x4096x1024, .f32⟩
  | 127 => ⟨S8x4096x1024, .i1⟩
  | _ => ⟨S8x4096x1024, .f32⟩

abbrev hbmTy0_1 (i : Nat) : BufTy := match i % 128 with
  | 0 => ⟨S8x4096x1024, .f32⟩
  | 1 => ⟨S8x4096x1024, .f32⟩
  | 2 => ⟨S8x4096x1024, .f32⟩
  | 3 => ⟨S8x4096x1024, .f32⟩
  | 4 => ⟨S8x4096x1024, .f32⟩
  | 5 => ⟨S8x4096x1024, .f32⟩
  | 6 => ⟨S8x4096x1024, .f32⟩
  | 7 => ⟨S8x4096x1024, .f32⟩
  | 8 => ⟨S8x4096x1024, .f32⟩
  | 9 => ⟨S_, .f32⟩
  | 10 => ⟨S8x4096x1024, .f32⟩
  | 11 => ⟨S8x4096x1024, .f32⟩
  | 12 => ⟨S1x1024, .f32⟩
  | 13 => ⟨S1024, .f32⟩
  | 14 => ⟨S8x4096x64, .f32⟩
  | 15 => ⟨S8x4096x1024, .f32⟩
  | 16 => ⟨S1x1x1024, .f32⟩
  | 17 => ⟨S8x4096x1024, .f32⟩
  | 18 => ⟨S8x4096x1024, .f32⟩
  | 19 => ⟨S8x4096x1024, .f32⟩
  | 20 => ⟨S8x4096x1024, .f32⟩
  | 21 => ⟨S_, .f32⟩
  | 22 => ⟨S8x4096x1024, .f32⟩
  | 23 => ⟨S8x4096x1024, .f32⟩
  | 24 => ⟨S_, .f32⟩
  | 25 => ⟨S8x4096x1024, .f32⟩
  | 26 => ⟨S8x4096x1024, .f32⟩
  | 27 => ⟨S8x4096x1024, .f32⟩
  | 28 => ⟨S8x4096x1024, .f32⟩
  | 29 => ⟨S_, .f32⟩
  | 30 => ⟨S8x4096x1024, .f32⟩
  | 31 => ⟨S8x4096x1024, .f32⟩
  | 32 => ⟨S1024, .f32⟩
  | 33 => ⟨S1x1x1024, .f32⟩
  | 34 => ⟨S8x4096x1024, .f32⟩
  | 35 => ⟨S8x4096x1024, .f32⟩
  | 36 => ⟨S_, .f32⟩
  | 37 => ⟨S8x4096x1024, .f32⟩
  | 38 => ⟨S8x4096x1024, .f32⟩
  | 39 => ⟨S8x4096x1024, .f32⟩
  | 40 => ⟨S8x4096x1024, .f32⟩
  | 41 => ⟨S1024x128, .f32⟩
  | 42 => ⟨S1024x64, .f32⟩
  | 43 => ⟨S128x1024, .f32⟩
  | 44 => ⟨S64x1024, .f32⟩
  | 45 => ⟨S1024x128, .f32⟩
  | 46 => ⟨S1024x64, .f32⟩
  | 47 => ⟨S128x1024, .f32⟩
  | 48 => ⟨S64x1024, .f32⟩
  | 49 => ⟨S1x1024, .f32⟩
  | 50 => ⟨S1024, .f32⟩
  | 51 => ⟨S8x4096x64, .f32⟩
  | 52 => ⟨S8x4096x64, .f32⟩
  | 53 => ⟨S8x4096x1024, .f32⟩
  | 54 => ⟨S1x1x1024, .f32⟩
  | 55 => ⟨S8x4096x1024, .f32⟩
  | 56 => ⟨S8x4096x1024, .f32⟩
  | 57 => ⟨S8x4096x1024, .f32⟩
  | 58 => ⟨S_, .f32⟩
  | 59 => ⟨S8x4096x1024, .f32⟩
  | 60 => ⟨S8x4096x1024, .f32⟩
  | 61 => ⟨S8x4096x1024, .f32⟩
  | 62 => ⟨S8x4096x1024, .f32⟩
  | 63 => ⟨S8x4096x1024, .i1⟩
  | 64 => ⟨S8x4096x1024, .f32⟩
  | 65 => ⟨S8x4096x1024, .f32⟩
  | 66 => ⟨S8x4096x1024, .f32⟩
  | 67 => ⟨S8x4096x1024, .f32⟩
  | 68 => ⟨S8x4096x1024, .f32⟩
  | 69 => ⟨S8x4096x1024, .f32⟩
  | 70 => ⟨S8x4096x1024, .f32⟩
  | 71 => ⟨S8x4096x1024, .f32⟩
  | 72 => ⟨S8x4096x1024, .f32⟩
  | 73 => ⟨S_, .f32⟩
  | 74 => ⟨S8x4096x1024, .f32⟩
  | 75 => ⟨S8x4096x1024, .f32⟩
  | 76 => ⟨S1x1024, .f32⟩
  | 77 => ⟨S1024, .f32⟩
  | 78 => ⟨S8x4096x64, .f32⟩
  | 79 => ⟨S8x4096x1024, .f32⟩
  | 80 => ⟨S1x1x1024, .f32⟩
  | 81 => ⟨S8x4096x1024, .f32⟩
  | 82 => ⟨S8x4096x1024, .f32⟩
  | 83 => ⟨S8x4096x1024, .f32⟩
  | 84 => ⟨S8x4096x1024, .f32⟩
  | 85 => ⟨S_, .f32⟩
  | 86 => ⟨S8x4096x1024, .f32⟩
  | 87 => ⟨S8x4096x1024, .f32⟩
  | 88 => ⟨S_, .f32⟩
  | 89 => ⟨S8x4096x1024, .f32⟩
  | 90 => ⟨S8x4096x1024, .f32⟩
  | 91 => ⟨S8x4096x1024, .f32⟩
  | 92 => ⟨S8x4096x1024, .f32⟩
  | 93 => ⟨S_, .f32⟩
  | 94 => ⟨S8x4096x1024, .f32⟩
  | 95 => ⟨S8x4096x1024, .f32⟩
  | 96 => ⟨S1024, .f32⟩
  | 97 => ⟨S1x1x1024, .f32⟩
  | 98 => ⟨S8x4096x1024, .f32⟩
  | 99 => ⟨S8x4096x1024, .f32⟩
  | 100 => ⟨S_, .f32⟩
  | 101 => ⟨S8x4096x1024, .f32⟩
  | 102 => ⟨S8x4096x1024, .f32⟩
  | 103 => ⟨S8x4096x1024, .f32⟩
  | 104 => ⟨S8x4096x1024, .f32⟩
  | 105 => ⟨S8x4096x1024, .f32⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_c : Ref sig .tc := ⟨.hbm, 17, rfl⟩
abbrev main_call0_v0 : Ref sig .tc := ⟨.hbm, 18, rfl⟩
abbrev main_v2 : Ref sig .tc := ⟨.hbm, 19, rfl⟩
abbrev main_v3 : Ref sig .tc := ⟨.hbm, 20, rfl⟩
abbrev main_c_0 : Ref sig .tc := ⟨.hbm, 21, rfl⟩
abbrev main_call1_v0 : Ref sig .tc := ⟨.hbm, 22, rfl⟩
abbrev main_v4 : Ref sig .tc := ⟨.hbm, 23, rfl⟩
abbrev main_v5 : Ref sig .tc := ⟨.hbm, 24, rfl⟩
abbrev main_c_1 : Ref sig .tc := ⟨.hbm, 25, rfl⟩
abbrev main_call2_v0 : Ref sig .tc := ⟨.hbm, 26, rfl⟩
abbrev main_v6 : Ref sig .tc := ⟨.hbm, 27, rfl⟩
abbrev main_v7 : Ref sig .tc := ⟨.hbm, 28, rfl⟩
abbrev main_c_2 : Ref sig .tc := ⟨.hbm, 29, rfl⟩
abbrev main_call3_v0 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst : Ref sig .tc := ⟨.hbm, 81, rfl⟩
abbrev main_v58 : Ref sig .tc := ⟨.hbm, 82, rfl⟩
abbrev main_v59 : Ref sig .tc := ⟨.hbm, 83, rfl⟩
abbrev main_cst_3 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_cst_4 : Ref sig .tc := ⟨.hbm, 95, rfl⟩
abbrev main_v70 : Ref sig .tc := ⟨.hbm, 96, rfl⟩
abbrev main_v71 : Ref sig .tc := ⟨.hbm, 97, rfl⟩
abbrev main_cst_5 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_call4_cst : Ref sig .tc := ⟨.hbm, 122, rfl⟩
abbrev main_call4_v0 : Ref sig .tc := ⟨.hbm, 123, rfl⟩
abbrev main_call4_v1 : Ref sig .tc := ⟨.hbm, 124, rfl⟩
abbrev main_call4_v2 : Ref sig .tc := ⟨.hbm, 125, rfl⟩
abbrev main_call4_v3 : Ref sig .tc := ⟨.hbm, 126, rfl⟩
abbrev main_call4_v4 : Ref sig .tc := ⟨.hbm, 127, rfl⟩
abbrev main_call4_v5 : Ref sig .tc := ⟨.hbm, 128, rfl⟩
abbrev main_call4_v6 : Ref sig .tc := ⟨.hbm, 129, rfl⟩
abbrev main_call4_v7 : Ref sig .tc := ⟨.hbm, 130, rfl⟩
abbrev main_call4_v8 : Ref sig .tc := ⟨.hbm, 131, rfl⟩
abbrev main_call4_v9 : Ref sig .tc := ⟨.hbm, 132, rfl⟩
abbrev main_call4_v10 : Ref sig .tc := ⟨.hbm, 133, rfl⟩
abbrev main_call4_v11 : Ref sig .tc := ⟨.hbm, 134, rfl⟩
abbrev main_v95 : Ref sig .tc := ⟨.hbm, 135, rfl⟩
abbrev main_v96 : Ref sig .tc := ⟨.hbm, 136, rfl⟩
abbrev main_cst_6 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_cst_7 : Ref sig .tc := ⟨.hbm, 149, rfl⟩
abbrev main_v108 : Ref sig .tc := ⟨.hbm, 150, rfl⟩
abbrev main_v109 : Ref sig .tc := ⟨.hbm, 151, rfl⟩
abbrev main_cst_8 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_cst_9 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_cst_10 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_v136 : Ref sig .tc := ⟨.hbm, 181, rfl⟩
abbrev main_v137 : Ref sig .tc := ⟨.hbm, 182, rfl⟩
abbrev main_v138 : Ref sig .tc := ⟨.hbm, 183, rfl⟩
abbrev main_v139 : Ref sig .tc := ⟨.hbm, 184, rfl⟩
abbrev main_v140 : Ref sig .tc := ⟨.hbm, 185, rfl⟩
abbrev main_call5_cst : Ref sig .tc := ⟨.hbm, 186, rfl⟩
abbrev main_call5_v0 : Ref sig .tc := ⟨.hbm, 187, rfl⟩
abbrev main_call5_v1 : Ref sig .tc := ⟨.hbm, 188, rfl⟩
abbrev main_call5_v2 : Ref sig .tc := ⟨.hbm, 189, rfl⟩
abbrev main_call5_v3 : Ref sig .tc := ⟨.hbm, 190, rfl⟩
abbrev main_call5_v4 : Ref sig .tc := ⟨.hbm, 191, rfl⟩
abbrev main_call5_v5 : Ref sig .tc := ⟨.hbm, 192, rfl⟩
abbrev main_call5_v6 : Ref sig .tc := ⟨.hbm, 193, rfl⟩
abbrev main_call5_v7 : Ref sig .tc := ⟨.hbm, 194, rfl⟩
abbrev main_call5_v8 : Ref sig .tc := ⟨.hbm, 195, rfl⟩
abbrev main_call5_v9 : Ref sig .tc := ⟨.hbm, 196, rfl⟩
abbrev main_call5_v10 : Ref sig .tc := ⟨.hbm, 197, rfl⟩
abbrev main_call5_v11 : Ref sig .tc := ⟨.hbm, 198, rfl⟩
abbrev main_v141 : Ref sig .tc := ⟨.hbm, 199, rfl⟩
abbrev main_v142 : Ref sig .tc := ⟨.hbm, 200, rfl⟩
abbrev main_cst_11 : Ref sig .tc := ⟨.hbm, 201, rfl⟩
abbrev main_v143 : Ref sig .tc := ⟨.hbm, 202, rfl⟩
abbrev main_v144 : Ref sig .tc := ⟨.hbm, 203, rfl⟩
abbrev main_v145 : Ref sig .tc := ⟨.hbm, 204, rfl⟩
abbrev main_v146 : Ref sig .tc := ⟨.hbm, 205, rfl⟩
abbrev main_v147 : Ref sig .tc := ⟨.hbm, 206, rfl⟩
abbrev main_v148 : Ref sig .tc := ⟨.hbm, 207, rfl⟩
abbrev main_v149 : Ref sig .tc := ⟨.hbm, 208, rfl⟩
abbrev main_v150 : Ref sig .tc := ⟨.hbm, 209, rfl⟩
abbrev main_v151 : Ref sig .tc := ⟨.hbm, 210, rfl⟩
abbrev main_v152 : Ref sig .tc := ⟨.hbm, 211, rfl⟩
abbrev main_v153 : Ref sig .tc := ⟨.hbm, 212, rfl⟩
abbrev main_cst_12 : Ref sig .tc := ⟨.hbm, 213, rfl⟩
abbrev main_v154 : Ref sig .tc := ⟨.hbm, 214, rfl⟩
abbrev main_v155 : Ref sig .tc := ⟨.hbm, 215, rfl⟩
abbrev main_cst_13 : Ref sig .tc := ⟨.hbm, 216, rfl⟩
abbrev main_v156 : Ref sig .tc := ⟨.hbm, 217, rfl⟩
abbrev main_v157 : Ref sig .tc := ⟨.hbm, 218, rfl⟩
abbrev main_v158 : Ref sig .tc := ⟨.hbm, 219, rfl⟩
abbrev main_v159 : Ref sig .tc := ⟨.hbm, 220, rfl⟩
abbrev main_cst_14 : Ref sig .tc := ⟨.hbm, 221, rfl⟩
abbrev main_v160 : Ref sig .tc := ⟨.hbm, 222, rfl⟩
abbrev main_v161 : Ref sig .tc := ⟨.hbm, 223, rfl⟩
abbrev main_v162 : Ref sig .tc := ⟨.hbm, 224, rfl⟩
abbrev main_v163 : Ref sig .tc := ⟨.hbm, 225, rfl⟩
abbrev main_v164 : Ref sig .tc := ⟨.hbm, 226, rfl⟩
abbrev main_v165 : Ref sig .tc := ⟨.hbm, 227, rfl⟩
abbrev main_cst_15 : Ref sig .tc := ⟨.hbm, 228, rfl⟩
abbrev main_v166 : Ref sig .tc := ⟨.hbm, 229, rfl⟩
abbrev main_v167 : Ref sig .tc := ⟨.hbm, 230, rfl⟩
abbrev main_v168 : Ref sig .tc := ⟨.hbm, 231, rfl⟩
abbrev main_v169 : Ref sig .tc := ⟨.hbm, 232, rfl⟩
abbrev main_v170 : Ref sig .tc := ⟨.hbm, 233, rfl⟩

abbrev nD : Nat := 1
abbrev τ : Topo := Topo.v7x

variable {F : FTy → Type} [FloatOps F]
-- ==== Readout.lean ====
abbrev S8x4096x1024 : Shape := ⟨3, ![8, 4096, 1024]⟩
abbrev S1024 : Shape := ⟨1, ![1024]⟩
abbrev S1024x1024 : Shape := ⟨2, ![1024, 1024]⟩
abbrev S8x6x1024 : Shape := ⟨3, ![8, 6, 1024]⟩
abbrev S1x1024 : Shape := ⟨2, ![1, 1024]⟩
abbrev S1x256x1024 : Shape := ⟨3, ![1, 256, 1024]⟩
abbrev S1x6x1024 : Shape := ⟨3, ![1, 6, 1024]⟩
abbrev S256x1024 : Shape := ⟨2, ![256, 1024]⟩
abbrev S128x128 : Shape := ⟨2, ![128, 128]⟩
abbrev S1x256x128 : Shape := ⟨3, ![1, 256, 128]⟩
abbrev S256x128 : Shape := ⟨2, ![256, 128]⟩
abbrev S1x128 : Shape := ⟨2, ![1, 128]⟩
abbrev S1x1x1024 : Shape := ⟨3, ![1, 1, 1024]⟩

abbrev nBuf : Space → Nat
  | .hbm => 17
  | .vmem => 25
  | .smem => 0
  | _ => 0

abbrev bufTy : (tb : Table) → Fin (tcTables nBuf tb) → BufTy
  | .hbm, ⟨0, _⟩ => ⟨S8x4096x1024, .f32⟩
  | .hbm, ⟨1, _⟩ => ⟨S8x4096x1024, .f32⟩
  | .hbm, ⟨2, _⟩ => ⟨S8x4096x1024, .f32⟩
  | .hbm, ⟨3, _⟩ => ⟨S8x4096x1024, .f32⟩
  | .hbm, ⟨4, _⟩ => ⟨S8x4096x1024, .f32⟩
  | .hbm, ⟨5, _⟩ => ⟨S8x4096x1024, .f32⟩
  | .hbm, ⟨6, _⟩ => ⟨S8x4096x1024, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S1024x1024, .bf16⟩
  | .hbm, ⟨11, _⟩ => ⟨S8x4096x1024, .f32⟩
  | .hbm, ⟨12, _⟩ => ⟨S8x6x1024, .f32⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S8x4096x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x1024, .f32⟩
  | .local _ .vmem, ⟨15, _⟩ => ⟨S1x1024, .f32⟩
  | .local _ .vmem, ⟨16, _⟩ => ⟨S1x1024, .f32⟩
  | .local _ .vmem, ⟨17, _⟩ => ⟨S1024x1024, .bf16⟩
  | .local _ .vmem, ⟨18, _⟩ => ⟨S1x256x1024, .f32⟩
  | .local _ .vmem, ⟨19, _⟩ => ⟨S1x256x1024, .f32⟩
  | .local _ .vmem, ⟨20, _⟩ => ⟨S1x6x1024, .f32⟩
  | .local _ .vmem, ⟨21, _⟩ => ⟨S1x6x1024, .f32⟩
  | .local _ .vmem, ⟨22, _⟩ => ⟨S1x256x1024, .f32⟩
  | .local _ .vmem, ⟨23, _⟩ => ⟨S1x256x1024, .f32⟩
  | .local _ .vmem, ⟨24, _⟩ => ⟨S256x1024, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x6x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== ReadoutRefIdeal.lean ====
abbrev S8x4096x1024 : Shape := ⟨3, ![8, 4096, 1024]⟩
abbrev S1024 : Shape := ⟨1, ![1024]⟩
abbrev S1024x1024 : Shape := ⟨2, ![1024, 1024]⟩
abbrev S8x6x1024 : Shape := ⟨3, ![8, 6, 1024]⟩
abbrev S8x4096x16x64 : Shape := ⟨4, ![8, 4096, 16, 64]⟩
abbrev S_ : Shape := ⟨0, ![]⟩
abbrev S8x4096x16 : Shape := ⟨3, ![8, 4096, 16]⟩
abbrev S8x4096x16x1 : Shape := ⟨4, ![8, 4096, 16, 1]⟩
abbrev S1x1x1024 : Shape := ⟨3, ![1, 1, 1024]⟩
abbrev S16x64 : Shape := ⟨2, ![16, 64]⟩
abbrev S1x1x16x64 : Shape := ⟨4, ![1, 1, 16, 64]⟩
abbrev S8x1x1024 : Shape := ⟨3, ![8, 1, 1024]⟩

abbrev nBuf : Space → Nat
  | .hbm => 68
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x1024, .f32⟩
  | .hbm, ⟨2, _⟩ => ⟨S8x4096x1024, .f32⟩
  | .hbm, ⟨3, _⟩ => ⟨S8x4096x1024, .f32⟩
  | .hbm, ⟨4, _⟩ => ⟨S8x4096x1024, .f32⟩
  | .hbm, ⟨5, _⟩ => ⟨S8x4096x1024, .f32⟩
  | .hbm, ⟨6, _⟩ => ⟨S8x4096x1024, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S1024x1024, .bf16⟩
  | .hbm, ⟨11, _⟩ => ⟨S8x4096x1024, .f32⟩
  | .hbm, ⟨12, _⟩ => ⟨S8x6x1024, .f32⟩
  | .hbm, ⟨13, _⟩ => ⟨S8x4096x1024, .f32⟩
  | .hbm, ⟨14, _⟩ => ⟨S8x4096x16x64, .f32⟩
  | .hbm, ⟨15, _⟩ => ⟨S_, .f32⟩
  | .hbm, ⟨16, _⟩ => ⟨S8x4096x16, .f32⟩
  | .hbm, ⟨17, _⟩ => ⟨S8x4096x16x1, .f32⟩
  | .hbm, ⟨18, _⟩ => ⟨S_, .f32⟩
  | .hbm, ⟨19, _⟩ => ⟨S8x4096x16x1, .f32⟩
  | .hbm, ⟨20, _⟩ => ⟨S8x4096x16x1, .f32⟩
  | .hbm, ⟨21, _⟩ => ⟨S8x4096x16x64, .f32⟩
  | .hbm, ⟨22, _⟩ => ⟨S8x4096x16x64, .f32⟩
  | .hbm, ⟨23, _⟩ => ⟨S8x4096x16x64, .f32⟩
  | .hbm, ⟨24, _⟩ => ⟨S_, .f32⟩
  | .hbm, ⟨25, _⟩ => ⟨S8x4096x16, .f32⟩
  | .hbm, ⟨26, _⟩ => ⟨S8x4096x16x1, .f32⟩
  | .hbm, ⟨27, _⟩ => ⟨S_, .f32⟩
  | .hbm, ⟨28, _⟩ => ⟨S8x4096x16x1, .f32⟩
  | .hbm, ⟨29, _⟩ => ⟨S8x4096x16x1, .f32⟩
  | .hbm, ⟨30, _⟩ => ⟨S8x4096x16x64, .f32⟩
  | .hbm, ⟨31, _⟩ => ⟨S8x4096x16x64, .f32⟩
  | .hbm, ⟨32, _⟩ => ⟨S_, .f32⟩
  | .hbm, ⟨33, _⟩ => ⟨S8x4096x16x1, .f32⟩
  | .hbm, ⟨34, _⟩ => ⟨S8x4096x16x1, .f32⟩
  | .hbm, ⟨35, _⟩ => ⟨S8x4096x16x1, .f32⟩
  | .hbm, ⟨36, _⟩ => ⟨S8x4096x16x64, .f32⟩
  | .hbm, ⟨37, _⟩ => ⟨S8x4096x16x64, .f32⟩
  | .hbm, ⟨38, _⟩ => ⟨S8x4096x1024, .f32⟩
  | .hbm, ⟨39, _⟩ => ⟨S1x1x1024, .f32⟩
  | .hbm, ⟨40, _⟩ => ⟨S8x4096x1024, .f32⟩
  | .hbm, ⟨41, _⟩ => ⟨S8x4096x1024, .f32⟩
  | .hbm, ⟨42, _⟩ => ⟨S1x1x1024, .f32⟩
  | .hbm, ⟨43, _⟩ => ⟨S8x4096x1024, .f32⟩
  | .hbm, ⟨44, _⟩ => ⟨S8x4096x1024, .f32⟩
  | .hbm, ⟨45, _⟩ => ⟨S8x4096x16x64, .f32⟩
  | .hbm, ⟨46, _⟩ => ⟨S8x4096x1024, .f32⟩
  | .hbm, ⟨47, _⟩ => ⟨S8x4096x16x64, .f32⟩
  | .hbm, ⟨48, _⟩ => ⟨S8x4096x16x64, .f32⟩
  | .hbm, ⟨49, _⟩ => ⟨S16x64, .f32⟩
  | .hbm, ⟨50, _⟩ => ⟨S1x1x16x64, .f32⟩
  | .hbm, ⟨51, _⟩ => ⟨S8x4096x16x64, .f32⟩
  | .hbm, ⟨52, _⟩ => ⟨S8x4096x16x64, .f32⟩
  | .hbm, ⟨53, _⟩ => ⟨S_, .f32⟩
  | .hbm, ⟨54, _⟩ => ⟨S8x4096x16, .f32⟩
  | .hbm, ⟨55, _⟩ => ⟨S8x4096x16x1, .f32⟩
  | .hbm, ⟨56, _⟩ => ⟨S8x4096x16x64, .f32⟩
  | .hbm, ⟨57, _⟩ => ⟨S8x4096x16x64, .f32⟩
  | .hbm, ⟨58, _⟩ => ⟨S8x4096x16x64, .f32⟩
  | .hbm, ⟨59, _⟩ => ⟨S8x4096x1024, .f32⟩
  | .hbm, ⟨60, _⟩ => ⟨S8x1x1024, .f32⟩
  | .hbm, ⟨61, _⟩ => ⟨S8x4096x1024, .f32⟩
  | .hbm, ⟨62, _⟩ => ⟨S8x4096x1024, .f32⟩
  | .hbm, ⟨63, _⟩ => ⟨S1024x1024, .f32⟩
  | .hbm, ⟨64, _⟩ => ⟨S8x4096x1024, .f32⟩
  | .hbm, ⟨65, _⟩ => ⟨S8x4096x1024, .f32⟩
  | .hbm, ⟨66, _⟩ => ⟨S8x4096x1024, .f32⟩
  | .hbm, ⟨67, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_cst : Ref sig .tc := ⟨.hbm, 15, rfl⟩
abbrev main_v2 : Ref sig .tc := ⟨.hbm, 16, rfl⟩
abbrev main_v3 : Ref sig .tc := ⟨.hbm, 17, rfl⟩
abbrev main_cst_0 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst_1 : Ref sig .tc := ⟨.hbm, 24, rfl⟩
abbrev main_v9 : Ref sig .tc := ⟨.hbm, 25, rfl⟩
abbrev main_v10 : Ref sig .tc := ⟨.hbm, 26, rfl⟩
abbrev main_cst_2 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_3 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_4 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩

abbrev nD : Nat := 1
abbrev τ : Topo := Topo.v7x

variable {F : FTy → Type} [FloatOps F]
-- ==== Proof.Common.lean ====
/-
  Small facts used by several calls: a selection on two numbers, a sum over two halves, finite numbers, and the sum over one
  head of 64 lanes that a product with a matrix of zeros and ones computes.
-/
module

public import Idealize.ShloMosaic.Lib.Pointwise
public import Idealize.ShloMosaic.PureOps.Ideal.Laws

@[expose] public section

noncomputable section

namespace Cert.Layer

open Idealize.ShloMosaic

/-- Comparing the words of two small numbers compares the numbers. -/
theorem cmp_word (n k : ℕ) (hn : n < 4294967296) (hk : k < 4294967296) :
    IntOp.cmpi .eq (BitVec.ofNat 32 n) (BitVec.ofNat 32 k) = if n = k then 1#1 else 0#1 := by
  have e : (BitVec.ofNat 32 n == BitVec.ofNat 32 k) = decide (n = k) := by
    rw [Bool.eq_iff_iff]
    simp only [beq_iff_eq, decide_eq_true_eq]
    constructor
    · intro h
      have := congrArg BitVec.toNat h
      simp only [BitVec.toNat_ofNat] at this
      omega
    · rintro rfl; rfl
  show BitVec.ofBool (BitVec.ofNat 32 n == BitVec.ofNat 32 k) = _
  rw [e]
  by_cases h : n = k <;> simp [h]

/-- A choice by a proposition's word is the choice by the proposition. -/
theorem select_word {α : Type} (p : Prop) [Decidable p] (a b : α) : Scalar.select (if p then 1#1 else 0#1) a b = if p then a else b := by
  by_cases h : p <;> simp [h, Scalar.select]

/-- A choice by the comparison of two small numbers. -/
theorem select_eq {α : Type} (n k : ℕ) (hn : n < 4294967296) (hk : k < 4294967296) (a b : α) :
    Scalar.select (IntOp.cmpi .eq (BitVec.ofNat 32 n) (BitVec.ofNat 32 k)) a b = if n = k then a else b := by
  rw [cmp_word n k hn hk, select_word]

theorem hz3 : (![0, 0, 0] : Fin 3 → ℕ) = fun _ => 0 := funext fun a => by fin_cases a <;> rfl
theorem hz2 : (![0, 0] : Fin 2 → ℕ) = fun _ => 0 := funext fun a => by fin_cases a <;> rfl

/-- A sum over `m + n` indices, split after the first `m`. -/
theorem sum_split {m n k : ℕ} (h : k = m + n) (f : Fin k → EReal) :
    ∑ i, f i = ∑ i : Fin m, f ⟨i.val, by omega⟩ + ∑ i : Fin n, f ⟨m + i.val, by omega⟩ := by
  subst h
  rw [Fin.sum_univ_add]
  rfl

/-- The sum of real numbers, read among the extended reals. -/
theorem sum_coe {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- An extended real is finite: a real number. -/
def Finite (x : EReal) : Prop := ∃ r : ℝ, x = r

theorem Finite.mul {x y : EReal} (hx : Finite x) (hy : Finite y) : Finite (x * y) := by
  obtain ⟨a, rfl⟩ := hx; obtain ⟨b, rfl⟩ := hy; exact ⟨a * b, (EReal.coe_mul a b).symm⟩

theorem Finite.add {x y : EReal} (hx : Finite x) (hy : Finite y) : Finite (x + y) := by
  obtain ⟨a, rfl⟩ := hx; obtain ⟨b, rfl⟩ := hy; exact ⟨a + b, (EReal.coe_add a b).symm⟩

theorem Finite.sub {x y : EReal} (hx : Finite x) (hy : Finite y) : Finite (x - y) := by
  obtain ⟨a, rfl⟩ := hx; obtain ⟨b, rfl⟩ := hy; exact ⟨a - b, (EReal.coe_sub a b).symm⟩

theorem finite_zero : Finite 0 := ⟨0, rfl⟩

theorem finite_one : Finite 1 := ⟨1, rfl⟩

/-- A finite sum of finite numbers is finite. -/
theorem finite_sum {ι : Type} (s : Finset ι) (f : ι → EReal) (hf : ∀ i, Finite (f i)) : Finite (∑ i ∈ s, f i) := by
  choose g hg using hf
  exact ⟨∑ i ∈ s, g i, by rw [← sum_coe]; exact Finset.sum_congr rfl fun i _ => hg i⟩

/-- A finite sum of products of finite numbers is finite. -/
theorem finite_dot {n : ℕ} (a b : Fin n → EReal) (ha : ∀ i, Finite (a i)) (hb : ∀ i, Finite (b i)) : Finite (∑ i, a i * b i) :=
  finite_sum _ _ fun i => (ha i).mul (hb i)

/-- A finite number less itself is zero. -/
theorem Finite.sub_self {x : EReal} (hx : Finite x) : x - x = 0 := by
  obtain ⟨a, rfl⟩ := hx
  rw [← EReal.coe_sub, _root_.sub_self, EReal.coe_zero]

/-- The word of infinity is the greatest extended real. -/
theorem ofBits_top : Ideal.ofBits .f32 2139095040#32 = ⊤ := by simp [Ideal.ofBits, Ideal.ieee]

/-- An extended real whose absolute value is below infinity is finite. -/
theorem finite_of_abs {x : EReal} (h : max x (-x) < ⊤) : Finite x := by
  induction x using EReal.rec with
  | bot => simp at h
  | coe r => exact ⟨r, rfl⟩
  | top => simp at h

/-- The same from the word a comparison gives. -/
theorem finite_of_word {x : EReal}
    (h : BitVec.ofBool (decide (FloatOps.absf (F := Ideal) (φ := .f32) x < Ideal.ofBits .f32 2139095040#32)) = 1#1) : Finite x := by
  rw [ofBits_top] at h
  by_cases hx : FloatOps.absf (F := Ideal) (φ := .f32) x < (⊤ : EReal)
  · exact finite_of_abs hx
  · rw [decide_eq_false hx] at h
    exact absurd h (by decide)

/-- A lane's own head, as a matrix of zeros and ones: one where two lanes of 128 lie in the same 64. -/
def sameHead (a b : Fin 128) : EReal := if a.val / 64 = b.val / 64 then 1 else 0

/-- The sum over the 64 lanes of a lane's head, of 128 lanes. -/
def headSum (f : Fin 128 → EReal) (c : Fin 128) : EReal := ∑ e : Fin 64, f ⟨64 * (c.val / 64) + e.val, by omega⟩

/-- Multiplying by that matrix sums over the lane's head. -/
theorem sum_sameHead (f : Fin 128 → EReal) (c : Fin 128) : ∑ x : Fin 128, f x * sameHead x c = headSum f c := by
  unfold headSum
  rw [sum_split (m := 64) (n := 64) rfl]
  unfold sameHead
  dsimp only
  rcases (by omega : c.val / 64 = 0 ∨ c.val / 64 = 1) with h | h
  · have lo : ∀ e : Fin 64, f ⟨e.val, by omega⟩ * (if e.val / 64 = c.val / 64 then (1 : EReal) else 0)
        = f ⟨64 * (c.val / 64) + e.val, by omega⟩ := fun e => by
      rw [if_pos (by omega), mul_one]; simp only [h, Nat.mul_zero, Nat.zero_add]
    have hi : ∀ e : Fin 64, f ⟨64 + e.val, by omega⟩ * (if (64 + e.val) / 64 = c.val / 64 then (1 : EReal) else 0) = 0 :=
      fun e => by rw [if_neg (by omega), mul_zero]
    simp only [lo, hi, Finset.sum_const_zero, add_zero]
  · have lo : ∀ e : Fin 64, f ⟨e.val, by omega⟩ * (if e.val / 64 = c.val / 64 then (1 : EReal) else 0) = 0 :=
      fun e => by rw [if_neg (by omega), mul_zero]
    have hi : ∀ e : Fin 64, f ⟨64 + e.val, by omega⟩ * (if (64 + e.val) / 64 = c.val / 64 then (1 : EReal) else 0)
        = f ⟨64 * (c.val / 64) + e.val, by omega⟩ := fun e => by
      rw [if_pos (by omega), mul_one]; simp only [h, Nat.mul_one]
    simp only [lo, hi, Finset.sum_const_zero, zero_add]

/-- For finite numbers the sum in two parts, the numbers and what their rounding leaves (nothing), is the sum over the head. -/
theorem sum_hi_lo (f : Fin 128 → EReal) (hf : ∀ x, Finite (f x)) (c : Fin 128) :
    ∑ x : Fin 128, f x * sameHead x c + ∑ x : Fin 128, (f x - f x) * sameHead x c = headSum f c := by
  simp only [fun x => (hf x).sub_self, zero_mul, Finset.sum_const_zero, add_zero]
  exact sum_sameHead f c

end Cert.Layer

end
-- ==== Proof.ConvBlock.lean ====
/-
  The convolution's call: the short convolution of a block of rows with its two neighbour rows, gated, and its product with
  the output weights beside the attention's, added to the residual stream; then the result array as a whole.
-/
module

public import proofs.«01_k».proof.Proof.Common
public import proofs.«01_k».proof.Proof.Gen.ConvOutIdeal.Value

@[expose] public section

set_option maxRecDepth 16384

noncomputable section

namespace Cert.Conv

open Idealize.ShloMosaic Idealize.ShloMosaic.TcCoe Cert.ConvOutIdeal Cert.ConvOutIdeal.Gen Cert.ConvOutIdeal.Value Cert.Layer
open Idealize.ShloMosaic.Pipeline (Dat)

/-- The row before, and the row itself, each times its tap. -/
theorem before_apply (i : grid0.Coords) (v0 : Vec Ideal S1x256x512 .f32) (v4 : Vec Ideal S1x1x512 .f32) (v25 v28 : Vec Ideal S1x512 .f32)
    (r : Fin 256) (e : Fin 512) :
    k0_pay3 i v0 v4 v25 v28 (ix2 r e)
      = (if r.val = 0 then (if (i 1).val = 0 then 0 else v4 (ix3 0 0 e)) else v0 (ix3 0 ⟨r.val - 1, by omega⟩ e)) * v25 (ix2 0 e)
        + v0 (ix3 0 r e) * v28 (ix2 0 e) := by
  have hi : (i 1).val < 16 := (i 1).isLt
  pointwise [k0_pay3, k0_pay2]
  rw [select_eq _ _ (by omega) (by omega)]
  congr 2
  by_cases h : r.val = 0
  · rw [if_pos h, if_pos h]
    exact select_eq _ _ (by omega) (by omega) _ _
  · rw [if_neg h, if_neg h]
    congr 2
    apply Fin.ext
    show (r.val + 256 - 1) % 256 = r.val - 1
    omega

/-- The row after times its tap. -/
theorem after_apply (i : grid0.Coords) (v0 : Vec Ideal S1x256x512 .f32) (v9 : Vec Ideal S1x1x512 .f32) (v32 : Vec Ideal S1x512 .f32)
    (r : Fin 256) (e : Fin 512) :
    k0_pay4 i v0 v9 v32 (ix2 r e)
      = (if r.val = 255 then (if (i 1).val = 15 then 0 else v9 (ix3 0 0 e)) else v0 (ix3 0 ⟨(r.val + 1) % 256, by omega⟩ e)) * v32 (ix2 0 e) := by
  have hi : (i 1).val < 16 := (i 1).isLt
  pointwise [k0_pay4, k0_pay2]
  rw [select_eq _ _ (by omega) (by omega)]
  congr 1
  by_cases h : r.val = 255
  · rw [if_pos h, if_pos h]
    exact select_eq _ _ (by omega) (by omega) _ _
  · rw [if_neg h, if_neg h]
    congr 2

/-- The stored value: the residual plus the gate times the two products. -/
theorem pay1_apply (v31 v34 : FVec Ideal S256x512 .f32) (v36 : Vec Ideal S1x256x512 .f32) (v40 : Vec Ideal S512x1024 .bf16)
    (v42 : Vec Ideal S1x256x512 .f32) (v45 : Vec Ideal S512x1024 .bf16) (v48 : Vec Ideal S1x256x1024 .f32) (v50 : Vec Ideal S1x1x1024 .f32)
    (r : Fin 256) (c : Fin 1024) :
    k0_pay1 v31 v34 v36 v40 v42 v45 v48 v50 (ix3 0 r c)
      = v48 (ix3 0 r c) + v50 (ix3 0 0 c) * (∑ e : Fin 512, v36 (ix3 0 r e) * (v31 (ix2 r e) + v34 (ix2 r e)) * v40 (ix2 e c)
          + ∑ e : Fin 512, v42 (ix3 0 r e) * v45 (ix2 e c)) := by
  pointwise [k0_pay1]

/-- The call's result at batch `b`, position `t` and channel `c`, as one formula of its arrays. -/
def convOut (u gb att : Fin 8 → Fin 4096 → Fin 512 → EReal) (cw : Fin 3 → Fin 512 → EReal) (wo : Fin 1024 → Fin 1024 → EReal)
    (h : Fin 8 → Fin 4096 → Fin 1024 → EReal) (mods : Fin 8 → Fin 6 → Fin 1024 → EReal) (b : Fin 8) (t : Fin 4096) (c : Fin 1024) : EReal :=
  h b t c + mods b 2 c
    * (∑ e : Fin 512, gb b t e * ((if t.val = 0 then 0 else u b ⟨t.val - 1, by omega⟩ e) * cw 0 e + u b t e * cw 1 e
          + (if t.val = 4095 then 0 else u b ⟨(t.val + 1) % 4096, Nat.mod_lt _ (by decide)⟩ e) * cw 2 e) * wo ⟨e.val, by omega⟩ c
        + ∑ e : Fin 512, att b t e * wo ⟨512 + e.val, by omega⟩ c)

variable (m : (ℓ : Loc nD τ sig) → Buf (Elt Ideal) ℓ)

/-- A grid point is below 128, and its coordinates are its batch and its block of rows. -/
theorem point_lt (t : Fin cfg0.N) : t.val < 128 := t.isLt
theorem coord_row : ∀ t : Fin cfg0.N, (grid0.coords t 1).val = t.val % 16 := (by decide +kernel : ∀ t : Fin grid0.N, _)

/-- Where the windows' blocks lie at a grid point. -/
theorem idx0 : ∀ t : Fin cfg0.N, win0_0.index t (0 : Fin 3) = t.val / 16 ∧ win0_0.index t (1 : Fin 3) = t.val % 16 ∧ win0_0.index t (2 : Fin 3) = 0 :=
  (by decide +kernel : ∀ t : Fin grid0.N, _)
theorem idx1 : ∀ t : Fin cfg0.N, win0_1.index t (0 : Fin 3) = t.val / 16 ∧ win0_1.index t (1 : Fin 3) = 32 * (t.val % 16) - 1 ∧ win0_1.index t (2 : Fin 3) = 0 :=
  (by decide +kernel : ∀ t : Fin grid0.N, _)
theorem idx2 : ∀ t : Fin cfg0.N, win0_2.index t (0 : Fin 3) = t.val / 16 ∧ win0_2.index t (1 : Fin 3) = min (32 * (t.val % 16) + 32) 511 ∧ win0_2.index t (2 : Fin 3) = 0 :=
  (by decide +kernel : ∀ t : Fin grid0.N, _)
theorem idx3 : ∀ t : Fin cfg0.N, win0_3.index t (0 : Fin 3) = t.val / 16 ∧ win0_3.index t (1 : Fin 3) = t.val % 16 ∧ win0_3.index t (2 : Fin 3) = 0 :=
  (by decide +kernel : ∀ t : Fin grid0.N, _)
theorem idx4 : ∀ t : Fin cfg0.N, win0_4.index t (0 : Fin 3) = t.val / 16 ∧ win0_4.index t (1 : Fin 3) = t.val % 16 ∧ win0_4.index t (2 : Fin 3) = 0 :=
  (by decide +kernel : ∀ t : Fin grid0.N, _)
theorem idx5 : ∀ t : Fin cfg0.N, win0_5.index t (0 : Fin 2) = 0 ∧ win0_5.index t (1 : Fin 2) = 0 := (by decide +kernel : ∀ t : Fin grid0.N, _)
theorem idx6 : ∀ t : Fin cfg0.N, win0_6.index t (0 : Fin 2) = 0 ∧ win0_6.index t (1 : Fin 2) = 0 := (by decide +kernel : ∀ t : Fin grid0.N, _)
theorem idx7 : ∀ t : Fin cfg0.N, win0_7.index t (0 : Fin 3) = t.val / 16 ∧ win0_7.index t (1 : Fin 3) = t.val % 16 ∧ win0_7.index t (2 : Fin 3) = 0 :=
  (by decide +kernel : ∀ t : Fin grid0.N, _)
theorem idx8 : ∀ t : Fin cfg0.N, win0_8.index t (0 : Fin 3) = t.val / 16 ∧ win0_8.index t (1 : Fin 3) = 0 ∧ win0_8.index t (2 : Fin 3) = 0 :=
  (by decide +kernel : ∀ t : Fin grid0.N, _)
theorem idx9 : ∀ t : Fin cfg0.N, win0_9.index t (0 : Fin 3) = t.val / 16 ∧ win0_9.index t (1 : Fin 3) = t.val % 16 ∧ win0_9.index t (2 : Fin 3) = 0 :=
  (by decide +kernel : ∀ t : Fin grid0.N, _)

/-- The batch of a grid point, and the array row of its block's row `r`. -/
abbrev bat (t : Fin cfg0.N) : Fin 8 := ⟨t.val / 16, by have := point_lt t; omega⟩
abbrev row (t : Fin cfg0.N) (r : Fin 256) : Fin 4096 := ⟨256 * (t.val % 16) + r.val, by omega⟩

/-- The blocks at an index, in the arrays. -/
theorem blk0 (c : Dev nD) (t : Fin cfg0.N) (r : Fin 256) (l : Fin 512) : iblk m c 0 t (ix3 0 r l) = V m c main_arg0 (ix3 (bat t) (row t r) l) := by
  obtain ⟨e0, e1, e2⟩ := idx0 t
  show V m c main_arg0 (((cfg0.win 0).blk t).view.emb (ix3 0 r l)) = _
  congr 1; funext a; apply Fin.ext
  match a with
  | ⟨0, _⟩ => show win0_0.index t (0 : Fin 3) * 1 + 1 * 0 = t.val / 16; omega
  | ⟨1, _⟩ => show win0_0.index t (1 : Fin 3) * 256 + 1 * r.val = 256 * (t.val % 16) + r.val; omega
  | ⟨2, _⟩ => show win0_0.index t (2 : Fin 3) * 512 + 1 * l.val = l.val; omega

theorem blk1 (c : Dev nD) (t : Fin cfg0.N) (r : Fin 8) (l : Fin 512) :
    iblk m c 1 t (ix3 0 r l) = V m c main_arg0 (ix3 (bat t) ⟨8 * (32 * (t.val % 16) - 1) + r.val, by omega⟩ l) := by
  obtain ⟨e0, e1, e2⟩ := idx1 t
  show V m c main_arg0 (((cfg0.win 1).blk t).view.emb (ix3 0 r l)) = _
  congr 1; funext a; apply Fin.ext
  match a with
  | ⟨0, _⟩ => show win0_1.index t (0 : Fin 3) * 1 + 1 * 0 = t.val / 16; omega
  | ⟨1, _⟩ => show win0_1.index t (1 : Fin 3) * 8 + 1 * r.val = 8 * (32 * (t.val % 16) - 1) + r.val; omega
  | ⟨2, _⟩ => show win0_1.index t (2 : Fin 3) * 512 + 1 * l.val = l.val; omega

theorem blk2 (c : Dev nD) (t : Fin cfg0.N) (r : Fin 8) (l : Fin 512) :
    iblk m c 2 t (ix3 0 r l) = V m c main_arg0 (ix3 (bat t) ⟨8 * min (32 * (t.val % 16) + 32) 511 + r.val, by omega⟩ l) := by
  obtain ⟨e0, e1, e2⟩ := idx2 t
  show V m c main_arg0 (((cfg0.win 2).blk t).view.emb (ix3 0 r l)) = _
  congr 1; funext a; apply Fin.ext
  match a with
  | ⟨0, _⟩ => show win0_2.index t (0 : Fin 3) * 1 + 1 * 0 = t.val / 16; omega
  | ⟨1, _⟩ => show win0_2.index t (1 : Fin 3) * 8 + 1 * r.val = 8 * min (32 * (t.val % 16) + 32) 511 + r.val; omega
  | ⟨2, _⟩ => show win0_2.index t (2 : Fin 3) * 512 + 1 * l.val = l.val; omega

theorem blk3 (c : Dev nD) (t : Fin cfg0.N) (r : Fin 256) (l : Fin 512) : iblk m c 3 t (ix3 0 r l) = V m c main_arg1 (ix3 (bat t) (row t r) l) := by
  obtain ⟨e0, e1, e2⟩ := idx3 t
  show V m c main_arg1 (((cfg0.win 3).blk t).view.emb (ix3 0 r l)) = _
  congr 1; funext a; apply Fin.ext
  match a with
  | ⟨0, _⟩ => show win0_3.index t (0 : Fin 3) * 1 + 1 * 0 = t.val / 16; omega
  | ⟨1, _⟩ => show win0_3.index t (1 : Fin 3) * 256 + 1 * r.val = 256 * (t.val % 16) + r.val; omega
  | ⟨2, _⟩ => show win0_3.index t (2 : Fin 3) * 512 + 1 * l.val = l.val; omega

theorem blk4 (c : Dev nD) (t : Fin cfg0.N) (r : Fin 256) (l : Fin 512) : iblk m c 4 t (ix3 0 r l) = V m c main_arg2 (ix3 (bat t) (row t r) l) := by
  obtain ⟨e0, e1, e2⟩ := idx4 t
  show V m c main_arg2 (((cfg0.win 4).blk t).view.emb (ix3 0 r l)) = _
  congr 1; funext a; apply Fin.ext
  match a with
  | ⟨0, _⟩ => show win0_4.index t (0 : Fin 3) * 1 + 1 * 0 = t.val / 16; omega
  | ⟨1, _⟩ => show win0_4.index t (1 : Fin 3) * 256 + 1 * r.val = 256 * (t.val % 16) + r.val; omega
  | ⟨2, _⟩ => show win0_4.index t (2 : Fin 3) * 512 + 1 * l.val = l.val; omega

theorem blk5 (c : Dev nD) (t : Fin cfg0.N) (r : Fin 3) (l : Fin 512) : iblk m c 5 t (ix2 r l) = V m c main_arg3 (ix2 r l) := by
  obtain ⟨e0, e1⟩ := idx5 t
  show V m c main_arg3 (((cfg0.win 5).blk t).view.emb (ix2 r l)) = _
  congr 1; funext a; apply Fin.ext
  match a with
  | ⟨0, _⟩ => show win0_5.index t (0 : Fin 2) * 3 + 1 * r.val = r.val; omega
  | ⟨1, _⟩ => show win0_5.index t (1 : Fin 2) * 512 + 1 * l.val = l.val; omega

theorem blk6 (c : Dev nD) (t : Fin cfg0.N) (r : Fin 1024) (l : Fin 1024) : iblk m c 6 t (ix2 r l) = V m c main_arg4 (ix2 r l) := by
  obtain ⟨e0, e1⟩ := idx6 t
  show V m c main_arg4 (((cfg0.win 6).blk t).view.emb (ix2 r l)) = _
  congr 1; funext a; apply Fin.ext
  match a with
  | ⟨0, _⟩ => show win0_6.index t (0 : Fin 2) * 1024 + 1 * r.val = r.val; omega
  | ⟨1, _⟩ => show win0_6.index t (1 : Fin 2) * 1024 + 1 * l.val = l.val; omega

theorem blk7 (c : Dev nD) (t : Fin cfg0.N) (r : Fin 256) (l : Fin 1024) : iblk m c 7 t (ix3 0 r l) = V m c main_arg5 (ix3 (bat t) (row t r) l) := by
  obtain ⟨e0, e1, e2⟩ := idx7 t
  show V m c main_arg5 (((cfg0.win 7).blk t).view.emb (ix3 0 r l)) = _
  congr 1; funext a; apply Fin.ext
  match a with
  | ⟨0, _⟩ => show win0_7.index t (0 : Fin 3) * 1 + 1 * 0 = t.val / 16; omega
  | ⟨1, _⟩ => show win0_7.index t (1 : Fin 3) * 256 + 1 * r.val = 256 * (t.val % 16) + r.val; omega
  | ⟨2, _⟩ => show win0_7.index t (2 : Fin 3) * 1024 + 1 * l.val = l.val; omega

theorem blk8 (c : Dev nD) (t : Fin cfg0.N) (r : Fin 6) (l : Fin 1024) : iblk m c 8 t (ix3 0 r l) = V m c main_arg6 (ix3 (bat t) r l) := by
  obtain ⟨e0, e1, e2⟩ := idx8 t
  show V m c main_arg6 (((cfg0.win 8).blk t).view.emb (ix3 0 r l)) = _
  congr 1; funext a; apply Fin.ext
  match a with
  | ⟨0, _⟩ => show win0_8.index t (0 : Fin 3) * 1 + 1 * 0 = t.val / 16; omega
  | ⟨1, _⟩ => show win0_8.index t (1 : Fin 3) * 6 + 1 * r.val = r.val; omega
  | ⟨2, _⟩ => show win0_8.index t (2 : Fin 3) * 1024 + 1 * l.val = l.val; omega

/-- The result block's index in the result array. -/
theorem emb9 (t : Fin cfg0.N) (r : Fin 256) (l : Fin 1024) :
    ((cfg0.win 9).blk t).view.emb (ix3 0 r l) = (ix3 (bat t) (row t r) l : S8x4096x1024.Idx) := by
  obtain ⟨e0, e1, e2⟩ := idx9 t
  funext a; apply Fin.ext
  match a with
  | ⟨0, _⟩ => show win0_9.index t (0 : Fin 3) * 1 + 1 * 0 = t.val / 16; omega
  | ⟨1, _⟩ => show win0_9.index t (1 : Fin 3) * 256 + 1 * r.val = 256 * (t.val % 16) + r.val; omega
  | ⟨2, _⟩ => show win0_9.index t (2 : Fin 3) * 1024 + 1 * l.val = l.val; omega

/-- The call's result from whole arrays. -/
def whole (u gb att : Vec Ideal S8x4096x512 .f32) (cw : Vec Ideal S3x512 .f32) (wo : Vec Ideal S1024x1024 .bf16)
    (h : Vec Ideal S8x4096x1024 .f32) (mods : Vec Ideal S8x6x1024 .f32) : Vec Ideal S8x4096x1024 .f32 := fun i =>
  convOut (fun b t e => u (ix3 b t e)) (fun b t e => gb (ix3 b t e)) (fun b t e => att (ix3 b t e)) (fun k e => cw (ix2 k e))
    (fun e c => wo (ix2 e c)) (fun b t c => h (ix3 b t c)) (fun b k c => mods (ix3 b k c)) (i 0) (i 1) (i 2)

/-- The call's result from the arrays a core holds when the kernel is entered. -/
def result (c : Dev nD) : Vec Ideal S8x4096x1024 .f32 :=
  whole (V m c main_arg0) (V m c main_arg1) (V m c main_arg2) (V m c main_arg3) (V m c main_arg4) (V m c main_arg5) (V m c main_arg6)

/-- What point `t` writes back is its block of the result. -/
theorem flushed_eq (c : Dev nD) (t : Fin cfg0.N) :
    (dats m 0 c).flushed 9 t = ((cfg0.win 9).blk t).view.read (Elt Ideal) (result m c) := by
  rw [flushed9]
  funext i
  obtain ⟨z, r, l, rfl⟩ : ∃ (z : Fin 1) (r : Fin 256) (l : Fin 1024), i = (ix3 z r l : S1x256x1024.Idx) := ⟨i 0, i 1, i 2, eq_ix3 (n0 := 1) (n1 := 256) (n2 := 1024) i⟩
  obtain rfl : z = 0 := Subsingleton.elim _ _
  show out0_9 (F := Ideal) (grid0.coords t) (iblk m c 0 t) (iblk m c 1 t) (iblk m c 2 t) (iblk m c 3 t) (iblk m c 4 t) (iblk m c 5 t) (iblk m c 6 t) (iblk m c 7 t) (iblk m c 8 t) (ix3 0 r l)
    = result m c (((cfg0.win 9).blk t).view.emb (ix3 0 r l))
  have hc := coord_row t
  unfold out0_9
  rw [View.canon_cons_unit_zero hz3, pay1_apply, emb9]
  simp only [before_apply, after_apply]
  rw [View.ld_unit_zero hz3, View.ld_unit_zero hz3, View.ld_unit_zero hz3, View.ld_unit_zero hz3]
  have l1 : ∀ e : Fin 512, View.ld (iblk m c 1 t) r0_1 (ix3 0 0 e) = iblk m c 1 t (ix3 0 7 e) := fun e => by pointwise
  have l2 : ∀ e : Fin 512, View.ld (iblk m c 2 t) r0_2 (ix3 0 0 e) = iblk m c 2 t (ix3 0 0 e) := fun e => by pointwise
  have l3 : ∀ e : Fin 512, View.ld (iblk m c 5 t) r0_3 (ix2 0 e) = iblk m c 5 t (ix2 0 e) := fun e => by pointwise
  have l4 : ∀ e : Fin 512, View.ld (iblk m c 5 t) r0_4 (ix2 0 e) = iblk m c 5 t (ix2 1 e) := fun e => by pointwise
  have l5 : ∀ e : Fin 512, View.ld (iblk m c 5 t) r0_5 (ix2 0 e) = iblk m c 5 t (ix2 2 e) := fun e => by pointwise
  have l6 : ∀ e : Fin 512, View.ld (iblk m c 6 t) r0_6 (ix2 e l) = iblk m c 6 t (ix2 ⟨e.val, by omega⟩ l) := fun e => by pointwise
  have l7 : ∀ e : Fin 512, View.ld (iblk m c 6 t) r0_7 (ix2 e l) = iblk m c 6 t (ix2 ⟨512 + e.val, by omega⟩ l) := fun e => by pointwise
  have l9 : View.ld (iblk m c 8 t) r0_9 (ix3 0 0 l) = iblk m c 8 t (ix3 0 2 l) := by pointwise
  simp only [l1, l2, l3, l4, l5, l6, l7, l9, blk0, blk1, blk2, blk3, blk4, blk5, blk6, blk7, blk8, hc]
  show _ = convOut (fun b t e => V m c main_arg0 (ix3 b t e)) (fun b t e => V m c main_arg1 (ix3 b t e)) (fun b t e => V m c main_arg2 (ix3 b t e))
    (fun k e => V m c main_arg3 (ix2 k e)) (fun e j => V m c main_arg4 (ix2 e j)) (fun b t j => V m c main_arg5 (ix3 b t j))
    (fun b k j => V m c main_arg6 (ix3 b k j)) (bat t) (row t r) l
  unfold convOut
  have same : ∀ (n k : Fin 4096) (e : Fin 512), n.val = k.val →
      V m c main_arg0 (ix3 (bat t) n e) = V m c main_arg0 (ix3 (bat t) k e) := fun n k e h => by rw [Fin.ext h]
  have first : ∀ e : Fin 512, (if r.val = 0 then (if t.val % 16 = 0 then (0 : EReal) else V m c main_arg0 (ix3 (bat t) ⟨8 * (32 * (t.val % 16) - 1) + (7 : Fin 8).val, by omega⟩ e))
      else V m c main_arg0 (ix3 (bat t) (row t ⟨r.val - 1, by omega⟩) e))
      = if (row t r).val = 0 then (0 : EReal) else V m c main_arg0 (ix3 (bat t) ⟨(row t r).val - 1, by omega⟩ e) := fun e => by
    have hv : (row t r).val = 256 * (t.val % 16) + r.val := rfl
    by_cases h : r.val = 0
    · by_cases h' : t.val % 16 = 0
      · rw [if_pos h, if_pos h', if_pos (by omega)]
      · rw [if_pos h, if_neg h', if_neg (by omega)]
        exact same _ _ e (by show 8 * (32 * (t.val % 16) - 1) + 7 = 256 * (t.val % 16) + r.val - 1; omega)
    · rw [if_neg h, if_neg (by omega)]
      exact same _ _ e (by show 256 * (t.val % 16) + (r.val - 1) = 256 * (t.val % 16) + r.val - 1; omega)
  have last : ∀ e : Fin 512, (if r.val = 255 then (if t.val % 16 = 15 then (0 : EReal) else V m c main_arg0 (ix3 (bat t) ⟨8 * min (32 * (t.val % 16) + 32) 511 + (0 : Fin 8).val, by omega⟩ e))
      else V m c main_arg0 (ix3 (bat t) (row t ⟨(r.val + 1) % 256, by omega⟩) e))
      = if (row t r).val = 4095 then (0 : EReal) else V m c main_arg0 (ix3 (bat t) ⟨((row t r).val + 1) % 4096, by omega⟩ e) := fun e => by
    have hv : (row t r).val = 256 * (t.val % 16) + r.val := rfl
    by_cases h : r.val = 255
    · by_cases h' : t.val % 16 = 15
      · rw [if_pos h, if_pos h', if_pos (by omega)]
      · rw [if_pos h, if_neg h', if_neg (by omega)]
        exact same _ _ e (by show 8 * min (32 * (t.val % 16) + 32) 511 + 0 = (256 * (t.val % 16) + r.val + 1) % 4096; omega)
    · rw [if_neg h, if_neg (by omega)]
      exact same _ _ e (by show 256 * (t.val % 16) + (r.val + 1) % 256 = (256 * (t.val % 16) + r.val + 1) % 4096; omega)
  simp only [first, last]

/-- Every index of the result array lies in some point's block. -/
theorem cover (i : S8x4096x1024.Idx) : ∃ t : Fin cfg0.N, (cfg0.win 9).flush t = true ∧ i ∈ ((cfg0.win 9).blk t).view.set := by
  obtain ⟨b, r, l, rfl⟩ : ∃ (b : Fin 8) (r : Fin 4096) (l : Fin 1024), i = ix3 b r l := ⟨i 0, i 1, i 2, eq_ix3 i⟩
  have hp : 16 * b.val + r.val / 256 < 128 := by omega
  have h := ((cfg0.win 9).blk (⟨16 * b.val + r.val / 256, hp⟩ : Fin cfg0.N)).view.emb_mem_set (ix3 0 ⟨r.val % 256, by omega⟩ l)
  rw [emb9] at h
  have e : ∀ (b' : Fin 8) (r' : Fin 4096), b'.val = b.val → r'.val = r.val → (ix3 b' r' l : S8x4096x1024.Idx) = ix3 b r l :=
    fun b' r' hb hr => by rw [Fin.ext hb, Fin.ext hr]
  rw [e _ _ (by show (16 * b.val + r.val / 256) / 16 = b.val; omega)
    (by show 256 * ((16 * b.val + r.val / 256) % 16) + r.val % 256 = r.val; omega)] at h
  exact ⟨_, flush0_9 _, h⟩

/-- The result array after the run is the formula of the arrays as launched. -/
theorem final (c : Dev nD) : (dats m 0 c).arrAt 9 cfg0.N
    = whole (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) :=
  ((dats m 0 c).arrAt_eq_of_cover 9 (result m c) (fun t _ => flushed_eq m c t) cover).trans rfl

end Cert.Conv

end
-- ==== Proof.ConvRef.lean ====
/-
  The convolution's reference at an index, and that it is the kernel's formula.
-/
module

public import proofs.«01_k».proof.Proof.ConvBlock
public import proofs.«01_k».proof.Proof.Gen.ConvOutRefIdeal.Run
public import proofs.«01_k».proof.Proof.Gen.ConvOutRefIdeal.Read

@[expose] public section

set_option maxRecDepth 16384

noncomputable section

namespace Cert.Conv

open Idealize.ShloMosaic Cert.ConvOutRefIdeal Cert.ConvOutRefIdeal.Gen Cert.ConvOutRefIdeal.Read Cert.Layer

variable (x0 x1 x2 : Vec Ideal S8x4096x512 .f32) (x3 : Vec Ideal S3x512 .f32) (x4 : Vec Ideal S1024x1024 .bf16)
  (x5 : Vec Ideal S8x4096x1024 .f32) (x6 : Vec Ideal S8x6x1024 .f32)

/-- The padded input: a row of zeros before and after. -/
theorem pad_apply (b : Fin 8) (t : Fin 4098) (e : Fin 512) :
    val_main_v0 (F := Ideal) x0 (ix3 b t e) = if h : 1 ≤ t.val ∧ t.val ≤ 4096 then x0 (ix3 b ⟨t.val - 1, by omega⟩ e) else 0 := by
  pointwise [val_main_v0, val_main_call0_v0, val_main_c]
  have z : (FloatOps.sitofp (F := Ideal) FTy.f32 0#32 : EReal) = 0 := by
    show (((0#32 : BitVec 32).toInt : ℝ) : EReal) = 0
    simp
  by_cases h : 1 ≤ t.val ∧ t.val ≤ 4096
  · rw [dif_pos h, dif_pos ⟨h.1, by omega⟩]
  · rw [dif_neg h, dif_neg (by omega)]
    exact z

/-- The gated convolution. -/
theorem conv_apply (b : Fin 8) (t : Fin 4096) (e : Fin 512) :
    val_main_v23 (F := Ideal) x0 x1 x3 (ix3 b t e)
      = x1 (ix3 b t e) * (val_main_v0 (F := Ideal) x0 (ix3 b ⟨t.val, by omega⟩ e) * x3 (ix2 0 e)
          + val_main_v0 (F := Ideal) x0 (ix3 b ⟨1 + t.val, by omega⟩ e) * x3 (ix2 1 e)
          + val_main_v0 (F := Ideal) x0 (ix3 b ⟨2 + t.val, by omega⟩ e) * x3 (ix2 2 e)) := by
  pointwise [val_main_v23, val_main_v22, val_main_v21, val_main_v20, val_main_v19, val_main_v18, val_main_v17, val_main_v16,
    val_main_v15, val_main_v14, val_main_v13, val_main_v12, val_main_v11, val_main_v10, val_main_v9, val_main_v8, val_main_v7,
    val_main_v6, val_main_v5, val_main_v4, val_main_v3, val_main_v2, val_main_v1, val_main_cst]

/-- The result. -/
theorem out_apply (b : Fin 8) (t : Fin 4096) (c : Fin 1024) :
    val_main_v30 (F := Ideal) x0 x1 x2 x3 x4 x5 x6 (ix3 b t c)
      = x5 (ix3 b t c) + x6 (ix3 b 2 c) * (∑ e : Fin 512, val_main_v23 (F := Ideal) x0 x1 x3 (ix3 b t e) * x4 (ix2 ⟨e.val, by omega⟩ c)
          + ∑ e : Fin 512, x2 (ix3 b t e) * x4 (ix2 ⟨512 + e.val, by omega⟩ c)) := by
  pointwise [val_main_v30, val_main_v29, val_main_v28, val_main_v27, val_main_v26, val_main_v25, val_main_v24]

/-- The reference is the kernel's formula. -/
theorem ref_eq : val_main_v30 (F := Ideal) x0 x1 x2 x3 x4 x5 x6 = whole x0 x1 x2 x3 x4 x5 x6 := by
  funext i
  obtain ⟨b, t, c, rfl⟩ : ∃ (b : Fin 8) (t : Fin 4096) (c : Fin 1024), i = ix3 b t c := ⟨i 0, i 1, i 2, eq_ix3 i⟩
  rw [out_apply]
  simp only [conv_apply, pad_apply]
  show _ = convOut (fun b t e => x0 (ix3 b t e)) (fun b t e => x1 (ix3 b t e)) (fun b t e => x2 (ix3 b t e))
    (fun k e => x3 (ix2 k e)) (fun e j => x4 (ix2 e j)) (fun b t j => x5 (ix3 b t j)) (fun b k j => x6 (ix3 b k j)) b t c
  unfold convOut
  have first : ∀ e : Fin 512, (if h : 1 ≤ t.val ∧ t.val ≤ 4096 then x0 (ix3 b ⟨t.val - 1, by omega⟩ e) else (0 : EReal))
      = if t.val = 0 then (0 : EReal) else x0 (ix3 b ⟨t.val - 1, by omega⟩ e) := fun e => by
    by_cases h : t.val = 0
    · rw [if_pos h, dif_neg (by omega)]
    · rw [if_neg h, dif_pos (by omega)]
  have here : ∀ e : Fin 512, (if h : 1 ≤ 1 + t.val ∧ 1 + t.val ≤ 4096 then x0 (ix3 b ⟨1 + t.val - 1, by omega⟩ e) else (0 : EReal))
      = x0 (ix3 b t e) := fun e => by
    rw [dif_pos (by omega)]
    exact congrArg (fun k => x0 (ix3 b k e)) (Fin.ext (by show 1 + t.val - 1 = t.val; omega))
  have last : ∀ e : Fin 512, (if h : 1 ≤ 2 + t.val ∧ 2 + t.val ≤ 4096 then x0 (ix3 b ⟨2 + t.val - 1, by omega⟩ e) else (0 : EReal))
      = if t.val = 4095 then (0 : EReal) else x0 (ix3 b ⟨(t.val + 1) % 4096, by omega⟩ e) := fun e => by
    by_cases h : t.val = 4095
    · rw [if_pos h, dif_neg (by omega)]
    · rw [if_neg h, dif_pos (by omega)]
      exact congrArg (fun k => x0 (ix3 b k e)) (Fin.ext (by show 2 + t.val - 1 = (t.val + 1) % 4096; omega))
  simp only [first, here, last]

end Cert.Conv

end
-- ==== Proof.ConvEqual.lean ====
/-
  The convolution's call and its reference compute the same array.
-/
module

public import proofs.«01_k».proof.Defs
public import proofs.«01_k».proof.Proof.ConvRef

@[expose] public section

noncomputable section

namespace Cert.Conv

open Idealize.ShloMosaic Idealize.SL.Sem

/-- From memories that agree on the arguments, kernel and reference run to the same array. -/
theorem algebraic :
    Cert.algebraic_ConvOutIdeal_ConvOutRefIdeal (hConvOutIdeal := Cert.ConvOutIdeal.Gen.facts)
      (hConvOutRefIdeal := Cert.ConvOutRefIdeal.Gen.facts) := by
  intro m g m' g' hpre hagree
  refine ⟨fun c => whole (m ((c.tc : Thread Cert.ConvOutIdeal.nD Cert.ConvOutIdeal.τ).loc Cert.ConvOutIdeal.main_arg0))
    (m ((c.tc : Thread Cert.ConvOutIdeal.nD Cert.ConvOutIdeal.τ).loc Cert.ConvOutIdeal.main_arg1))
    (m ((c.tc : Thread Cert.ConvOutIdeal.nD Cert.ConvOutIdeal.τ).loc Cert.ConvOutIdeal.main_arg2))
    (m ((c.tc : Thread Cert.ConvOutIdeal.nD Cert.ConvOutIdeal.τ).loc Cert.ConvOutIdeal.main_arg3))
    (m ((c.tc : Thread Cert.ConvOutIdeal.nD Cert.ConvOutIdeal.τ).loc Cert.ConvOutIdeal.main_arg4))
    (m ((c.tc : Thread Cert.ConvOutIdeal.nD Cert.ConvOutIdeal.τ).loc Cert.ConvOutIdeal.main_arg5))
    (m ((c.tc : Thread Cert.ConvOutIdeal.nD Cert.ConvOutIdeal.τ).loc Cert.ConvOutIdeal.main_arg6)), ?_, ?_⟩
  · exact (θ_run _ _ _).mono (fun r h c => ⟨(h c).1.trans (final m c), (h c).2⟩) (Cert.ConvOutIdeal.Value.run_blocks m g)
  · refine (θ_run _ _ _).mono (fun r h c => ⟨(h c).1.trans ?_, (h c).2⟩) (Cert.ConvOutRefIdeal.Value.run m' g')
    obtain ⟨a0, a1, a2, a3, a4, a5, a6⟩ := hagree c
    rw [Cert.ConvOutRefIdeal.Read.val_main_v30_eq, a0, a1, a2, a3, a4, a5, a6]
    exact ref_eq _ _ _ _ _ _ _

/-- The reference runs and keeps its arguments; it declares no semaphore. -/
theorem frame_ref : Cert.quiescent_ConvOutRefIdeal (hConvOutRefIdeal := Cert.ConvOutRefIdeal.Gen.facts) := fun m g _ =>
  (θ_run _ _ _).mono (fun r h => ⟨fun c => (h c).2, sem_eq_zero_of_no_sems (by decide) r.2⟩) (Cert.ConvOutRefIdeal.Value.run m g)

end Cert.Conv

end
-- ==== Proof.MixBitsFrame.lean ====
/-
  The projections of the time mixing run, bit by bit: at every point the body fills the outputs' blocks, and the program keeps
  its arguments and leaves every semaphore at zero.
-/
module

public import proofs.«01_k».proof.Proof.MixBitsRun
public import Idealize.ShloMosaic.Lib.Claim

@[expose] public section

set_option maxRecDepth 16384

noncomputable section

namespace Cert.MixBits

open Cert.Rwkv Cert.Rwkv.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section
variable (c : Dev nD) (i : grid0.Coords) (arg2 : Memref sig .tc .vmem S1x256x1024 .f32) (harg2 : arg2.IsWhole) (arg3 : Memref sig .tc .vmem S1x64x1024 .f32) (harg3 : arg3.IsWhole) (arg4 : Memref sig .tc .vmem S1x64x1024 .f32) (harg4 : arg4.IsWhole) (arg5 : Memref sig .tc .vmem S6x1024 .f32) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1024x128 .bf16) (harg9 : arg9.IsWhole) (arg10 : Memref sig .tc .vmem S128x1024 .bf16) (harg10 : arg10.IsWhole) (arg11 : Memref sig .tc .vmem S1024x128 .bf16) (harg11 : arg11.IsWhole) (arg12 : Memref sig .tc .vmem S128x1024 .bf16) (harg12 : arg12.IsWhole) (arg13 : Memref sig .tc .vmem S1024x128 .bf16) (harg13 : arg13.IsWhole) (arg14 : Memref sig .tc .vmem S128x1024 .bf16) (harg14 : arg14.IsWhole) (arg15 : Memref sig .tc .vmem S2x1024 .f32) (harg15 : arg15.IsWhole) (arg16 : Memref sig .tc .vmem S2x1024 .f32) (harg16 : arg16.IsWhole) (arg17 : Memref sig .tc .vmem S1x1024 .f32) (harg17 : arg17.IsWhole) (arg18 : Memref sig .tc .vmem S1x1024 .f32) (harg18 : arg18.IsWhole) (arg19 : Memref sig .tc .vmem S1x256x1024 .f32) (harg19 : arg19.IsWhole) (arg20 : Memref sig .tc .vmem S1x256x1024 .f32) (harg20 : arg20.IsWhole) (arg21 : Memref sig .tc .vmem S1x256x1024 .f32) (harg21 : arg21.IsWhole) (arg22 : Memref sig .tc .vmem S1x256x1024 .f32) (harg22 : arg22.IsWhole) (arg23 : Memref sig .tc .vmem S1x256x1024 .f32) (harg23 : arg23.IsWhole) (arg24 : Memref sig .tc .vmem S1x256x1024 .f32) (harg24 : arg24.IsWhole) (arg25 : Memref sig .tc .vmem S1x256x1024 .f32) (harg25 : arg25.IsWhole) (arg26 : Memref sig .tc .vmem S1x256x1024 .f32) (harg26 : arg26.IsWhole) (arg27 : Memref sig .tc .vmem S1x256x1024 .f32) (harg27 : arg27.IsWhole) (arg28 : Memref sig .tc .vmem S1x256x1024 .f32) (harg28 : arg28.IsWhole) (arg29 : Memref sig .tc .vmem S384x1024 .f32) (harg29 : arg29.IsWhole) (arg30 : Memref sig .tc .vmem S256x1024 .f32) (harg30 : arg30.IsWhole)
    (x0 : Vec F S1x256x1024 .f32) (x1 : Vec F S1x64x1024 .f32) (x2 : Vec F S1x64x1024 .f32) (x3 : Vec F S6x1024 .f32) (x4 : Vec F S1024x1024 .bf16) (x5 : Vec F S1024x1024 .bf16) (x6 : Vec F S1024x1024 .bf16) (x7 : Vec F S1024x128 .bf16) (x8 : Vec F S128x1024 .bf16) (x9 : Vec F S1024x128 .bf16) (x10 : Vec F S128x1024 .bf16) (x11 : Vec F S1024x128 .bf16) (x12 : Vec F S128x1024 .bf16) (x13 : Vec F S2x1024 .f32) (x14 : Vec F S2x1024 .f32) (x15 : Vec F S1x1024 .f32) (x16 : Vec F S1x1024 .f32)

/-- The stores into output 17 cover its block. -/
theorem cover0_A_17 (y : S1x256x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 x16).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 x16).1 S1x256x1024.size (by sl_kernel_rfl) y

/-- What a run leaves in output 17's buffer. -/
def out0_A_17 : Vec F S1x256x1024 .f32 :=
  VO0_17.read (Elt F) (VO0_17.writes (Elt F) VO0_17.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 x16).1)

/-- The stores into output 18 cover its block. -/
theorem cover0_A_18 (y : S1x256x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 x16).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 x16).2.1 S1x256x1024.size (by sl_kernel_rfl) y

/-- What a run leaves in output 18's buffer. -/
def out0_A_18 : Vec F S1x256x1024 .f32 :=
  VO0_18.read (Elt F) (VO0_18.writes (Elt F) VO0_18.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 x16).2.1)

/-- The stores into output 19 cover its block. -/
theorem cover0_A_19 (y : S1x256x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 x16).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 x16).2.2.1 S1x256x1024.size (by sl_kernel_rfl) y

/-- What a run leaves in output 19's buffer. -/
def out0_A_19 : Vec F S1x256x1024 .f32 :=
  VO0_19.read (Elt F) (VO0_19.writes (Elt F) VO0_19.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 x16).2.2.1)

/-- The stores into output 20 cover its block. -/
theorem cover0_A_20 (y : S1x256x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 x16).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 x16).2.2.2.1 S1x256x128.size (by sl_kernel_rfl) y

/-- What a run leaves in output 20's buffer. -/
def out0_A_20 : Vec F S1x256x1024 .f32 :=
  VO0_20.read (Elt F) (VO0_20.writes (Elt F) VO0_20.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 x16).2.2.2.1)

/-- The stores into output 21 cover its block. -/
theorem cover0_A_21 (y : S1x256x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 x16).2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 x16).2.2.2.2.1 S1x256x1024.size (by sl_kernel_rfl) y

/-- What a run leaves in output 21's buffer. -/
def out0_A_21 : Vec F S1x256x1024 .f32 :=
  VO0_21.read (Elt F) (VO0_21.writes (Elt F) VO0_21.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 x16).2.2.2.2.1)

/-- The stores into output 22 cover its block. -/
theorem cover0_A_22 (y : S1x256x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 x16).2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 x16).2.2.2.2.2.1 S1x256x1024.size (by sl_kernel_rfl) y

/-- What a run leaves in output 22's buffer. -/
def out0_A_22 : Vec F S1x256x1024 .f32 :=
  VO0_22.read (Elt F) (VO0_22.writes (Elt F) VO0_22.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 x16).2.2.2.2.2.1)

/-- The stores into output 23 cover its block. -/
theorem cover0_A_23 (y : S1x256x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 x16).2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 x16).2.2.2.2.2.2.1 S1x256x1024.size (by sl_kernel_rfl) y

/-- What a run leaves in output 23's buffer. -/
def out0_A_23 : Vec F S1x256x1024 .f32 :=
  VO0_23.read (Elt F) (VO0_23.writes (Elt F) VO0_23.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 x16).2.2.2.2.2.2.1)

/-- The stores into output 24 cover its block. -/
theorem cover0_A_24 (y : S1x256x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 x16).2.2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 x16).2.2.2.2.2.2.2.1 S1x256x1024.size (by sl_kernel_rfl) y

/-- What a run leaves in output 24's buffer. -/
def out0_A_24 : Vec F S1x256x1024 .f32 :=
  VO0_24.read (Elt F) (VO0_24.writes (Elt F) VO0_24.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 x16).2.2.2.2.2.2.2.1)

/-- The stores into output 25 cover its block. -/
theorem cover0_A_25 (y : S1x256x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 x16).2.2.2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 x16).2.2.2.2.2.2.2.2.1 S1x256x1024.size (by sl_kernel_rfl) y

/-- What a run leaves in output 25's buffer. -/
def out0_A_25 : Vec F S1x256x1024 .f32 :=
  VO0_25.read (Elt F) (VO0_25.writes (Elt F) VO0_25.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 x16).2.2.2.2.2.2.2.2.1)

/-- The stores into output 26 cover its block. -/
theorem cover0_A_26 (y : S1x256x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 x16).2.2.2.2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 x16).2.2.2.2.2.2.2.2.2.1 S1x256x1024.size (by sl_kernel_rfl) y

/-- What a run leaves in output 26's buffer. -/
def out0_A_26 : Vec F S1x256x1024 .f32 :=
  VO0_26.read (Elt F) (VO0_26.writes (Elt F) VO0_26.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 x16).2.2.2.2.2.2.2.2.2.1)

end

/-! ## What the outputs hold after each point -/

/-- What the outputs' buffers hold after the body at point `t`. -/
def outsAt0 (c : Dev nD) (t : Fin cfg0.N) : Vec F S1x256x1024 .f32 × Vec F S1x256x1024 .f32 × Vec F S1x256x1024 .f32 × Vec F S1x256x1024 .f32 × Vec F S1x256x1024 .f32 × Vec F S1x256x1024 .f32 × Vec F S1x256x1024 .f32 × Vec F S1x256x1024 .f32 × Vec F S1x256x1024 .f32 × Vec F S1x256x1024 .f32 :=
  (out0_A_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t), out0_A_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t), out0_A_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t), out0_A_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t), out0_A_21 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t), out0_A_22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t), out0_A_23 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t), out0_A_24 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t), out0_A_25 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t), out0_A_26 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t))

/-! ## The pipeline's proof data -/

/-- The pipeline's data: the arrays at entry, and after each point the inputs' blocks and what the body left in the outputs'. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => (outsAt0 m c t).1
    | ⟨18, _⟩ => (outsAt0 m c t).2.1
    | ⟨19, _⟩ => (outsAt0 m c t).2.2.1
    | ⟨20, _⟩ => (outsAt0 m c t).2.2.2.1
    | ⟨21, _⟩ => (outsAt0 m c t).2.2.2.2.1
    | ⟨22, _⟩ => (outsAt0 m c t).2.2.2.2.2.1
    | ⟨23, _⟩ => (outsAt0 m c t).2.2.2.2.2.2.1
    | ⟨24, _⟩ => (outsAt0 m c t).2.2.2.2.2.2.2.1
    | ⟨25, _⟩ => (outsAt0 m c t).2.2.2.2.2.2.2.2.1
    | ⟨26, _⟩ => (outsAt0 m c t).2.2.2.2.2.2.2.2.2
    | ⟨_ + 27, h⟩ => absurd h (Nat.not_lt.2 (Nat.le_add_left _ _))
  Φ _ := Pipeline.ΦA spec0 c
  q w := Pipeline.shareOf spec0 w
  owed _ := 0

/-- The arrays at entry. -/
theorem A_eq (c : Dev nD) (w : Fin cfg0.W) : (dats m 0 c).A w = V m c (Pipeline.arrRef spec0 w) := by
  dsimp only [dats]

/-- Window 0 after the body. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = (outsAt0 m c t).1 := by dsimp only [dats]
theorem after0_18 (c : Dev nD) (t : Fin cfg0.N) : (dats m 0 c).after 18 t = (outsAt0 m c t).2.1 := by dsimp only [dats]
theorem after0_19 (c : Dev nD) (t : Fin cfg0.N) : (dats m 0 c).after 19 t = (outsAt0 m c t).2.2.1 := by dsimp only [dats]
theorem after0_20 (c : Dev nD) (t : Fin cfg0.N) : (dats m 0 c).after 20 t = (outsAt0 m c t).2.2.2.1 := by dsimp only [dats]
theorem after0_21 (c : Dev nD) (t : Fin cfg0.N) : (dats m 0 c).after 21 t = (outsAt0 m c t).2.2.2.2.1 := by dsimp only [dats]
theorem after0_22 (c : Dev nD) (t : Fin cfg0.N) : (dats m 0 c).after 22 t = (outsAt0 m c t).2.2.2.2.2.1 := by dsimp only [dats]
theorem after0_23 (c : Dev nD) (t : Fin cfg0.N) : (dats m 0 c).after 23 t = (outsAt0 m c t).2.2.2.2.2.2.1 := by dsimp only [dats]
theorem after0_24 (c : Dev nD) (t : Fin cfg0.N) : (dats m 0 c).after 24 t = (outsAt0 m c t).2.2.2.2.2.2.2.1 := by dsimp only [dats]
theorem after0_25 (c : Dev nD) (t : Fin cfg0.N) : (dats m 0 c).after 25 t = (outsAt0 m c t).2.2.2.2.2.2.2.2.1 := by dsimp only [dats]
theorem after0_26 (c : Dev nD) (t : Fin cfg0.N) : (dats m 0 c).after 26 t = (outsAt0 m c t).2.2.2.2.2.2.2.2.2 := by dsimp only [dats]

/-- Window 0 before the body: its block. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d

/-! ## The body obligation, at a generic point -/

/-- What the body is called with, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d))
    ∗ (∃ d, owns (c : Thread nD τ) (ms0_26 t) fullShare ((dats m 0 c).before 26 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t)
    ∗ owns (c : Thread nD τ) (ms0_25 t) fullShare ((dats m 0 c).after 25 t)
    ∗ owns (c : Thread nD τ) (ms0_26 t) fullShare ((dats m 0 c).after 26 t))

set_option maxHeartbeats 2800000 in
/-- The body at any point takes the one to the other. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26]
  rw [show (dats m 0 c).Φ t.castSucc = Pipeline.ΦA spec0 c from rfl, PhiA0_eq]
  unfold outsAt0
  unfold out0_A_17 out0_A_18 out0_A_19 out0_A_20 out0_A_21 out0_A_22 out0_A_23 out0_A_24 out0_A_25 out0_A_26; (try dsimp only)
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩⟩
  iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)).2.2.2.2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  isplitl [HS0]; · iexact HS0
  isplitl [HS1]; · iexact HS1
  iintro ⟨H0, H1, H2, H3, H4, H5, H6, H7, H8, H9, H10, H11, H12, H13, H14, H15, H16, ⟨%e17, H17⟩, ⟨%e18, H18⟩, ⟨%e19, H19⟩, ⟨%e20, H20⟩, ⟨%e21, H21⟩, ⟨%e22, H22⟩, ⟨%e23, H23⟩, ⟨%e24, H24⟩, ⟨%e25, H25⟩, ⟨%e26, H26⟩, ⟨%fT0, HS0⟩, ⟨%fT1, HS1⟩⟩
  isplitl [HS0 HS1 Hg]
  · isplitl [HS0 HS1]
    · isplitl [HS0]
      · iexists _; unfold owns; iexists _; isplitr
        swap; · iexact HS0
        ipureintro; rfl
      iexists _; unfold owns; iexists _; isplitr
      swap; · iexact HS1
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]
  · unfold owns; iexists _; isplitr
    swap; · iexact H17
    ipureintro; exact View.read_writes_of_cover _ _ _ _ _ (cover0_A_17 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H18]
  · unfold owns; iexists _; isplitr
    swap; · iexact H18
    ipureintro; exact View.read_writes_of_cover _ _ _ _ _ (cover0_A_18 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H19]
  · unfold owns; iexists _; isplitr
    swap; · iexact H19
    ipureintro; exact View.read_writes_of_cover _ _ _ _ _ (cover0_A_19 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H20]
  · unfold owns; iexists _; isplitr
    swap; · iexact H20
    ipureintro; exact View.read_writes_of_cover _ _ _ _ _ (cover0_A_20 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H21]
  · unfold owns; iexists _; isplitr
    swap; · iexact H21
    ipureintro; exact View.read_writes_of_cover _ _ _ _ _ (cover0_A_21 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H22]
  · unfold owns; iexists _; isplitr
    swap; · iexact H22
    ipureintro; exact View.read_writes_of_cover _ _ _ _ _ (cover0_A_22 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H23]
  · unfold owns; iexists _; isplitr
    swap; · iexact H23
    ipureintro; exact View.read_writes_of_cover _ _ _ _ _ (cover0_A_23 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H24]
  · unfold owns; iexists _; isplitr
    swap; · iexact H24
    ipureintro; exact View.read_writes_of_cover _ _ _ _ _ (cover0_A_24 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H25]
  · unfold owns; iexists _; isplitr
    swap; · iexact H25
    ipureintro; exact View.read_writes_of_cover _ _ _ _ _ (cover0_A_25 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  unfold owns; iexists _; isplitr
  swap; · iexact H26
  ipureintro; exact View.read_writes_of_cover _ _ _ _ _ (cover0_A_26 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The body that the pipeline calls at a point. -/
theorem defs₀_row (t : Fin cfg0.N) :
    defs₀ (F := F) .tc cfg0.body (cfg0.bodyArgs t (cfg0.slots t)) = bodyAt0 t := by
  unfold defs₀; rw [Defs.onTc_tc]

/-- So the body does at every point what the pipeline asks. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- The program runs, to the arrays that the pipeline's data name, with every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The same without the semaphores. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_of m ρ (dats m) (A_eq m) (run_main m ρ)

/-- The program runs, keeps its arguments and leaves every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
      ∧ r.2.sem = fun _ => 0) :=
  θ_run_and (unchanged m ρ) ((θ_run defs _ _).mono (fun _ h => h.2) (run_main_quiescent m ρ))

end Cert.MixBits

end
-- ==== Proof.MixRun.lean ====
/-
  One run of the body of the time mixing's projections, over the extended reals.
-/
module

public import proofs.«01_k».proof.Proof.Gen.RwkvIdeal.Frame.Runs

@[expose] public section

set_option maxRecDepth 16384

noncomputable section

namespace Cert.MixIdeal

open Cert.RwkvIdeal Cert.RwkvIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- One run of the body: from its windows' buffers it ends with the outputs' and the scratch buffers holding the pieces it stored,
    which are given with the proof, and with the inputs' as they were. -/
noncomputable def kernelRun0_A (c : Dev nD) (i : grid0.Coords) (arg2 : Memref sig .tc .vmem S1x256x1024 .f32) (harg2 : arg2.IsWhole) (arg3 : Memref sig .tc .vmem S1x64x1024 .f32) (harg3 : arg3.IsWhole) (arg4 : Memref sig .tc .vmem S1x64x1024 .f32) (harg4 : arg4.IsWhole) (arg5 : Memref sig .tc .vmem S6x1024 .f32) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1024x128 .bf16) (harg9 : arg9.IsWhole) (arg10 : Memref sig .tc .vmem S128x1024 .bf16) (harg10 : arg10.IsWhole) (arg11 : Memref sig .tc .vmem S1024x128 .bf16) (harg11 : arg11.IsWhole) (arg12 : Memref sig .tc .vmem S128x1024 .bf16) (harg12 : arg12.IsWhole) (arg13 : Memref sig .tc .vmem S1024x128 .bf16) (harg13 : arg13.IsWhole) (arg14 : Memref sig .tc .vmem S128x1024 .bf16) (harg14 : arg14.IsWhole) (arg15 : Memref sig .tc .vmem S2x1024 .f32) (harg15 : arg15.IsWhole) (arg16 : Memref sig .tc .vmem S2x1024 .f32) (harg16 : arg16.IsWhole) (arg17 : Memref sig .tc .vmem S1x1024 .f32) (harg17 : arg17.IsWhole) (arg18 : Memref sig .tc .vmem S1x1024 .f32) (harg18 : arg18.IsWhole) (arg19 : Memref sig .tc .vmem S1x256x1024 .f32) (harg19 : arg19.IsWhole) (arg20 : Memref sig .tc .vmem S1x256x1024 .f32) (harg20 : arg20.IsWhole) (arg21 : Memref sig .tc .vmem S1x256x1024 .f32) (harg21 : arg21.IsWhole) (arg22 : Memref sig .tc .vmem S1x256x1024 .f32) (harg22 : arg22.IsWhole) (arg23 : Memref sig .tc .vmem S1x256x1024 .f32) (harg23 : arg23.IsWhole) (arg24 : Memref sig .tc .vmem S1x256x1024 .f32) (harg24 : arg24.IsWhole) (arg25 : Memref sig .tc .vmem S1x256x1024 .f32) (harg25 : arg25.IsWhole) (arg26 : Memref sig .tc .vmem S1x256x1024 .f32) (harg26 : arg26.IsWhole) (arg27 : Memref sig .tc .vmem S1x256x1024 .f32) (harg27 : arg27.IsWhole) (arg28 : Memref sig .tc .vmem S1x256x1024 .f32) (harg28 : arg28.IsWhole) (arg29 : Memref sig .tc .vmem S384x1024 .f32) (harg29 : arg29.IsWhole) (arg30 : Memref sig .tc .vmem S256x1024 .f32) (harg30 : arg30.IsWhole)
    (x0 : Vec F S1x256x1024 .f32) (x1 : Vec F S1x64x1024 .f32) (x2 : Vec F S1x64x1024 .f32) (x3 : Vec F S6x1024 .f32) (x4 : Vec F S1024x1024 .bf16) (x5 : Vec F S1024x1024 .bf16) (x6 : Vec F S1024x1024 .bf16) (x7 : Vec F S1024x128 .bf16) (x8 : Vec F S128x1024 .bf16) (x9 : Vec F S1024x128 .bf16) (x10 : Vec F S128x1024 .bf16) (x11 : Vec F S1024x128 .bf16) (x12 : Vec F S128x1024 .bf16) (x13 : Vec F S2x1024 .f32) (x14 : Vec F S2x1024 .f32) (x15 : Vec F S1x1024 .f32) (x16 : Vec F S1x1024 .f32) :
    Σ' (L17 : List (View.Piece (Elt F) S1x256x1024 .f32)), Σ' (L18 : List (View.Piece (Elt F) S1x256x1024 .f32)), Σ' (L19 : List (View.Piece (Elt F) S1x256x1024 .f32)), Σ' (L20 : List (View.Piece (Elt F) S1x256x1024 .f32)), Σ' (L21 : List (View.Piece (Elt F) S1x256x1024 .f32)), Σ' (L22 : List (View.Piece (Elt F) S1x256x1024 .f32)), Σ' (L23 : List (View.Piece (Elt F) S1x256x1024 .f32)), Σ' (L24 : List (View.Piece (Elt F) S1x256x1024 .f32)), Σ' (L25 : List (View.Piece (Elt F) S1x256x1024 .f32)), Σ' (L26 : List (View.Piece (Elt F) S1x256x1024 .f32)), Σ' (LT0 : List (View.Piece (Elt F) S384x1024 .f32)), { LT1 : List (View.Piece (Elt F) S256x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ (∃ f, arg19.view.loc (c : Thread nD τ) ↦[arg19.view.set]{fullShare} arg19.view.writes (Elt F) f L17) ∗ (∃ f, arg20.view.loc (c : Thread nD τ) ↦[arg20.view.set]{fullShare} arg20.view.writes (Elt F) f L18) ∗ (∃ f, arg21.view.loc (c : Thread nD τ) ↦[arg21.view.set]{fullShare} arg21.view.writes (Elt F) f L19) ∗ (∃ f, arg22.view.loc (c : Thread nD τ) ↦[arg22.view.set]{fullShare} arg22.view.writes (Elt F) f L20) ∗ (∃ f, arg23.view.loc (c : Thread nD τ) ↦[arg23.view.set]{fullShare} arg23.view.writes (Elt F) f L21) ∗ (∃ f, arg24.view.loc (c : Thread nD τ) ↦[arg24.view.set]{fullShare} arg24.view.writes (Elt F) f L22) ∗ (∃ f, arg25.view.loc (c : Thread nD τ) ↦[arg25.view.set]{fullShare} arg25.view.writes (Elt F) f L23) ∗ (∃ f, arg26.view.loc (c : Thread nD τ) ↦[arg26.view.set]{fullShare} arg26.view.writes (Elt F) f L24) ∗ (∃ f, arg27.view.loc (c : Thread nD τ) ↦[arg27.view.set]{fullShare} arg27.view.writes (Elt F) f L25) ∗ (∃ f, arg28.view.loc (c : Thread nD τ) ↦[arg28.view.set]{fullShare} arg28.view.writes (Elt F) f L26) ∗ (∃ f, arg29.view.loc (c : Thread nD τ) ↦[arg29.view.set]{fullShare} arg29.view.writes (Elt F) f LT0) ∗ (∃ f, arg30.view.loc (c : Thread nD τ) ↦[arg30.view.set]{fullShare} arg30.view.writes (Elt F) f LT1)) -∗ K ⟨⟩))
          ⊢ wp frame (wpE (defs₀ (F := F)) Variants.none c none) E (cc0_rwkv_proj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30) K } := by
  refine ⟨?_, ?_, ?_, ?_, ?_, ?_, ?_, ?_, ?_, ?_, ?_, ?_, fun E K => ?run⟩
  case run =>
    simp only [cc0_rwkv_proj_eq_skeleton]; unfold cc0_rwkv_proj_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]
    · iexists _; isplitr; · ipureintro; exact harg18.read_unread _
      iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    isplitl [H25]; · iexists _; iexact H25
    isplitl [H26]; · iexists _; iexact H26
    isplitl [HS0]; · iexists _; iexact HS0
    iexists _; iexact HS1

end Cert.MixIdeal

end
-- ==== Proof.MixFrame.lean ====
/-
  The projections of the time mixing run, over the extended reals: at every point the body fills the outputs' blocks, and the program keeps
  its arguments and leaves every semaphore at zero.
-/
module

public import proofs.«01_k».proof.Proof.MixRun
public import Idealize.ShloMosaic.Lib.Claim
public import Idealize.ShloMosaic.Lib.Pipeline.Value

@[expose] public section

set_option maxRecDepth 16384

noncomputable section

namespace Cert.MixIdeal

open Cert.RwkvIdeal Cert.RwkvIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section
variable (c : Dev nD) (i : grid0.Coords) (arg2 : Memref sig .tc .vmem S1x256x1024 .f32) (harg2 : arg2.IsWhole) (arg3 : Memref sig .tc .vmem S1x64x1024 .f32) (harg3 : arg3.IsWhole) (arg4 : Memref sig .tc .vmem S1x64x1024 .f32) (harg4 : arg4.IsWhole) (arg5 : Memref sig .tc .vmem S6x1024 .f32) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1024x128 .bf16) (harg9 : arg9.IsWhole) (arg10 : Memref sig .tc .vmem S128x1024 .bf16) (harg10 : arg10.IsWhole) (arg11 : Memref sig .tc .vmem S1024x128 .bf16) (harg11 : arg11.IsWhole) (arg12 : Memref sig .tc .vmem S128x1024 .bf16) (harg12 : arg12.IsWhole) (arg13 : Memref sig .tc .vmem S1024x128 .bf16) (harg13 : arg13.IsWhole) (arg14 : Memref sig .tc .vmem S128x1024 .bf16) (harg14 : arg14.IsWhole) (arg15 : Memref sig .tc .vmem S2x1024 .f32) (harg15 : arg15.IsWhole) (arg16 : Memref sig .tc .vmem S2x1024 .f32) (harg16 : arg16.IsWhole) (arg17 : Memref sig .tc .vmem S1x1024 .f32) (harg17 : arg17.IsWhole) (arg18 : Memref sig .tc .vmem S1x1024 .f32) (harg18 : arg18.IsWhole) (arg19 : Memref sig .tc .vmem S1x256x1024 .f32) (harg19 : arg19.IsWhole) (arg20 : Memref sig .tc .vmem S1x256x1024 .f32) (harg20 : arg20.IsWhole) (arg21 : Memref sig .tc .vmem S1x256x1024 .f32) (harg21 : arg21.IsWhole) (arg22 : Memref sig .tc .vmem S1x256x1024 .f32) (harg22 : arg22.IsWhole) (arg23 : Memref sig .tc .vmem S1x256x1024 .f32) (harg23 : arg23.IsWhole) (arg24 : Memref sig .tc .vmem S1x256x1024 .f32) (harg24 : arg24.IsWhole) (arg25 : Memref sig .tc .vmem S1x256x1024 .f32) (harg25 : arg25.IsWhole) (arg26 : Memref sig .tc .vmem S1x256x1024 .f32) (harg26 : arg26.IsWhole) (arg27 : Memref sig .tc .vmem S1x256x1024 .f32) (harg27 : arg27.IsWhole) (arg28 : Memref sig .tc .vmem S1x256x1024 .f32) (harg28 : arg28.IsWhole) (arg29 : Memref sig .tc .vmem S384x1024 .f32) (harg29 : arg29.IsWhole) (arg30 : Memref sig .tc .vmem S256x1024 .f32) (harg30 : arg30.IsWhole)
    (x0 : Vec F S1x256x1024 .f32) (x1 : Vec F S1x64x1024 .f32) (x2 : Vec F S1x64x1024 .f32) (x3 : Vec F S6x1024 .f32) (x4 : Vec F S1024x1024 .bf16) (x5 : Vec F S1024x1024 .bf16) (x6 : Vec F S1024x1024 .bf16) (x7 : Vec F S1024x128 .bf16) (x8 : Vec F S128x1024 .bf16) (x9 : Vec F S1024x128 .bf16) (x10 : Vec F S128x1024 .bf16) (x11 : Vec F S1024x128 .bf16) (x12 : Vec F S128x1024 .bf16) (x13 : Vec F S2x1024 .f32) (x14 : Vec F S2x1024 .f32) (x15 : Vec F S1x1024 .f32) (x16 : Vec F S1x1024 .f32)

/-- The stores into output 17 cover its block. -/
theorem cover0_A_17 (y : S1x256x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 x16).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 x16).1 S1x256x1024.size (by sl_kernel_rfl) y

/-- What a run leaves in output 17's buffer. -/
def out0_A_17 : Vec F S1x256x1024 .f32 :=
  VO0_17.read (Elt F) (VO0_17.writes (Elt F) VO0_17.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 x16).1)

theorem out0_A_17_eq : out0_A_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 x16 = View.canon (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 x16).1 :=
  View.read_writes_eq_canon _ _ _ (cover0_A_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 x16)

/-- The stores into output 18 cover its block. -/
theorem cover0_A_18 (y : S1x256x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 x16).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 x16).2.1 S1x256x1024.size (by sl_kernel_rfl) y

/-- What a run leaves in output 18's buffer. -/
def out0_A_18 : Vec F S1x256x1024 .f32 :=
  VO0_18.read (Elt F) (VO0_18.writes (Elt F) VO0_18.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 x16).2.1)

theorem out0_A_18_eq : out0_A_18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 x16 = View.canon (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 x16).2.1 :=
  View.read_writes_eq_canon _ _ _ (cover0_A_18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 x16)

/-- The stores into output 19 cover its block. -/
theorem cover0_A_19 (y : S1x256x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 x16).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 x16).2.2.1 S1x256x1024.size (by sl_kernel_rfl) y

/-- What a run leaves in output 19's buffer. -/
def out0_A_19 : Vec F S1x256x1024 .f32 :=
  VO0_19.read (Elt F) (VO0_19.writes (Elt F) VO0_19.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 x16).2.2.1)

theorem out0_A_19_eq : out0_A_19 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 x16 = View.canon (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 x16).2.2.1 :=
  View.read_writes_eq_canon _ _ _ (cover0_A_19 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 x16)

/-- The stores into output 20 cover its block. -/
theorem cover0_A_20 (y : S1x256x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 x16).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 x16).2.2.2.1 S1x256x128.size (by sl_kernel_rfl) y

/-- What a run leaves in output 20's buffer. -/
def out0_A_20 : Vec F S1x256x1024 .f32 :=
  VO0_20.read (Elt F) (VO0_20.writes (Elt F) VO0_20.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 x16).2.2.2.1)

theorem out0_A_20_eq : out0_A_20 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 x16 = View.canon (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 x16).2.2.2.1 :=
  View.read_writes_eq_canon _ _ _ (cover0_A_20 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 x16)

/-- The stores into output 21 cover its block. -/
theorem cover0_A_21 (y : S1x256x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 x16).2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 x16).2.2.2.2.1 S1x256x1024.size (by sl_kernel_rfl) y

/-- What a run leaves in output 21's buffer. -/
def out0_A_21 : Vec F S1x256x1024 .f32 :=
  VO0_21.read (Elt F) (VO0_21.writes (Elt F) VO0_21.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 x16).2.2.2.2.1)

theorem out0_A_21_eq : out0_A_21 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 x16 = View.canon (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 x16).2.2.2.2.1 :=
  View.read_writes_eq_canon _ _ _ (cover0_A_21 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 x16)

/-- The stores into output 22 cover its block. -/
theorem cover0_A_22 (y : S1x256x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 x16).2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 x16).2.2.2.2.2.1 S1x256x1024.size (by sl_kernel_rfl) y

/-- What a run leaves in output 22's buffer. -/
def out0_A_22 : Vec F S1x256x1024 .f32 :=
  VO0_22.read (Elt F) (VO0_22.writes (Elt F) VO0_22.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 x16).2.2.2.2.2.1)

theorem out0_A_22_eq : out0_A_22 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 x16 = View.canon (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 x16).2.2.2.2.2.1 :=
  View.read_writes_eq_canon _ _ _ (cover0_A_22 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 x16)

/-- The stores into output 23 cover its block. -/
theorem cover0_A_23 (y : S1x256x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 x16).2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 x16).2.2.2.2.2.2.1 S1x256x1024.size (by sl_kernel_rfl) y

/-- What a run leaves in output 23's buffer. -/
def out0_A_23 : Vec F S1x256x1024 .f32 :=
  VO0_23.read (Elt F) (VO0_23.writes (Elt F) VO0_23.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 x16).2.2.2.2.2.2.1)

theorem out0_A_23_eq : out0_A_23 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 x16 = View.canon (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 x16).2.2.2.2.2.2.1 :=
  View.read_writes_eq_canon _ _ _ (cover0_A_23 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 x16)

/-- The stores into output 24 cover its block. -/
theorem cover0_A_24 (y : S1x256x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 x16).2.2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 x16).2.2.2.2.2.2.2.1 S1x256x1024.size (by sl_kernel_rfl) y

/-- What a run leaves in output 24's buffer. -/
def out0_A_24 : Vec F S1x256x1024 .f32 :=
  VO0_24.read (Elt F) (VO0_24.writes (Elt F) VO0_24.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 x16).2.2.2.2.2.2.2.1)

theorem out0_A_24_eq : out0_A_24 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 x16 = View.canon (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 x16).2.2.2.2.2.2.2.1 :=
  View.read_writes_eq_canon _ _ _ (cover0_A_24 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 x16)

/-- The stores into output 25 cover its block. -/
theorem cover0_A_25 (y : S1x256x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 x16).2.2.2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 x16).2.2.2.2.2.2.2.2.1 S1x256x1024.size (by sl_kernel_rfl) y

/-- What a run leaves in output 25's buffer. -/
def out0_A_25 : Vec F S1x256x1024 .f32 :=
  VO0_25.read (Elt F) (VO0_25.writes (Elt F) VO0_25.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 x16).2.2.2.2.2.2.2.2.1)

theorem out0_A_25_eq : out0_A_25 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 x16 = View.canon (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 x16).2.2.2.2.2.2.2.2.1 :=
  View.read_writes_eq_canon _ _ _ (cover0_A_25 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 x16)

/-- The stores into output 26 cover its block. -/
theorem cover0_A_26 (y : S1x256x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 x16).2.2.2.2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 x16).2.2.2.2.2.2.2.2.2.1 S1x256x1024.size (by sl_kernel_rfl) y

/-- What a run leaves in output 26's buffer. -/
def out0_A_26 : Vec F S1x256x1024 .f32 :=
  VO0_26.read (Elt F) (VO0_26.writes (Elt F) VO0_26.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 x16).2.2.2.2.2.2.2.2.2.1)

theorem out0_A_26_eq : out0_A_26 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 x16 = View.canon (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 x16).2.2.2.2.2.2.2.2.2.1 :=
  View.read_writes_eq_canon _ _ _ (cover0_A_26 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 x16)

end

/-! ## What the outputs hold after each point -/

/-- What the outputs' buffers hold after the body at point `t`. -/
def outsAt0 (c : Dev nD) (t : Fin cfg0.N) : Vec F S1x256x1024 .f32 × Vec F S1x256x1024 .f32 × Vec F S1x256x1024 .f32 × Vec F S1x256x1024 .f32 × Vec F S1x256x1024 .f32 × Vec F S1x256x1024 .f32 × Vec F S1x256x1024 .f32 × Vec F S1x256x1024 .f32 × Vec F S1x256x1024 .f32 × Vec F S1x256x1024 .f32 :=
  (out0_A_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t), out0_A_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t), out0_A_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t), out0_A_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t), out0_A_21 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t), out0_A_22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t), out0_A_23 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t), out0_A_24 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t), out0_A_25 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t), out0_A_26 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t))

/-! ## The pipeline's proof data -/

/-- The pipeline's data: the arrays at entry, and after each point the inputs' blocks and what the body left in the outputs'. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => (outsAt0 m c t).1
    | ⟨18, _⟩ => (outsAt0 m c t).2.1
    | ⟨19, _⟩ => (outsAt0 m c t).2.2.1
    | ⟨20, _⟩ => (outsAt0 m c t).2.2.2.1
    | ⟨21, _⟩ => (outsAt0 m c t).2.2.2.2.1
    | ⟨22, _⟩ => (outsAt0 m c t).2.2.2.2.2.1
    | ⟨23, _⟩ => (outsAt0 m c t).2.2.2.2.2.2.1
    | ⟨24, _⟩ => (outsAt0 m c t).2.2.2.2.2.2.2.1
    | ⟨25, _⟩ => (outsAt0 m c t).2.2.2.2.2.2.2.2.1
    | ⟨26, _⟩ => (outsAt0 m c t).2.2.2.2.2.2.2.2.2
    | ⟨_ + 27, h⟩ => absurd h (Nat.not_lt.2 (Nat.le_add_left _ _))
  Φ _ := Pipeline.ΦA spec0 c
  q w := Pipeline.shareOf spec0 w
  owed _ := 0

/-- The arrays at entry. -/
theorem A_eq (c : Dev nD) (w : Fin cfg0.W) : (dats m 0 c).A w = V m c (Pipeline.arrRef spec0 w) := by
  dsimp only [dats]

/-- Window 0 after the body. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = (outsAt0 m c t).1 := by dsimp only [dats]
theorem after0_18 (c : Dev nD) (t : Fin cfg0.N) : (dats m 0 c).after 18 t = (outsAt0 m c t).2.1 := by dsimp only [dats]
theorem after0_19 (c : Dev nD) (t : Fin cfg0.N) : (dats m 0 c).after 19 t = (outsAt0 m c t).2.2.1 := by dsimp only [dats]
theorem after0_20 (c : Dev nD) (t : Fin cfg0.N) : (dats m 0 c).after 20 t = (outsAt0 m c t).2.2.2.1 := by dsimp only [dats]
theorem after0_21 (c : Dev nD) (t : Fin cfg0.N) : (dats m 0 c).after 21 t = (outsAt0 m c t).2.2.2.2.1 := by dsimp only [dats]
theorem after0_22 (c : Dev nD) (t : Fin cfg0.N) : (dats m 0 c).after 22 t = (outsAt0 m c t).2.2.2.2.2.1 := by dsimp only [dats]
theorem after0_23 (c : Dev nD) (t : Fin cfg0.N) : (dats m 0 c).after 23 t = (outsAt0 m c t).2.2.2.2.2.2.1 := by dsimp only [dats]
theorem after0_24 (c : Dev nD) (t : Fin cfg0.N) : (dats m 0 c).after 24 t = (outsAt0 m c t).2.2.2.2.2.2.2.1 := by dsimp only [dats]
theorem after0_25 (c : Dev nD) (t : Fin cfg0.N) : (dats m 0 c).after 25 t = (outsAt0 m c t).2.2.2.2.2.2.2.2.1 := by dsimp only [dats]
theorem after0_26 (c : Dev nD) (t : Fin cfg0.N) : (dats m 0 c).after 26 t = (outsAt0 m c t).2.2.2.2.2.2.2.2.2 := by dsimp only [dats]

/-- Window 0 before the body: its block. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d

/-! ## The body obligation, at a generic point -/

/-- What the body is called with, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d))
    ∗ (∃ d, owns (c : Thread nD τ) (ms0_26 t) fullShare ((dats m 0 c).before 26 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t)
    ∗ owns (c : Thread nD τ) (ms0_25 t) fullShare ((dats m 0 c).after 25 t)
    ∗ owns (c : Thread nD τ) (ms0_26 t) fullShare ((dats m 0 c).after 26 t))

set_option maxHeartbeats 2800000 in
/-- The body at any point takes the one to the other. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26]
  rw [show (dats m 0 c).Φ t.castSucc = Pipeline.ΦA spec0 c from rfl, PhiA0_eq]
  unfold outsAt0
  unfold out0_A_17 out0_A_18 out0_A_19 out0_A_20 out0_A_21 out0_A_22 out0_A_23 out0_A_24 out0_A_25 out0_A_26; (try dsimp only)
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩⟩
  iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)).2.2.2.2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  isplitl [HS0]; · iexact HS0
  isplitl [HS1]; · iexact HS1
  iintro ⟨H0, H1, H2, H3, H4, H5, H6, H7, H8, H9, H10, H11, H12, H13, H14, H15, H16, ⟨%e17, H17⟩, ⟨%e18, H18⟩, ⟨%e19, H19⟩, ⟨%e20, H20⟩, ⟨%e21, H21⟩, ⟨%e22, H22⟩, ⟨%e23, H23⟩, ⟨%e24, H24⟩, ⟨%e25, H25⟩, ⟨%e26, H26⟩, ⟨%fT0, HS0⟩, ⟨%fT1, HS1⟩⟩
  isplitl [HS0 HS1 Hg]
  · isplitl [HS0 HS1]
    · isplitl [HS0]
      · iexists _; unfold owns; iexists _; isplitr
        swap; · iexact HS0
        ipureintro; rfl
      iexists _; unfold owns; iexists _; isplitr
      swap; · iexact HS1
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]
  · unfold owns; iexists _; isplitr
    swap; · iexact H17
    ipureintro; exact View.read_writes_of_cover _ _ _ _ _ (cover0_A_17 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H18]
  · unfold owns; iexists _; isplitr
    swap; · iexact H18
    ipureintro; exact View.read_writes_of_cover _ _ _ _ _ (cover0_A_18 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H19]
  · unfold owns; iexists _; isplitr
    swap; · iexact H19
    ipureintro; exact View.read_writes_of_cover _ _ _ _ _ (cover0_A_19 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H20]
  · unfold owns; iexists _; isplitr
    swap; · iexact H20
    ipureintro; exact View.read_writes_of_cover _ _ _ _ _ (cover0_A_20 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H21]
  · unfold owns; iexists _; isplitr
    swap; · iexact H21
    ipureintro; exact View.read_writes_of_cover _ _ _ _ _ (cover0_A_21 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H22]
  · unfold owns; iexists _; isplitr
    swap; · iexact H22
    ipureintro; exact View.read_writes_of_cover _ _ _ _ _ (cover0_A_22 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H23]
  · unfold owns; iexists _; isplitr
    swap; · iexact H23
    ipureintro; exact View.read_writes_of_cover _ _ _ _ _ (cover0_A_23 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H24]
  · unfold owns; iexists _; isplitr
    swap; · iexact H24
    ipureintro; exact View.read_writes_of_cover _ _ _ _ _ (cover0_A_24 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H25]
  · unfold owns; iexists _; isplitr
    swap; · iexact H25
    ipureintro; exact View.read_writes_of_cover _ _ _ _ _ (cover0_A_25 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  unfold owns; iexists _; isplitr
  swap; · iexact H26
  ipureintro; exact View.read_writes_of_cover _ _ _ _ _ (cover0_A_26 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The body that the pipeline calls at a point. -/
theorem defs₀_row (t : Fin cfg0.N) :
    defs₀ (F := F) .tc cfg0.body (cfg0.bodyArgs t (cfg0.slots t)) = bodyAt0 t := by
  unfold defs₀; rw [Defs.onTc_tc]

/-- So the body does at every point what the pipeline asks. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- The program runs, to the arrays that the pipeline's data name, with every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The same without the semaphores. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_of m ρ (dats m) (A_eq m) (run_main m ρ)

/-- The program runs, keeps its arguments and leaves every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
      ∧ r.2.sem = fun _ => 0) :=
  θ_run_and (unchanged m ρ) ((θ_run defs _ _).mono (fun _ h => h.2) (run_main_quiescent m ρ))

/-- The array of output 17 after the run. -/
theorem post17 (r : PUnit × MemSt nD τ sig (Elt F)) (h : Pipeline.FramePost cfgs (dats m) 0 (V m) r) (c : Dev nD) :
    r.2.mem ((c : Thread nD τ).loc main_v0_0) = (dats m 0 c).arrAt 17 cfg0.N :=
  (h c).1 17

/-- The array of output 18 after the run. -/
theorem post18 (r : PUnit × MemSt nD τ sig (Elt F)) (h : Pipeline.FramePost cfgs (dats m) 0 (V m) r) (c : Dev nD) :
    r.2.mem ((c : Thread nD τ).loc main_v0_1) = (dats m 0 c).arrAt 18 cfg0.N :=
  (h c).1 18

/-- The array of output 19 after the run. -/
theorem post19 (r : PUnit × MemSt nD τ sig (Elt F)) (h : Pipeline.FramePost cfgs (dats m) 0 (V m) r) (c : Dev nD) :
    r.2.mem ((c : Thread nD τ).loc main_v0_2) = (dats m 0 c).arrAt 19 cfg0.N :=
  (h c).1 19

/-- The array of output 20 after the run. -/
theorem post20 (r : PUnit × MemSt nD τ sig (Elt F)) (h : Pipeline.FramePost cfgs (dats m) 0 (V m) r) (c : Dev nD) :
    r.2.mem ((c : Thread nD τ).loc main_v0_3) = (dats m 0 c).arrAt 20 cfg0.N :=
  (h c).1 20

/-- The array of output 21 after the run. -/
theorem post21 (r : PUnit × MemSt nD τ sig (Elt F)) (h : Pipeline.FramePost cfgs (dats m) 0 (V m) r) (c : Dev nD) :
    r.2.mem ((c : Thread nD τ).loc main_v0_4) = (dats m 0 c).arrAt 21 cfg0.N :=
  (h c).1 21

/-- The array of output 22 after the run. -/
theorem post22 (r : PUnit × MemSt nD τ sig (Elt F)) (h : Pipeline.FramePost cfgs (dats m) 0 (V m) r) (c : Dev nD) :
    r.2.mem ((c : Thread nD τ).loc main_v0_5) = (dats m 0 c).arrAt 22 cfg0.N :=
  (h c).1 22

/-- The array of output 23 after the run. -/
theorem post23 (r : PUnit × MemSt nD τ sig (Elt F)) (h : Pipeline.FramePost cfgs (dats m) 0 (V m) r) (c : Dev nD) :
    r.2.mem ((c : Thread nD τ).loc main_v0_6) = (dats m 0 c).arrAt 23 cfg0.N :=
  (h c).1 23

/-- The array of output 24 after the run. -/
theorem post24 (r : PUnit × MemSt nD τ sig (Elt F)) (h : Pipeline.FramePost cfgs (dats m) 0 (V m) r) (c : Dev nD) :
    r.2.mem ((c : Thread nD τ).loc main_v0_7) = (dats m 0 c).arrAt 24 cfg0.N :=
  (h c).1 24

/-- The array of output 25 after the run. -/
theorem post25 (r : PUnit × MemSt nD τ sig (Elt F)) (h : Pipeline.FramePost cfgs (dats m) 0 (V m) r) (c : Dev nD) :
    r.2.mem ((c : Thread nD τ).loc main_v0_8) = (dats m 0 c).arrAt 25 cfg0.N :=
  (h c).1 25

/-- The array of output 26 after the run. -/
theorem post26 (r : PUnit × MemSt nD τ sig (Elt F)) (h : Pipeline.FramePost cfgs (dats m) 0 (V m) r) (c : Dev nD) :
    r.2.mem ((c : Thread nD τ).loc main_v0_9) = (dats m 0 c).arrAt 26 cfg0.N :=
  (h c).1 26

/-- Argument 0 after the run. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 2).trans (((dats m 0 c).arrAt_in 2 rfl _).trans ((A_eq m c 2).trans (V_main_arg0 m c)))

/-- Argument 1 after the run. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 3).trans (((dats m 0 c).arrAt_in 3 rfl _).trans ((A_eq m c 3).trans (V_main_arg1 m c)))

/-- Argument 2 after the run. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 4).trans (((dats m 0 c).arrAt_in 4 rfl _).trans ((A_eq m c 4).trans (V_main_arg2 m c)))

/-- Argument 3 after the run. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 5).trans (((dats m 0 c).arrAt_in 5 rfl _).trans ((A_eq m c 5).trans (V_main_arg3 m c)))

/-- Argument 4 after the run. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 6).trans (((dats m 0 c).arrAt_in 6 rfl _).trans ((A_eq m c 6).trans (V_main_arg4 m c)))

/-- Argument 5 after the run. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 7).trans (((dats m 0 c).arrAt_in 7 rfl _).trans ((A_eq m c 7).trans (V_main_arg5 m c)))

/-- Argument 6 after the run. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).1 8).trans (((dats m 0 c).arrAt_in 8 rfl _).trans ((A_eq m c 8).trans (V_main_arg6 m c)))

/-- Argument 7 after the run. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).1 9).trans (((dats m 0 c).arrAt_in 9 rfl _).trans ((A_eq m c 9).trans (V_main_arg7 m c)))

/-- Argument 8 after the run. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).1 10).trans (((dats m 0 c).arrAt_in 10 rfl _).trans ((A_eq m c 10).trans (V_main_arg8 m c)))

/-- Argument 9 after the run. -/
theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).1 11).trans (((dats m 0 c).arrAt_in 11 rfl _).trans ((A_eq m c 11).trans (V_main_arg9 m c)))

/-- Argument 10 after the run. -/
theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).1 12).trans (((dats m 0 c).arrAt_in 12 rfl _).trans ((A_eq m c 12).trans (V_main_arg10 m c)))

/-- Argument 11 after the run. -/
theorem kept_main_arg11 (r : PUnit × MemSt nD τ sig (Elt F)) (h : Pipeline.FramePost cfgs (dats m) 0 (V m) r) (c : Dev nD) :
    r.2.mem ((c : Thread nD τ).loc main_arg11) = m ((c : Thread nD τ).loc main_arg11) :=
  ((h c).1 13).trans (((dats m 0 c).arrAt_in 13 rfl _).trans ((A_eq m c 13).trans (V_main_arg11 m c)))

/-- Argument 12 after the run. -/
theorem kept_main_arg12 (r : PUnit × MemSt nD τ sig (Elt F)) (h : Pipeline.FramePost cfgs (dats m) 0 (V m) r) (c : Dev nD) :
    r.2.mem ((c : Thread nD τ).loc main_arg12) = m ((c : Thread nD τ).loc main_arg12) :=
  ((h c).1 14).trans (((dats m 0 c).arrAt_in 14 rfl _).trans ((A_eq m c 14).trans (V_main_arg12 m c)))

/-- Argument 13 after the run. -/
theorem kept_main_arg13 (r : PUnit × MemSt nD τ sig (Elt F)) (h : Pipeline.FramePost cfgs (dats m) 0 (V m) r) (c : Dev nD) :
    r.2.mem ((c : Thread nD τ).loc main_arg13) = m ((c : Thread nD τ).loc main_arg13) :=
  ((h c).1 15).trans (((dats m 0 c).arrAt_in 15 rfl _).trans ((A_eq m c 15).trans (V_main_arg13 m c)))

/-- Argument 14 after the run. -/
theorem kept_main_arg14 (r : PUnit × MemSt nD τ sig (Elt F)) (h : Pipeline.FramePost cfgs (dats m) 0 (V m) r) (c : Dev nD) :
    r.2.mem ((c : Thread nD τ).loc main_arg14) = m ((c : Thread nD τ).loc main_arg14) :=
  ((h c).1 16).trans (((dats m 0 c).arrAt_in 16 rfl _).trans ((A_eq m c 16).trans (V_main_arg14 m c)))

/-- The program runs to its ten arrays, each what the pipeline's data name, and keeps its arguments. -/
theorem run_blocks : θ_run defs (onTc (τ := τ) (main (F := F))) ⟨m, fun _ => 0, ρ⟩ fun r => ∀ c : Dev nD,
      r.2.mem ((c : Thread nD τ).loc main_v0_0) = (dats m 0 c).arrAt 17 cfg0.N
      ∧ r.2.mem ((c : Thread nD τ).loc main_v0_1) = (dats m 0 c).arrAt 18 cfg0.N
      ∧ r.2.mem ((c : Thread nD τ).loc main_v0_2) = (dats m 0 c).arrAt 19 cfg0.N
      ∧ r.2.mem ((c : Thread nD τ).loc main_v0_3) = (dats m 0 c).arrAt 20 cfg0.N
      ∧ r.2.mem ((c : Thread nD τ).loc main_v0_4) = (dats m 0 c).arrAt 21 cfg0.N
      ∧ r.2.mem ((c : Thread nD τ).loc main_v0_5) = (dats m 0 c).arrAt 22 cfg0.N
      ∧ r.2.mem ((c : Thread nD τ).loc main_v0_6) = (dats m 0 c).arrAt 23 cfg0.N
      ∧ r.2.mem ((c : Thread nD τ).loc main_v0_7) = (dats m 0 c).arrAt 24 cfg0.N
      ∧ r.2.mem ((c : Thread nD τ).loc main_v0_8) = (dats m 0 c).arrAt 25 cfg0.N
      ∧ r.2.mem ((c : Thread nD τ).loc main_v0_9) = (dats m 0 c).arrAt 26 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14) :=
  (θ_run defs _ _).mono (fun r h c => ⟨post17 m r h c,
      post18 m r h c,
      post19 m r h c,
      post20 m r h c,
      post21 m r h c,
      post22 m r h c,
      post23 m r h c,
      post24 m r h c,
      post25 m r h c,
      post26 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c,
      kept_main_arg11 m r h c,
      kept_main_arg12 m r h c,
      kept_main_arg13 m r h c,
      kept_main_arg14 m r h c⟩)
    (run_main m ρ)

end Cert.MixIdeal

end
-- ==== Proof.MixRow.lean ====
/-
  The projections of the time mixing, row by row: a token's row and its difference to the shifted row are mixed with six
  weights; receptance, key, value and gate are products of the mixes; the key is normed head by head; and each of two
  directions makes a decay, a step and from them its key and its write from low-rank products.
-/
module

public import proofs.«01_k».proof.Proof.Common

@[expose] public section

noncomputable section

namespace Cert.Mix

open Idealize.ShloMosaic Cert.Layer

/-- The grid of 64 x 64 tokens shifted by one: a quarter of the lanes each from the left, the right, above and below, and
    zero from outside the grid. -/
def shifted (X : Fin 4096 → Fin 1024 → EReal) (t : Fin 4096) (e : Fin 1024) : EReal :=
  if e.val < 256 then (if h : t.val % 64 = 0 then 0 else X ⟨t.val - 1, by omega⟩ e)
  else if e.val < 512 then (if h : t.val % 64 = 63 then 0 else X ⟨t.val + 1, by omega⟩ e)
  else if e.val < 768 then (if h : t.val < 64 then 0 else X ⟨t.val - 64, by omega⟩ e)
  else (if h : 4032 ≤ t.val then 0 else X ⟨t.val + 64, by omega⟩ e)

/-- The difference of the shifted row and the row. -/
def diff (X : Fin 4096 → Fin 1024 → EReal) (t : Fin 4096) (e : Fin 1024) : EReal := shifted X t e - X t e

/-- A mixed row times a column of a weight. -/
def proj {n : ℕ} (x d : Fin 1024 → EReal) (μ : Fin 1024 → EReal) (w : Fin 1024 → Fin n → EReal) (c : Fin n) : EReal :=
  ∑ e : Fin 1024, (x e + d e * μ e) * w e c

/-- The gate: a low-rank product with a logistic in between. -/
def gate (x d : Fin 1024 → EReal) (μ : Fin 1024 → EReal) (g1 : Fin 1024 → Fin 128 → EReal) (g2 : Fin 128 → Fin 1024 → EReal)
    (c : Fin 1024) : EReal :=
  ∑ j : Fin 128, Ideal.logistic (proj x d μ g1 j) * g2 j c

/-- The key scaled lane by lane and normed head by head, 64 lanes to a head. -/
def unitKey (kc : Fin 1024 → EReal) (c : Fin 1024) : EReal :=
  kc c * Ideal.rsqrt (∑ e : Fin 64, kc ⟨64 * (c.val / 64) + e.val, by omega⟩ * kc ⟨64 * (c.val / 64) + e.val, by omega⟩
    + Ideal.ofBits FTy.f32 730643660#32)

/-- The second half of a low-rank product of one direction: its 64 of the 128 hidden lanes. -/
def low (k : Fin 2) (h : Fin 128 → EReal) (w : Fin 128 → Fin 1024 → EReal) (c : Fin 1024) : EReal :=
  ∑ j : Fin 64, h ⟨64 * k.val + j.val, by omega⟩ * w ⟨64 * k.val + j.val, by omega⟩ c

/-- The decay of `z`: minus the exponential of `- softplus (- z) - 1/2`. -/
def decay (z : EReal) : EReal :=
  - Ideal.exp (- (max (-z) 0 + Ideal.log (1 + Ideal.exp (- max (-z) (- -z)))) - Ideal.ofBits FTy.f32 1056964608#32)

/-- A direction's key: the key scaled by the step. -/
def stepKey (k a ka : EReal) : EReal := k * (1 + (a - 1) * ka)

section
variable (x d : Fin 1024 → EReal) (μ : Fin 6 → Fin 1024 → EReal)

/-- The key, scaled lane by lane and normed head by head. -/
def unitRow (wk : Fin 1024 → Fin 1024 → EReal) (kk : Fin 1024 → EReal) (c : Fin 1024) : EReal :=
  unitKey (fun e => proj x d (μ 2) wk e * kk e) c

/-- A direction's decay. -/
def decayRow (k : Fin 2) (w0 : Fin 2 → Fin 1024 → EReal) (w1 : Fin 1024 → Fin 128 → EReal) (w2 : Fin 128 → Fin 1024 → EReal) (c : Fin 1024) : EReal :=
  decay (w0 k c + low k (fun j => Ideal.tanh (proj x d (μ 1) w1 j)) w2 c)

/-- A direction's step. -/
def stepRow (k : Fin 2) (a0 : Fin 2 → Fin 1024 → EReal) (a1 : Fin 1024 → Fin 128 → EReal) (a2 : Fin 128 → Fin 1024 → EReal) (c : Fin 1024) : EReal :=
  Ideal.logistic (a0 k c + low k (fun j => proj x d (μ 4) a1 j) a2 c)

end

end Cert.Mix

end
-- ==== Proof.MixPay.lean ====
/-
  What the parts of the body compute, entry by entry: the masked shifts, the mixes and their products, the norm over a head
  by a product with a matrix of zeros and ones, and the two directions' decays, steps and keys.
-/
module

public import proofs.«01_k».proof.Proof.MixRow
public import proofs.«01_k».proof.Proof.Gen.RwkvIdeal.Skeleton
public import Idealize.ShloMosaic.Lib.Pipeline.Value

@[expose] public section

set_option maxRecDepth 16384

noncomputable section

namespace Cert.Mix

open Idealize.ShloMosaic Idealize.ShloMosaic.TcCoe Cert.RwkvIdeal Cert.RwkvIdeal.Gen Cert.Layer

/-! ## Words of small numbers -/

/-- The halved lane number, as the body computes it from the rounded quotient. -/
theorem half_word (c : Fin 128) :
    Scalar.select (IntOp.andi (IntOp.cmpi .ne (IntOp.subi (BitVec.setWidth 32 (IntOp.cmpi .sgt (BitVec.ofNat 32 ↑c) 0#32)) (BitVec.setWidth 32 (IntOp.cmpi .slt (BitVec.ofNat 32 ↑c) 0#32)))
        (Scalar.subi (Scalar.extui (Scalar.cmpi .sgt 64#32 0#32)) (Scalar.extui (Scalar.cmpi .slt 64#32 0#32))))
        (IntOp.cmpi .ne (IntOp.remsi ArithUnit.vector (BitVec.ofNat 32 ↑c) 64#32) 0#32))
      (IntOp.subi (IntOp.divsi ArithUnit.vector (BitVec.ofNat 32 ↑c) 64#32) 1#32) (IntOp.divsi ArithUnit.vector (BitVec.ofNat 32 ↑c) 64#32)
      = BitVec.ofNat 32 (c.val / 64) := by
  revert c
  decide +kernel

/-- The rest of a row number by 64, as the body computes it with the sign put right. -/
theorem place_word (r : Fin 256) :
    Scalar.select (IntOp.andi
        (IntOp.xori (IntOp.cmpi .slt (IntOp.remsi ArithUnit.vector (BitVec.ofNat 32 ↑r) (Scalar.select (Scalar.cmpi .eq 64#32 0#32) 1#32 64#32)) 0#32)
          (Scalar.cmpi .slt (Scalar.select (Scalar.cmpi .eq 64#32 0#32) 1#32 64#32) 0#32))
        (IntOp.cmpi .ne (IntOp.remsi ArithUnit.vector (BitVec.ofNat 32 ↑r) (Scalar.select (Scalar.cmpi .eq 64#32 0#32) 1#32 64#32)) 0#32))
      (IntOp.addi (IntOp.remsi ArithUnit.vector (BitVec.ofNat 32 ↑r) (Scalar.select (Scalar.cmpi .eq 64#32 0#32) 1#32 64#32))
        (Scalar.select (Scalar.cmpi .eq 64#32 0#32) 1#32 64#32))
      (IntOp.remsi ArithUnit.vector (BitVec.ofNat 32 ↑r) (Scalar.select (Scalar.cmpi .eq 64#32 0#32) 1#32 64#32))
      = BitVec.ofNat 32 (r.val % 64) := by
  revert r
  decide +kernel

theorem ones_apply (a b : Fin 128) : k0_pay19 (F := Ideal) k0_pay16 k0_pay17 k0_pay18 (ix2 a b) = sameHead a b := by
  pointwise [k0_pay19, k0_pay16, k0_pay17, k0_pay18]
  rw [half_word, half_word, cmp_word _ _ (by omega) (by omega)]
  unfold sameHead
  by_cases h : a.val / 64 = b.val / 64 <;> simp [h, FloatOps.sitofp]

theorem pay4_apply (i : grid0.Coords) (v : Vec Ideal S1x64x1024 .f32) (r : Fin 64) (c : Fin 1024) :
    k0_pay4 i v (ix2 r c) = if (i 1).val = 0 then (0 : EReal) else v (ix3 0 r c) := by
  pointwise [k0_pay4]
  exact select_eq (i 1).val 0 (lt_trans (i 1).isLt (by decide)) (by omega) _ _

theorem pay6_apply (i : grid0.Coords) (v : Vec Ideal S1x64x1024 .f32) (r : Fin 64) (c : Fin 1024) :
    k0_pay6 i v (ix2 r c) = if (i 1).val = 15 then (0 : EReal) else v (ix3 0 r c) := by
  pointwise [k0_pay6]
  exact select_eq (i 1).val 15 (lt_trans (i 1).isLt (by decide)) (by omega) _ _

theorem pay11_apply (v : Vec Ideal S256x256 .f32) (r c : Fin 256) :
    k0_pay11 (F := Ideal) 64#32 k0_pay7 k0_pay8 k0_pay9 0#32 v (ix2 r c)
      = if r.val % 64 = 0 then (0 : EReal) else v (ix2 r c) := by
  change k0_pay11 (F := Ideal) (Scalar.select (Scalar.cmpi .eq 64#32 0#32) 1#32 64#32) k0_pay7 k0_pay8 k0_pay9 0#32 v (ix2 r c) = _
  pointwise [k0_pay11, k0_pay10, k0_pay7, k0_pay8, k0_pay9]
  rw [place_word]
  exact select_eq _ 0 (by omega) (by omega) _ _

theorem pay12_apply (v : Vec Ideal S256x256 .f32) (r c : Fin 256) :
    k0_pay12 (F := Ideal) 64#32 k0_pay7 k0_pay8 k0_pay9 0#32 v (ix2 r c)
      = if r.val % 64 = 63 then (0 : EReal) else v (ix2 r c) := by
  change k0_pay12 (F := Ideal) (Scalar.select (Scalar.cmpi .eq 64#32 0#32) 1#32 64#32) k0_pay7 k0_pay8 k0_pay9 0#32 v (ix2 r c) = _
  pointwise [k0_pay12, k0_pay10, k0_pay7, k0_pay8, k0_pay9]
  rw [place_word]
  exact select_eq _ 63 (by omega) (by omega) _ _

theorem pay13_apply (v : Vec Ideal S256x256 .f32) (r c : Fin 256) : k0_pay13 v (ix2 r c) = v (ix2 r c) := by
  pointwise [k0_pay13]

theorem pay14_apply (v : Vec Ideal S256x256 .f32) (r c : Fin 256) : k0_pay14 v (ix2 r c) = v (ix2 r c) := by
  pointwise [k0_pay14]

theorem pay3_apply (v : Vec Ideal S1x256x1024 .f32) (r : Fin 256) (c : Fin 1024) : k0_pay3 v (ix2 r c) = v (ix3 0 r c) := by
  pointwise [k0_pay3]

theorem pay5_apply (v : Vec Ideal S1x256x1024 .f32) (r : Fin 256) (c : Fin 1024) : k0_pay5 v (ix2 r c) = v (ix3 0 r c) := by
  pointwise [k0_pay5, k0_pay3]

theorem pay15_apply (v w : FVec Ideal S256x1024 .f32) (r : Fin 256) (c : Fin 1024) : k0_pay15 v w (ix2 r c) = w (ix2 r c) - v (ix2 r c) := by
  pointwise [k0_pay15]

/-! ## The mixes and their products -/

section
variable (x d : FVec Ideal S256x1024 .f32) (μ : Vec Ideal S1x1024 .f32) (r : Fin 256)

theorem pay20_apply (w : Vec Ideal S1024x1024 .bf16) (c : Fin 1024) :
    k0_pay20 x d μ w (ix2 r c) = proj (fun e => x (ix2 r e)) (fun e => d (ix2 r e)) (fun e => μ (ix2 0 e)) (fun e c => w (ix2 e c)) c := by
  pointwise [k0_pay20]; rfl

theorem pay21_apply (w : Vec Ideal S1024x1024 .bf16) (c : Fin 1024) :
    k0_pay21 x d μ w (ix3 0 r c) = proj (fun e => x (ix2 r e)) (fun e => d (ix2 r e)) (fun e => μ (ix2 0 e)) (fun e c => w (ix2 e c)) c := by
  pointwise [k0_pay21]; rfl

theorem pay22_apply (w : Vec Ideal S1024x1024 .bf16) (c : Fin 1024) :
    k0_pay22 x d μ w (ix3 0 r c) = proj (fun e => x (ix2 r e)) (fun e => d (ix2 r e)) (fun e => μ (ix2 0 e)) (fun e c => w (ix2 e c)) c := by
  pointwise [k0_pay22]; rfl

theorem pay23_apply (g1 : Vec Ideal S1024x128 .bf16) (g2 : Vec Ideal S128x1024 .bf16) (c : Fin 1024) :
    k0_pay23 x d μ g1 g2 (ix3 0 r c)
      = gate (fun e => x (ix2 r e)) (fun e => d (ix2 r e)) (fun e => μ (ix2 0 e)) (fun e j => g1 (ix2 e j)) (fun j c => g2 (ix2 j c)) c := by
  pointwise [k0_pay23]; rfl

theorem pay24_apply (w : Vec Ideal S1024x128 .bf16) (j : Fin 128) :
    k0_pay24 x d μ w (ix2 r j)
      = Ideal.tanh (proj (fun e => x (ix2 r e)) (fun e => d (ix2 r e)) (fun e => μ (ix2 0 e)) (fun e j => w (ix2 e j)) j) := by
  pointwise [k0_pay24]; rfl

theorem pay25_apply (w : Vec Ideal S1024x128 .bf16) (j : Fin 128) :
    k0_pay25 x d μ w (ix2 r j)
      = proj (fun e => x (ix2 r e)) (fun e => d (ix2 r e)) (fun e => μ (ix2 0 e)) (fun e j => w (ix2 e j)) j := by
  pointwise [k0_pay25]; rfl

end

/-! ## The normed key, 128 lanes at a time -/

/-- The lanes `o` to `o + 127` of the key, scaled. -/
def scaled (o : Fin 8) (K : FVec Ideal S256x1024 .f32) (kk : Vec Ideal S1x128 .f32) : FVec Ideal S256x128 .f32 :=
  fun i => K (ix2 (i 0) ⟨128 * o.val + (i 1).val, by have := (i 1).isLt; have : (i 1).val < 128 := this; omega⟩) * kk (ix2 0 (i 1))

/-- Two arrays of 256 rows of 128 agree when they agree at every row and lane. -/
theorem rows_ext {A B : FVec Ideal S256x128 .f32} (h : ∀ (r : Fin 256) (c : Fin 128), A (ix2 r c) = B (ix2 r c)) : A = B :=
  funext fun i => by
    have e : i = ix2 (i 0) (i 1) := funext fun a => by fin_cases a <;> rfl
    rw [e]; exact h _ _

theorem pay38_apply (kc : FVec Ideal S256x128 .f32) (hf : ∀ i, Finite (kc i)) (r : Fin 256) (c : Fin 128) :
    k0_pay38 (k0_pay19 (F := Ideal) k0_pay16 k0_pay17 k0_pay18) kc (ix3 0 r c)
      = 0 - kc (ix2 r c) * Ideal.rsqrt (headSum (fun x => kc (ix2 r x) * kc (ix2 r x)) c + Ideal.ofBits FTy.f32 730643660#32) := by
  rw [← sum_hi_lo (fun x => kc (ix2 r x) * kc (ix2 r x)) (fun x => (hf _).mul (hf _)) c]
  simp only [← ones_apply]
  generalize k0_pay19 (F := Ideal) k0_pay16 k0_pay17 k0_pay18 = ones
  pointwise [k0_pay38]

section
variable (ones : FVec Ideal S128x128 .bf16) (K : FVec Ideal S256x1024 .f32) (kk : Vec Ideal S1x128 .f32)

theorem key_0 : k0_pay30 ones (k0_pay26 K kk) (k0_pay28 K kk) (k0_pay29 K kk) = k0_pay38 ones (scaled 0 K kk) :=
  (rfl : _ = k0_pay38 ones (k0_pay26 K kk)).trans (congrArg _ (rows_ext fun r c => by pointwise [k0_pay26, scaled]))
theorem key_1 : k0_pay31 ones K kk = k0_pay38 ones (scaled 1 K kk) :=
  (rfl : _ = k0_pay38 ones (mulf (extractStridedSlice S256x128 ![0, 128] K slices_S256x1024_o0_128_S256x128) (broadcastTo S256x128 kk broadcasts_S1x128_S256x128))).trans
    (congrArg _ (rows_ext fun r c => by pointwise [scaled]))
theorem key_2 : k0_pay35 ones (k0_pay32 K kk) (k0_pay33 K kk) (k0_pay34 K kk) = k0_pay38 ones (scaled 2 K kk) :=
  (rfl : _ = k0_pay38 ones (k0_pay32 K kk)).trans (congrArg _ (rows_ext fun r c => by pointwise [k0_pay32, scaled]))
theorem key_3 : k0_pay36 ones K kk = k0_pay38 ones (scaled 3 K kk) :=
  (rfl : _ = k0_pay38 ones (mulf (extractStridedSlice S256x128 ![0, 384] K slices_S256x1024_o0_384_S256x128) (broadcastTo S256x128 kk broadcasts_S1x128_S256x128))).trans
    (congrArg _ (rows_ext fun r c => by pointwise [scaled]))
theorem key_4 : k0_pay38 ones (k0_pay37 K kk) = k0_pay38 ones (scaled 4 K kk) :=
  congrArg _ (rows_ext fun r c => by pointwise [k0_pay37, scaled])
theorem key_5 : k0_pay39 ones K kk = k0_pay38 ones (scaled 5 K kk) :=
  (rfl : _ = k0_pay38 ones (mulf (extractStridedSlice S256x128 ![0, 640] K slices_S256x1024_o0_640_S256x128) (broadcastTo S256x128 kk broadcasts_S1x128_S256x128))).trans
    (congrArg _ (rows_ext fun r c => by pointwise [scaled]))
theorem key_6 : k0_pay41 ones (k0_pay40 K) kk = k0_pay38 ones (scaled 6 K kk) :=
  (rfl : _ = k0_pay38 ones (mulf (k0_pay40 K) (broadcastTo S256x128 kk broadcasts_S1x128_S256x128))).trans
    (congrArg _ (rows_ext fun r c => by pointwise [k0_pay40, scaled]))
theorem key_7 : k0_pay42 ones K kk = k0_pay38 ones (scaled 7 K kk) :=
  (rfl : _ = k0_pay38 ones (mulf (extractStridedSlice S256x128 ![0, 896] K slices_S256x1024_o0_896_S256x128) (broadcastTo S256x128 kk broadcasts_S1x128_S256x128))).trans
    (congrArg _ (rows_ext fun r c => by pointwise [scaled]))

end

/-! ## The two directions -/

theorem mask0_apply (r : Fin 256) (c : Fin 128) : k0_pay44 (iota .tc S256x128 32 [1] iota_S256x128_d1_w32) (ix2 r c) = if c.val / 64 = 0 then 1#1 else 0#1 := by
  pointwise [k0_pay44]
  rw [half_word]
  exact cmp_word (c.val / 64) 0 (by omega) (by omega)

theorem mask1_apply (r : Fin 256) (c : Fin 128) : k0_pay51 (iota .tc S256x128 32 [1] iota_S256x128_d1_w32) (ix2 r c) = if c.val / 64 = 1 then 1#1 else 0#1 := by
  pointwise [k0_pay51]
  rw [half_word]
  exact cmp_word (c.val / 64) 1 (by omega) (by omega)

/-- Of the 128 hidden lanes the mask leaves one direction's 64. -/
theorem sum_masked (k : Fin 2) (h : Fin 128 → EReal) (w : Fin 128 → Fin 1024 → EReal) (c : Fin 1024) :
    ∑ x : Fin 128, Scalar.select (if x.val / 64 = k.val then 1#1 else 0#1) (h x * w x c) 0 = low k h w c := by
  unfold low
  simp only [select_word]
  rw [sum_split (m := 64) (n := 64) rfl]
  fin_cases k
  · have lo : ∀ e : Fin 64, (if e.val / 64 = 0 then h ⟨e.val, by omega⟩ * w ⟨e.val, by omega⟩ c else (0 : EReal))
        = h ⟨64 * 0 + e.val, by omega⟩ * w ⟨64 * 0 + e.val, by omega⟩ c := fun e => by
      rw [if_pos (by omega)]; simp only [Nat.mul_zero, Nat.zero_add]
    have hi : ∀ e : Fin 64, (if (64 + e.val) / 64 = 0 then h ⟨64 + e.val, by omega⟩ * w ⟨64 + e.val, by omega⟩ c else (0 : EReal)) = 0 :=
      fun e => by rw [if_neg (by omega)]
    simp only [lo, hi, Finset.sum_const_zero, add_zero]
  · have lo : ∀ e : Fin 64, (if e.val / 64 = 1 then h ⟨e.val, by omega⟩ * w ⟨e.val, by omega⟩ c else (0 : EReal)) = 0 :=
      fun e => by rw [if_neg (by omega)]
    have hi : ∀ e : Fin 64, (if (64 + e.val) / 64 = 1 then h ⟨64 + e.val, by omega⟩ * w ⟨64 + e.val, by omega⟩ c else (0 : EReal))
        = h ⟨64 * 1 + e.val, by omega⟩ * w ⟨64 * 1 + e.val, by omega⟩ c := fun e => by
      rw [if_pos (by omega)]
    simp only [lo, hi, Finset.sum_const_zero, zero_add]

section
variable (h : FVec Ideal S256x128 .f32) (z0 : Vec Ideal S1x1024 .f32) (w : Vec Ideal S128x1024 .bf16) (r : Fin 256) (c : Fin 1024)

theorem low0_eq : ∑ x : Fin 128, Scalar.select (k0_pay44 (iota .tc S256x128 32 [1] iota_S256x128_d1_w32) (ix2 r x)) (h (ix2 r x) * w (ix2 x c)) (0 : EReal)
    = low 0 (fun j => h (ix2 r j)) (fun j c => w (ix2 j c)) c := by
  refine (Finset.sum_congr rfl fun x _ => congrArg (fun b => Scalar.select b (h (ix2 r x) * w (ix2 x c)) (0 : EReal)) (mask0_apply r x)).trans ?_
  exact sum_masked 0 (fun j => h (ix2 r j)) (fun j c => w (ix2 j c)) c

theorem low1_eq : ∑ x : Fin 128, Scalar.select (k0_pay51 (iota .tc S256x128 32 [1] iota_S256x128_d1_w32) (ix2 r x)) (h (ix2 r x) * w (ix2 x c)) (0 : EReal)
    = low 1 (fun j => h (ix2 r j)) (fun j c => w (ix2 j c)) c := by
  refine (Finset.sum_congr rfl fun x _ => congrArg (fun b => Scalar.select b (h (ix2 r x) * w (ix2 x c)) (0 : EReal)) (mask1_apply r x)).trans ?_
  exact sum_masked 1 (fun j => h (ix2 r j)) (fun j c => w (ix2 j c)) c

theorem decay0_apply :
    k0_pay47 (k0_pay45 (iota .tc S256x128 32 [1] iota_S256x128_d1_w32) h z0 w) (k0_pay46 (iota .tc S256x128 32 [1] iota_S256x128_d1_w32) h z0 w) (ix3 0 r c)
      = decay (z0 (ix2 0 c) + low 0 (fun j => h (ix2 r j)) (fun j c => w (ix2 j c)) c) := by
  rw [← low0_eq]
  pointwise [k0_pay47, k0_pay46, k0_pay45]
  simp only [decay, zero_sub]
  rfl

theorem decay1_apply :
    k0_pay53 (k0_pay52 (iota .tc S256x128 32 [1] iota_S256x128_d1_w32) h z0 w) (ix3 0 r c)
      = decay (z0 (ix2 0 c) + low 1 (fun j => h (ix2 r j)) (fun j c => w (ix2 j c)) c) := by
  rw [← low1_eq]
  pointwise [k0_pay53, k0_pay52]
  simp only [decay, zero_sub]
  rfl

theorem step0_apply :
    k0_pay48 h (k0_pay44 (iota .tc S256x128 32 [1] iota_S256x128_d1_w32)) z0 w (ix2 r c)
      = Ideal.logistic (z0 (ix2 0 c) + low 0 (fun j => h (ix2 r j)) (fun j c => w (ix2 j c)) c) := by
  rw [← low0_eq]
  generalize k0_pay44 (iota .tc S256x128 32 [1] iota_S256x128_d1_w32) = s
  pointwise [k0_pay48]

theorem step1_apply :
    k0_pay54 h (k0_pay51 (iota .tc S256x128 32 [1] iota_S256x128_d1_w32)) z0 w (ix2 r c)
      = Ideal.logistic (z0 (ix2 0 c) + low 1 (fun j => h (ix2 r j)) (fun j c => w (ix2 j c)) c) := by
  rw [← low1_eq]
  generalize k0_pay51 (iota .tc S256x128 32 [1] iota_S256x128_d1_w32) = s
  pointwise [k0_pay54]

variable (K : FVec Ideal S256x1024 .f32) (ka : Vec Ideal S1x1024 .f32)

theorem pay49_apply :
    k0_pay49 K h (k0_pay44 (iota .tc S256x128 32 [1] iota_S256x128_d1_w32)) z0 w ka (ix3 0 r c)
      = stepKey (K (ix2 r c)) (Ideal.logistic (z0 (ix2 0 c) + low 0 (fun j => h (ix2 r j)) (fun j c => w (ix2 j c)) c)) (ka (ix2 0 c)) := by
  rw [← step0_apply]
  generalize k0_pay44 (iota .tc S256x128 32 [1] iota_S256x128_d1_w32) = s
  pointwise [k0_pay49, k0_pay48]
  rfl

theorem pay55_apply :
    k0_pay1 (k0_pay55 K h (k0_pay51 (iota .tc S256x128 32 [1] iota_S256x128_d1_w32)) z0 w ka) (ix3 0 r c)
      = stepKey (K (ix2 r c)) (Ideal.logistic (z0 (ix2 0 c) + low 1 (fun j => h (ix2 r j)) (fun j c => w (ix2 j c)) c)) (ka (ix2 0 c)) := by
  rw [← step1_apply]
  generalize k0_pay51 (iota .tc S256x128 32 [1] iota_S256x128_d1_w32) = s
  pointwise [k0_pay1, k0_pay55, k0_pay54]
  rfl

end

theorem pay43_apply (v : Vec Ideal S1x256x1024 .f32) (r : Fin 256) (c : Fin 1024) : k0_pay43 v (ix2 r c) = 0 - v (ix3 0 r c) := by
  pointwise [k0_pay43]

theorem pay50_apply (v w : FVec Ideal S256x1024 .f32) (r : Fin 256) (c : Fin 1024) : k0_pay50 v w (ix3 0 r c) = v (ix2 r c) * w (ix2 r c) := by
  pointwise [k0_pay50]

theorem pay2_apply (v w : FVec Ideal S256x1024 .f32) (r : Fin 256) (c : Fin 1024) : k0_pay2 v w (ix3 0 r c) = v (ix2 r c) * w (ix2 r c) := by
  pointwise [k0_pay2]

end Cert.Mix

end
-- ==== Proof.MixBlock.lean ====
/-
  What a point of the projections leaves in its outputs' blocks: the rows above and below in one buffer, the shifted rows read
  out of it a quarter of the lanes at a time, and from them the blocks.
-/
module

public import proofs.«01_k».proof.Proof.MixPay
public import proofs.«01_k».proof.Proof.MixFrame

@[expose] public section

set_option maxRecDepth 16384

noncomputable section

namespace Cert.Mix

open Idealize.ShloMosaic Idealize.ShloMosaic.TcCoe Idealize.ShloMosaic.Pipeline Idealize.ShloMosaic.Tactic
open Cert.RwkvIdeal Cert.RwkvIdeal.Gen Cert.MixIdeal Cert.Layer

section
variable (i : grid0.Coords) (x0 : Vec Ideal S1x256x1024 .f32) (x1 x2 : Vec Ideal S1x64x1024 .f32)

/-- The buffer of 384 rows: 64 rows above the block, the block, 64 rows below; zero where the sequence ends. -/
def extAt (r : Fin 384) (c : Fin 1024) : EReal :=
  if h : r.val < 64 then (if (i 1).val = 0 then 0 else x1 (ix3 0 ⟨r.val, h⟩ c))
  else if h' : r.val < 320 then x0 (ix3 0 ⟨r.val - 64, by omega⟩ c)
  else if (i 1).val = 15 then 0 else x2 (ix3 0 ⟨r.val - 320, by omega⟩ c)

/-- The three stores that fill the buffer. -/
abbrev extL : List (View.Piece (Elt Ideal) S384x1024 .f32) :=
  [⟨Rect.unit ![320, 0] ![64, 1024] inb_S384x1024_S64x1024_320_0, k0_pay6 i x2⟩,
    ⟨Rect.unit ![64, 0] ![256, 1024] inb_S384x1024_S256x1024_64_0, k0_pay5 x0⟩,
    ⟨Rect.unit ![0, 0] ![64, 1024] inb_S384x1024_S64x1024_0_0, k0_pay4 i x1⟩]

theorem ext_canon (y : S384x1024.Idx) : View.canon (extL i x0 x1 x2) y = extAt i x0 x1 x2 (y 0) (y 1) := by
  refine View.canon_apply_of_pieces (Val := Elt Ideal) (e := .f32) (fun y => extAt i x0 x1 x2 (y 0) (y 1)) _ ?_ y ?_
  · intro p hp
    simp only [extL, List.mem_cons, List.not_mem_nil, or_false] at hp
    rcases hp with rfl | rfl | rfl
    · intro x
      obtain ⟨r, c, rfl⟩ : ∃ (r : Fin 64) (c : Fin 1024), x = ix2 r c := ⟨x 0, x 1, eq_ix2 x⟩
      refine (pay6_apply i x2 r c).trans ?_
      change _ = extAt i x0 x1 x2 ⟨320 + 1 * r.val, by omega⟩ ⟨0 + 1 * c.val, by omega⟩
      simp only [extAt]
      rw [dif_neg (by omega), dif_neg (by omega)]
      have e1 : (⟨320 + 1 * r.val - 320, by omega⟩ : Fin 64) = r := Fin.ext (by simp)
      have e2 : (⟨0 + 1 * c.val, by omega⟩ : Fin 1024) = c := Fin.ext (by simp)
      rw [e1, e2]
    · intro x
      obtain ⟨r, c, rfl⟩ : ∃ (r : Fin 256) (c : Fin 1024), x = ix2 r c := ⟨x 0, x 1, eq_ix2 x⟩
      refine (pay5_apply x0 r c).trans ?_
      change _ = extAt i x0 x1 x2 ⟨64 + 1 * r.val, by omega⟩ ⟨0 + 1 * c.val, by omega⟩
      simp only [extAt]
      rw [dif_neg (by omega), dif_pos (by omega)]
      have e1 : (⟨64 + 1 * r.val - 64, by omega⟩ : Fin 256) = r := Fin.ext (by simp)
      have e2 : (⟨0 + 1 * c.val, by omega⟩ : Fin 1024) = c := Fin.ext (by simp)
      rw [e1, e2]
    · intro x
      obtain ⟨r, c, rfl⟩ : ∃ (r : Fin 64) (c : Fin 1024), x = ix2 r c := ⟨x 0, x 1, eq_ix2 x⟩
      refine (pay4_apply i x1 r c).trans ?_
      change _ = extAt i x0 x1 x2 ⟨0 + 1 * r.val, by omega⟩ ⟨0 + 1 * c.val, by omega⟩
      simp only [extAt]
      rw [dif_pos (by omega)]
      have e1 : (⟨0 + 1 * r.val, by omega⟩ : Fin 64) = r := Fin.ext (by simp)
      have e2 : (⟨0 + 1 * c.val, by omega⟩ : Fin 1024) = c := Fin.ext (by simp)
      rw [e1, e2]
  · have h0 : (y 0).val < 384 := (y 0).isLt
    have h1 : (y 1).val < 1024 := (y 1).isLt
    by_cases hl : (y 0).val < 64
    · refine ⟨_, List.mem_cons_of_mem _ (List.mem_cons_of_mem _ List.mem_cons_self), Rect.mem_set_unit (inb := inb_S384x1024_S64x1024_0_0).mpr ?_⟩
      exact Fin.forall_fin_two.mpr ⟨⟨Nat.zero_le _, by show (y 0).val < 0 + 64; omega⟩, ⟨Nat.zero_le _, by show (y 1).val < 0 + 1024; omega⟩⟩
    · by_cases hm : (y 0).val < 320
      · refine ⟨_, List.mem_cons_of_mem _ List.mem_cons_self, Rect.mem_set_unit (inb := inb_S384x1024_S256x1024_64_0).mpr ?_⟩
        exact Fin.forall_fin_two.mpr ⟨⟨by show 64 ≤ (y 0).val; omega, by show (y 0).val < 64 + 256; omega⟩, ⟨Nat.zero_le _, by show (y 1).val < 0 + 1024; omega⟩⟩
      · refine ⟨_, List.mem_cons_self, Rect.mem_set_unit (inb := inb_S384x1024_S64x1024_320_0).mpr ?_⟩
        exact Fin.forall_fin_two.mpr ⟨⟨by show 320 ≤ (y 0).val; omega, by show (y 0).val < 320 + 64; omega⟩, ⟨Nat.zero_le _, by show (y 1).val < 0 + 1024; omega⟩⟩

/-- A load of 256 rows and 256 lanes of the buffer. -/
theorem ext_load (a b : ℕ) (inb : ∀ k, (![a, b] : Fin 2 → ℕ) k + (![256, 256] : Fin 2 → ℕ) k ≤ S384x1024.size k) (r c : Fin 256) (ha : a ≤ 128) (hb : b ≤ 768) :
    (View.whole cc0_scratch0).readCov (extL i x0 x1 x2) (Rect.unit (s := S384x1024) ![a, b] ![256, 256] inb).toLoadRect (ix2 r c)
      = extAt i x0 x1 x2 ⟨a + r.val, by omega⟩ ⟨b + c.val, by omega⟩ := by
  rw [View.readCov_eq_canon']
  refine (ext_canon i x0 x1 x2 _).trans ?_
  congr 1
  · exact Fin.ext (by show a + 1 * r.val = a + r.val; omega)
  · exact Fin.ext (by show b + 1 * c.val = b + c.val; omega)

/-- The shifted rows of a block. -/
def shAt (r : Fin 256) (c : Fin 1024) : EReal :=
  if c.val < 256 then (if r.val % 64 = 0 then 0 else extAt i x0 x1 x2 ⟨63 + r.val, by omega⟩ c)
  else if c.val < 512 then (if r.val % 64 = 63 then 0 else extAt i x0 x1 x2 ⟨65 + r.val, by omega⟩ c)
  else if c.val < 768 then extAt i x0 x1 x2 ⟨0 + r.val, by omega⟩ c
  else extAt i x0 x1 x2 ⟨128 + r.val, by omega⟩ c

/-- The four stores that fill the shifted rows. -/
abbrev shL : List (View.Piece (Elt Ideal) S256x1024 .f32) :=
  [⟨Rect.unit ![0, 768] ![256, 256] inb_S256x1024_S256x256_0_768,
      k0_pay14 ((View.whole cc0_scratch0).readCov (extL i x0 x1 x2) (Rect.unit ![128, 768] ![256, 256] inb_S384x1024_S256x256_128_768).toLoadRect)⟩,
    ⟨Rect.unit ![0, 512] ![256, 256] inb_S256x1024_S256x256_0_512,
      k0_pay13 ((View.whole cc0_scratch0).readCov (extL i x0 x1 x2) (Rect.unit ![0, 512] ![256, 256] inb_S384x1024_S256x256_0_512).toLoadRect)⟩,
    ⟨Rect.unit ![0, 256] ![256, 256] inb_S256x1024_S256x256_0_256,
      k0_pay12 64#32 k0_pay7 k0_pay8 k0_pay9 0#32
        ((View.whole cc0_scratch0).readCov (extL i x0 x1 x2) (Rect.unit ![65, 256] ![256, 256] inb_S384x1024_S256x256_65_256).toLoadRect)⟩,
    ⟨Rect.unit ![0, 0] ![256, 256] inb_S256x1024_S256x256_0_0,
      k0_pay11 64#32 k0_pay7 k0_pay8 k0_pay9 0#32
        ((View.whole cc0_scratch0).readCov (extL i x0 x1 x2) (Rect.unit ![63, 0] ![256, 256] inb_S384x1024_S256x256_63_0).toLoadRect)⟩]

/-- Four stores of 256 lanes each leave what they agree with. -/
theorem quarters_canon (G : Fin 256 → Fin 1024 → EReal) (w0 w1 w2 w3 : FVec Ideal S256x256 .f32)
    (h0 : ∀ r c : Fin 256, w0 (ix2 r c) = G r ⟨c.val, by omega⟩) (h1 : ∀ r c : Fin 256, w1 (ix2 r c) = G r ⟨256 + c.val, by omega⟩)
    (h2 : ∀ r c : Fin 256, w2 (ix2 r c) = G r ⟨512 + c.val, by omega⟩) (h3 : ∀ r c : Fin 256, w3 (ix2 r c) = G r ⟨768 + c.val, by omega⟩)
    (y : S256x1024.Idx) :
    View.canon (Val := Elt Ideal) (e := .f32) (s := S256x1024) [⟨Rect.unit ![0, 768] ![256, 256] inb_S256x1024_S256x256_0_768, w3⟩,
      ⟨Rect.unit ![0, 512] ![256, 256] inb_S256x1024_S256x256_0_512, w2⟩,
      ⟨Rect.unit ![0, 256] ![256, 256] inb_S256x1024_S256x256_0_256, w1⟩,
      ⟨Rect.unit ![0, 0] ![256, 256] inb_S256x1024_S256x256_0_0, w0⟩] y = G (y 0) (y 1) := by
  refine View.canon_apply_of_pieces (Val := Elt Ideal) (e := .f32) (fun y => G (y 0) (y 1)) _ ?_ y ?_
  · intro p hp
    simp only [List.mem_cons, List.not_mem_nil, or_false] at hp
    rcases hp with rfl | rfl | rfl | rfl
    all_goals
      intro x
      obtain ⟨r, c, rfl⟩ : ∃ (r c : Fin 256), x = ix2 r c := ⟨x 0, x 1, eq_ix2 x⟩
      have er : (⟨0 + 1 * r.val, by omega⟩ : Fin 256) = r := Fin.ext (by simp)
    · refine (h3 r c).trans ?_
      change _ = G ⟨0 + 1 * r.val, by omega⟩ ⟨768 + 1 * c.val, by omega⟩
      rw [er]; congr 1; exact Fin.ext (by simp)
    · refine (h2 r c).trans ?_
      change _ = G ⟨0 + 1 * r.val, by omega⟩ ⟨512 + 1 * c.val, by omega⟩
      rw [er]; congr 1; exact Fin.ext (by simp)
    · refine (h1 r c).trans ?_
      change _ = G ⟨0 + 1 * r.val, by omega⟩ ⟨256 + 1 * c.val, by omega⟩
      rw [er]; congr 1; exact Fin.ext (by simp)
    · refine (h0 r c).trans ?_
      change _ = G ⟨0 + 1 * r.val, by omega⟩ ⟨0 + 1 * c.val, by omega⟩
      rw [er]; congr 1; exact Fin.ext (by simp)
  · exact View.cover_of_tiledL _ ![256, 256] (by sl_kernel_rfl) y

theorem sh_canon (y : S256x1024.Idx) : View.canon (shL i x0 x1 x2) y = shAt i x0 x1 x2 (y 0) (y 1) := by
  refine quarters_canon (shAt i x0 x1 x2) _ _ _ _ (fun r c => ?_) (fun r c => ?_) (fun r c => ?_) (fun r c => ?_) y
  · rw [pay11_apply, ext_load i x0 x1 x2 63 0 _ r c (by omega) (by omega)]
    have e : (⟨0 + c.val, by omega⟩ : Fin 1024) = ⟨c.val, by omega⟩ := Fin.ext (by simp)
    unfold shAt
    dsimp only
    rw [if_pos (show c.val < 256 by omega), e]
  · rw [pay12_apply, ext_load i x0 x1 x2 65 256 _ r c (by omega) (by omega)]
    unfold shAt
    dsimp only
    rw [if_neg (show ¬ (256 + c.val < 256) by omega), if_pos (show 256 + c.val < 512 by omega)]
  · rw [pay13_apply, ext_load i x0 x1 x2 0 512 _ r c (by omega) (by omega)]
    unfold shAt
    dsimp only
    rw [if_neg (show ¬ (512 + c.val < 256) by omega), if_neg (show ¬ (512 + c.val < 512) by omega), if_pos (show 512 + c.val < 768 by omega)]
  · rw [pay14_apply, ext_load i x0 x1 x2 128 768 _ r c (by omega) (by omega)]
    unfold shAt
    dsimp only
    rw [if_neg (show ¬ (768 + c.val < 256) by omega), if_neg (show ¬ (768 + c.val < 512) by omega), if_neg (show ¬ (768 + c.val < 768) by omega)]

/-- The load of all shifted rows. -/
theorem sh_load : (View.whole cc0_scratch1).readCov (shL i x0 x1 x2) (Rect.unit (s := S256x1024) ![0, 0] ![256, 1024] inb_S256x1024_S256x1024_0_0).toLoadRect
    = (fun y => shAt i x0 x1 x2 (y 0) (y 1) : FVec Ideal S256x1024 .f32) := by
  rw [View.readCov_eq_canon']
  funext y
  refine (sh_canon i x0 x1 x2 _).trans ?_
  congr 1
  · exact Fin.ext (by show 0 + 1 * (y 0).val = _; omega)
  · exact Fin.ext (by show 0 + 1 * (y 1).val = _; omega)

/-- A row of a block, and its difference to the shifted row. -/
def xr (r : Fin 256) (e : Fin 1024) : EReal := x0 (ix3 0 r e)
def dr (r : Fin 256) (e : Fin 1024) : EReal := shAt i x0 x1 x2 r e - x0 (ix3 0 r e)

/-- The same as arrays. -/
abbrev XB : FVec Ideal S256x1024 .f32 := k0_pay3 x0
abbrev DB : FVec Ideal S256x1024 .f32 := k0_pay15 (k0_pay3 x0) (fun y => shAt i x0 x1 x2 (y 0) (y 1) : FVec Ideal S256x1024 .f32)

theorem XB_row (r : Fin 256) : (fun e => XB x0 (ix2 r e)) = xr x0 r := funext fun e => pay3_apply x0 r e

theorem DB_row (r : Fin 256) : (fun e => DB i x0 x1 x2 (ix2 r e)) = dr i x0 x1 x2 r := funext fun e =>
  (pay15_apply _ _ r e).trans (congrArg (shAt i x0 x1 x2 r e - ·) (pay3_apply x0 r e))

end

/-! ## Loads of the arguments -/

theorem ld_block (x : Vec Ideal S1x256x1024 .f32) (inb) : View.ld x (Rect.unit (s := S1x256x1024) ![0, 0, 0] ![1, 256, 1024] inb) = x :=
  View.ld_unit_zero hz3 inb x
theorem ld_halo (x : Vec Ideal S1x64x1024 .f32) (inb) : View.ld x (Rect.unit (s := S1x64x1024) ![0, 0, 0] ![1, 64, 1024] inb) = x :=
  View.ld_unit_zero hz3 inb x
theorem ld_square (x : Vec Ideal S1024x1024 .bf16) (inb) : View.ld x (Rect.unit (s := S1024x1024) ![0, 0] ![1024, 1024] inb) = x :=
  View.ld_unit_zero hz2 inb x
theorem ld_down (x : Vec Ideal S1024x128 .bf16) (inb) : View.ld x (Rect.unit (s := S1024x128) ![0, 0] ![1024, 128] inb) = x :=
  View.ld_unit_zero hz2 inb x
theorem ld_up (x : Vec Ideal S128x1024 .bf16) (inb) : View.ld x (Rect.unit (s := S128x1024) ![0, 0] ![128, 1024] inb) = x :=
  View.ld_unit_zero hz2 inb x
theorem ld_row (x : Vec Ideal S1x1024 .f32) (inb) : View.ld x (Rect.unit (s := S1x1024) ![0, 0] ![1, 1024] inb) = x :=
  View.ld_unit_zero hz2 inb x

/-- One of the six weights of the mixes. -/
theorem ld_mix (x : Vec Ideal S6x1024 .f32) (k : ℕ) (hk : k < 6) (inb) :
    (fun e => View.ld x (Rect.unit (s := S6x1024) ![k, 0] ![1, 1024] inb) (ix2 0 e)) = fun e => x (ix2 ⟨k, hk⟩ e) := funext fun e =>
  congrArg x (funext fun a => by fin_cases a <;> exact Fin.ext (by simp))

/-- One of the two directions' rows. -/
theorem ld_dir (x : Vec Ideal S2x1024 .f32) (k : ℕ) (hk : k < 2) (inb) (e : Fin 1024) :
    View.ld x (Rect.unit (s := S2x1024) ![k, 0] ![1, 1024] inb) (ix2 0 e) = x (ix2 ⟨k, hk⟩ e) :=
  congrArg x (funext fun a => by fin_cases a <;> exact Fin.ext (by simp))

/-- 128 lanes of a row. -/
theorem ld_lanes (x : Vec Ideal S1x1024 .f32) (o : ℕ) (inb) (c : Fin 128) (h : o + c.val < 1024) :
    View.ld x (Rect.unit (s := S1x1024) ![0, o] ![1, 128] inb) (ix2 0 c) = x (ix2 0 ⟨o + c.val, h⟩) :=
  congrArg x (funext fun a => by fin_cases a <;> exact Fin.ext (by simp))

/-! ## The normed key, stored 128 lanes at a time -/

/-- A store of 128 lanes agrees with the whole at its lanes. -/
theorem lane_piece (G : Fin 256 → Fin 1024 → EReal) (o : ℕ) (inb) (w : FVec Ideal S1x256x128 .f32)
    (h : ∀ (r : Fin 256) (c : Fin 128) (hc : o + c.val < 1024), w (ix3 0 r c) = G r ⟨o + c.val, hc⟩) (x : S1x256x128.Idx) :
    w x = (fun y : S1x256x1024.Idx => G (y 1) (y 2)) ((Rect.unit (s := S1x256x1024) ![0, 0, o] ![1, 256, 128] inb).emb x) := by
  obtain ⟨r, c, rfl⟩ : ∃ (r : Fin 256) (c : Fin 128), x = ix3 0 r c :=
    ⟨x 1, x 2, funext fun a => by fin_cases a <;> first | rfl | exact Subsingleton.elim (α := Fin 1) _ _⟩
  have ho : o + 128 ≤ 1024 := inb 2
  refine (h r c (by omega)).trans (congrArg₂ G (Fin.ext ?_) (Fin.ext ?_))
  · show r.val = 0 + 1 * r.val; omega
  · show o + c.val = o + 1 * c.val; omega

section
variable (K : FVec Ideal S256x1024 .f32) (kk : Vec Ideal S1x1024 .f32)

/-- The eight stores of the normed key. -/
abbrev keyL : List (View.Piece (Elt Ideal) S1x256x1024 .f32) :=
  [⟨Rect.unit ![0, 0, 896] ![1, 256, 128] inb_S1x256x1024_S1x256x128_0_0_896,
      k0_pay42 (k0_pay19 k0_pay16 k0_pay17 k0_pay18) K (View.ld kk (Rect.unit ![0, 896] ![1, 128] inb_S1x1024_S1x128_0_896))⟩,
    ⟨Rect.unit ![0, 0, 768] ![1, 256, 128] inb_S1x256x1024_S1x256x128_0_0_768,
      k0_pay41 (k0_pay19 k0_pay16 k0_pay17 k0_pay18) (k0_pay40 K) (View.ld kk (Rect.unit ![0, 768] ![1, 128] inb_S1x1024_S1x128_0_768))⟩,
    ⟨Rect.unit ![0, 0, 640] ![1, 256, 128] inb_S1x256x1024_S1x256x128_0_0_640,
      k0_pay39 (k0_pay19 k0_pay16 k0_pay17 k0_pay18) K (View.ld kk (Rect.unit ![0, 640] ![1, 128] inb_S1x1024_S1x128_0_640))⟩,
    ⟨Rect.unit ![0, 0, 512] ![1, 256, 128] inb_S1x256x1024_S1x256x128_0_0_512,
      k0_pay38 (k0_pay19 k0_pay16 k0_pay17 k0_pay18) (k0_pay37 K (View.ld kk (Rect.unit ![0, 512] ![1, 128] inb_S1x1024_S1x128_0_512)))⟩,
    ⟨Rect.unit ![0, 0, 384] ![1, 256, 128] inb_S1x256x1024_S1x256x128_0_0_384,
      k0_pay36 (k0_pay19 k0_pay16 k0_pay17 k0_pay18) K (View.ld kk (Rect.unit ![0, 384] ![1, 128] inb_S1x1024_S1x128_0_384))⟩,
    ⟨Rect.unit ![0, 0, 256] ![1, 256, 128] inb_S1x256x1024_S1x256x128_0_0_256,
      k0_pay35 (k0_pay19 k0_pay16 k0_pay17 k0_pay18) (k0_pay32 K (View.ld kk (Rect.unit ![0, 256] ![1, 128] inb_S1x1024_S1x128_0_256)))
        (k0_pay33 K (View.ld kk (Rect.unit ![0, 256] ![1, 128] inb_S1x1024_S1x128_0_256)))
        (k0_pay34 K (View.ld kk (Rect.unit ![0, 256] ![1, 128] inb_S1x1024_S1x128_0_256)))⟩,
    ⟨Rect.unit ![0, 0, 128] ![1, 256, 128] inb_S1x256x1024_S1x256x128_0_0_128,
      k0_pay31 (k0_pay19 k0_pay16 k0_pay17 k0_pay18) K (View.ld kk (Rect.unit ![0, 128] ![1, 128] inb_S1x1024_S1x128_0_128))⟩,
    ⟨Rect.unit ![0, 0, 0] ![1, 256, 128] inb_S1x256x1024_S1x256x128_0_0_0,
      k0_pay30 (k0_pay19 k0_pay16 k0_pay17 k0_pay18) (k0_pay26 K (View.ld kk (Rect.unit ![0, 0] ![1, 128] inb_S1x1024_S1x128_0_0)))
        (k0_pay28 K (View.ld kk (Rect.unit ![0, 0] ![1, 128] inb_S1x1024_S1x128_0_0)))
        (k0_pay29 K (View.ld kk (Rect.unit ![0, 0] ![1, 128] inb_S1x1024_S1x128_0_0)))⟩]

/-- What the eight stores hold at a row: minus the normed key. -/
def negKey (r : Fin 256) (c : Fin 1024) : EReal := 0 - unitKey (fun e => K (ix2 r e) * kk (ix2 0 e)) c

theorem key_lanes (hf : ∀ (r : Fin 256) (e : Fin 1024), Finite (K (ix2 r e) * kk (ix2 0 e))) (o : Fin 8) (kko : Vec Ideal S1x128 .f32)
    (hk : ∀ (c : Fin 128) (h : 128 * o.val + c.val < 1024), kko (ix2 0 c) = kk (ix2 0 ⟨128 * o.val + c.val, h⟩)) (r : Fin 256) (c : Fin 128)
    (hc : 128 * o.val + c.val < 1024) :
    k0_pay38 (k0_pay19 (F := Ideal) k0_pay16 k0_pay17 k0_pay18) (scaled o K kko) (ix3 0 r c) = negKey K kk r ⟨128 * o.val + c.val, hc⟩ := by
  have hs : ∀ (r : Fin 256) (x : Fin 128), scaled o K kko (ix2 r x) = K (ix2 r ⟨128 * o.val + x.val, by omega⟩) * kk (ix2 0 ⟨128 * o.val + x.val, by omega⟩) :=
    fun r x => by rw [← hk x]; rfl
  rw [pay38_apply _ (fun i => by obtain ⟨r, x, rfl⟩ : ∃ (r : Fin 256) (x : Fin 128), i = ix2 r x := ⟨i 0, i 1, eq_ix2 i⟩; rw [hs]; exact hf _ _) r c]
  unfold negKey unitKey headSum
  simp only [hs]
  have hi : ∀ e : Fin 64, (⟨128 * o.val + (64 * (c.val / 64) + e.val), by omega⟩ : Fin 1024) = ⟨64 * ((128 * o.val + c.val) / 64) + e.val, by omega⟩ :=
    fun e => Fin.ext (by show 128 * o.val + (64 * (c.val / 64) + e.val) = 64 * ((128 * o.val + c.val) / 64) + e.val; omega)
  simp only [hi]

theorem key_canon (hf : ∀ (r : Fin 256) (e : Fin 1024), Finite (K (ix2 r e) * kk (ix2 0 e))) (y : S1x256x1024.Idx) :
    View.canon (keyL K kk) y = negKey K kk (y 1) (y 2) := by
  have hl : ∀ (o : ℕ) (inb) (c : Fin 128) (h : o + c.val < 1024), View.ld kk (Rect.unit (s := S1x1024) ![0, o] ![1, 128] inb) (ix2 0 c) = kk (ix2 0 ⟨o + c.val, h⟩) :=
    fun o inb c h => ld_lanes kk o inb c h
  refine View.canon_apply_of_pieces (Val := Elt Ideal) (e := .f32) (fun y => negKey K kk (y 1) (y 2)) _ ?_ y ?_
  · intro p hp
    rw [keyL, key_0, key_1, key_2, key_3, key_4, key_5, key_6, key_7] at hp
    simp only [List.mem_cons, List.not_mem_nil, or_false] at hp
    rcases hp with rfl | rfl | rfl | rfl | rfl | rfl | rfl | rfl
    · exact lane_piece _ 896 inb_S1x256x1024_S1x256x128_0_0_896 _ (key_lanes K kk hf 7 _ (hl 896 _))
    · exact lane_piece _ 768 inb_S1x256x1024_S1x256x128_0_0_768 _ (key_lanes K kk hf 6 _ (hl 768 _))
    · exact lane_piece _ 640 inb_S1x256x1024_S1x256x128_0_0_640 _ (key_lanes K kk hf 5 _ (hl 640 _))
    · exact lane_piece _ 512 inb_S1x256x1024_S1x256x128_0_0_512 _ (key_lanes K kk hf 4 _ (hl 512 _))
    · exact lane_piece _ 384 inb_S1x256x1024_S1x256x128_0_0_384 _ (key_lanes K kk hf 3 _ (hl 384 _))
    · exact lane_piece _ 256 inb_S1x256x1024_S1x256x128_0_0_256 _ (key_lanes K kk hf 2 _ (hl 256 _))
    · exact lane_piece _ 128 inb_S1x256x1024_S1x256x128_0_0_128 _ (key_lanes K kk hf 1 _ (hl 128 _))
    · exact lane_piece _ 0 inb_S1x256x1024_S1x256x128_0_0_0 _ (key_lanes K kk hf 0 _ (hl 0 _))
  · exact View.cover_of_tiledL (keyL K kk) ![1, 256, 128] (by sl_kernel_rfl) y

end

end Cert.Mix

end
-- ==== Proof.MixOut.lean ====
/-
  The ten blocks a point of the projections leaves, as the body's payloads of the arguments' blocks, and entry by entry.
-/
module

public import proofs.«01_k».proof.Proof.MixBlock

@[expose] public section

set_option maxRecDepth 16384

noncomputable section

namespace Cert.Mix

open Idealize.ShloMosaic Idealize.ShloMosaic.TcCoe Idealize.ShloMosaic.Pipeline Idealize.ShloMosaic.Tactic
open Cert.RwkvIdeal Cert.RwkvIdeal.Gen Cert.MixIdeal Cert.Layer

section
variable (i : grid0.Coords) (x0 : Vec Ideal S1x256x1024 .f32) (x1 x2 : Vec Ideal S1x64x1024 .f32) (μ : Vec Ideal S6x1024 .f32)

/-- The key's rows, and the hidden rows of the decay and of the step. -/
abbrev KB (wk : Vec Ideal S1024x1024 .bf16) : FVec Ideal S256x1024 .f32 :=
  k0_pay20 (XB x0) (DB i x0 x1 x2) (View.ld μ (Rect.unit ![2, 0] ![1, 1024] inb_S6x1024_S1x1024_2_0)) wk
abbrev HW (w1 : Vec Ideal S1024x128 .bf16) : FVec Ideal S256x128 .f32 :=
  k0_pay24 (XB x0) (DB i x0 x1 x2) (View.ld μ (Rect.unit ![1, 0] ![1, 1024] inb_S6x1024_S1x1024_1_0)) w1
abbrev HA (a1 : Vec Ideal S1024x128 .bf16) : FVec Ideal S256x128 .f32 :=
  k0_pay25 (XB x0) (DB i x0 x1 x2) (View.ld μ (Rect.unit ![4, 0] ![1, 1024] inb_S6x1024_S1x1024_4_0)) a1

/-- The lane numbers. -/
abbrev LN : IVec S256x128 32 := iota .tc S256x128 32 [1] iota_S256x128_d1_w32

end

variable (m : (ℓ : Loc nD τ sig) → Buf (Elt Ideal) ℓ)

section
variable (c : Dev nD) (t : Fin cfg0.N)

/-- The same of a point's blocks. -/
abbrev XBt : FVec Ideal S256x1024 .f32 := XB (iblk m c 0 t)
abbrev DBt : FVec Ideal S256x1024 .f32 := DB (grid0.coords t) (iblk m c 0 t) (iblk m c 1 t) (iblk m c 2 t)
abbrev KBt : FVec Ideal S256x1024 .f32 := KB (grid0.coords t) (iblk m c 0 t) (iblk m c 1 t) (iblk m c 2 t) (iblk m c 3 t) (iblk m c 5 t)
abbrev HWt : FVec Ideal S256x128 .f32 := HW (grid0.coords t) (iblk m c 0 t) (iblk m c 1 t) (iblk m c 2 t) (iblk m c 3 t) (iblk m c 9 t)
abbrev HAt : FVec Ideal S256x128 .f32 := HA (grid0.coords t) (iblk m c 0 t) (iblk m c 1 t) (iblk m c 2 t) (iblk m c 3 t) (iblk m c 11 t)

end

/-- A load of the whole of what the eight stores of the key left. -/
theorem key_load {κ : Kind} {sp : Space} (v : View sig κ sp S1x256x1024 .f32) (K : FVec Ideal S256x1024 .f32) (kk : Vec Ideal S1x1024 .f32) :
    v.readCov (keyL K kk) (Rect.unit (s := S1x256x1024) ![0, 0, 0] ![1, 256, 1024] inb_S1x256x1024_S1x256x1024_0_0_0).toLoadRect = View.canon (keyL K kk) := by
  rw [View.readCov_eq_canon']
  funext y
  refine congrArg (View.canon (keyL K kk)) (funext fun a => Fin.ext ?_)
  fin_cases a
  · show 0 + 1 * (y 0).val = (y 0).val; omega
  · show 0 + 1 * (y 1).val = (y 1).val; omega
  · show 0 + 1 * (y 2).val = (y 2).val; omega

set_option maxHeartbeats 1000000 in
/-- What a point leaves in the outputs, as the body computes it. -/
theorem outs_eq (c : Dev nD) (t : Fin cfg0.N) : outsAt0 m c t =
    (k0_pay22 (XBt m c t) (DBt m c t)
        (View.ld (iblk m c 3 t) (Rect.unit ![0, 0] ![1, 1024] inb_S6x1024_S1x1024_0_0)) (iblk m c 4 t),
      k0_pay23 (XBt m c t) (DBt m c t)
        (View.ld (iblk m c 3 t) (Rect.unit ![5, 0] ![1, 1024] inb_S6x1024_S1x1024_5_0)) (iblk m c 7 t) (iblk m c 8 t),
      k0_pay21 (XBt m c t) (DBt m c t)
        (View.ld (iblk m c 3 t) (Rect.unit ![3, 0] ![1, 1024] inb_S6x1024_S1x1024_3_0)) (iblk m c 6 t),
      View.canon (keyL (KBt m c t) (iblk m c 15 t)),
      k0_pay47 (k0_pay45 LN (HWt m c t) (View.ld (iblk m c 13 t) (Rect.unit ![0, 0] ![1, 1024] inb_S2x1024_S1x1024_0_0)) (iblk m c 10 t))
        (k0_pay46 LN (HWt m c t) (View.ld (iblk m c 13 t) (Rect.unit ![0, 0] ![1, 1024] inb_S2x1024_S1x1024_0_0)) (iblk m c 10 t)),
      k0_pay53 (k0_pay52 LN (HWt m c t) (View.ld (iblk m c 13 t) (Rect.unit ![1, 0] ![1, 1024] inb_S2x1024_S1x1024_1_0)) (iblk m c 10 t)),
      k0_pay49 (KBt m c t) (HAt m c t) (k0_pay44 LN) (View.ld (iblk m c 14 t) (Rect.unit ![0, 0] ![1, 1024] inb_S2x1024_S1x1024_0_0)) (iblk m c 12 t) (iblk m c 16 t),
      k0_pay1 (k0_pay55 (KBt m c t) (HAt m c t) (k0_pay51 LN) (View.ld (iblk m c 14 t) (Rect.unit ![1, 0] ![1, 1024] inb_S2x1024_S1x1024_1_0)) (iblk m c 12 t) (iblk m c 16 t)),
      k0_pay50 (k0_pay43 (View.canon (keyL (KBt m c t) (iblk m c 15 t))))
        (k0_pay48 (HAt m c t) (k0_pay44 LN) (View.ld (iblk m c 14 t) (Rect.unit ![0, 0] ![1, 1024] inb_S2x1024_S1x1024_0_0)) (iblk m c 12 t)),
      k0_pay2 (k0_pay43 (View.canon (keyL (KBt m c t) (iblk m c 15 t))))
        (k0_pay54 (HAt m c t) (k0_pay51 LN) (View.ld (iblk m c 14 t) (Rect.unit ![1, 0] ![1, 1024] inb_S2x1024_S1x1024_1_0)) (iblk m c 12 t))) := by
  unfold outsAt0
  simp only [out0_A_17_eq, out0_A_18_eq, out0_A_19_eq, out0_A_20_eq, out0_A_21_eq, out0_A_22_eq, out0_A_23_eq, out0_A_24_eq, out0_A_25_eq, out0_A_26_eq]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, (hs0_14 t).read_unread, (hs0_15 t).read_unread, (hs0_16 t).read_unread, ld_block, ld_halo, ld_square, ld_down, ld_row, ld_up, sh_load]
  refine congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ ?_))))))))
  · exact View.canon_cons_unit_zero hz3 _ _ _
  · exact View.canon_cons_unit_zero hz3 _ _ _
  · exact View.canon_cons_unit_zero hz3 _ _ _
  · rfl
  · exact View.canon_cons_unit_zero hz3 _ _ _
  · exact View.canon_cons_unit_zero hz3 _ _ _
  · exact View.canon_cons_unit_zero hz3 _ _ _
  · exact View.canon_cons_unit_zero hz3 _ _ _
  · exact (View.canon_cons_unit_zero (Val := Elt Ideal) (e := .f32) (S := S1x256x1024) hz3 inb_S1x256x1024_S1x256x1024_0_0_0 _ _).trans (congrArg (fun v => k0_pay50 (k0_pay43 v) _) (key_load _ _ _))
  · exact (View.canon_cons_unit_zero (Val := Elt Ideal) (e := .f32) (S := S1x256x1024) hz3 inb_S1x256x1024_S1x256x1024_0_0_0 _ _).trans (congrArg (fun v => k0_pay2 (k0_pay43 v) _) (key_load _ _ _))

/-! ## Entry by entry -/

section
variable (c : Dev nD) (t : Fin cfg0.N) (r : Fin 256) (e : Fin 1024)

/-- A row of the point's block and its difference to the shifted row. -/
abbrev xt : Fin 1024 → EReal := xr (iblk m c 0 t) r
abbrev dt : Fin 1024 → EReal := dr (grid0.coords t) (iblk m c 0 t) (iblk m c 1 t) (iblk m c 2 t) r
abbrev mt : Fin 6 → Fin 1024 → EReal := fun k e => (iblk m c 3 t : Vec Ideal S6x1024 .f32) (ix2 k e)

theorem rows_r : (outsAt0 m c t).1 (ix3 0 r e)
    = proj (xt m c t r) (dt m c t r) (mt m c t 0) (fun e c' => (iblk m c 4 t : Vec Ideal S1024x1024 .bf16) (ix2 e c')) e := by
  rw [outs_eq]
  refine (pay22_apply _ _ _ r _ e).trans ?_
  rw [XB_row, DB_row, ld_mix _ 0 (by decide)]; rfl

theorem rows_g : (outsAt0 m c t).2.1 (ix3 0 r e)
    = gate (xt m c t r) (dt m c t r) (mt m c t 5) (fun e j => (iblk m c 7 t : Vec Ideal S1024x128 .bf16) (ix2 e j))
        (fun j c' => (iblk m c 8 t : Vec Ideal S128x1024 .bf16) (ix2 j c')) e := by
  rw [outs_eq]
  refine (pay23_apply _ _ _ r _ _ e).trans ?_
  rw [XB_row, DB_row, ld_mix _ 5 (by decide)]; rfl

theorem rows_v : (outsAt0 m c t).2.2.1 (ix3 0 r e)
    = proj (xt m c t r) (dt m c t r) (mt m c t 3) (fun e c' => (iblk m c 6 t : Vec Ideal S1024x1024 .bf16) (ix2 e c')) e := by
  rw [outs_eq]
  refine (pay21_apply _ _ _ r _ e).trans ?_
  rw [XB_row, DB_row, ld_mix _ 3 (by decide)]; rfl

theorem KB_apply : KBt m c t (ix2 r e)
    = proj (xt m c t r) (dt m c t r) (mt m c t 2) (fun e c' => (iblk m c 5 t : Vec Ideal S1024x1024 .bf16) (ix2 e c')) e := by
  refine (pay20_apply _ _ _ r _ e).trans ?_
  rw [XB_row, DB_row, ld_mix _ 2 (by decide)]; rfl

theorem HW_row : (fun j => HWt m c t (ix2 r j))
    = fun j => Ideal.tanh (proj (xt m c t r) (dt m c t r) (mt m c t 1) (fun e j => (iblk m c 9 t : Vec Ideal S1024x128 .bf16) (ix2 e j)) j) := funext fun j => by
  refine (pay24_apply _ _ _ r _ j).trans ?_
  rw [XB_row, DB_row, ld_mix _ 1 (by decide)]; rfl

theorem HA_row : (fun j => HAt m c t (ix2 r j))
    = proj (xt m c t r) (dt m c t r) (mt m c t 4) (fun e j => (iblk m c 11 t : Vec Ideal S1024x128 .bf16) (ix2 e j)) := funext fun j => by
  refine (pay25_apply _ _ _ r _ j).trans ?_
  rw [XB_row, DB_row, ld_mix _ 4 (by decide)]; rfl

/-- The steps of the two directions at a row. -/
abbrev st (k : Fin 2) : Fin 1024 → EReal :=
  stepRow (xt m c t r) (dt m c t r) (mt m c t) k (fun k e => (iblk m c 14 t : Vec Ideal S2x1024 .f32) (ix2 k e))
    (fun e j => (iblk m c 11 t : Vec Ideal S1024x128 .bf16) (ix2 e j)) (fun j c' => (iblk m c 12 t : Vec Ideal S128x1024 .bf16) (ix2 j c'))

/-- The normed key at a row. -/
abbrev ut : Fin 1024 → EReal :=
  unitRow (xt m c t r) (dt m c t r) (mt m c t) (fun e c' => (iblk m c 5 t : Vec Ideal S1024x1024 .bf16) (ix2 e c'))
    (fun e => (iblk m c 15 t : Vec Ideal S1x1024 .f32) (ix2 0 e))

theorem rows_w0 : (outsAt0 m c t).2.2.2.2.1 (ix3 0 r e)
    = decayRow (xt m c t r) (dt m c t r) (mt m c t) 0 (fun k e => (iblk m c 13 t : Vec Ideal S2x1024 .f32) (ix2 k e))
        (fun e j => (iblk m c 9 t : Vec Ideal S1024x128 .bf16) (ix2 e j)) (fun j c' => (iblk m c 10 t : Vec Ideal S128x1024 .bf16) (ix2 j c')) e := by
  rw [outs_eq]
  refine (decay0_apply _ _ _ r e).trans ?_
  rw [HW_row, ld_dir _ 0 (by decide)]; rfl

theorem rows_w1 : (outsAt0 m c t).2.2.2.2.2.1 (ix3 0 r e)
    = decayRow (xt m c t r) (dt m c t r) (mt m c t) 1 (fun k e => (iblk m c 13 t : Vec Ideal S2x1024 .f32) (ix2 k e))
        (fun e j => (iblk m c 9 t : Vec Ideal S1024x128 .bf16) (ix2 e j)) (fun j c' => (iblk m c 10 t : Vec Ideal S128x1024 .bf16) (ix2 j c')) e := by
  rw [outs_eq]
  refine (decay1_apply _ _ _ r e).trans ?_
  rw [HW_row, ld_dir _ 1 (by decide)]; rfl

theorem rows_k0 : (outsAt0 m c t).2.2.2.2.2.2.1 (ix3 0 r e)
    = stepKey (proj (xt m c t r) (dt m c t r) (mt m c t 2) (fun e c' => (iblk m c 5 t : Vec Ideal S1024x1024 .bf16) (ix2 e c')) e) (st m c t r 0 e)
        ((iblk m c 16 t : Vec Ideal S1x1024 .f32) (ix2 0 e)) := by
  rw [outs_eq]
  refine (pay49_apply _ _ _ r e _ _).trans ?_
  rw [HA_row, ld_dir _ 0 (by decide), KB_apply]; rfl

theorem rows_k1 : (outsAt0 m c t).2.2.2.2.2.2.2.1 (ix3 0 r e)
    = stepKey (proj (xt m c t r) (dt m c t r) (mt m c t 2) (fun e c' => (iblk m c 5 t : Vec Ideal S1024x1024 .bf16) (ix2 e c')) e) (st m c t r 1 e)
        ((iblk m c 16 t : Vec Ideal S1x1024 .f32) (ix2 0 e)) := by
  rw [outs_eq]
  refine (pay55_apply _ _ _ r e _ _).trans ?_
  rw [HA_row, ld_dir _ 1 (by decide), KB_apply]; rfl

variable (hf : ∀ (r : Fin 256) (e : Fin 1024),
    Finite (proj (xt m c t r) (dt m c t r) (mt m c t 2) (fun e c' => (iblk m c 5 t : Vec Ideal S1024x1024 .bf16) (ix2 e c')) e
      * (iblk m c 15 t : Vec Ideal S1x1024 .f32) (ix2 0 e)))

include hf

theorem key_entry : View.canon (keyL (KBt m c t) (iblk m c 15 t)) (ix3 0 r e) = - ut m c t r e := by
  refine (key_canon (KBt m c t) (iblk m c 15 t) (fun r e => by rw [KB_apply]; exact hf r e) (ix3 0 r e)).trans ?_
  show negKey _ _ r e = _
  unfold negKey
  rw [zero_sub]
  simp only [KB_apply]
  rfl

theorem rows_n : (outsAt0 m c t).2.2.2.1 (ix3 0 r e) = - ut m c t r e := by
  rw [outs_eq]
  dsimp only
  exact key_entry m c t r e hf

theorem rows_b0 : (outsAt0 m c t).2.2.2.2.2.2.2.2.1 (ix3 0 r e) = ut m c t r e * st m c t r 0 e := by
  rw [outs_eq]
  refine (pay50_apply _ _ r e).trans ?_
  rw [pay43_apply, key_entry m c t r e hf, step0_apply, HA_row, ld_dir _ 0 (by decide), zero_sub, neg_neg]; rfl

theorem rows_b1 : (outsAt0 m c t).2.2.2.2.2.2.2.2.2 (ix3 0 r e) = ut m c t r e * st m c t r 1 e := by
  rw [outs_eq]
  refine (pay2_apply _ _ r e).trans ?_
  rw [pay43_apply, key_entry m c t r e hf, step1_apply, HA_row, ld_dir _ 1 (by decide), zero_sub, neg_neg]; rfl

end

end Cert.Mix

end
-- ==== Proof.MixWhole.lean ====
/-
  The ten results of the projections as formulas of whole arrays.
-/
module

public import proofs.«01_k».proof.Proof.MixRow

@[expose] public section

noncomputable section

namespace Cert.Mix

open Idealize.ShloMosaic Cert.Layer

local notation "Tok" => (Vec Ideal (⟨3, ![8, 4096, 1024]⟩ : Shape) EltTy.f32)

variable (x0 : Tok) (x1 : Vec Ideal (⟨2, ![6, 1024]⟩ : Shape) .f32) (w x3 : Vec Ideal (⟨2, ![1024, 1024]⟩ : Shape) .bf16)
  (x5 x7 x9 : Vec Ideal (⟨2, ![1024, 128]⟩ : Shape) .bf16) (x6 x8 x10 : Vec Ideal (⟨2, ![128, 1024]⟩ : Shape) .bf16)
  (x11 x12 : Vec Ideal (⟨2, ![2, 1024]⟩ : Shape) .f32) (x13 x14 : Vec Ideal (⟨2, ![1, 1024]⟩ : Shape) .f32)

/-- The row of a token, its difference to the shifted row, and the weights of the six mixes. -/
def tok (b : Fin 8) (t : Fin 4096) : Fin 1024 → EReal := fun e => x0 (ix3 b t e)
def dif (b : Fin 8) (t : Fin 4096) : Fin 1024 → EReal := diff (tok x0 b) t
def mus : Fin 6 → Fin 1024 → EReal := fun k e => x1 (ix2 k e)

/-- A product of mix `k`: the receptance, the key and the value. -/
def resProj (k : Fin 6) : Tok := fun i => proj (tok x0 (i 0) (i 1)) (dif x0 (i 0) (i 1)) (mus x1 k) (fun e c => w (ix2 e c)) (i 2)

/-- The gate. -/
def resGate : Tok := fun i =>
  gate (tok x0 (i 0) (i 1)) (dif x0 (i 0) (i 1)) (mus x1 5) (fun e j => x5 (ix2 e j)) (fun j c => x6 (ix2 j c)) (i 2)

/-- The normed key. -/
def resUnit : Tok := fun i =>
  unitRow (tok x0 (i 0) (i 1)) (dif x0 (i 0) (i 1)) (mus x1) (fun e c => x3 (ix2 e c)) (fun e => x13 (ix2 0 e)) (i 2)

/-- Minus the normed key. -/
def resNeg : Tok := fun i => - resUnit x0 x1 x3 x13 i

/-- The decay of direction `k`. -/
def resDecay (k : Fin 2) : Tok := fun i =>
  decayRow (tok x0 (i 0) (i 1)) (dif x0 (i 0) (i 1)) (mus x1) k (fun k e => x11 (ix2 k e)) (fun e j => x7 (ix2 e j)) (fun j c => x8 (ix2 j c)) (i 2)

/-- The step of direction `k`. -/
def resStep (k : Fin 2) : Tok := fun i =>
  stepRow (tok x0 (i 0) (i 1)) (dif x0 (i 0) (i 1)) (mus x1) k (fun k e => x12 (ix2 k e)) (fun e j => x9 (ix2 e j)) (fun j c => x10 (ix2 j c)) (i 2)

/-- The key of direction `k`. -/
def resKey (k : Fin 2) : Tok := fun i => stepKey (resProj x0 x1 x3 2 i) (resStep x0 x1 x9 x10 x12 k i) (x14 (ix2 0 (i 2)))

/-- The write of direction `k`. -/
def resWrite (k : Fin 2) : Tok := fun i => resUnit x0 x1 x3 x13 i * resStep x0 x1 x9 x10 x12 k i

end Cert.Mix

end
-- ==== Proof.MixFinal.lean ====
/-
  The ten result arrays after the run: every point's blocks lie over the rows of the arrays, so each array is one formula of
  the arguments.
-/
module

public import proofs.«01_k».proof.Proof.MixOut
public import proofs.«01_k».proof.Proof.MixWhole

@[expose] public section

set_option maxRecDepth 16384

noncomputable section

namespace Cert.Mix

open Idealize.ShloMosaic Idealize.ShloMosaic.TcCoe Idealize.ShloMosaic.Pipeline Idealize.ShloMosaic.Tactic Idealize.SL.Sem
open Cert.RwkvIdeal Cert.RwkvIdeal.Gen Cert.MixIdeal Cert.Layer

variable (m : (ℓ : Loc nD τ sig) → Buf (Elt Ideal) ℓ) (c : Dev nD)

/-- The arguments as launched. -/
abbrev A0 : Vec Ideal S8x4096x1024 .f32 := m ((c : Thread nD τ).loc main_arg0)
abbrev A1 : Vec Ideal S6x1024 .f32 := m ((c : Thread nD τ).loc main_arg1)
abbrev A2 : Vec Ideal S1024x1024 .bf16 := m ((c : Thread nD τ).loc main_arg2)
abbrev A3 : Vec Ideal S1024x1024 .bf16 := m ((c : Thread nD τ).loc main_arg3)
abbrev A4 : Vec Ideal S1024x1024 .bf16 := m ((c : Thread nD τ).loc main_arg4)
abbrev A5 : Vec Ideal S1024x128 .bf16 := m ((c : Thread nD τ).loc main_arg5)
abbrev A6 : Vec Ideal S128x1024 .bf16 := m ((c : Thread nD τ).loc main_arg6)
abbrev A7 : Vec Ideal S1024x128 .bf16 := m ((c : Thread nD τ).loc main_arg7)
abbrev A8 : Vec Ideal S128x1024 .bf16 := m ((c : Thread nD τ).loc main_arg8)
abbrev A9 : Vec Ideal S1024x128 .bf16 := m ((c : Thread nD τ).loc main_arg9)
abbrev A10 : Vec Ideal S128x1024 .bf16 := m ((c : Thread nD τ).loc main_arg10)
abbrev A11 : Vec Ideal S2x1024 .f32 := m ((c : Thread nD τ).loc main_arg11)
abbrev A12 : Vec Ideal S2x1024 .f32 := m ((c : Thread nD τ).loc main_arg12)
abbrev A13 : Vec Ideal S1x1024 .f32 := m ((c : Thread nD τ).loc main_arg13)
abbrev A14 : Vec Ideal S1x1024 .f32 := m ((c : Thread nD τ).loc main_arg14)

/-- A grid point is below 128; its second coordinate is its block of rows. -/
theorem point_lt (t : Fin cfg0.N) : t.val < 128 := t.isLt
theorem coord_row : ∀ t : Fin cfg0.N, (grid0.coords t 1).val = t.val % 16 := (by decide +kernel : ∀ t : Fin grid0.N, _)

/-- Where the blocks of the tokens lie: the point's own rows, the 64 rows above and the 64 below. -/
theorem idx0 : ∀ t : Fin cfg0.N, win0_0.index t (0 : Fin 3) = t.val / 16 ∧ win0_0.index t (1 : Fin 3) = t.val % 16 ∧ win0_0.index t (2 : Fin 3) = 0 :=
  (by decide +kernel : ∀ t : Fin grid0.N, _)
theorem idx1 : ∀ t : Fin cfg0.N, win0_1.index t (0 : Fin 3) = t.val / 16 ∧ win0_1.index t (1 : Fin 3) = 4 * (t.val % 16) - 1 ∧ win0_1.index t (2 : Fin 3) = 0 :=
  (by decide +kernel : ∀ t : Fin grid0.N, _)
theorem idx2 : ∀ t : Fin cfg0.N, win0_2.index t (0 : Fin 3) = t.val / 16 ∧ win0_2.index t (1 : Fin 3) = min (4 * (t.val % 16) + 4) 63 ∧ win0_2.index t (2 : Fin 3) = 0 :=
  (by decide +kernel : ∀ t : Fin grid0.N, _)

/-- The weights are staged whole. -/
theorem idx_zero (t : Fin cfg0.N) (a : Fin 2) : (![(0#32 : BitVec 32).toNat, (0#32 : BitVec 32).toNat] : Fin 2 → ℕ) a = 0 := by
  fin_cases a <;> rfl

/-- A block at index zero starts at the array's first entry. -/
theorem at_zero {i n x : ℕ} (h : i = 0) : i * n + 1 * x = x := by subst h; omega

/-- The batch of a grid point, and the array row of its block's row `r`. -/
abbrev bat (t : Fin cfg0.N) : Fin 8 := ⟨t.val / 16, by have := point_lt t; omega⟩
abbrev row (t : Fin cfg0.N) (r : Fin 256) : Fin 4096 := ⟨256 * (t.val % 16) + r.val, by omega⟩

theorem blk0 (t : Fin cfg0.N) (r : Fin 256) (l : Fin 1024) : iblk m c 0 t (ix3 0 r l) = A0 m c (ix3 (bat t) (row t r) l) := by
  obtain ⟨e0, e1, e2⟩ := idx0 t
  show A0 m c (((cfg0.win 0).blk t).view.emb (ix3 0 r l)) = _
  congr 1; funext a; apply Fin.ext
  match a with
  | ⟨0, _⟩ => show win0_0.index t (0 : Fin 3) * 1 + 1 * 0 = t.val / 16; omega
  | ⟨1, _⟩ => show win0_0.index t (1 : Fin 3) * 256 + 1 * r.val = 256 * (t.val % 16) + r.val; omega
  | ⟨2, _⟩ => show win0_0.index t (2 : Fin 3) * 1024 + 1 * l.val = l.val; omega

theorem blk1 (t : Fin cfg0.N) (r : Fin 64) (l : Fin 1024) :
    iblk m c 1 t (ix3 0 r l) = A0 m c (ix3 (bat t) ⟨64 * (4 * (t.val % 16) - 1) + r.val, by omega⟩ l) := by
  obtain ⟨e0, e1, e2⟩ := idx1 t
  show A0 m c (((cfg0.win 1).blk t).view.emb (ix3 0 r l)) = _
  congr 1; funext a; apply Fin.ext
  match a with
  | ⟨0, _⟩ => show win0_1.index t (0 : Fin 3) * 1 + 1 * 0 = t.val / 16; omega
  | ⟨1, _⟩ => show win0_1.index t (1 : Fin 3) * 64 + 1 * r.val = 64 * (4 * (t.val % 16) - 1) + r.val; omega
  | ⟨2, _⟩ => show win0_1.index t (2 : Fin 3) * 1024 + 1 * l.val = l.val; omega

theorem blk2 (t : Fin cfg0.N) (r : Fin 64) (l : Fin 1024) :
    iblk m c 2 t (ix3 0 r l) = A0 m c (ix3 (bat t) ⟨64 * min (4 * (t.val % 16) + 4) 63 + r.val, by omega⟩ l) := by
  obtain ⟨e0, e1, e2⟩ := idx2 t
  show A0 m c (((cfg0.win 2).blk t).view.emb (ix3 0 r l)) = _
  congr 1; funext a; apply Fin.ext
  match a with
  | ⟨0, _⟩ => show win0_2.index t (0 : Fin 3) * 1 + 1 * 0 = t.val / 16; omega
  | ⟨1, _⟩ => show win0_2.index t (1 : Fin 3) * 64 + 1 * r.val = 64 * min (4 * (t.val % 16) + 4) 63 + r.val; omega
  | ⟨2, _⟩ => show win0_2.index t (2 : Fin 3) * 1024 + 1 * l.val = l.val; omega

/-- The blocks of the weights are the weights. -/
theorem blk3 (t : Fin cfg0.N) : iblk m c 3 t = A1 m c := funext fun x => congrArg (A1 m c) (funext fun a => Fin.ext (at_zero (idx_zero t a)))
theorem blk4 (t : Fin cfg0.N) : iblk m c 4 t = A2 m c := funext fun x => congrArg (A2 m c) (funext fun a => Fin.ext (at_zero (idx_zero t a)))
theorem blk5 (t : Fin cfg0.N) : iblk m c 5 t = A3 m c := funext fun x => congrArg (A3 m c) (funext fun a => Fin.ext (at_zero (idx_zero t a)))
theorem blk6 (t : Fin cfg0.N) : iblk m c 6 t = A4 m c := funext fun x => congrArg (A4 m c) (funext fun a => Fin.ext (at_zero (idx_zero t a)))
theorem blk7 (t : Fin cfg0.N) : iblk m c 7 t = A5 m c := funext fun x => congrArg (A5 m c) (funext fun a => Fin.ext (at_zero (idx_zero t a)))
theorem blk8 (t : Fin cfg0.N) : iblk m c 8 t = A6 m c := funext fun x => congrArg (A6 m c) (funext fun a => Fin.ext (at_zero (idx_zero t a)))
theorem blk9 (t : Fin cfg0.N) : iblk m c 9 t = A7 m c := funext fun x => congrArg (A7 m c) (funext fun a => Fin.ext (at_zero (idx_zero t a)))
theorem blk10 (t : Fin cfg0.N) : iblk m c 10 t = A8 m c := funext fun x => congrArg (A8 m c) (funext fun a => Fin.ext (at_zero (idx_zero t a)))
theorem blk11 (t : Fin cfg0.N) : iblk m c 11 t = A9 m c := funext fun x => congrArg (A9 m c) (funext fun a => Fin.ext (at_zero (idx_zero t a)))
theorem blk12 (t : Fin cfg0.N) : iblk m c 12 t = A10 m c := funext fun x => congrArg (A10 m c) (funext fun a => Fin.ext (at_zero (idx_zero t a)))
theorem blk13 (t : Fin cfg0.N) : iblk m c 13 t = A11 m c := funext fun x => congrArg (A11 m c) (funext fun a => Fin.ext (at_zero (idx_zero t a)))
theorem blk14 (t : Fin cfg0.N) : iblk m c 14 t = A12 m c := funext fun x => congrArg (A12 m c) (funext fun a => Fin.ext (at_zero (idx_zero t a)))
theorem blk15 (t : Fin cfg0.N) : iblk m c 15 t = A13 m c := funext fun x => congrArg (A13 m c) (funext fun a => Fin.ext (at_zero (idx_zero t a)))
theorem blk16 (t : Fin cfg0.N) : iblk m c 16 t = A14 m c := funext fun x => congrArg (A14 m c) (funext fun a => Fin.ext (at_zero (idx_zero t a)))

/-- The shifted row inside a block is the shifted row of the sequence. -/
theorem sh_eq (t : Fin cfg0.N) (r : Fin 256) (e : Fin 1024) :
    shAt (grid0.coords t) (iblk m c 0 t) (iblk m c 1 t) (iblk m c 2 t) r e = shifted (tok (A0 m c) (bat t)) (row t r) e := by
  have hc := coord_row t
  have hv : (row t r).val = 256 * (t.val % 16) + r.val := rfl
  have same : ∀ n k : Fin 4096, n.val = k.val → A0 m c (ix3 (bat t) n e) = A0 m c (ix3 (bat t) k e) := fun n k h => by rw [Fin.ext h]
  unfold shAt shifted extAt tok
  simp only [blk0, blk1, blk2, hc]
  by_cases h1 : e.val < 256
  · rw [if_pos h1, if_pos h1]
    by_cases h : r.val % 64 = 0
    · rw [if_pos h, dif_pos (by omega)]
    · rw [if_neg h, dif_neg (by show ¬ 63 + r.val < 64; omega), dif_pos (by show 63 + r.val < 320; omega), dif_neg (by omega)]
      exact same _ _ (by show 256 * (t.val % 16) + (63 + r.val - 64) = 256 * (t.val % 16) + r.val - 1; omega)
  rw [if_neg h1, if_neg h1]
  by_cases h2 : e.val < 512
  · rw [if_pos h2, if_pos h2]
    by_cases h : r.val % 64 = 63
    · rw [if_pos h, dif_pos (by omega)]
    · rw [if_neg h, dif_neg (by show ¬ 65 + r.val < 64; omega), dif_pos (by show 65 + r.val < 320; omega), dif_neg (by omega)]
      exact same _ _ (by show 256 * (t.val % 16) + (65 + r.val - 64) = 256 * (t.val % 16) + r.val + 1; omega)
  rw [if_neg h2, if_neg h2]
  by_cases h3 : e.val < 768
  · rw [if_pos h3, if_pos h3]
    by_cases h : r.val < 64
    · rw [dif_pos (by show 0 + r.val < 64; omega)]
      by_cases h' : t.val % 16 = 0
      · rw [if_pos h', dif_pos (by omega)]
      · rw [if_neg h', dif_neg (by omega)]
        exact same _ _ (by show 64 * (4 * (t.val % 16) - 1) + (0 + r.val) = 256 * (t.val % 16) + r.val - 64; omega)
    · rw [dif_neg (by show ¬ 0 + r.val < 64; omega), dif_pos (by show 0 + r.val < 320; omega), dif_neg (by omega)]
      exact same _ _ (by show 256 * (t.val % 16) + (0 + r.val - 64) = 256 * (t.val % 16) + r.val - 64; omega)
  rw [if_neg h3, if_neg h3, dif_neg (by show ¬ 128 + r.val < 64; omega)]
  by_cases h : r.val < 192
  · rw [dif_pos (by show 128 + r.val < 320; omega), dif_neg (by omega)]
    exact same _ _ (by show 256 * (t.val % 16) + (128 + r.val - 64) = 256 * (t.val % 16) + r.val + 64; omega)
  · rw [dif_neg (by show ¬ 128 + r.val < 320; omega)]
    by_cases h' : t.val % 16 = 15
    · rw [if_pos h', dif_pos (by omega)]
    · rw [if_neg h', dif_neg (by omega)]
      exact same _ _ (by show 64 * min (4 * (t.val % 16) + 4) 63 + (128 + r.val - 320) = 256 * (t.val % 16) + r.val + 64; omega)

/-- A row of a block, its difference to the shifted row, and the weights of the mixes, in the arrays. -/
theorem xt_eq (t : Fin cfg0.N) (r : Fin 256) : xt m c t r = tok (A0 m c) (bat t) (row t r) := funext fun e => blk0 m c t r e
theorem dt_eq (t : Fin cfg0.N) (r : Fin 256) : dt m c t r = dif (A0 m c) (bat t) (row t r) := funext fun e => by
  show shAt _ _ _ _ r e - iblk m c 0 t (ix3 0 r e) = shifted _ _ e - tok _ _ _ e
  rw [sh_eq, blk0]
  rfl
theorem mt_eq (t : Fin cfg0.N) : mt m c t = mus (A1 m c) := by unfold mt; rw [blk3]; rfl

/-- The key, the normed key and the steps of a row, in the arrays. -/
theorem kt_eq (t : Fin cfg0.N) (r : Fin 256) (e : Fin 1024) :
    proj (xt m c t r) (dt m c t r) (mt m c t 2) (fun e c' => (iblk m c 5 t : Vec Ideal S1024x1024 .bf16) (ix2 e c')) e
      = resProj (A0 m c) (A1 m c) (A3 m c) 2 (ix3 (bat t) (row t r) e) := by rw [xt_eq, dt_eq, mt_eq, blk5]; rfl
theorem ut_eq (t : Fin cfg0.N) (r : Fin 256) (e : Fin 1024) :
    ut m c t r e = resUnit (A0 m c) (A1 m c) (A3 m c) (A13 m c) (ix3 (bat t) (row t r) e) := by
  unfold ut; rw [xt_eq, dt_eq, mt_eq, blk5, blk15]; rfl
theorem st_eq (t : Fin cfg0.N) (r : Fin 256) (k : Fin 2) (e : Fin 1024) :
    st m c t r k e = resStep (A0 m c) (A1 m c) (A9 m c) (A10 m c) (A12 m c) k (ix3 (bat t) (row t r) e) := by
  unfold st; rw [xt_eq, dt_eq, mt_eq, blk11, blk12, blk14]; rfl

/-- A result block's index in its array. -/
theorem emb17 (t : Fin cfg0.N) (r : Fin 256) (l : Fin 1024) :
    ((cfg0.win 17).blk t).view.emb (ix3 0 r l) = (ix3 (bat t) (row t r) l : S8x4096x1024.Idx) := by
  obtain ⟨e0, e1, e2⟩ := idx0 t
  funext a; apply Fin.ext
  match a with
  | ⟨0, _⟩ => show win0_0.index t (0 : Fin 3) * 1 + 1 * 0 = t.val / 16; omega
  | ⟨1, _⟩ => show win0_0.index t (1 : Fin 3) * 256 + 1 * r.val = 256 * (t.val % 16) + r.val; omega
  | ⟨2, _⟩ => show win0_0.index t (2 : Fin 3) * 1024 + 1 * l.val = l.val; omega

/-- Every index of a result array lies in some point's block. -/
theorem cover (i : S8x4096x1024.Idx) : ∃ t : Fin cfg0.N, i ∈ ((cfg0.win 17).blk t).view.set := by
  obtain ⟨b, r, l, rfl⟩ : ∃ (b : Fin 8) (r : Fin 4096) (l : Fin 1024), i = ix3 b r l := ⟨i 0, i 1, i 2, eq_ix3 i⟩
  have hp : 16 * b.val + r.val / 256 < 128 := by omega
  have h := ((cfg0.win 17).blk (⟨16 * b.val + r.val / 256, hp⟩ : Fin cfg0.N)).view.emb_mem_set (ix3 0 ⟨r.val % 256, by omega⟩ l)
  rw [emb17] at h
  have e : ∀ (b' : Fin 8) (r' : Fin 4096), b'.val = b.val → r'.val = r.val → (ix3 b' r' l : S8x4096x1024.Idx) = ix3 b r l :=
    fun b' r' hb hr => by rw [Fin.ext hb, Fin.ext hr]
  rw [e _ _ (by show (16 * b.val + r.val / 256) / 16 = b.val; omega)
    (by show 256 * ((16 * b.val + r.val / 256) % 16) + r.val % 256 = r.val; omega)] at h
  exact ⟨_, h⟩

/-- A block that is, entry by entry, a formula's block of rows. -/
theorem block_eq (G : Vec Ideal S8x4096x1024 .f32) (t : Fin cfg0.N) (o : Vec Ideal S1x256x1024 .f32)
    (h : ∀ (r : Fin 256) (l : Fin 1024), o (ix3 0 r l) = G (ix3 (bat t) (row t r) l)) :
    (cfg0.win 17).cut (grid0.coords t) o = ((cfg0.win 17).blk t).view.read (Elt Ideal) G := funext fun i => by
  obtain ⟨z, r, l, rfl⟩ : ∃ (z : Fin 1) (r : Fin 256) (l : Fin 1024), i = (ix3 z r l : S1x256x1024.Idx) := ⟨i 0, i 1, i 2, eq_ix3 (n0 := 1) (n1 := 256) (n2 := 1024) i⟩
  obtain rfl : z = 0 := Subsingleton.elim _ _
  exact (h r l).trans (congrArg G (emb17 t r l)).symm

section
variable (hf : ∀ (b : Fin 8) (t : Fin 4096) (e : Fin 1024), Finite (resProj (A0 m c) (A1 m c) (A3 m c) 2 (ix3 b t e) * A13 m c (ix2 0 e)))

include hf in
/-- The scaled keys of a point are finite when those of the arrays are. -/
theorem hf_block (t : Fin cfg0.N) (r : Fin 256) (e : Fin 1024) :
    Finite (proj (xt m c t r) (dt m c t r) (mt m c t 2) (fun e c' => (iblk m c 5 t : Vec Ideal S1024x1024 .bf16) (ix2 e c')) e
      * (iblk m c 15 t : Vec Ideal S1x1024 .f32) (ix2 0 e)) := by
  rw [xt_eq, dt_eq, mt_eq, blk5, blk15]
  exact hf (bat t) (row t r) e

/-- The receptance. -/
theorem final17 : (dats m 0 c).arrAt 17 cfg0.N = resProj (A0 m c) (A1 m c) (A2 m c) 0 := by
  refine (dats m 0 c).arrAt_eq_of_cover 17 _ (fun t _ => ?_) fun i => (cover i).imp fun t h => ⟨flush0_17 t, h⟩
  show (cfg0.win 17).cut (grid0.coords t) ((dats m 0 c).after 17 t) = _
  rw [after0_17]
  refine block_eq (resProj (A0 m c) (A1 m c) (A2 m c) 0) t _ fun r l => (rows_r m c t r l).trans ?_
  rw [xt_eq, dt_eq, mt_eq, blk4]
  rfl

/-- The gate. -/
theorem final18 : (dats m 0 c).arrAt 18 cfg0.N = resGate (A0 m c) (A1 m c) (A5 m c) (A6 m c) := by
  refine (dats m 0 c).arrAt_eq_of_cover 18 _ (fun t _ => ?_) fun i => (cover i).imp fun t h => ⟨flush0_18 t, h⟩
  show (cfg0.win 18).cut (grid0.coords t) ((dats m 0 c).after 18 t) = _
  rw [after0_18]
  refine block_eq (resGate (A0 m c) (A1 m c) (A5 m c) (A6 m c)) t _ fun r l => (rows_g m c t r l).trans ?_
  rw [xt_eq, dt_eq, mt_eq, blk7, blk8]
  rfl

/-- The value. -/
theorem final19 : (dats m 0 c).arrAt 19 cfg0.N = resProj (A0 m c) (A1 m c) (A4 m c) 3 := by
  refine (dats m 0 c).arrAt_eq_of_cover 19 _ (fun t _ => ?_) fun i => (cover i).imp fun t h => ⟨flush0_19 t, h⟩
  show (cfg0.win 19).cut (grid0.coords t) ((dats m 0 c).after 19 t) = _
  rw [after0_19]
  refine block_eq (resProj (A0 m c) (A1 m c) (A4 m c) 3) t _ fun r l => (rows_v m c t r l).trans ?_
  rw [xt_eq, dt_eq, mt_eq, blk6]
  rfl

include hf in
/-- Minus the normed key. -/
theorem final20 : (dats m 0 c).arrAt 20 cfg0.N = resNeg (A0 m c) (A1 m c) (A3 m c) (A13 m c) := by
  refine (dats m 0 c).arrAt_eq_of_cover 20 _ (fun t _ => ?_) fun i => (cover i).imp fun t h => ⟨flush0_20 t, h⟩
  show (cfg0.win 20).cut (grid0.coords t) ((dats m 0 c).after 20 t) = _
  rw [after0_20]
  refine block_eq (resNeg (A0 m c) (A1 m c) (A3 m c) (A13 m c)) t _ fun r l => (rows_n m c t r l (hf_block m c hf t)).trans ?_
  rw [ut_eq]
  rfl

/-- The decay of the first direction, -/
theorem final21 : (dats m 0 c).arrAt 21 cfg0.N = resDecay (A0 m c) (A1 m c) (A7 m c) (A8 m c) (A11 m c) 0 := by
  refine (dats m 0 c).arrAt_eq_of_cover 21 _ (fun t _ => ?_) fun i => (cover i).imp fun t h => ⟨flush0_21 t, h⟩
  show (cfg0.win 21).cut (grid0.coords t) ((dats m 0 c).after 21 t) = _
  rw [after0_21]
  refine block_eq (resDecay (A0 m c) (A1 m c) (A7 m c) (A8 m c) (A11 m c) 0) t _ fun r l => (rows_w0 m c t r l).trans ?_
  rw [xt_eq, dt_eq, mt_eq, blk9, blk10, blk13]
  rfl

/-- and of the second. -/
theorem final22 : (dats m 0 c).arrAt 22 cfg0.N = resDecay (A0 m c) (A1 m c) (A7 m c) (A8 m c) (A11 m c) 1 := by
  refine (dats m 0 c).arrAt_eq_of_cover 22 _ (fun t _ => ?_) fun i => (cover i).imp fun t h => ⟨flush0_22 t, h⟩
  show (cfg0.win 22).cut (grid0.coords t) ((dats m 0 c).after 22 t) = _
  rw [after0_22]
  refine block_eq (resDecay (A0 m c) (A1 m c) (A7 m c) (A8 m c) (A11 m c) 1) t _ fun r l => (rows_w1 m c t r l).trans ?_
  rw [xt_eq, dt_eq, mt_eq, blk9, blk10, blk13]
  rfl

/-- The key of the first direction, -/
theorem final23 : (dats m 0 c).arrAt 23 cfg0.N = resKey (A0 m c) (A1 m c) (A3 m c) (A9 m c) (A10 m c) (A12 m c) (A14 m c) 0 := by
  refine (dats m 0 c).arrAt_eq_of_cover 23 _ (fun t _ => ?_) fun i => (cover i).imp fun t h => ⟨flush0_23 t, h⟩
  show (cfg0.win 23).cut (grid0.coords t) ((dats m 0 c).after 23 t) = _
  rw [after0_23]
  refine block_eq (resKey (A0 m c) (A1 m c) (A3 m c) (A9 m c) (A10 m c) (A12 m c) (A14 m c) 0) t _ fun r l => (rows_k0 m c t r l).trans ?_
  rw [kt_eq, st_eq, blk16]
  rfl

/-- and of the second. -/
theorem final24 : (dats m 0 c).arrAt 24 cfg0.N = resKey (A0 m c) (A1 m c) (A3 m c) (A9 m c) (A10 m c) (A12 m c) (A14 m c) 1 := by
  refine (dats m 0 c).arrAt_eq_of_cover 24 _ (fun t _ => ?_) fun i => (cover i).imp fun t h => ⟨flush0_24 t, h⟩
  show (cfg0.win 24).cut (grid0.coords t) ((dats m 0 c).after 24 t) = _
  rw [after0_24]
  refine block_eq (resKey (A0 m c) (A1 m c) (A3 m c) (A9 m c) (A10 m c) (A12 m c) (A14 m c) 1) t _ fun r l => (rows_k1 m c t r l).trans ?_
  rw [kt_eq, st_eq, blk16]
  rfl

include hf in
/-- The write of the first direction, -/
theorem final25 : (dats m 0 c).arrAt 25 cfg0.N = resWrite (A0 m c) (A1 m c) (A3 m c) (A9 m c) (A10 m c) (A12 m c) (A13 m c) 0 := by
  refine (dats m 0 c).arrAt_eq_of_cover 25 _ (fun t _ => ?_) fun i => (cover i).imp fun t h => ⟨flush0_25 t, h⟩
  show (cfg0.win 25).cut (grid0.coords t) ((dats m 0 c).after 25 t) = _
  rw [after0_25]
  refine block_eq (resWrite (A0 m c) (A1 m c) (A3 m c) (A9 m c) (A10 m c) (A12 m c) (A13 m c) 0) t _ fun r l => (rows_b0 m c t r l (hf_block m c hf t)).trans ?_
  rw [ut_eq, st_eq]
  rfl

include hf in
/-- and of the second. -/
theorem final26 : (dats m 0 c).arrAt 26 cfg0.N = resWrite (A0 m c) (A1 m c) (A3 m c) (A9 m c) (A10 m c) (A12 m c) (A13 m c) 1 := by
  refine (dats m 0 c).arrAt_eq_of_cover 26 _ (fun t _ => ?_) fun i => (cover i).imp fun t h => ⟨flush0_26 t, h⟩
  show (cfg0.win 26).cut (grid0.coords t) ((dats m 0 c).after 26 t) = _
  rw [after0_26]
  refine block_eq (resWrite (A0 m c) (A1 m c) (A3 m c) (A9 m c) (A10 m c) (A12 m c) (A13 m c) 1) t _ fun r l => (rows_b1 m c t r l (hf_block m c hf t)).trans ?_
  rw [ut_eq, st_eq]
  rfl

end

end Cert.Mix

end
-- ==== Proof.MixRef.lean ====
/-
  The projections' reference at an index: the shifted rows out of the padded grid of tokens, the six mixes, the products, and
  stage by stage the ten results.
-/
module

public import proofs.«01_k».proof.Proof.MixWhole
public import proofs.«01_k».proof.Proof.Gen.RwkvRefIdeal.Run
public import proofs.«01_k».proof.Proof.Gen.RwkvRefIdeal.Read

@[expose] public section

set_option maxRecDepth 16384

noncomputable section

namespace Cert.Mix

open Idealize.ShloMosaic Cert.RwkvRefIdeal Cert.RwkvRefIdeal.Gen Cert.RwkvRefIdeal.Read Cert.Layer

/-! ## The products -/

/-- A product over one axis at an index, given where the operands are read. -/
theorem dot_at {sl sr so : Shape} (d : DotDims sl sr so) (K : ℕ) (h1 : d.contr.rank = 1) (h2 : d.contr.size ⟨0, by omega⟩ = K)
    (y : FVec Ideal sl .f32) (w : FVec Ideal sr .f32) (i : so.Idx) (l : Fin K → sl.Idx) (r : Fin K → sr.Idx)
    (hl : ∀ q : d.contr.Idx, ∀ k : Fin K, (q ⟨0, by omega⟩).val = k.val → d.lhsIdx i q = l k)
    (hr : ∀ q : d.contr.Idx, ∀ k : Fin K, (q ⟨0, by omega⟩).val = k.val → d.rhsIdx i q = r k) :
    (Host.dotGeneral d none y w : FVec Ideal so .f32) i = ∑ k : Fin K, y (l k) * w (r k) := by
  simp only [Host.dotGeneral]
  rw [Ideal.dotGeneral_apply, ← Equiv.sum_comp (ValueIdx.contrEquiv1 d K h1 h2).symm]
  refine Finset.sum_congr rfl fun k _ => ?_
  have hk := ValueIdx.contrEquiv1_symm_val d K h1 h2 k
  rw [hl _ k hk, hr _ k hk]

theorem dot_full (y : FVec Ideal S8x4096x1024 .f32) (w : FVec Ideal S1024x1024 .f32) (b : Fin 8) (t : Fin 4096) (c : Fin 1024) :
    (Host.dotGeneral dot_S8x4096x1024_S1024x1024_S8x4096x1024_2_0_01_1_n_n none y w : FVec Ideal S8x4096x1024 .f32) (ix3 b t c)
      = ∑ e : Fin 1024, y (ix3 b t e) * w (ix2 e c) :=
  dot_at _ 1024 rfl rfl y w _ _ _
    (fun q k h => funext fun a => Fin.ext (by
      match a with
      | ⟨0, _⟩ => exact lhs_main_v49_0 _ q
      | ⟨1, _⟩ => exact lhs_main_v49_1 _ q
      | ⟨2, _⟩ => exact (lhs_main_v49_2 _ q).trans h))
    (fun q k h => funext fun a => Fin.ext (by
      match a with
      | ⟨0, _⟩ => exact (rhs_main_v49_0 _ q).trans h
      | ⟨1, _⟩ => exact rhs_main_v49_1 _ q))

theorem dot_gate (y : FVec Ideal S8x4096x1024 .f32) (w : FVec Ideal S1024x128 .f32) (b : Fin 8) (t : Fin 4096) (c : Fin 128) :
    (Host.dotGeneral dot_S8x4096x1024_S1024x128_S8x4096x128_2_0_01_1_n_n none y w : FVec Ideal S8x4096x128 .f32) (ix3 b t c)
      = ∑ e : Fin 1024, y (ix3 b t e) * w (ix2 e c) :=
  dot_at _ 1024 rfl rfl y w _ _ _
    (fun q k h => funext fun a => Fin.ext (by
      match a with
      | ⟨0, _⟩ => exact lhs_main_v55_0 _ q
      | ⟨1, _⟩ => exact lhs_main_v55_1 _ q
      | ⟨2, _⟩ => exact (lhs_main_v55_2 _ q).trans h))
    (fun q k h => funext fun a => Fin.ext (by
      match a with
      | ⟨0, _⟩ => exact (rhs_main_v55_0 _ q).trans h
      | ⟨1, _⟩ => exact rhs_main_v55_1 _ q))

theorem dot_low (y : FVec Ideal S8x4096x1024 .f32) (w : FVec Ideal S1024x64 .f32) (b : Fin 8) (t : Fin 4096) (c : Fin 64) :
    (Host.dotGeneral dot_S8x4096x1024_S1024x64_S8x4096x64_2_0_01_1_n_n none y w : FVec Ideal S8x4096x64 .f32) (ix3 b t c)
      = ∑ e : Fin 1024, y (ix3 b t e) * w (ix2 e c) :=
  dot_at _ 1024 rfl rfl y w _ _ _
    (fun q k h => funext fun a => Fin.ext (by
      match a with
      | ⟨0, _⟩ => exact lhs_main_v88_0 _ q
      | ⟨1, _⟩ => exact lhs_main_v88_1 _ q
      | ⟨2, _⟩ => exact (lhs_main_v88_2 _ q).trans h))
    (fun q k h => funext fun a => Fin.ext (by
      match a with
      | ⟨0, _⟩ => exact (rhs_main_v88_0 _ q).trans h
      | ⟨1, _⟩ => exact rhs_main_v88_1 _ q))

theorem dot_gate' (y : FVec Ideal S8x4096x128 .f32) (w : FVec Ideal S128x1024 .f32) (b : Fin 8) (t : Fin 4096) (c : Fin 1024) :
    (Host.dotGeneral dot_S8x4096x128_S128x1024_S8x4096x1024_2_0_01_1_n_n none y w : FVec Ideal S8x4096x1024 .f32) (ix3 b t c)
      = ∑ e : Fin 128, y (ix3 b t e) * w (ix2 e c) := by
  pointwise

theorem dot_low' (y : FVec Ideal S8x4096x64 .f32) (w : FVec Ideal S64x1024 .f32) (b : Fin 8) (t : Fin 4096) (c : Fin 1024) :
    (Host.dotGeneral dot_S8x4096x64_S64x1024_S8x4096x1024_2_0_01_1_n_n none y w : FVec Ideal S8x4096x1024 .f32) (ix3 b t c)
      = ∑ e : Fin 64, y (ix3 b t e) * w (ix2 e c) := by
  pointwise

/-! ## The shifted rows and the mixes -/

variable (x0 : Vec Ideal S8x4096x1024 .f32) (x1 : Vec Ideal S6x1024 .f32)

/-- The padding's word is zero. -/
theorem pad_zero : (FloatOps.sitofp (F := Ideal) FTy.f32 0#32 : EReal) = 0 := by
  show (((0#32 : BitVec 32).toInt : ℝ) : EReal) = 0
  simp

/-- The four quarters of the grid: shifted to the right, to the left, down and up. -/
theorem quarter0 (b : Fin 8) (i j : Fin 64) (l : Fin 256) : val_main_v2 (F := Ideal) x0 (ix4 b i j l)
    = if h : 1 ≤ j.val ∧ j.val - 1 < 63 then x0 (ix3 b ⟨i.val * 64 + (j.val - 1), by omega⟩ ⟨l.val, by omega⟩) else (0 : EReal) := by
  rw [← pad_zero]
  pointwise [val_main_v2, val_main_v1, val_main_v0, val_main_call0_v0, val_main_c]

theorem quarter1 (b : Fin 8) (i j : Fin 64) (l : Fin 256) : val_main_v4 (F := Ideal) x0 (ix4 b i j l)
    = if h : j.val < 63 then x0 (ix3 b ⟨i.val * 64 + (1 + j.val), by omega⟩ ⟨256 + l.val, by omega⟩) else (0 : EReal) := by
  rw [← pad_zero]
  pointwise [val_main_v4, val_main_v3, val_main_v0, val_main_call1_v0, val_main_c_0]

theorem quarter2 (b : Fin 8) (i j : Fin 64) (l : Fin 256) : val_main_v6 (F := Ideal) x0 (ix4 b i j l)
    = if h : 1 ≤ i.val ∧ i.val - 1 < 63 then x0 (ix3 b ⟨(i.val - 1) * 64 + j.val, by omega⟩ ⟨512 + l.val, by omega⟩) else (0 : EReal) := by
  rw [← pad_zero]
  pointwise [val_main_v6, val_main_v5, val_main_v0, val_main_call2_v0, val_main_c_1]

theorem quarter3 (b : Fin 8) (i j : Fin 64) (l : Fin 256) : val_main_v8 (F := Ideal) x0 (ix4 b i j l)
    = if h : i.val < 63 then x0 (ix3 b ⟨(1 + i.val) * 64 + j.val, by omega⟩ ⟨768 + l.val, by omega⟩) else (0 : EReal) := by
  rw [← pad_zero]
  pointwise [val_main_v8, val_main_v7, val_main_v0, val_main_call3_v0, val_main_c_2]

/-- Side by side they are the shifted rows. -/
theorem quarters (b : Fin 8) (t : Fin 4096) (e : Fin 1024) : val_main_v10 (F := Ideal) x0 (ix3 b t e)
    = if h : e.val < 256 then val_main_v2 (F := Ideal) x0 (ix4 b ⟨t.val / 64, by omega⟩ ⟨t.val % 64, by omega⟩ ⟨e.val, h⟩)
      else if h1 : e.val - 256 < 256 then val_main_v4 (F := Ideal) x0 (ix4 b ⟨t.val / 64, by omega⟩ ⟨t.val % 64, by omega⟩ ⟨e.val - 256, h1⟩)
      else if h2 : e.val - 256 - 256 < 256 then val_main_v6 (F := Ideal) x0 (ix4 b ⟨t.val / 64, by omega⟩ ⟨t.val % 64, by omega⟩ ⟨e.val - 256 - 256, h2⟩)
      else val_main_v8 (F := Ideal) x0 (ix4 b ⟨t.val / 64, by omega⟩ ⟨t.val % 64, by omega⟩ ⟨e.val - 256 - 256 - 256, by omega⟩) := by
  pointwise [val_main_v10, val_main_v9]

theorem shift_apply (b : Fin 8) (t : Fin 4096) (e : Fin 1024) : val_main_v10 (F := Ideal) x0 (ix3 b t e) = shifted (tok x0 b) t e := by
  have same : ∀ (n k : Fin 4096) (f : Fin 1024), n.val = k.val → f.val = e.val → x0 (ix3 b n f) = tok x0 b k e := fun n k f h h' => by
    rw [Fin.ext h, Fin.ext h']; rfl
  rw [quarters]
  simp only [quarter0, quarter1, quarter2, quarter3]
  unfold shifted
  by_cases h1 : e.val < 256
  · rw [dif_pos h1, if_pos h1]
    by_cases h : t.val % 64 = 0
    · rw [dif_neg (by omega), dif_pos h]
    · rw [dif_pos (by omega), dif_neg h]
      exact same _ _ _ (by show t.val / 64 * 64 + (t.val % 64 - 1) = t.val - 1; omega) rfl
  rw [dif_neg h1, if_neg h1]
  by_cases h2 : e.val < 512
  · rw [dif_pos (show e.val - 256 < 256 by omega), if_pos h2]
    by_cases h : t.val % 64 = 63
    · rw [dif_neg (by omega), dif_pos h]
    · rw [dif_pos (by omega), dif_neg h]
      exact same _ _ _ (by show t.val / 64 * 64 + (1 + t.val % 64) = t.val + 1; omega) (by show 256 + (e.val - 256) = e.val; omega)
  rw [dif_neg (show ¬ e.val - 256 < 256 by omega), if_neg h2]
  by_cases h3 : e.val < 768
  · rw [dif_pos (show e.val - 256 - 256 < 256 by omega), if_pos h3]
    by_cases h : t.val < 64
    · rw [dif_neg (by omega), dif_pos h]
    · rw [dif_pos (by omega), dif_neg h]
      exact same _ _ _ (by show (t.val / 64 - 1) * 64 + t.val % 64 = t.val - 64; omega) (by show 512 + (e.val - 256 - 256) = e.val; omega)
  rw [dif_neg (show ¬ e.val - 256 - 256 < 256 by omega), if_neg h3]
  by_cases h : 4032 ≤ t.val
  · rw [dif_neg (by omega), dif_pos h]
  · rw [dif_pos (by omega), dif_neg h]
    exact same _ _ _ (by show (1 + t.val / 64) * 64 + t.val % 64 = t.val + 64; omega) (by show 768 + (e.val - 256 - 256 - 256) = e.val; omega)

/-- The difference. -/
theorem diff_apply (b : Fin 8) (t : Fin 4096) (e : Fin 1024) : val_main_v11 (F := Ideal) x0 (ix3 b t e) = dif x0 b t e := by
  rw [val_main_v11_apply, shift_apply]
  rfl

/-- The six mixes: the row and the difference times a row of the table. -/
theorem mix0 (b : Fin 8) (t : Fin 4096) (e : Fin 1024) : val_main_v17 (F := Ideal) x0 x1 (ix3 b t e) = tok x0 b t e + dif x0 b t e * mus x1 0 e := by
  have h : val_main_v15 (F := Ideal) x1 (ix3 b t e) = mus x1 0 e := by
    show _ = x1 (ix2 0 e)
    pointwise [val_main_v15, val_main_v14, val_main_v13, val_main_v12]
  rw [val_main_v17_apply, val_main_v16_apply, diff_apply, h]
  rfl
theorem mix1 (b : Fin 8) (t : Fin 4096) (e : Fin 1024) : val_main_v23 (F := Ideal) x0 x1 (ix3 b t e) = tok x0 b t e + dif x0 b t e * mus x1 1 e := by
  have h : val_main_v21 (F := Ideal) x1 (ix3 b t e) = mus x1 1 e := by
    show _ = x1 (ix2 1 e)
    pointwise [val_main_v21, val_main_v20, val_main_v19, val_main_v18]
  rw [val_main_v23_apply, val_main_v22_apply, diff_apply, h]
  rfl
theorem mix2 (b : Fin 8) (t : Fin 4096) (e : Fin 1024) : val_main_v29 (F := Ideal) x0 x1 (ix3 b t e) = tok x0 b t e + dif x0 b t e * mus x1 2 e := by
  have h : val_main_v27 (F := Ideal) x1 (ix3 b t e) = mus x1 2 e := by
    show _ = x1 (ix2 2 e)
    pointwise [val_main_v27, val_main_v26, val_main_v25, val_main_v24]
  rw [val_main_v29_apply, val_main_v28_apply, diff_apply, h]
  rfl
theorem mix3 (b : Fin 8) (t : Fin 4096) (e : Fin 1024) : val_main_v35 (F := Ideal) x0 x1 (ix3 b t e) = tok x0 b t e + dif x0 b t e * mus x1 3 e := by
  have h : val_main_v33 (F := Ideal) x1 (ix3 b t e) = mus x1 3 e := by
    show _ = x1 (ix2 3 e)
    pointwise [val_main_v33, val_main_v32, val_main_v31, val_main_v30]
  rw [val_main_v35_apply, val_main_v34_apply, diff_apply, h]
  rfl
theorem mix4 (b : Fin 8) (t : Fin 4096) (e : Fin 1024) : val_main_v41 (F := Ideal) x0 x1 (ix3 b t e) = tok x0 b t e + dif x0 b t e * mus x1 4 e := by
  have h : val_main_v39 (F := Ideal) x1 (ix3 b t e) = mus x1 4 e := by
    show _ = x1 (ix2 4 e)
    pointwise [val_main_v39, val_main_v38, val_main_v37, val_main_v36]
  rw [val_main_v41_apply, val_main_v40_apply, diff_apply, h]
  rfl
theorem mix5 (b : Fin 8) (t : Fin 4096) (e : Fin 1024) : val_main_v47 (F := Ideal) x0 x1 (ix3 b t e) = tok x0 b t e + dif x0 b t e * mus x1 5 e := by
  have h : val_main_v45 (F := Ideal) x1 (ix3 b t e) = mus x1 5 e := by
    show _ = x1 (ix2 5 e)
    pointwise [val_main_v45, val_main_v44, val_main_v43, val_main_v42]
  rw [val_main_v47_apply, val_main_v46_apply, diff_apply, h]
  rfl

end Cert.Mix
end
-- ==== Proof.MixStage.lean ====
/-
  The projections' reference, stage by stage: its ten results are the whole arrays the kernel leaves.
-/
module

public import proofs.«01_k».proof.Proof.MixRef

@[expose] public section

set_option maxRecDepth 16384

noncomputable section

namespace Cert.Mix

open Idealize.ShloMosaic Cert.RwkvRefIdeal Cert.RwkvRefIdeal.Gen Cert.RwkvRefIdeal.Read Cert.Layer

variable (x0 : Vec Ideal S8x4096x1024 .f32) (x1 : Vec Ideal S6x1024 .f32)
variable (x2 x3 x4 : Vec Ideal S1024x1024 .bf16) (x5 x7 x9 : Vec Ideal S1024x128 .bf16) (x6 x8 x10 : Vec Ideal S128x1024 .bf16)
  (x11 x12 : Vec Ideal S2x1024 .f32) (x13 x14 : Vec Ideal S1x1024 .f32)

/-- The receptance, the key and the value. -/
theorem ref_r : val_main_v49 (F := Ideal) x0 x1 x2 = resProj x0 x1 x2 0 := by
  funext i
  obtain ⟨b, t, c, rfl⟩ : ∃ (b : Fin 8) (t : Fin 4096) (c : Fin 1024), i = ix3 b t c := ⟨i 0, i 1, i 2, eq_ix3 i⟩
  exact (dot_full _ _ b t c).trans (Finset.sum_congr rfl fun e _ => congrArg (· * x2 (ix2 e c)) (mix0 x0 x1 b t e))
theorem ref_k : val_main_v51 (F := Ideal) x0 x1 x3 = resProj x0 x1 x3 2 := by
  funext i
  obtain ⟨b, t, c, rfl⟩ : ∃ (b : Fin 8) (t : Fin 4096) (c : Fin 1024), i = ix3 b t c := ⟨i 0, i 1, i 2, eq_ix3 i⟩
  exact (dot_full _ _ b t c).trans (Finset.sum_congr rfl fun e _ => congrArg (· * x3 (ix2 e c)) (mix2 x0 x1 b t e))
theorem ref_v : val_main_v53 (F := Ideal) x0 x1 x4 = resProj x0 x1 x4 3 := by
  funext i
  obtain ⟨b, t, c, rfl⟩ : ∃ (b : Fin 8) (t : Fin 4096) (c : Fin 1024), i = ix3 b t c := ⟨i 0, i 1, i 2, eq_ix3 i⟩
  exact (dot_full _ _ b t c).trans (Finset.sum_congr rfl fun e _ => congrArg (· * x4 (ix2 e c)) (mix3 x0 x1 b t e))

/-- The gate. -/
theorem hidden_apply (b : Fin 8) (t : Fin 4096) (j : Fin 128) :
    val_main_v61 (F := Ideal) x0 x1 x5 (ix3 b t j) = Ideal.logistic (val_main_v55 (F := Ideal) x0 x1 x5 (ix3 b t j)) := by
  pointwise [val_main_v61, val_main_v60, val_main_v59, val_main_v58, val_main_v57, val_main_v56, val_main_cst, val_main_cst_3]
  rfl
theorem ref_g : val_main_v63 (F := Ideal) x0 x1 x5 x6 = resGate x0 x1 x5 x6 := by
  funext i
  obtain ⟨b, t, c, rfl⟩ : ∃ (b : Fin 8) (t : Fin 4096) (c : Fin 1024), i = ix3 b t c := ⟨i 0, i 1, i 2, eq_ix3 i⟩
  have h : ∀ j, val_main_v61 (F := Ideal) x0 x1 x5 (ix3 b t j)
      = Ideal.logistic (proj (tok x0 b t) (dif x0 b t) (mus x1 5) (fun e j => x5 (ix2 e j)) j) := fun j =>
    (hidden_apply x0 x1 x5 b t j).trans (congrArg Ideal.logistic
      ((dot_gate _ _ b t j).trans (Finset.sum_congr rfl fun e _ => congrArg (· * x5 (ix2 e j)) (mix5 x0 x1 b t e))))
  exact (dot_gate' _ _ b t c).trans (Finset.sum_congr rfl fun j _ => congrArg (· * x6 (ix2 j c)) (h j))

/-- The normed key. -/
theorem unit_apply (b : Fin 8) (t : Fin 4096) (c : Fin 1024) :
    val_main_v77 (F := Ideal) x0 x1 x3 x13 (ix3 b t c) = unitKey (fun e => val_main_v51 (F := Ideal) x0 x1 x3 (ix3 b t e) * x13 (ix2 0 e)) c := by
  unfold unitKey
  pointwise [val_main_v77, val_main_v76, val_main_v75, val_main_v74, val_main_v73, val_main_v72, val_main_v71, val_main_v70, val_main_v69,
    val_main_v68, val_main_v67, val_main_v66, val_main_v65, val_main_v64, val_main_cst_4, val_main_cst_5]
  have h : ∀ e : Fin 64, (⟨c.val / 64 * 64 + e.val, by omega⟩ : Fin 1024) = ⟨64 * (c.val / 64) + e.val, by omega⟩ := fun e => Fin.ext (by
    show c.val / 64 * 64 + e.val = 64 * (c.val / 64) + e.val; omega)
  simp only [h]
theorem ref_unit : val_main_v77 (F := Ideal) x0 x1 x3 x13 = resUnit x0 x1 x3 x13 := by
  funext i
  obtain ⟨b, t, c, rfl⟩ : ∃ (b : Fin 8) (t : Fin 4096) (c : Fin 1024), i = ix3 b t c := ⟨i 0, i 1, i 2, eq_ix3 i⟩
  rw [unit_apply, ref_k]
  rfl
theorem ref_neg : val_main_v170 (F := Ideal) x0 x1 x3 x13 = resNeg x0 x1 x3 x13 := by
  funext i
  rw [val_main_v170_apply, ref_unit]
  rfl

/-- A product of 64 hidden lanes is the lanes' part of the low-rank product. -/
theorem low_of (k : Fin 2) (h : FVec Ideal S8x4096x64 .f32) (w : FVec Ideal S64x1024 .f32) (H : Fin 128 → EReal) (W : Fin 128 → Fin 1024 → EReal)
    (b : Fin 8) (t : Fin 4096) (c : Fin 1024) (hh : ∀ j : Fin 64, h (ix3 b t j) = H ⟨64 * k.val + j.val, by omega⟩)
    (hw : ∀ j : Fin 64, w (ix2 j c) = W ⟨64 * k.val + j.val, by omega⟩ c) :
    (Host.dotGeneral dot_S8x4096x64_S64x1024_S8x4096x1024_2_0_01_1_n_n none h w : FVec Ideal S8x4096x1024 .f32) (ix3 b t c) = low k H W c :=
  (dot_low' h w b t c).trans (Finset.sum_congr rfl fun j _ => congrArg₂ (· * ·) (hh j) (hw j))

/-- The hidden lanes of one direction. -/
theorem hidden_of (k : Fin 2) (M : FVec Ideal S8x4096x1024 .f32) (w : FVec Ideal S1024x64 .f32) (x d μ : Fin 1024 → EReal) (W : Fin 1024 → Fin 128 → EReal)
    (b : Fin 8) (t : Fin 4096) (j : Fin 64) (hm : ∀ e, M (ix3 b t e) = x e + d e * μ e)
    (hw : ∀ e, w (ix2 e j) = W e ⟨64 * k.val + j.val, by omega⟩) :
    (Host.dotGeneral dot_S8x4096x1024_S1024x64_S8x4096x64_2_0_01_1_n_n none M w : FVec Ideal S8x4096x64 .f32) (ix3 b t j)
      = proj x d μ W ⟨64 * k.val + j.val, by omega⟩ :=
  (dot_low M w b t j).trans (Finset.sum_congr rfl fun e _ => congrArg₂ (· * ·) (hm e) (hw e))

/-- The halves of the weights of direction 0. -/
theorem half_x7_0 (e : Fin 1024) (j : Fin 64) : val_main_v79 (F := Ideal) x7 (ix2 e j) = x7 (ix2 e ⟨64 * (0 : Fin 2).val + j.val, by omega⟩) := by
  pointwise [val_main_v79, val_main_v78]
theorem half_x8_0 (j : Fin 64) (c : Fin 1024) : val_main_v81 (F := Ideal) x8 (ix2 j c) = x8 (ix2 ⟨64 * (0 : Fin 2).val + j.val, by omega⟩ c) := by
  pointwise [val_main_v81, val_main_v80]
theorem half_x9_0 (e : Fin 1024) (j : Fin 64) : val_main_v83 (F := Ideal) x9 (ix2 e j) = x9 (ix2 e ⟨64 * (0 : Fin 2).val + j.val, by omega⟩) := by
  pointwise [val_main_v83, val_main_v82]
theorem half_x10_0 (j : Fin 64) (c : Fin 1024) : val_main_v85 (F := Ideal) x10 (ix2 j c) = x10 (ix2 ⟨64 * (0 : Fin 2).val + j.val, by omega⟩ c) := by
  pointwise [val_main_v85, val_main_v84]

/-- The decay of direction 0 before its last function, and the decay. -/
theorem decay_in_0 (b : Fin 8) (t : Fin 4096) (c : Fin 1024) : val_main_v93 (F := Ideal) x0 x1 x7 x8 x11 (ix3 b t c)
    = x11 (ix2 0 c) + low 0 (fun j => Ideal.tanh (proj (tok x0 b t) (dif x0 b t) (mus x1 1) (fun e c => x7 (ix2 e c)) j)) (fun j c => x8 (ix2 j c)) c := by
  have h : val_main_v92 (F := Ideal) x11 (ix3 b t c) = x11 (ix2 0 c) := by
    pointwise [val_main_v92, val_main_v91, val_main_v87, val_main_v86]
  have low : val_main_v90 (F := Ideal) x0 x1 x7 x8 (ix3 b t c) = low 0 _ _ c :=
    low_of 0 _ _ (fun j => Ideal.tanh (proj (tok x0 b t) (dif x0 b t) (mus x1 1) (fun e c => x7 (ix2 e c)) j)) (fun j c => x8 (ix2 j c)) b t c
      (fun j => congrArg Ideal.tanh (hidden_of 0 _ _ _ _ _ (fun e c => x7 (ix2 e c)) b t j (mix1 x0 x1 b t) fun e => half_x7_0 x7 e j)) (fun j => half_x8_0 x8 j c)
  rw [val_main_v93_apply, h, low]
  rfl
theorem decay_out_0 (b : Fin 8) (t : Fin 4096) (c : Fin 1024) :
    val_main_v113 (F := Ideal) x0 x1 x7 x8 x11 (ix3 b t c) = decay (val_main_v93 (F := Ideal) x0 x1 x7 x8 x11 (ix3 b t c)) := by
  unfold decay
  pointwise [val_main_v113, val_main_v112, val_main_v98, val_main_v97, val_main_v96, val_main_v95, val_main_call4_v11, val_main_call4_v10, val_main_call4_v9, val_main_call4_v8, val_main_call4_v7, val_main_call4_v6, val_main_call4_v5, val_main_call4_v4, val_main_call4_v3, val_main_call4_v2, val_main_call4_v1, val_main_call4_v0, val_main_call4_cst,
    val_main_v94, val_main_cst_6]
  rw [if_neg (fun h => h rfl)]
  rfl
theorem ref_decay_0 : val_main_v113 (F := Ideal) x0 x1 x7 x8 x11 = resDecay x0 x1 x7 x8 x11 0 := by
  funext i
  obtain ⟨b, t, c, rfl⟩ : ∃ (b : Fin 8) (t : Fin 4096) (c : Fin 1024), i = ix3 b t c := ⟨i 0, i 1, i 2, eq_ix3 i⟩
  rw [decay_out_0, decay_in_0]
  rfl

/-- The step of direction 0 before its logistic, and the step. -/
theorem step_in_0 (b : Fin 8) (t : Fin 4096) (c : Fin 1024) : val_main_v105 (F := Ideal) x0 x1 x9 x10 x12 (ix3 b t c)
    = x12 (ix2 0 c) + low 0 (fun j => proj (tok x0 b t) (dif x0 b t) (mus x1 4) (fun e c => x9 (ix2 e c)) j) (fun j c => x10 (ix2 j c)) c := by
  have h : val_main_v104 (F := Ideal) x12 (ix3 b t c) = x12 (ix2 0 c) := by
    pointwise [val_main_v104, val_main_v103, val_main_v100, val_main_v99]
  have low : val_main_v102 (F := Ideal) x0 x1 x9 x10 (ix3 b t c) = low 0 _ _ c :=
    low_of 0 _ _ (fun j => proj (tok x0 b t) (dif x0 b t) (mus x1 4) (fun e c => x9 (ix2 e c)) j) (fun j c => x10 (ix2 j c)) b t c
      (fun j => hidden_of 0 _ _ _ _ _ (fun e c => x9 (ix2 e c)) b t j (mix4 x0 x1 b t) fun e => half_x9_0 x9 e j) (fun j => half_x10_0 x10 j c)
  rw [val_main_v105_apply, h, low]
  rfl
theorem step_out_0 (b : Fin 8) (t : Fin 4096) (c : Fin 1024) :
    val_main_v111 (F := Ideal) x0 x1 x9 x10 x12 (ix3 b t c) = Ideal.logistic (val_main_v105 (F := Ideal) x0 x1 x9 x10 x12 (ix3 b t c)) := by
  pointwise [val_main_v111, val_main_v110, val_main_v109, val_main_v108, val_main_v107, val_main_v106, val_main_cst_7, val_main_cst_8]
  rfl
theorem ref_step_0 : val_main_v111 (F := Ideal) x0 x1 x9 x10 x12 = resStep x0 x1 x9 x10 x12 0 := by
  funext i
  obtain ⟨b, t, c, rfl⟩ : ∃ (b : Fin 8) (t : Fin 4096) (c : Fin 1024), i = ix3 b t c := ⟨i 0, i 1, i 2, eq_ix3 i⟩
  rw [step_out_0, step_in_0]
  rfl

/-- The key and the write of direction 0. -/
theorem key_out_0 (b : Fin 8) (t : Fin 4096) (c : Fin 1024) : val_main_v122 (F := Ideal) x0 x1 x3 x9 x10 x12 x14 (ix3 b t c)
    = stepKey (val_main_v51 (F := Ideal) x0 x1 x3 (ix3 b t c)) (val_main_v111 (F := Ideal) x0 x1 x9 x10 x12 (ix3 b t c)) (x14 (ix2 0 c)) := by
  unfold stepKey
  pointwise [val_main_v122, val_main_v121, val_main_v120, val_main_v119, val_main_v118, val_main_v117, val_main_v116, val_main_v115, val_main_v114, val_main_cst_9, val_main_cst_10]
theorem ref_key_0 : val_main_v122 (F := Ideal) x0 x1 x3 x9 x10 x12 x14 = resKey x0 x1 x3 x9 x10 x12 x14 0 := by
  funext i
  obtain ⟨b, t, c, rfl⟩ : ∃ (b : Fin 8) (t : Fin 4096) (c : Fin 1024), i = ix3 b t c := ⟨i 0, i 1, i 2, eq_ix3 i⟩
  rw [key_out_0, ref_k, ref_step_0]
  rfl
theorem ref_write_0 : val_main_v123 (F := Ideal) x0 x1 x3 x9 x10 x12 x13 = resWrite x0 x1 x3 x9 x10 x12 x13 0 := by
  funext i
  rw [val_main_v123_apply, ref_unit, ref_step_0]
  rfl

/-- The halves of the weights of direction 1. -/
theorem half_x7_1 (e : Fin 1024) (j : Fin 64) : val_main_v125 (F := Ideal) x7 (ix2 e j) = x7 (ix2 e ⟨64 * (1 : Fin 2).val + j.val, by omega⟩) := by
  pointwise [val_main_v125, val_main_v124]
theorem half_x8_1 (j : Fin 64) (c : Fin 1024) : val_main_v127 (F := Ideal) x8 (ix2 j c) = x8 (ix2 ⟨64 * (1 : Fin 2).val + j.val, by omega⟩ c) := by
  pointwise [val_main_v127, val_main_v126]
theorem half_x9_1 (e : Fin 1024) (j : Fin 64) : val_main_v129 (F := Ideal) x9 (ix2 e j) = x9 (ix2 e ⟨64 * (1 : Fin 2).val + j.val, by omega⟩) := by
  pointwise [val_main_v129, val_main_v128]
theorem half_x10_1 (j : Fin 64) (c : Fin 1024) : val_main_v131 (F := Ideal) x10 (ix2 j c) = x10 (ix2 ⟨64 * (1 : Fin 2).val + j.val, by omega⟩ c) := by
  pointwise [val_main_v131, val_main_v130]

/-- The decay of direction 1 before its last function, and the decay. -/
theorem decay_in_1 (b : Fin 8) (t : Fin 4096) (c : Fin 1024) : val_main_v139 (F := Ideal) x0 x1 x7 x8 x11 (ix3 b t c)
    = x11 (ix2 1 c) + low 1 (fun j => Ideal.tanh (proj (tok x0 b t) (dif x0 b t) (mus x1 1) (fun e c => x7 (ix2 e c)) j)) (fun j c => x8 (ix2 j c)) c := by
  have h : val_main_v138 (F := Ideal) x11 (ix3 b t c) = x11 (ix2 1 c) := by
    pointwise [val_main_v138, val_main_v137, val_main_v133, val_main_v132]
  have low : val_main_v136 (F := Ideal) x0 x1 x7 x8 (ix3 b t c) = low 1 _ _ c :=
    low_of 1 _ _ (fun j => Ideal.tanh (proj (tok x0 b t) (dif x0 b t) (mus x1 1) (fun e c => x7 (ix2 e c)) j)) (fun j c => x8 (ix2 j c)) b t c
      (fun j => congrArg Ideal.tanh (hidden_of 1 _ _ _ _ _ (fun e c => x7 (ix2 e c)) b t j (mix1 x0 x1 b t) fun e => half_x7_1 x7 e j)) (fun j => half_x8_1 x8 j c)
  rw [val_main_v139_apply, h, low]
  rfl
theorem decay_out_1 (b : Fin 8) (t : Fin 4096) (c : Fin 1024) :
    val_main_v159 (F := Ideal) x0 x1 x7 x8 x11 (ix3 b t c) = decay (val_main_v139 (F := Ideal) x0 x1 x7 x8 x11 (ix3 b t c)) := by
  unfold decay
  pointwise [val_main_v159, val_main_v158, val_main_v144, val_main_v143, val_main_v142, val_main_v141, val_main_call5_v11, val_main_call5_v10, val_main_call5_v9, val_main_call5_v8, val_main_call5_v7, val_main_call5_v6, val_main_call5_v5, val_main_call5_v4, val_main_call5_v3, val_main_call5_v2, val_main_call5_v1, val_main_call5_v0, val_main_call5_cst,
    val_main_v140, val_main_cst_11]
  rw [if_neg (fun h => h rfl)]
  rfl
theorem ref_decay_1 : val_main_v159 (F := Ideal) x0 x1 x7 x8 x11 = resDecay x0 x1 x7 x8 x11 1 := by
  funext i
  obtain ⟨b, t, c, rfl⟩ : ∃ (b : Fin 8) (t : Fin 4096) (c : Fin 1024), i = ix3 b t c := ⟨i 0, i 1, i 2, eq_ix3 i⟩
  rw [decay_out_1, decay_in_1]
  rfl

/-- The step of direction 1 before its logistic, and the step. -/
theorem step_in_1 (b : Fin 8) (t : Fin 4096) (c : Fin 1024) : val_main_v151 (F := Ideal) x0 x1 x9 x10 x12 (ix3 b t c)
    = x12 (ix2 1 c) + low 1 (fun j => proj (tok x0 b t) (dif x0 b t) (mus x1 4) (fun e c => x9 (ix2 e c)) j) (fun j c => x10 (ix2 j c)) c := by
  have h : val_main_v150 (F := Ideal) x12 (ix3 b t c) = x12 (ix2 1 c) := by
    pointwise [val_main_v150, val_main_v149, val_main_v146, val_main_v145]
  have low : val_main_v148 (F := Ideal) x0 x1 x9 x10 (ix3 b t c) = low 1 _ _ c :=
    low_of 1 _ _ (fun j => proj (tok x0 b t) (dif x0 b t) (mus x1 4) (fun e c => x9 (ix2 e c)) j) (fun j c => x10 (ix2 j c)) b t c
      (fun j => hidden_of 1 _ _ _ _ _ (fun e c => x9 (ix2 e c)) b t j (mix4 x0 x1 b t) fun e => half_x9_1 x9 e j) (fun j => half_x10_1 x10 j c)
  rw [val_main_v151_apply, h, low]
  rfl
theorem step_out_1 (b : Fin 8) (t : Fin 4096) (c : Fin 1024) :
    val_main_v157 (F := Ideal) x0 x1 x9 x10 x12 (ix3 b t c) = Ideal.logistic (val_main_v151 (F := Ideal) x0 x1 x9 x10 x12 (ix3 b t c)) := by
  pointwise [val_main_v157, val_main_v156, val_main_v155, val_main_v154, val_main_v153, val_main_v152, val_main_cst_12, val_main_cst_13]
  rfl
theorem ref_step_1 : val_main_v157 (F := Ideal) x0 x1 x9 x10 x12 = resStep x0 x1 x9 x10 x12 1 := by
  funext i
  obtain ⟨b, t, c, rfl⟩ : ∃ (b : Fin 8) (t : Fin 4096) (c : Fin 1024), i = ix3 b t c := ⟨i 0, i 1, i 2, eq_ix3 i⟩
  rw [step_out_1, step_in_1]
  rfl

/-- The key and the write of direction 1. -/
theorem key_out_1 (b : Fin 8) (t : Fin 4096) (c : Fin 1024) : val_main_v168 (F := Ideal) x0 x1 x3 x9 x10 x12 x14 (ix3 b t c)
    = stepKey (val_main_v51 (F := Ideal) x0 x1 x3 (ix3 b t c)) (val_main_v157 (F := Ideal) x0 x1 x9 x10 x12 (ix3 b t c)) (x14 (ix2 0 c)) := by
  unfold stepKey
  pointwise [val_main_v168, val_main_v167, val_main_v166, val_main_v165, val_main_v164, val_main_v163, val_main_v162, val_main_v161, val_main_v160, val_main_cst_14, val_main_cst_15]
theorem ref_key_1 : val_main_v168 (F := Ideal) x0 x1 x3 x9 x10 x12 x14 = resKey x0 x1 x3 x9 x10 x12 x14 1 := by
  funext i
  obtain ⟨b, t, c, rfl⟩ : ∃ (b : Fin 8) (t : Fin 4096) (c : Fin 1024), i = ix3 b t c := ⟨i 0, i 1, i 2, eq_ix3 i⟩
  rw [key_out_1, ref_k, ref_step_1]
  rfl
theorem ref_write_1 : val_main_v169 (F := Ideal) x0 x1 x3 x9 x10 x12 x13 = resWrite x0 x1 x3 x9 x10 x12 x13 1 := by
  funext i
  rw [val_main_v169_apply, ref_unit, ref_step_1]
  rfl

end Cert.Mix

end
-- ==== Proof.MixEqual.lean ====
/-
  The projections' call and its reference compute the same ten arrays whenever the tokens, the key's mix, the key's weights
  and the key's scale are finite.
-/
module

public import proofs.«01_k».proof.Defs
public import proofs.«01_k».proof.Proof.MixFinal
public import proofs.«01_k».proof.Proof.MixStage

@[expose] public section

set_option maxRecDepth 16384

noncomputable section

namespace Cert.Mix

open Idealize.ShloMosaic Idealize.SL.Sem Cert.Layer

/-- The side conditions the precondition's operations state. -/
theorem keyFacts : Cert.Pre_finite_key.Facts where
  bcast_S_S8x4096x1024 := by decide
  slices_S6x1024_S1x1024_2_0 := by decide
  bcast_S_S1x1024 := by decide
  bitsLt_bf16_f32 := by decide
  bcast_S_S1024x1024 := by decide

section
open Cert.Pre_finite_key
variable [Cert.Pre_finite_key.Facts] (x0 : Vec Ideal S8x4096x1024 .f32) (x1 : Vec Ideal S6x1024 .f32) (x2 x3 x4 : Vec Ideal S1024x1024 .bf16)
  (x5 x7 x9 : Vec Ideal S1024x128 .bf16) (x6 x8 x10 : Vec Ideal S128x1024 .bf16) (x11 x12 : Vec Ideal S2x1024 .f32) (x13 x14 : Vec Ideal S1x1024 .f32)

/-- The precondition says that the tokens are finite, -/
theorem pre_tok (h : (fn (F := Ideal) x0 x1 x2 x3 x4 x5 x6 x7 x8 x9 x10 x11 x12 x13 x14).1 = fun _ => 1#1) (i : S8x4096x1024.Idx) : Finite (x0 i) := by
  have := congrFun h i
  pointwise [fn] at this
  exact finite_of_word this

/-- that the weights of the key's mix are, -/
theorem pre_mix (h : (fn (F := Ideal) x0 x1 x2 x3 x4 x5 x6 x7 x8 x9 x10 x11 x12 x13 x14).2.1 = fun _ => 1#1) (e : Fin 1024) : Finite (x1 (ix2 2 e)) := by
  have := congrFun h (ix2 0 e)
  pointwise [fn] at this
  exact finite_of_word this

/-- that the key's weights are, -/
theorem pre_key (h : (fn (F := Ideal) x0 x1 x2 x3 x4 x5 x6 x7 x8 x9 x10 x11 x12 x13 x14).2.2.1 = fun _ => 1#1) (i : S1024x1024.Idx) : Finite (x3 i) := by
  have := congrFun h i
  pointwise [fn] at this
  exact finite_of_word this

/-- and that the key's scale is. -/
theorem pre_scale (h : (fn (F := Ideal) x0 x1 x2 x3 x4 x5 x6 x7 x8 x9 x10 x11 x12 x13 x14).2.2.2 = fun _ => 1#1) (i : S1x1024.Idx) : Finite (x13 i) := by
  have := congrFun h i
  pointwise [fn] at this
  exact finite_of_word this

end

/-- A shifted row of finite tokens is finite. -/
theorem shifted_finite (X : Fin 4096 → Fin 1024 → EReal) (h : ∀ t e, Finite (X t e)) (t : Fin 4096) (e : Fin 1024) : Finite (shifted X t e) := by
  unfold shifted
  split_ifs <;> first | exact finite_zero | exact h _ _

/-- The scaled keys of finite arguments are finite. -/
theorem scaled_finite (x0 : Vec Ideal (⟨3, ![8, 4096, 1024]⟩ : Shape) .f32) (x1 : Vec Ideal (⟨2, ![6, 1024]⟩ : Shape) .f32)
    (x3 : Vec Ideal (⟨2, ![1024, 1024]⟩ : Shape) .bf16) (x13 : Vec Ideal (⟨2, ![1, 1024]⟩ : Shape) .f32)
    (h0 : ∀ i, Finite (x0 i)) (h1 : ∀ e : Fin 1024, Finite (x1 (ix2 2 e))) (h3 : ∀ i, Finite (x3 i)) (h13 : ∀ i, Finite (x13 i))
    (b : Fin 8) (t : Fin 4096) (e : Fin 1024) : Finite (resProj x0 x1 x3 2 (ix3 b t e) * x13 (ix2 0 e)) :=
  Finite.mul (finite_dot _ _ (fun a => (h0 _).add (((shifted_finite _ (fun _ _ => h0 _) t a).sub (h0 _)).mul (h1 a))) fun a => h3 _) (h13 _)

/-- From memories that agree on the arguments, the named arguments finite, kernel and reference run to the same ten arrays. -/
theorem algebraic :
    Cert.algebraic_RwkvIdeal_RwkvRefIdeal_pre_finite_key (hRwkvIdeal := Cert.RwkvIdeal.Gen.facts)
      (hRwkvRefIdeal := Cert.RwkvRefIdeal.Gen.facts) (hPre_finite_key := keyFacts) := by
  intro m g m' g' hpre hagree
  have hf := fun c => by
    letI := keyFacts
    obtain ⟨p0, p1, p3, p13⟩ := hpre c
    exact scaled_finite (A0 m c) (A1 m c) (A3 m c) (A13 m c) (pre_tok _ _ _ _ _ _ _ _ _ _ _ _ _ _ _ p0)
      (pre_mix _ _ _ _ _ _ _ _ _ _ _ _ _ _ _ p1) (pre_key _ _ _ _ _ _ _ _ _ _ _ _ _ _ _ p3) (pre_scale _ _ _ _ _ _ _ _ _ _ _ _ _ _ _ p13)
  refine ⟨fun c => resProj (A0 m c) (A1 m c) (A2 m c) 0, fun c => resGate (A0 m c) (A1 m c) (A5 m c) (A6 m c),
    fun c => resProj (A0 m c) (A1 m c) (A4 m c) 3, fun c => resNeg (A0 m c) (A1 m c) (A3 m c) (A13 m c),
    fun c => resDecay (A0 m c) (A1 m c) (A7 m c) (A8 m c) (A11 m c) 0, fun c => resDecay (A0 m c) (A1 m c) (A7 m c) (A8 m c) (A11 m c) 1,
    fun c => resKey (A0 m c) (A1 m c) (A3 m c) (A9 m c) (A10 m c) (A12 m c) (A14 m c) 0,
    fun c => resKey (A0 m c) (A1 m c) (A3 m c) (A9 m c) (A10 m c) (A12 m c) (A14 m c) 1,
    fun c => resWrite (A0 m c) (A1 m c) (A3 m c) (A9 m c) (A10 m c) (A12 m c) (A13 m c) 0,
    fun c => resWrite (A0 m c) (A1 m c) (A3 m c) (A9 m c) (A10 m c) (A12 m c) (A13 m c) 1, ?_, ?_⟩
  · refine (θ_run _ _ _).mono (fun r h c => ?_) (Cert.MixIdeal.run_blocks m g)
    obtain ⟨h0, h1, h2, h3, h4, h5, h6, h7, h8, h9, hargs⟩ := h c
    exact ⟨h0.trans (final17 m c), h1.trans (final18 m c), h2.trans (final19 m c), h3.trans (final20 m c (hf c)), h4.trans (final21 m c),
      h5.trans (final22 m c), h6.trans (final23 m c), h7.trans (final24 m c), h8.trans (final25 m c (hf c)), h9.trans (final26 m c (hf c)), hargs⟩
  · refine (θ_run _ _ _).mono (fun r h c => ?_) (Cert.RwkvRefIdeal.Value.run m' g')
    obtain ⟨h0, h1, h2, h3, h4, h5, h6, h7, h8, h9, hargs⟩ := h c
    obtain ⟨(a0 : StableHlo.launchContents m' c (Proc.devRef .tc Cert.RwkvRefIdeal.main_arg0) = A0 m c),
      (a1 : StableHlo.launchContents m' c (Proc.devRef .tc Cert.RwkvRefIdeal.main_arg1) = A1 m c),
      (a2 : StableHlo.launchContents m' c (Proc.devRef .tc Cert.RwkvRefIdeal.main_arg2) = A2 m c),
      (a3 : StableHlo.launchContents m' c (Proc.devRef .tc Cert.RwkvRefIdeal.main_arg3) = A3 m c),
      (a4 : StableHlo.launchContents m' c (Proc.devRef .tc Cert.RwkvRefIdeal.main_arg4) = A4 m c),
      (a5 : StableHlo.launchContents m' c (Proc.devRef .tc Cert.RwkvRefIdeal.main_arg5) = A5 m c),
      (a6 : StableHlo.launchContents m' c (Proc.devRef .tc Cert.RwkvRefIdeal.main_arg6) = A6 m c),
      (a7 : StableHlo.launchContents m' c (Proc.devRef .tc Cert.RwkvRefIdeal.main_arg7) = A7 m c),
      (a8 : StableHlo.launchContents m' c (Proc.devRef .tc Cert.RwkvRefIdeal.main_arg8) = A8 m c),
      (a9 : StableHlo.launchContents m' c (Proc.devRef .tc Cert.RwkvRefIdeal.main_arg9) = A9 m c),
      (a10 : StableHlo.launchContents m' c (Proc.devRef .tc Cert.RwkvRefIdeal.main_arg10) = A10 m c),
      (a11 : StableHlo.launchContents m' c (Proc.devRef .tc Cert.RwkvRefIdeal.main_arg11) = A11 m c),
      (a12 : StableHlo.launchContents m' c (Proc.devRef .tc Cert.RwkvRefIdeal.main_arg12) = A12 m c),
      (a13 : StableHlo.launchContents m' c (Proc.devRef .tc Cert.RwkvRefIdeal.main_arg13) = A13 m c),
      (a14 : StableHlo.launchContents m' c (Proc.devRef .tc Cert.RwkvRefIdeal.main_arg14) = A14 m c)⟩ := hagree c
    refine ⟨h0.trans ?_, h1.trans ?_, h2.trans ?_, h3.trans ?_, h4.trans ?_, h5.trans ?_, h6.trans ?_, h7.trans ?_, h8.trans ?_, h9.trans ?_, hargs⟩
    · rw [Cert.RwkvRefIdeal.Read.val_main_v49_eq, a0, a1, a2]; exact ref_r _ _ _
    · rw [Cert.RwkvRefIdeal.Read.val_main_v63_eq, a0, a1, a5, a6]; exact ref_g _ _ _ _
    · rw [Cert.RwkvRefIdeal.Read.val_main_v53_eq, a0, a1, a4]; exact ref_v _ _ _
    · rw [Cert.RwkvRefIdeal.Read.val_main_v170_eq, a0, a1, a3, a13]; exact ref_neg _ _ _ _
    · rw [Cert.RwkvRefIdeal.Read.val_main_v113_eq, a0, a1, a7, a8, a11]; exact ref_decay_0 _ _ _ _ _
    · rw [Cert.RwkvRefIdeal.Read.val_main_v159_eq, a0, a1, a7, a8, a11]; exact ref_decay_1 _ _ _ _ _
    · rw [Cert.RwkvRefIdeal.Read.val_main_v122_eq, a0, a1, a3, a9, a10, a12, a14]; exact ref_key_0 _ _ _ _ _ _ _
    · rw [Cert.RwkvRefIdeal.Read.val_main_v168_eq, a0, a1, a3, a9, a10, a12, a14]; exact ref_key_1 _ _ _ _ _ _ _
    · rw [Cert.RwkvRefIdeal.Read.val_main_v123_eq, a0, a1, a3, a9, a10, a12, a13]; exact ref_write_0 _ _ _ _ _ _ _
    · rw [Cert.RwkvRefIdeal.Read.val_main_v169_eq, a0, a1, a3, a9, a10, a12, a13]; exact ref_write_1 _ _ _ _ _ _ _

/-- The reference runs and keeps its arguments; it declares no semaphore. -/
theorem frame_ref : Cert.quiescent_RwkvRefIdeal (hRwkvRefIdeal := Cert.RwkvRefIdeal.Gen.facts) := fun m g _ =>
  (θ_run _ _ _).mono (fun r h => ⟨fun c => (h c).2.2.2.2.2.2.2.2.2.2, sem_eq_zero_of_no_sems (by decide) r.2⟩) (Cert.RwkvRefIdeal.Value.run m g)

end Cert.Mix

end
-- ==== Proof.ReadRow.lean ====
/-
  The readout of the time mixing as formulas of rows: every head's sum is normed to mean zero and variance one, the bonus is
  added, the gate multiplied in, and the row's product with the output weights is added to the residual stream.
-/
module

public import proofs.«01_k».proof.Proof.Common

@[expose] public section

noncomputable section

namespace Cert.Readoff

open Idealize.ShloMosaic Cert.Layer

/-- The head of a channel. -/
def headOf (c : Fin 1024) : Fin 16 := ⟨c.val / 64, by omega⟩

/-- The sum over the 64 channels of a head. -/
def heads (f : Fin 1024 → EReal) (h : Fin 16) : EReal := ∑ e : Fin 64, f ⟨h.val * 64 + e.val, by omega⟩

/-- A sixty-fourth. -/
def inv : EReal := Ideal.ofBits FTy.f32 1015021568#32

/-- A row less the mean of each head. -/
def dev (y : Fin 1024 → EReal) (c : Fin 1024) : EReal := y c - heads y (headOf c) * inv

/-- A row with each head brought to mean zero and variance one. -/
def normed (y : Fin 1024 → EReal) (c : Fin 1024) : EReal :=
  dev y c * Ideal.rsqrt (heads (fun e => dev y e * dev y e) (headOf c) * inv + Ideal.ofBits FTy.f32 975685036#32)

/-- The row that is multiplied with the output weights. -/
def readRow (y k r v g rk gw gb : Fin 1024 → EReal) (c : Fin 1024) : EReal :=
  (normed y c * gw c + gb c + heads (fun e => r e * k e * rk e) (headOf c) * v c) * g c

/-- A residual row plus the gate times a row's product with the output weights. -/
def added (z : Fin 1024 → EReal) (wo : Fin 1024 → Fin 1024 → EReal) (h gate : Fin 1024 → EReal) (c : Fin 1024) : EReal :=
  h c + gate c * ∑ e, z e * wo e c

/-- The call's result at batch `b`, position `t` and channel `c`, as one formula of its arrays. -/
def readout (yf yb r v g k0 k1 : Fin 8 → Fin 4096 → Fin 1024 → EReal) (rk gw gb : Fin 1024 → EReal) (wo : Fin 1024 → Fin 1024 → EReal)
    (h : Fin 8 → Fin 4096 → Fin 1024 → EReal) (mods : Fin 8 → Fin 6 → Fin 1024 → EReal) (b : Fin 8) (t : Fin 4096) (c : Fin 1024) : EReal :=
  added (readRow (fun e => yf b t e + yb b t e) (fun e => k0 b t e + k1 b t e) (r b t) (v b t) (g b t) rk gw gb) wo (h b t) (mods b 2) c

/-- The call's result from whole arrays. -/
def whole (yf yb r v g k0 k1 : Vec Ideal ⟨3, ![8, 4096, 1024]⟩ .f32) (rk gw gb : Vec Ideal ⟨1, ![1024]⟩ .f32)
    (wo : Vec Ideal ⟨2, ![1024, 1024]⟩ .bf16) (h : Vec Ideal ⟨3, ![8, 4096, 1024]⟩ .f32) (mods : Vec Ideal ⟨3, ![8, 6, 1024]⟩ .f32) :
    Vec Ideal ⟨3, ![8, 4096, 1024]⟩ .f32 := fun i =>
  readout (fun b t e => yf (ix3 b t e)) (fun b t e => yb (ix3 b t e)) (fun b t e => r (ix3 b t e)) (fun b t e => v (ix3 b t e))
    (fun b t e => g (ix3 b t e)) (fun b t e => k0 (ix3 b t e)) (fun b t e => k1 (ix3 b t e)) (fun e => rk (ix1 e)) (fun e => gw (ix1 e))
    (fun e => gb (ix1 e)) (fun e c => wo (ix2 e c)) (fun b t c => h (ix3 b t c)) (fun b k c => mods (ix3 b k c)) (i 0) (i 1) (i 2)

/-- The words are a sixty-fourth and 64. -/
theorem inv_eq : inv = ((1 / 64 : ℝ) : EReal) := by
  simp [inv, Ideal.ofBits, Ideal.ieee]
  rw [← EReal.coe_mul]
  norm_num
theorem sixty_four : Ideal.ofBits FTy.f32 1115684864#32 = ((64 : ℝ) : EReal) := by
  simp [Ideal.ofBits, Ideal.ieee]
  rw [← EReal.coe_mul]
  norm_num

/-- A number times a sixty-fourth is the number over 64. -/
theorem mul_inv (x : EReal) : x * inv = Ideal.div x (Ideal.ofBits FTy.f32 1115684864#32) := by
  rw [inv_eq, sixty_four]
  unfold Ideal.div
  rw [if_neg (by norm_num), ← EReal.coe_inv]
  norm_num

/-- A head's sum of 128 channels of a row is the head's sum of the row. -/
theorem headSum_shift (f : Fin 1024 → EReal) (o : Fin 8) (c : Fin 128) :
    headSum (fun x => f ⟨128 * o.val + x.val, by omega⟩) c = heads f (headOf ⟨128 * o.val + c.val, by omega⟩) := by
  unfold headSum heads headOf
  exact Finset.sum_congr rfl fun e _ => congrArg f (Fin.ext (by
    show 128 * o.val + (64 * (c.val / 64) + e.val) = (128 * o.val + c.val) / 64 * 64 + e.val; omega))

theorem finite_inv : Finite inv := ⟨_, inv_eq⟩

/-- The head of a head's channel. -/
theorem headOf_at (o : Fin 16) (e : Fin 64) : headOf ⟨o.val * 64 + e.val, by omega⟩ = o :=
  Fin.ext (by show (o.val * 64 + e.val) / 64 = o.val; omega)

/-- The sums and the deviations of finite rows are finite. -/
theorem finite_heads {f : Fin 1024 → EReal} (hf : ∀ e, Finite (f e)) (h : Fin 16) : Finite (heads f h) := finite_sum _ _ fun _ => hf _
theorem finite_dev {y : Fin 1024 → EReal} (hy : ∀ e, Finite (y e)) (c : Fin 1024) : Finite (dev y c) :=
  (hy c).sub ((finite_heads hy _).mul finite_inv)

end Cert.Readoff

end
-- ==== Proof.ReadPay.lean ====
/-
  What the readout's body computes for 128 channels of a block of rows, entry by entry, and its last product.
-/
module

public import proofs.«01_k».proof.Proof.MixPay
public import proofs.«01_k».proof.Proof.ReadRow
public import proofs.«01_k».proof.Proof.Gen.ReadoutIdeal.Skeleton
public import Idealize.ShloMosaic.Lib.Pipeline.Value

@[expose] public section

set_option maxRecDepth 16384

noncomputable section

namespace Cert.Readoff

open Idealize.ShloMosaic Idealize.ShloMosaic.TcCoe Cert.ReadoutIdeal Cert.ReadoutIdeal.Gen Cert.Layer

/-- The matrix of zeros and ones of the body. -/
abbrev ones : FVec Ideal S128x128 .bf16 := k0_pay6 k0_pay1 k0_pay2 k0_pay3 k0_pay4 k0_pay5

theorem ones_apply (a b : Fin 128) : ones (ix2 a b) = sameHead a b := by
  pointwise [ones, k0_pay6, k0_pay1, k0_pay2, k0_pay3, k0_pay4, k0_pay5]
  rw [Cert.Mix.half_word, Cert.Mix.half_word, cmp_word _ _ (by omega) (by omega)]
  unfold sameHead
  by_cases h : a.val / 64 = b.val / 64 <;> simp [h, FloatOps.sitofp]

/-- The product with such a matrix in two parts: of the numbers and of what their rounding leaves. -/
def segsum (E : FVec Ideal S128x128 .bf16) (z : FVec Ideal S256x128 .f32) : FVec Ideal S256x128 .f32 :=
  addf (matmul dot_S256x128_S128x128_S256x128_1_0_0_1_n_n none (truncf .bf16 z bitsLt_bf16_f32) E (constant S256x128 .f32 0x00000000#32))
    (matmul dot_S256x128_S128x128_S256x128_1_0_0_1_n_n none
      (truncf .bf16 (subf z (extf .f32 (truncf .bf16 z bitsLt_bf16_f32) bitsLt_bf16_f32)) bitsLt_bf16_f32) E (constant S256x128 .f32 0x00000000#32))

/-- Of finite numbers it sums over each head. -/
theorem segsum_apply (z : FVec Ideal S256x128 .f32) (r : Fin 256) (hf : ∀ x : Fin 128, Finite (z (ix2 r x))) (c : Fin 128) :
    segsum ones z (ix2 r c) = headSum (fun x => z (ix2 r x)) c := by
  rw [← sum_hi_lo (fun x => z (ix2 r x)) hf c]
  simp only [← ones_apply]
  generalize ones = E
  pointwise [segsum]

section
variable (E : FVec Ideal S128x128 .bf16) (yf yb r v g kd0 kd1 : Vec Ideal S1x256x128 .f32) (rk gw gb : Vec Ideal S1x128 .f32)

/-- What is stored for 128 channels. -/
def chunk : FVec Ideal S256x128 .bf16 :=
  k0_pay28 (k0_pay26 E (k0_pay21 E yf yb) (k0_pay24 E yf yb) (k0_pay25 E yf yb) (constant S256x128 .f32 0x00000000#32) gw gb)
    (k0_pay27 E r kd0 kd1 rk v) g

/-- The deviations from the means, the normed numbers, and the bonus, by sums over the heads. -/
theorem pay21_eq : k0_pay21 E yf yb
    = subf (k0_pay13 yf yb) (mulf (segsum E (k0_pay13 yf yb)) (broadcast S256x128 (Scalar.ofBits .f32 0x3C800000#32))) := rfl
theorem pay26_eq : k0_pay26 E (k0_pay21 E yf yb) (k0_pay24 E yf yb) (k0_pay25 E yf yb) (constant S256x128 .f32 0x00000000#32) gw gb
    = addf (mulf (mulf (k0_pay21 E yf yb) (rsqrt (addf (mulf (segsum E (k0_pay22 E yf yb)) (broadcast S256x128 (Scalar.ofBits .f32 0x3C800000#32)))
          (broadcast S256x128 (Scalar.ofBits .f32 0x3A27C5AC#32)))))
        (broadcastTo S256x128 (shapeCast S1x128 gw shapeCasts_S1x128_S1x128) broadcasts_S1x128_S256x128))
      (broadcastTo S256x128 (shapeCast S1x128 gb shapeCasts_S1x128_S1x128) broadcasts_S1x128_S256x128) := rfl
theorem pay27_eq : k0_pay27 E r kd0 kd1 rk v
    = mulf (segsum E (k0_pay18 r kd0 kd1 rk)) (shapeCast S256x128 v shapeCasts_S1x256x128_S256x128) := rfl

theorem pay13_apply (n : Fin 256) (x : Fin 128) : k0_pay13 yf yb (ix2 n x) = yf (ix3 0 n x) + yb (ix3 0 n x) := by
  pointwise [k0_pay13]
theorem pay18_apply (n : Fin 256) (x : Fin 128) :
    k0_pay18 r kd0 kd1 rk (ix2 n x) = r (ix3 0 n x) * (kd0 (ix3 0 n x) + kd1 (ix3 0 n x)) * rk (ix2 0 x) := by
  pointwise [k0_pay18]
theorem pay22_apply (n : Fin 256) (x : Fin 128) : k0_pay22 E yf yb (ix2 n x) = k0_pay21 E yf yb (ix2 n x) * k0_pay21 E yf yb (ix2 n x) := by
  rfl
theorem pay21_apply (n : Fin 256) (x : Fin 128) :
    k0_pay21 E yf yb (ix2 n x) = k0_pay13 yf yb (ix2 n x) - segsum E (k0_pay13 yf yb) (ix2 n x) * inv := by
  rw [pay21_eq]; rfl
theorem pay26_apply (n : Fin 256) (x : Fin 128) :
    k0_pay26 E (k0_pay21 E yf yb) (k0_pay24 E yf yb) (k0_pay25 E yf yb) (constant S256x128 .f32 0x00000000#32) gw gb (ix2 n x)
      = k0_pay21 E yf yb (ix2 n x) * Ideal.rsqrt (segsum E (k0_pay22 E yf yb) (ix2 n x) * inv + Ideal.ofBits FTy.f32 975685036#32) * gw (ix2 0 x)
        + gb (ix2 0 x) := by
  rw [pay26_eq]
  generalize k0_pay21 E yf yb = D
  generalize segsum E (k0_pay22 E yf yb) = V
  pointwise [inv]
theorem pay27_apply (n : Fin 256) (x : Fin 128) :
    k0_pay27 E r kd0 kd1 rk v (ix2 n x) = segsum E (k0_pay18 r kd0 kd1 rk) (ix2 n x) * v (ix3 0 n x) := by
  rw [pay27_eq]
  generalize segsum E (k0_pay18 r kd0 kd1 rk) = V
  pointwise
theorem pay28_apply (A B : FVec Ideal S256x128 .f32) (n : Fin 256) (x : Fin 128) :
    k0_pay28 A B g (ix2 n x) = (A (ix2 n x) + B (ix2 n x)) * g (ix3 0 n x) := by
  pointwise [k0_pay28]

end

/-- The last product: the residual plus the gate times it. -/
theorem pay48_apply (z : Vec Ideal S256x1024 .bf16) (wo : Vec Ideal S1024x1024 .bf16) (h : Vec Ideal S1x256x1024 .f32) (q : Vec Ideal S1x1x1024 .f32)
    (n : Fin 256) (c : Fin 1024) :
    k0_pay48 z wo h q (ix3 0 n c)
      = added (fun e => z (ix2 n e)) (fun e c => wo (ix2 e c)) (fun c => h (ix3 0 n c)) (fun c => q (ix3 0 0 c)) c := by
  pointwise [k0_pay48]; rfl

/-- The 128 channels at `128 o`, of rows of 1024: the row that is multiplied with the output weights. -/
theorem chunk_apply (Y K R V G : Fin 256 → Fin 1024 → EReal) (RK GW GB : Fin 1024 → EReal) (n : Fin 256)
    (YF YB K0 K1 : Fin 256 → Fin 1024 → EReal) (hY : ∀ e, Y n e = YF n e + YB n e) (hK : ∀ e, K n e = K0 n e + K1 n e)
    (fy : ∀ e, Finite (Y n e)) (fr : ∀ e, Finite (R n e * K n e * RK e))
    (o : Fin 8) (yf yb r v g kd0 kd1 : Vec Ideal S1x256x128 .f32) (rk gw gb : Vec Ideal S1x128 .f32)
    (h0 : ∀ x : Fin 128, yf (ix3 0 n x) = YF n ⟨128 * o.val + x.val, by omega⟩) (h1 : ∀ x : Fin 128, yb (ix3 0 n x) = YB n ⟨128 * o.val + x.val, by omega⟩)
    (h2 : ∀ x : Fin 128, r (ix3 0 n x) = R n ⟨128 * o.val + x.val, by omega⟩) (h3 : ∀ x : Fin 128, v (ix3 0 n x) = V n ⟨128 * o.val + x.val, by omega⟩)
    (h4 : ∀ x : Fin 128, g (ix3 0 n x) = G n ⟨128 * o.val + x.val, by omega⟩) (h5 : ∀ x : Fin 128, kd0 (ix3 0 n x) = K0 n ⟨128 * o.val + x.val, by omega⟩)
    (h6 : ∀ x : Fin 128, kd1 (ix3 0 n x) = K1 n ⟨128 * o.val + x.val, by omega⟩) (h7 : ∀ x : Fin 128, rk (ix2 0 x) = RK ⟨128 * o.val + x.val, by omega⟩)
    (h8 : ∀ x : Fin 128, gw (ix2 0 x) = GW ⟨128 * o.val + x.val, by omega⟩) (h9 : ∀ x : Fin 128, gb (ix2 0 x) = GB ⟨128 * o.val + x.val, by omega⟩)
    (c : Fin 128) :
    chunk ones yf yb r v g kd0 kd1 rk gw gb (ix2 n c) = readRow (Y n) (K n) (R n) (V n) (G n) RK GW GB ⟨128 * o.val + c.val, by omega⟩ := by
  have y : ∀ x : Fin 128, k0_pay13 yf yb (ix2 n x) = Y n ⟨128 * o.val + x.val, by omega⟩ := fun x => by rw [pay13_apply, h0, h1, hY]
  have d : ∀ x : Fin 128, k0_pay21 ones yf yb (ix2 n x) = dev (Y n) ⟨128 * o.val + x.val, by omega⟩ := fun x => by
    rw [pay21_apply, segsum_apply _ n (fun x => by rw [y]; exact fy _) x]
    simp only [y]
    rw [headSum_shift]; rfl
  have w : ∀ x : Fin 128, k0_pay22 ones yf yb (ix2 n x) = dev (Y n) ⟨128 * o.val + x.val, by omega⟩ * dev (Y n) ⟨128 * o.val + x.val, by omega⟩ :=
    fun x => by rw [pay22_apply, d]
  have q : ∀ x : Fin 128, k0_pay18 r kd0 kd1 rk (ix2 n x)
      = R n ⟨128 * o.val + x.val, by omega⟩ * K n ⟨128 * o.val + x.val, by omega⟩ * RK ⟨128 * o.val + x.val, by omega⟩ := fun x => by
    rw [pay18_apply, h2, h5, h6, h7, hK]
  unfold chunk
  rw [pay28_apply, pay26_apply, pay27_apply, d, h3, h4, h8, h9,
    segsum_apply _ n (fun x => by rw [w]; exact (finite_dev fy _).mul (finite_dev fy _)) c,
    segsum_apply _ n (fun x => by rw [q]; exact fr _) c]
  simp only [w, q]
  rw [headSum_shift (fun e => dev (Y n) e * dev (Y n) e) o c, headSum_shift (fun e => R n e * K n e * RK e) o c]
  rfl

end Cert.Readoff

end
-- ==== Proof.ReadBlock.lean ====
/-
  The readout's call: what a point leaves in its block of the result, and the result array as a whole.
-/
module

public import proofs.«01_k».proof.Proof.ReadPay
public import proofs.«01_k».proof.Proof.Gen.ReadoutIdeal.Value

@[expose] public section

set_option maxRecDepth 16384

noncomputable section

namespace Cert.Readoff

open Idealize.ShloMosaic Idealize.ShloMosaic.TcCoe Idealize.ShloMosaic.Pipeline Idealize.ShloMosaic.Tactic
open Cert.ReadoutIdeal Cert.ReadoutIdeal.Gen Cert.ReadoutIdeal.Value Cert.Layer

/-! ## The rows multiplied with the output weights, stored 128 lanes at a time -/

/-- A store of 128 lanes agrees with the whole at its lanes. -/
theorem eighth_piece (G : Fin 256 → Fin 1024 → EReal) (o : Fin 8) (a : ℕ) (ha : a = 128 * o.val) (inb) (w : FVec Ideal S256x128 .bf16)
    (h : ∀ (n : Fin 256) (c : Fin 128), w (ix2 n c) = G n ⟨128 * o.val + c.val, by omega⟩) (x : S256x128.Idx) :
    w x = (fun y : S256x1024.Idx => G (y 0) (y 1)) ((Rect.unit (s := S256x1024) ![0, a] ![256, 128] inb).emb x) := by
  subst ha
  obtain ⟨n, c, rfl⟩ : ∃ (n : Fin 256) (c : Fin 128), x = ix2 n c := ⟨x 0, x 1, eq_ix2 x⟩
  refine (h n c).trans (congrArg₂ G (Fin.ext ?_) (Fin.ext ?_))
  · show n.val = 0 + 1 * n.val; omega
  · show 128 * o.val + c.val = 128 * o.val + 1 * c.val; omega

/-- Eight stores of 128 lanes each leave what they agree with. -/
theorem eighths_canon (G : Fin 256 → Fin 1024 → EReal) (w0 w1 w2 w3 w4 w5 w6 w7 : FVec Ideal S256x128 .bf16)
    (h0 : ∀ (n : Fin 256) (c : Fin 128), w0 (ix2 n c) = G n ⟨128 * 0 + c.val, by omega⟩)
    (h1 : ∀ (n : Fin 256) (c : Fin 128), w1 (ix2 n c) = G n ⟨128 * 1 + c.val, by omega⟩)
    (h2 : ∀ (n : Fin 256) (c : Fin 128), w2 (ix2 n c) = G n ⟨128 * 2 + c.val, by omega⟩)
    (h3 : ∀ (n : Fin 256) (c : Fin 128), w3 (ix2 n c) = G n ⟨128 * 3 + c.val, by omega⟩)
    (h4 : ∀ (n : Fin 256) (c : Fin 128), w4 (ix2 n c) = G n ⟨128 * 4 + c.val, by omega⟩)
    (h5 : ∀ (n : Fin 256) (c : Fin 128), w5 (ix2 n c) = G n ⟨128 * 5 + c.val, by omega⟩)
    (h6 : ∀ (n : Fin 256) (c : Fin 128), w6 (ix2 n c) = G n ⟨128 * 6 + c.val, by omega⟩)
    (h7 : ∀ (n : Fin 256) (c : Fin 128), w7 (ix2 n c) = G n ⟨128 * 7 + c.val, by omega⟩)
    (y : S256x1024.Idx) :
    View.canon (Val := Elt Ideal) (e := .bf16) (s := S256x1024) [⟨Rect.unit ![0, 896] ![256, 128] inb_S256x1024_S256x128_0_896, w7⟩,
      ⟨Rect.unit ![0, 768] ![256, 128] inb_S256x1024_S256x128_0_768, w6⟩,
      ⟨Rect.unit ![0, 640] ![256, 128] inb_S256x1024_S256x128_0_640, w5⟩,
      ⟨Rect.unit ![0, 512] ![256, 128] inb_S256x1024_S256x128_0_512, w4⟩,
      ⟨Rect.unit ![0, 384] ![256, 128] inb_S256x1024_S256x128_0_384, w3⟩,
      ⟨Rect.unit ![0, 256] ![256, 128] inb_S256x1024_S256x128_0_256, w2⟩,
      ⟨Rect.unit ![0, 128] ![256, 128] inb_S256x1024_S256x128_0_128, w1⟩,
      ⟨Rect.unit ![0, 0] ![256, 128] inb_S256x1024_S256x128_0_0, w0⟩] y = G (y 0) (y 1) := by
  refine View.canon_apply_of_pieces (Val := Elt Ideal) (e := .bf16) (fun y => G (y 0) (y 1)) _ ?_ y ?_
  · intro p hp
    simp only [List.mem_cons, List.not_mem_nil, or_false] at hp
    rcases hp with rfl | rfl | rfl | rfl | rfl | rfl | rfl | rfl
    · exact eighth_piece G 7 896 rfl inb_S256x1024_S256x128_0_896 w7 h7
    · exact eighth_piece G 6 768 rfl inb_S256x1024_S256x128_0_768 w6 h6
    · exact eighth_piece G 5 640 rfl inb_S256x1024_S256x128_0_640 w5 h5
    · exact eighth_piece G 4 512 rfl inb_S256x1024_S256x128_0_512 w4 h4
    · exact eighth_piece G 3 384 rfl inb_S256x1024_S256x128_0_384 w3 h3
    · exact eighth_piece G 2 256 rfl inb_S256x1024_S256x128_0_256 w2 h2
    · exact eighth_piece G 1 128 rfl inb_S256x1024_S256x128_0_128 w1 h1
    · exact eighth_piece G 0 0 rfl inb_S256x1024_S256x128_0_0 w0 h0
  · exact View.cover_of_tiledL _ ![256, 128] (by sl_kernel_rfl) y

section
variable (x0 x1 x2 x3 x4 x5 x6 : Vec Ideal S1x256x1024 .f32) (x7 x8 x9 : Vec Ideal S1x1024 .f32)

/-- 128 lanes of a block of rows, and of a row. -/
abbrev lanes (x : Vec Ideal S1x256x1024 .f32) (o : ℕ) (i : ∀ k, (![0, 0, o] : Fin 3 → ℕ) k + (![1, 256, 128] : Fin 3 → ℕ) k ≤ S1x256x1024.size k) :
    Vec Ideal S1x256x128 .f32 := View.ld x (Rect.unit (s := S1x256x1024) ![0, 0, o] ![1, 256, 128] i)
abbrev lane (x : Vec Ideal S1x1024 .f32) (o : ℕ) (j : ∀ k, (![0, o] : Fin 2 → ℕ) k + (![1, 128] : Fin 2 → ℕ) k ≤ S1x1024.size k) :
    Vec Ideal S1x128 .f32 := View.ld x (Rect.unit (s := S1x1024) ![0, o] ![1, 128] j)

theorem lanes_apply (x : Vec Ideal S1x256x1024 .f32) (o : ℕ) (inb) (n : Fin 256) (c : Fin 128) (h : o + c.val < 1024) :
    lanes x o inb (ix3 0 n c) = x (ix3 0 n ⟨o + c.val, h⟩) :=
  congrArg x (funext fun a => by fin_cases a <;> exact Fin.ext (by simp))
theorem lane_apply (x : Vec Ideal S1x1024 .f32) (o : ℕ) (inb) (c : Fin 128) (h : o + c.val < 1024) :
    lane x o inb (ix2 0 c) = x (ix2 0 ⟨o + c.val, h⟩) :=
  congrArg x (funext fun a => by fin_cases a <;> exact Fin.ext (by simp))

/-- What is stored at the lanes from `o`. -/
abbrev part (o : ℕ) (i : ∀ k, (![0, 0, o] : Fin 3 → ℕ) k + (![1, 256, 128] : Fin 3 → ℕ) k ≤ S1x256x1024.size k)
    (j : ∀ k, (![0, o] : Fin 2 → ℕ) k + (![1, 128] : Fin 2 → ℕ) k ≤ S1x1024.size k) : FVec Ideal S256x128 .bf16 :=
  chunk ones (lanes x0 o i) (lanes x1 o i) (lanes x2 o i) (lanes x3 o i) (lanes x4 o i) (lanes x5 o i) (lanes x6 o i) (lane x7 o j) (lane x8 o j) (lane x9 o j)

/-- The eight stores. -/
abbrev rowL : List (View.Piece (Elt Ideal) S256x1024 .bf16) :=
  [⟨Rect.unit ![0, 896] ![256, 128] inb_S256x1024_S256x128_0_896, part x0 x1 x2 x3 x4 x5 x6 x7 x8 x9 896 inb_S1x256x1024_S1x256x128_0_0_896 inb_S1x1024_S1x128_0_896⟩,
    ⟨Rect.unit ![0, 768] ![256, 128] inb_S256x1024_S256x128_0_768, part x0 x1 x2 x3 x4 x5 x6 x7 x8 x9 768 inb_S1x256x1024_S1x256x128_0_0_768 inb_S1x1024_S1x128_0_768⟩,
    ⟨Rect.unit ![0, 640] ![256, 128] inb_S256x1024_S256x128_0_640, part x0 x1 x2 x3 x4 x5 x6 x7 x8 x9 640 inb_S1x256x1024_S1x256x128_0_0_640 inb_S1x1024_S1x128_0_640⟩,
    ⟨Rect.unit ![0, 512] ![256, 128] inb_S256x1024_S256x128_0_512, part x0 x1 x2 x3 x4 x5 x6 x7 x8 x9 512 inb_S1x256x1024_S1x256x128_0_0_512 inb_S1x1024_S1x128_0_512⟩,
    ⟨Rect.unit ![0, 384] ![256, 128] inb_S256x1024_S256x128_0_384, part x0 x1 x2 x3 x4 x5 x6 x7 x8 x9 384 inb_S1x256x1024_S1x256x128_0_0_384 inb_S1x1024_S1x128_0_384⟩,
    ⟨Rect.unit ![0, 256] ![256, 128] inb_S256x1024_S256x128_0_256, part x0 x1 x2 x3 x4 x5 x6 x7 x8 x9 256 inb_S1x256x1024_S1x256x128_0_0_256 inb_S1x1024_S1x128_0_256⟩,
    ⟨Rect.unit ![0, 128] ![256, 128] inb_S256x1024_S256x128_0_128, part x0 x1 x2 x3 x4 x5 x6 x7 x8 x9 128 inb_S1x256x1024_S1x256x128_0_0_128 inb_S1x1024_S1x128_0_128⟩,
    ⟨Rect.unit ![0, 0] ![256, 128] inb_S256x1024_S256x128_0_0, part x0 x1 x2 x3 x4 x5 x6 x7 x8 x9 0 inb_S1x256x1024_S1x256x128_0_0_0 inb_S1x1024_S1x128_0_0⟩]

/-- A block's rows. -/
def blockRow (n : Fin 256) (c : Fin 1024) : EReal :=
  readRow (fun e => x0 (ix3 0 n e) + x1 (ix3 0 n e)) (fun e => x5 (ix3 0 n e) + x6 (ix3 0 n e)) (fun e => x2 (ix3 0 n e)) (fun e => x3 (ix3 0 n e))
    (fun e => x4 (ix3 0 n e)) (fun e => x7 (ix2 0 e)) (fun e => x8 (ix2 0 e)) (fun e => x9 (ix2 0 e)) c

variable (f0 : ∀ i, Finite (x0 i)) (f1 : ∀ i, Finite (x1 i)) (f2 : ∀ i, Finite (x2 i)) (f5 : ∀ i, Finite (x5 i)) (f6 : ∀ i, Finite (x6 i)) (f7 : ∀ i, Finite (x7 i))

include f0 f1 f2 f5 f6 f7 in
/-- What is stored is the rows' lanes. -/
theorem part_lanes (o : Fin 8) (a : ℕ) (ha : a = 128 * o.val) (i j) (n : Fin 256) (c : Fin 128) :
    part x0 x1 x2 x3 x4 x5 x6 x7 x8 x9 a i j (ix2 n c) = blockRow x0 x1 x2 x3 x4 x5 x6 x7 x8 x9 n ⟨128 * o.val + c.val, by omega⟩ := by
  subst ha
  have key := chunk_apply (fun n e => x0 (ix3 0 n e) + x1 (ix3 0 n e)) (fun n e => x5 (ix3 0 n e) + x6 (ix3 0 n e)) (fun n e => x2 (ix3 0 n e))
    (fun n e => x3 (ix3 0 n e)) (fun n e => x4 (ix3 0 n e)) (fun e => x7 (ix2 0 e)) (fun e => x8 (ix2 0 e)) (fun e => x9 (ix2 0 e)) n
    (fun n e => x0 (ix3 0 n e)) (fun n e => x1 (ix3 0 n e)) (fun n e => x5 (ix3 0 n e)) (fun n e => x6 (ix3 0 n e)) (fun _ => rfl) (fun _ => rfl)
    (fun _ => (f0 _).add (f1 _)) (fun _ => ((f2 _).mul ((f5 _).add (f6 _))).mul (f7 _)) o
    (lanes x0 _ i) (lanes x1 _ i) (lanes x2 _ i) (lanes x3 _ i) (lanes x4 _ i) (lanes x5 _ i) (lanes x6 _ i) (lane x7 _ j) (lane x8 _ j) (lane x9 _ j)
    (fun x => lanes_apply x0 _ i n x _) (fun x => lanes_apply x1 _ i n x _) (fun x => lanes_apply x2 _ i n x _) (fun x => lanes_apply x3 _ i n x _)
    (fun x => lanes_apply x4 _ i n x _) (fun x => lanes_apply x5 _ i n x _) (fun x => lanes_apply x6 _ i n x _) (fun x => lane_apply x7 _ j x _)
    (fun x => lane_apply x8 _ j x _) (fun x => lane_apply x9 _ j x _) c
  exact key

include f0 f1 f2 f5 f6 f7 in
/-- The eight stores leave the rows. -/
theorem row_canon (y : S256x1024.Idx) :
    View.canon (rowL x0 x1 x2 x3 x4 x5 x6 x7 x8 x9) y = blockRow x0 x1 x2 x3 x4 x5 x6 x7 x8 x9 (y 0) (y 1) :=
  eighths_canon (blockRow x0 x1 x2 x3 x4 x5 x6 x7 x8 x9) _ _ _ _ _ _ _ _
    (part_lanes x0 x1 x2 x3 x4 x5 x6 x7 x8 x9 f0 f1 f2 f5 f6 f7 0 _ rfl _ _)
    (part_lanes x0 x1 x2 x3 x4 x5 x6 x7 x8 x9 f0 f1 f2 f5 f6 f7 1 _ rfl _ _)
    (part_lanes x0 x1 x2 x3 x4 x5 x6 x7 x8 x9 f0 f1 f2 f5 f6 f7 2 _ rfl _ _)
    (part_lanes x0 x1 x2 x3 x4 x5 x6 x7 x8 x9 f0 f1 f2 f5 f6 f7 3 _ rfl _ _)
    (part_lanes x0 x1 x2 x3 x4 x5 x6 x7 x8 x9 f0 f1 f2 f5 f6 f7 4 _ rfl _ _)
    (part_lanes x0 x1 x2 x3 x4 x5 x6 x7 x8 x9 f0 f1 f2 f5 f6 f7 5 _ rfl _ _)
    (part_lanes x0 x1 x2 x3 x4 x5 x6 x7 x8 x9 f0 f1 f2 f5 f6 f7 6 _ rfl _ _)
    (part_lanes x0 x1 x2 x3 x4 x5 x6 x7 x8 x9 f0 f1 f2 f5 f6 f7 7 _ rfl _ _) y

end

/-- A load of the whole of what was stored. -/
theorem row_load {κ : Kind} {sp : Space} (v : View sig κ sp S256x1024 .bf16) (L : List (View.Piece (Elt Ideal) S256x1024 .bf16)) :
    v.readCov L (Rect.unit (s := S256x1024) ![0, 0] ![256, 1024] inb_S256x1024_S256x1024_0_0).toLoadRect = View.canon L := by
  rw [View.readCov_eq_canon']
  funext y
  refine congrArg (View.canon L) (funext fun a => Fin.ext ?_)
  fin_cases a
  · show 0 + 1 * (y 0).val = (y 0).val; omega
  · show 0 + 1 * (y 1).val = (y 1).val; omega

/-- The whole of a block, of the weights, and the gate's row. -/
theorem ld_block (x : Vec Ideal S1x256x1024 .f32) (inb) : View.ld x (Rect.unit (s := S1x256x1024) ![0, 0, 0] ![1, 256, 1024] inb) = x :=
  View.ld_unit_zero hz3 inb x
theorem ld_square (x : Vec Ideal S1024x1024 .bf16) (inb) : View.ld x (Rect.unit (s := S1024x1024) ![0, 0] ![1024, 1024] inb) = x :=
  View.ld_unit_zero hz2 inb x
theorem ld_gate (x : Vec Ideal S1x6x1024 .f32) (inb) (c : Fin 1024) :
    View.ld x (Rect.unit (s := S1x6x1024) ![0, 2, 0] ![1, 1, 1024] inb) (ix3 0 0 c) = x (ix3 0 2 c) :=
  congrArg x (funext fun a => by fin_cases a <;> exact Fin.ext (by simp))

variable (m : (ℓ : Loc nD τ sig) → Buf (Elt Ideal) ℓ)

/-- The stores of a point. -/
abbrev rowLt (c : Dev nD) (t : Fin cfg0.N) : List (View.Piece (Elt Ideal) S256x1024 .bf16) :=
  rowL (iblk m c 0 t) (iblk m c 1 t) (iblk m c 2 t) (iblk m c 3 t) (iblk m c 4 t) (iblk m c 5 t) (iblk m c 6 t) (iblk m c 7 t) (iblk m c 8 t) (iblk m c 9 t)

set_option maxHeartbeats 1000000 in
/-- What a point leaves in the result's block, as the body computes it. -/
theorem outs_eq (c : Dev nD) (t : Fin cfg0.N) : outsAt0 m c t
    = k0_pay48 (View.canon (rowLt m c t)) (iblk m c 10 t) (iblk m c 11 t)
        (View.ld (iblk m c 12 t) (Rect.unit (s := S1x6x1024) ![0, 2, 0] ![1, 1, 1024] inb_S1x6x1024_S1x1x1024_0_2_0)) := by
  unfold outsAt0 out0_A_13
  rw [View.read_writes_eq_canon _ _ _ (cover0_A_13 c _ _ _ _ _ _ _ _ _ _ _ _ _ _ _ _ _ _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, ld_block, ld_square, row_load]
  refine (View.canon_cons_unit_zero hz3 _ _ _).trans ?_
  rfl

end Cert.Readoff

end
-- ==== Proof.ReadFinal.lean ====
/-
  The readout's result array after the run: every point's block lies over its rows of the array, so the array is one formula of
  the arguments.
-/
module

public import proofs.«01_k».proof.Proof.ReadBlock

@[expose] public section

set_option maxRecDepth 16384

noncomputable section

namespace Cert.Readoff

open Idealize.ShloMosaic Idealize.ShloMosaic.TcCoe Idealize.ShloMosaic.Pipeline Idealize.ShloMosaic.Tactic
open Cert.ReadoutIdeal Cert.ReadoutIdeal.Gen Cert.ReadoutIdeal.Value Cert.Layer

variable (m : (ℓ : Loc nD τ sig) → Buf (Elt Ideal) ℓ) (c : Dev nD)

/-- The arguments as launched. -/
abbrev A0 : Vec Ideal S8x4096x1024 .f32 := m ((c : Thread nD τ).loc main_arg0)
abbrev A1 : Vec Ideal S8x4096x1024 .f32 := m ((c : Thread nD τ).loc main_arg1)
abbrev A2 : Vec Ideal S8x4096x1024 .f32 := m ((c : Thread nD τ).loc main_arg2)
abbrev A3 : Vec Ideal S8x4096x1024 .f32 := m ((c : Thread nD τ).loc main_arg3)
abbrev A4 : Vec Ideal S8x4096x1024 .f32 := m ((c : Thread nD τ).loc main_arg4)
abbrev A5 : Vec Ideal S8x4096x1024 .f32 := m ((c : Thread nD τ).loc main_arg5)
abbrev A6 : Vec Ideal S8x4096x1024 .f32 := m ((c : Thread nD τ).loc main_arg6)
abbrev A7 : Vec Ideal S1024 .f32 := m ((c : Thread nD τ).loc main_arg7)
abbrev A8 : Vec Ideal S1024 .f32 := m ((c : Thread nD τ).loc main_arg8)
abbrev A9 : Vec Ideal S1024 .f32 := m ((c : Thread nD τ).loc main_arg9)
abbrev A10 : Vec Ideal S1024x1024 .bf16 := m ((c : Thread nD τ).loc main_arg10)
abbrev A11 : Vec Ideal S8x4096x1024 .f32 := m ((c : Thread nD τ).loc main_arg11)
abbrev A12 : Vec Ideal S8x6x1024 .f32 := m ((c : Thread nD τ).loc main_arg12)

/-- A grid point is below 128. -/
theorem point_lt (t : Fin cfg0.N) : t.val < 128 := t.isLt

/-- Where the blocks of rows and of the gates lie. -/
theorem idx_rows : ∀ t : Fin cfg0.N, win0_0.index t (0 : Fin 3) = t.val / 16 ∧ win0_0.index t (1 : Fin 3) = t.val % 16 ∧ win0_0.index t (2 : Fin 3) = 0 :=
  (by decide +kernel : ∀ t : Fin grid0.N, _)
theorem idx_gate : ∀ t : Fin cfg0.N, win0_12.index t (0 : Fin 3) = t.val / 16 ∧ win0_12.index t (1 : Fin 3) = 0 ∧ win0_12.index t (2 : Fin 3) = 0 :=
  (by decide +kernel : ∀ t : Fin grid0.N, _)

/-- The weights are staged whole. -/
theorem idx_zero (t : Fin cfg0.N) (a : Fin 2) : (![(0#32 : BitVec 32).toNat, (0#32 : BitVec 32).toNat] : Fin 2 → ℕ) a = 0 := by
  fin_cases a <;> rfl

/-- A block at index zero starts at the array's first entry. -/
theorem at_zero {i n x : ℕ} (h : i = 0) : i * n + 1 * x = x := by subst h; omega

/-- The batch of a grid point, and the array row of its block's row `r`. -/
abbrev bat (t : Fin cfg0.N) : Fin 8 := ⟨t.val / 16, by have := point_lt t; omega⟩
abbrev row (t : Fin cfg0.N) (r : Fin 256) : Fin 4096 := ⟨256 * (t.val % 16) + r.val, by omega⟩

/-- A block's index in its array. -/
theorem emb_rows (t : Fin cfg0.N) (r : Fin 256) (l : Fin 1024) :
    ((cfg0.win 0).blk t).view.emb (ix3 0 r l) = (ix3 (bat t) (row t r) l : S8x4096x1024.Idx) := by
  obtain ⟨e0, e1, e2⟩ := idx_rows t
  funext a; apply Fin.ext
  match a with
  | ⟨0, _⟩ => show win0_0.index t (0 : Fin 3) * 1 + 1 * 0 = t.val / 16; omega
  | ⟨1, _⟩ => show win0_0.index t (1 : Fin 3) * 256 + 1 * r.val = 256 * (t.val % 16) + r.val; omega
  | ⟨2, _⟩ => show win0_0.index t (2 : Fin 3) * 1024 + 1 * l.val = l.val; omega
theorem emb_out (t : Fin cfg0.N) (r : Fin 256) (l : Fin 1024) :
    ((cfg0.win 13).blk t).view.emb (ix3 0 r l) = (ix3 (bat t) (row t r) l : S8x4096x1024.Idx) := emb_rows t r l

/-- The blocks at an index, in the arrays. -/
theorem blk0 (t : Fin cfg0.N) (r : Fin 256) (l : Fin 1024) : iblk m c 0 t (ix3 0 r l) = A0 m c (ix3 (bat t) (row t r) l) :=
  (congrFun (V_main_arg0 m c) _).trans (congrArg (A0 m c) (emb_rows t r l))
theorem blk1 (t : Fin cfg0.N) (r : Fin 256) (l : Fin 1024) : iblk m c 1 t (ix3 0 r l) = A1 m c (ix3 (bat t) (row t r) l) :=
  (congrFun (V_main_arg1 m c) _).trans (congrArg (A1 m c) (emb_rows t r l))
theorem blk2 (t : Fin cfg0.N) (r : Fin 256) (l : Fin 1024) : iblk m c 2 t (ix3 0 r l) = A2 m c (ix3 (bat t) (row t r) l) :=
  (congrFun (V_main_arg2 m c) _).trans (congrArg (A2 m c) (emb_rows t r l))
theorem blk3 (t : Fin cfg0.N) (r : Fin 256) (l : Fin 1024) : iblk m c 3 t (ix3 0 r l) = A3 m c (ix3 (bat t) (row t r) l) :=
  (congrFun (V_main_arg3 m c) _).trans (congrArg (A3 m c) (emb_rows t r l))
theorem blk4 (t : Fin cfg0.N) (r : Fin 256) (l : Fin 1024) : iblk m c 4 t (ix3 0 r l) = A4 m c (ix3 (bat t) (row t r) l) :=
  (congrFun (V_main_arg4 m c) _).trans (congrArg (A4 m c) (emb_rows t r l))
theorem blk5 (t : Fin cfg0.N) (r : Fin 256) (l : Fin 1024) : iblk m c 5 t (ix3 0 r l) = A5 m c (ix3 (bat t) (row t r) l) :=
  (congrFun (V_main_arg5 m c) _).trans (congrArg (A5 m c) (emb_rows t r l))
theorem blk6 (t : Fin cfg0.N) (r : Fin 256) (l : Fin 1024) : iblk m c 6 t (ix3 0 r l) = A6 m c (ix3 (bat t) (row t r) l) :=
  (congrFun (V_main_arg6 m c) _).trans (congrArg (A6 m c) (emb_rows t r l))
theorem blk11 (t : Fin cfg0.N) (r : Fin 256) (l : Fin 1024) : iblk m c 11 t (ix3 0 r l) = A11 m c (ix3 (bat t) (row t r) l) :=
  (congrFun (V_main_arg11 m c) _).trans (congrArg (A11 m c) (emb_rows t r l))

/-- The three rows that are staged as arrays of one row. -/
theorem V_main_v0 : V m c main_v0 = fun i => shapeCast S1x1024 (A7 m c) shapeCasts_S1024_S1x1024 i := by
  show StableHlo.after hostOps0 _ (Proc.devRef .tc main_v0) = _
  after_results
  rfl
theorem V_main_v1 : V m c main_v1 = fun i => shapeCast S1x1024 (A8 m c) shapeCasts_S1024_S1x1024 i := by
  show StableHlo.after hostOps0 _ (Proc.devRef .tc main_v1) = _
  after_results
  rfl
theorem V_main_v2 : V m c main_v2 = fun i => shapeCast S1x1024 (A9 m c) shapeCasts_S1024_S1x1024 i := by
  show StableHlo.after hostOps0 _ (Proc.devRef .tc main_v2) = _
  after_results
  rfl

theorem flat_apply (t : Fin cfg0.N) (x : Vec Ideal S1024 .f32) (i : S1x1024.Idx) (l : Fin 1024) (h : i = ix2 0 l) :
    shapeCast S1x1024 x shapeCasts_S1024_S1x1024 i = x (ix1 l) := by
  subst h
  pointwise

theorem blk7 (t : Fin cfg0.N) (l : Fin 1024) : iblk m c 7 t (ix2 0 l) = A7 m c (ix1 l) :=
  (congrFun (V_main_v0 m c) _).trans (flat_apply t (A7 m c) _ l (funext fun a => Fin.ext (at_zero (idx_zero t a))))
theorem blk8 (t : Fin cfg0.N) (l : Fin 1024) : iblk m c 8 t (ix2 0 l) = A8 m c (ix1 l) :=
  (congrFun (V_main_v1 m c) _).trans (flat_apply t (A8 m c) _ l (funext fun a => Fin.ext (at_zero (idx_zero t a))))
theorem blk9 (t : Fin cfg0.N) (l : Fin 1024) : iblk m c 9 t (ix2 0 l) = A9 m c (ix1 l) :=
  (congrFun (V_main_v2 m c) _).trans (flat_apply t (A9 m c) _ l (funext fun a => Fin.ext (at_zero (idx_zero t a))))

theorem blk10 (t : Fin cfg0.N) : iblk m c 10 t = A10 m c :=
  funext fun x => (congrFun (V_main_arg10 m c) _).trans (congrArg (A10 m c) (funext fun a => Fin.ext (at_zero (idx_zero t a))))
theorem blk12 (t : Fin cfg0.N) (r : Fin 6) (l : Fin 1024) : iblk m c 12 t (ix3 0 r l) = A12 m c (ix3 (bat t) r l) := by
  obtain ⟨e0, e1, e2⟩ := idx_gate t
  refine (congrFun (V_main_arg12 m c) _).trans (congrArg (A12 m c) ?_)
  funext a; apply Fin.ext
  match a with
  | ⟨0, _⟩ => show win0_12.index t (0 : Fin 3) * 1 + 1 * 0 = t.val / 16; omega
  | ⟨1, _⟩ => show win0_12.index t (1 : Fin 3) * 6 + 1 * r.val = r.val; omega
  | ⟨2, _⟩ => show win0_12.index t (2 : Fin 3) * 1024 + 1 * l.val = l.val; omega

/-- The call's result from the arguments. -/
abbrev result : Vec Ideal S8x4096x1024 .f32 :=
  whole (A0 m c) (A1 m c) (A2 m c) (A3 m c) (A4 m c) (A5 m c) (A6 m c) (A7 m c) (A8 m c) (A9 m c) (A10 m c) (A11 m c) (A12 m c)

/-- The row that is multiplied with the output weights, from the arrays. -/
def arrayRow (t : Fin cfg0.N) (r : Fin 256) : Fin 1024 → EReal :=
  readRow (fun e => A0 m c (ix3 (bat t) (row t r) e) + A1 m c (ix3 (bat t) (row t r) e))
          (fun e => A5 m c (ix3 (bat t) (row t r) e) + A6 m c (ix3 (bat t) (row t r) e)) (fun e => A2 m c (ix3 (bat t) (row t r) e))
          (fun e => A3 m c (ix3 (bat t) (row t r) e)) (fun e => A4 m c (ix3 (bat t) (row t r) e)) (fun e => A7 m c (ix1 e))
          (fun e => A8 m c (ix1 e)) (fun e => A9 m c (ix1 e))

/-- The row of the blocks is the row of the arrays. -/
theorem blockRow_eq (t : Fin cfg0.N) (r : Fin 256) (e : Fin 1024) :
    blockRow (iblk m c 0 t) (iblk m c 1 t) (iblk m c 2 t) (iblk m c 3 t) (iblk m c 4 t) (iblk m c 5 t) (iblk m c 6 t) (iblk m c 7 t) (iblk m c 8 t)
      (iblk m c 9 t) r e = arrayRow m c t r e := by
  unfold blockRow arrayRow
  simp only [blk0, blk1, blk2, blk3, blk4, blk5, blk6, blk7, blk8, blk9]

section
variable (f0 : ∀ i, Finite (A0 m c i)) (f1 : ∀ i, Finite (A1 m c i)) (f2 : ∀ i, Finite (A2 m c i)) (f5 : ∀ i, Finite (A5 m c i))
  (f6 : ∀ i, Finite (A6 m c i)) (f7 : ∀ i, Finite (A7 m c i))

include f0 f1 f2 f5 f6 f7 in
/-- What point `t` writes back is its block of the result. -/
theorem flushed_eq (t : Fin cfg0.N) : (dats m 0 c).flushed 13 t = ((cfg0.win 13).blk t).view.read (Elt Ideal) (result m c) := by
  have of3 : ∀ (x : Vec Ideal S1x256x1024 .f32) (A : Vec Ideal S8x4096x1024 .f32), (∀ r l, x (ix3 0 r l) = A (ix3 (bat t) (row t r) l)) →
      (∀ i, Finite (A i)) → ∀ i, Finite (x i) := fun x A hx hA i => by
    obtain ⟨z, r, l, rfl⟩ : ∃ (z : Fin 1) (r : Fin 256) (l : Fin 1024), i = (ix3 z r l : S1x256x1024.Idx) := ⟨i 0, i 1, i 2, eq_ix3 (n0 := 1) (n1 := 256) (n2 := 1024) i⟩
    obtain rfl : z = 0 := Subsingleton.elim _ _
    rw [hx]; exact hA _
  have g7 : ∀ i, Finite (iblk m c 7 t i) := fun i => by
    obtain ⟨z, l, rfl⟩ : ∃ (z : Fin 1) (l : Fin 1024), i = (ix2 z l : S1x1024.Idx) := ⟨i 0, i 1, eq_ix2 (n0 := 1) (n1 := 1024) i⟩
    obtain rfl : z = 0 := Subsingleton.elim _ _
    rw [blk7]; exact f7 _
  rw [flushed13]
  funext i
  obtain ⟨z, r, l, rfl⟩ : ∃ (z : Fin 1) (r : Fin 256) (l : Fin 1024), i = (ix3 z r l : S1x256x1024.Idx) := ⟨i 0, i 1, i 2, eq_ix3 (n0 := 1) (n1 := 256) (n2 := 1024) i⟩
  obtain rfl : z = 0 := Subsingleton.elim _ _
  show outsAt0 m c t (ix3 0 r l) = result m c (((cfg0.win 13).blk t).view.emb (ix3 0 r l))
  rw [outs_eq, emb_out]
  refine (pay48_apply _ _ _ _ r l).trans ?_
  have hz : (fun e => View.canon (rowLt m c t) (ix2 r e)) = arrayRow m c t r := funext fun e =>
    (row_canon _ _ _ _ _ _ _ _ _ _ (of3 _ _ (blk0 m c t) f0) (of3 _ _ (blk1 m c t) f1) (of3 _ _ (blk2 m c t) f2) (of3 _ _ (blk5 m c t) f5)
      (of3 _ _ (blk6 m c t) f6) g7 (ix2 r e)).trans (blockRow_eq m c t r e)
  have hg : (fun c' => View.ld (iblk m c 12 t) (Rect.unit (s := S1x6x1024) ![0, 2, 0] ![1, 1, 1024] inb_S1x6x1024_S1x1x1024_0_2_0) (ix3 0 0 c'))
      = fun c' => A12 m c (ix3 (bat t) 2 c') := funext fun c' => (ld_gate _ _ c').trans (blk12 m c t 2 c')
  have hh : (fun c' => iblk m c 11 t (ix3 0 r c')) = fun c' => A11 m c (ix3 (bat t) (row t r) c') := funext fun c' => blk11 m c t r c'
  rw [hz, hg, hh, blk10]
  rfl

/-- Every index of the result array lies in some point's block. -/
theorem cover (i : S8x4096x1024.Idx) : ∃ t : Fin cfg0.N, (cfg0.win 13).flush t = true ∧ i ∈ ((cfg0.win 13).blk t).view.set := by
  obtain ⟨b, r, l, rfl⟩ : ∃ (b : Fin 8) (r : Fin 4096) (l : Fin 1024), i = ix3 b r l := ⟨i 0, i 1, i 2, eq_ix3 i⟩
  have hp : 16 * b.val + r.val / 256 < 128 := by omega
  have h := ((cfg0.win 13).blk (⟨16 * b.val + r.val / 256, hp⟩ : Fin cfg0.N)).view.emb_mem_set (ix3 0 ⟨r.val % 256, by omega⟩ l)
  rw [emb_out] at h
  have e : ∀ (b' : Fin 8) (r' : Fin 4096), b'.val = b.val → r'.val = r.val → (ix3 b' r' l : S8x4096x1024.Idx) = ix3 b r l :=
    fun b' r' hb hr => by rw [Fin.ext hb, Fin.ext hr]
  rw [e _ _ (by show (16 * b.val + r.val / 256) / 16 = b.val; omega)
    (by show 256 * ((16 * b.val + r.val / 256) % 16) + r.val % 256 = r.val; omega)] at h
  exact ⟨_, flush0_13 _, h⟩

include f0 f1 f2 f5 f6 f7 in
/-- The result array after the run is the formula of the arguments. -/
theorem final : (dats m 0 c).arrAt 13 cfg0.N = result m c :=
  (dats m 0 c).arrAt_eq_of_cover 13 (result m c) (fun t _ => flushed_eq m c f0 f1 f2 f5 f6 f7 t) cover

end

end Cert.Readoff

end
-- ==== Proof.ReadRef.lean ====
/-
  The readout's reference at an index, stage by stage: the means and variances of the heads, the normed channels, the bonus, and
  the row's product with the output weights.
-/
module

public import proofs.«01_k».proof.Proof.ReadRow
public import proofs.«01_k».proof.Proof.Gen.ReadoutRefIdeal.Read

@[expose] public section

set_option maxRecDepth 16384

noncomputable section

namespace Cert.Readoff

open Idealize.ShloMosaic Cert.ReadoutRefIdeal Cert.ReadoutRefIdeal.Gen Cert.ReadoutRefIdeal.Read Cert.Layer

variable (yf yb r v g kd0 kd1 : Vec Ideal S8x4096x1024 .f32) (rk gw gb : Vec Ideal S1024 .f32) (wo : Vec Ideal S1024x1024 .bf16)
  (h : Vec Ideal S8x4096x1024 .f32) (mods : Vec Ideal S8x6x1024 .f32)

/-- A row of the sum of two arrays. -/
abbrev sumRow (x y : Vec Ideal S8x4096x1024 .f32) (b : Fin 8) (t : Fin 4096) : Fin 1024 → EReal := fun c => x (ix3 b t c) + y (ix3 b t c)

/-- The sum of the two directions, in heads. -/
theorem ref_y (b : Fin 8) (t : Fin 4096) (o : Fin 16) (e : Fin 64) :
    val_main_v1 (F := Ideal) yf yb (ix4 b t o e) = sumRow yf yb b t ⟨o.val * 64 + e.val, by omega⟩ := by
  pointwise [val_main_v1, val_main_v0]

/-- Its mean, -/
theorem ref_mean (b : Fin 8) (t : Fin 4096) (o : Fin 16) :
    val_main_v5 (F := Ideal) yf yb (ix4 b t o 0) = heads (sumRow yf yb b t) o * inv := by
  have hs : heads (sumRow yf yb b t) o = ∑ e : Fin 64, val_main_v1 (F := Ideal) yf yb (ix4 b t o e) :=
    Finset.sum_congr rfl fun e _ => (ref_y yf yb b t o e).symm
  rw [mul_inv, hs]
  generalize hy : val_main_v1 (F := Ideal) yf yb = y
  pointwise [val_main_v5, val_main_v4, val_main_v3, val_main_v2, val_main_cst, val_main_cst_0, hy]

/-- and its deviations from it. -/
theorem ref_dev (b : Fin 8) (t : Fin 4096) (o : Fin 16) (e : Fin 64) :
    val_main_v7 (F := Ideal) yf yb (ix4 b t o e) = dev (sumRow yf yb b t) ⟨o.val * 64 + e.val, by omega⟩ := by
  have hm : val_main_v6 (F := Ideal) yf yb (ix4 b t o e) = val_main_v5 (F := Ideal) yf yb (ix4 b t o 0) := by
    generalize hy : val_main_v5 (F := Ideal) yf yb = y
    pointwise [val_main_v6, hy]
  rw [val_main_v7_apply, hm, ref_y, ref_mean]
  unfold dev
  rw [headOf_at]
  rfl

/-- The variance. -/
theorem ref_var (b : Fin 8) (t : Fin 4096) (o : Fin 16) :
    val_main_v12 (F := Ideal) yf yb (ix4 b t o 0) = heads (fun c => dev (sumRow yf yb b t) c * dev (sumRow yf yb b t) c) o * inv := by
  rw [mul_inv]
  unfold heads
  simp only [← ref_dev]
  generalize hy : val_main_v7 (F := Ideal) yf yb = y
  pointwise [val_main_v12, val_main_v11, val_main_v10, val_main_v9, val_main_v8, val_main_cst_1, val_main_cst_2, hy]

/-- The normed channels, in heads and in rows. -/
theorem ref_normed (b : Fin 8) (t : Fin 4096) (o : Fin 16) (e : Fin 64) :
    val_main_v19 (F := Ideal) yf yb (ix4 b t o e) = normed (sumRow yf yb b t) ⟨o.val * 64 + e.val, by omega⟩ := by
  have hd : val_main_v14 (F := Ideal) yf yb (ix4 b t o e) = val_main_v7 (F := Ideal) yf yb (ix4 b t o e) := rfl
  have hs : val_main_v18 (F := Ideal) yf yb (ix4 b t o e)
      = Ideal.rsqrt (val_main_v12 (F := Ideal) yf yb (ix4 b t o 0) + Ideal.ofBits FTy.f32 975685036#32) := by
    generalize hy : val_main_v12 (F := Ideal) yf yb = y
    pointwise [val_main_v18, val_main_v17, val_main_v16, val_main_v15, val_main_cst_3, hy]
  rw [val_main_v19_apply, hd, hs, ref_dev, ref_var]
  unfold normed
  rw [headOf_at]
  rfl

theorem ref_rows (b : Fin 8) (t : Fin 4096) (c : Fin 1024) : val_main_v20 (F := Ideal) yf yb (ix3 b t c) = normed (sumRow yf yb b t) c := by
  have hc : val_main_v20 (F := Ideal) yf yb (ix3 b t c) = val_main_v19 (F := Ideal) yf yb (ix4 b t ⟨c.val / 64, by omega⟩ ⟨c.val % 64, by omega⟩) := by
    generalize hy : val_main_v19 (F := Ideal) yf yb = y
    pointwise [val_main_v20, hy]
  rw [hc, ref_normed]
  exact congrArg _ (Fin.ext (by show c.val / 64 * 64 + c.val % 64 = c.val; omega))

/-- The products summed for the bonus. -/
theorem ref_prod (b : Fin 8) (t : Fin 4096) (o : Fin 16) (e : Fin 64) :
    val_main_v34 (F := Ideal) r kd0 kd1 rk (ix4 b t o e)
      = (fun c => r (ix3 b t c) * sumRow kd0 kd1 b t c * rk (ix1 c)) ⟨o.val * 64 + e.val, by omega⟩ := by
  pointwise [val_main_v34, val_main_v33, val_main_v32, val_main_v31, val_main_v30, val_main_v29, val_main_v28, val_main_v27]

/-- The bonus. -/
theorem ref_bonus (b : Fin 8) (t : Fin 4096) (c : Fin 1024) :
    val_main_v40 (F := Ideal) r v kd0 kd1 rk (ix3 b t c)
      = heads (fun c => r (ix3 b t c) * sumRow kd0 kd1 b t c * rk (ix1 c)) (headOf c) * v (ix3 b t c) := by
  have hv : val_main_v37 (F := Ideal) v (ix4 b t ⟨c.val / 64, by omega⟩ ⟨c.val % 64, by omega⟩) = v (ix3 b t c) := by
    pointwise [val_main_v37]
  have hs : heads (fun c => r (ix3 b t c) * sumRow kd0 kd1 b t c * rk (ix1 c)) (headOf c)
      = ∑ e : Fin 64, val_main_v34 (F := Ideal) r kd0 kd1 rk (ix4 b t ⟨c.val / 64, by omega⟩ e) :=
    Finset.sum_congr rfl fun e _ => (ref_prod r kd0 kd1 rk b t ⟨c.val / 64, by omega⟩ e).symm
  rw [hs, ← hv]
  generalize hy : val_main_v34 (F := Ideal) r kd0 kd1 rk = y
  generalize hw : val_main_v37 (F := Ideal) v = w
  pointwise [val_main_v40, val_main_v39, val_main_v38, val_main_v36, val_main_v35, val_main_cst_4, hy, hw]

/-- The row multiplied with the output weights. -/
theorem ref_row (b : Fin 8) (t : Fin 4096) (c : Fin 1024) :
    val_main_v43 (F := Ideal) yf yb r v g kd0 kd1 rk gw gb (ix3 b t c)
      = readRow (sumRow yf yb b t) (sumRow kd0 kd1 b t) (fun c => r (ix3 b t c)) (fun c => v (ix3 b t c)) (fun c => g (ix3 b t c))
          (fun c => rk (ix1 c)) (fun c => gw (ix1 c)) (fun c => gb (ix1 c)) c := by
  have hw : val_main_v22 (F := Ideal) gw (ix3 b t c) = gw (ix1 c) := by pointwise [val_main_v22, val_main_v21]
  have hb : val_main_v25 (F := Ideal) gb (ix3 b t c) = gb (ix1 c) := by pointwise [val_main_v25, val_main_v24]
  rw [val_main_v43_apply, val_main_v42_apply, val_main_v26_apply, val_main_v23_apply, ref_rows, ref_bonus, hw, hb]
  rfl

/-- The reference's result is the formula. -/
theorem ref_eq : val_main_v48 (F := Ideal) yf yb r v g kd0 kd1 rk gw gb wo h mods = whole yf yb r v g kd0 kd1 rk gw gb wo h mods := by
  funext i
  obtain ⟨b, t, c, rfl⟩ : ∃ (b : Fin 8) (t : Fin 4096) (c : Fin 1024), i = ix3 b t c := ⟨i 0, i 1, i 2, eq_ix3 i⟩
  have hg : val_main_v46 (F := Ideal) mods (ix3 b t c) = mods (ix3 b 2 c) := by pointwise [val_main_v46, val_main_v41]
  have hd : val_main_v45 (F := Ideal) yf yb r v g kd0 kd1 rk gw gb wo (ix3 b t c)
      = ∑ e : Fin 1024, val_main_v43 (F := Ideal) yf yb r v g kd0 kd1 rk gw gb (ix3 b t e) * wo (ix2 e c) := by
    generalize hy : val_main_v43 (F := Ideal) yf yb r v g kd0 kd1 rk gw gb = y
    pointwise [val_main_v45, val_main_v44, hy]
  rw [val_main_v48_apply, val_main_v47_apply, hg, hd]
  simp only [ref_row]
  rfl

end Cert.Readoff

end
-- ==== Proof.ReadEqual.lean ====
/-
  The readout's call and its reference compute the same array whenever what is summed over a head is finite.
-/
module

public import proofs.«01_k».proof.Defs
public import proofs.«01_k».proof.Proof.Gen.ReadoutRefIdeal
public import proofs.«01_k».proof.Proof.Gen.ReadoutRefIdeal.Run
public import proofs.«01_k».proof.Proof.Gen.ReadoutRefIdeal.Read
public import proofs.«01_k».proof.Proof.ReadFinal
public import proofs.«01_k».proof.Proof.ReadRef

@[expose] public section

set_option maxRecDepth 16384

noncomputable section

namespace Cert.Readoff

open Idealize.ShloMosaic Idealize.SL.Sem Cert.Layer

/-- The side conditions the precondition's operations state. -/
theorem headsFacts : Cert.Pre_finite_heads.Facts where
  bcast_S_S8x4096x1024 := by decide
  bcast_S_S1024 := by decide

section
open Cert.Pre_finite_heads
variable [Cert.Pre_finite_heads.Facts] (x0 x1 x2 x3 x4 x5 x6 x11 : Vec Ideal S8x4096x1024 .f32) (x7 x8 x9 : Vec Ideal S1024 .f32)
  (x10 : Vec Ideal S1024x1024 .bf16) (x12 : Vec Ideal S8x6x1024 .f32)

/-- The precondition says that the two directions' outputs are finite, -/
theorem pre_0 (h : (fn (F := Ideal) x0 x1 x2 x3 x4 x5 x6 x7 x8 x9 x10 x11 x12).1 = fun _ => 1#1) (i : S8x4096x1024.Idx) : Finite (x0 i) := by
  have := congrFun h i
  pointwise [fn] at this
  exact finite_of_word this
/-- of the one direction and of the other, -/
theorem pre_1 (h : (fn (F := Ideal) x0 x1 x2 x3 x4 x5 x6 x7 x8 x9 x10 x11 x12).2.1 = fun _ => 1#1) (i : S8x4096x1024.Idx) : Finite (x1 i) := by
  have := congrFun h i
  pointwise [fn] at this
  exact finite_of_word this
/-- that the receptance is, -/
theorem pre_2 (h : (fn (F := Ideal) x0 x1 x2 x3 x4 x5 x6 x7 x8 x9 x10 x11 x12).2.2.1 = fun _ => 1#1) (i : S8x4096x1024.Idx) : Finite (x2 i) := by
  have := congrFun h i
  pointwise [fn] at this
  exact finite_of_word this
/-- that the keys of both directions are, -/
theorem pre_5 (h : (fn (F := Ideal) x0 x1 x2 x3 x4 x5 x6 x7 x8 x9 x10 x11 x12).2.2.2.1 = fun _ => 1#1) (i : S8x4096x1024.Idx) : Finite (x5 i) := by
  have := congrFun h i
  pointwise [fn] at this
  exact finite_of_word this
/-- of the one and of the other, -/
theorem pre_6 (h : (fn (F := Ideal) x0 x1 x2 x3 x4 x5 x6 x7 x8 x9 x10 x11 x12).2.2.2.2.1 = fun _ => 1#1) (i : S8x4096x1024.Idx) : Finite (x6 i) := by
  have := congrFun h i
  pointwise [fn] at this
  exact finite_of_word this
/-- and that the bonus's weights are. -/
theorem pre_7 (h : (fn (F := Ideal) x0 x1 x2 x3 x4 x5 x6 x7 x8 x9 x10 x11 x12).2.2.2.2.2 = fun _ => 1#1) (i : S1024.Idx) : Finite (x7 i) := by
  have := congrFun h i
  pointwise [fn] at this
  exact finite_of_word this

end

/-- From memories that agree on the arguments, the summed ones finite, kernel and reference run to the same array. -/
theorem algebraic :
    Cert.algebraic_ReadoutIdeal_ReadoutRefIdeal_pre_finite_heads (hReadoutIdeal := Cert.ReadoutIdeal.Gen.facts)
      (hReadoutRefIdeal := Cert.ReadoutRefIdeal.Gen.facts) (hPre_finite_heads := headsFacts) := by
  intro m g m' g' hpre hagree
  refine ⟨fun c => result m c, ?_, ?_⟩
  · refine (θ_run _ _ _).mono (fun r h c => ⟨(h c).1.trans ?_, (h c).2⟩) (Cert.ReadoutIdeal.Value.run_blocks m g)
    letI := headsFacts
    obtain ⟨p0, p1, p2, p5, p6, p7⟩ := hpre c
    exact final m c (pre_0 _ _ _ _ _ _ _ _ _ _ _ _ _ p0) (pre_1 _ _ _ _ _ _ _ _ _ _ _ _ _ p1) (pre_2 _ _ _ _ _ _ _ _ _ _ _ _ _ p2)
      (pre_5 _ _ _ _ _ _ _ _ _ _ _ _ _ p5) (pre_6 _ _ _ _ _ _ _ _ _ _ _ _ _ p6) (pre_7 _ _ _ _ _ _ _ _ _ _ _ _ _ p7)
  · refine (θ_run _ _ _).mono (fun r h c => ⟨(h c).1.trans ?_, (h c).2⟩) (Cert.ReadoutRefIdeal.Value.run m' g')
    obtain ⟨a0, a1, a2, a3, a4, a5, a6, a7, a8, a9, a10, a11, a12⟩ := hagree c
    rw [Cert.ReadoutRefIdeal.Read.val_main_v48_eq, a0, a1, a2, a3, a4, a5, a6, a7, a8, a9, a10, a11, a12]
    exact ref_eq _ _ _ _ _ _ _ _ _ _ _ _ _

/-- The reference runs and keeps its arguments; it declares no semaphore. -/
theorem frame_ref : Cert.quiescent_ReadoutRefIdeal (hReadoutRefIdeal := Cert.ReadoutRefIdeal.Gen.facts) := fun m g _ =>
  (θ_run _ _ _).mono (fun r h => ⟨fun c => (h c).2, sem_eq_zero_of_no_sems (by decide) r.2⟩) (Cert.ReadoutRefIdeal.Value.run m g)

end Cert.Readoff

end
-- ==== Proof.Head.lean ====
/-
  One head of the attention kernel's body, read at an index: every one of the eight heads the body computes is the
  same computation of a masked chunk of queries, and its scores, normaliser and result are spelt out as sums.
-/
module

public import proofs.«01_k».proof.Proof.Gen.KernelIdeal.Frame
public import Idealize.ShloMosaic.Lib.Pointwise

@[expose] public section

set_option maxRecDepth 16384

noncomputable section

namespace Cert.Attention

open Idealize.ShloMosaic Cert.KernelIdeal Cert.KernelIdeal.Gen

/-- A 128-lane chunk of queries with the lanes outside the half `b` set to zero. -/
def masked (a : FVec Ideal S256x128 .f32) (b : BitVec 32) : FVec Ideal S256x128 .bf16 :=
  truncf .bf16 (select (cmpi .eq k0_pay2 (broadcast S256x128 b)) a
    (broadcast S256x128 (Scalar.ofBits (F := Ideal) .f32 0x00000000#32))) bitsLt_bf16_f32

/-- A 128-lane chunk turned by 64 lanes: its two halves change places. -/
def turned (a : FVec Ideal S256x128 .f32) : FVec Ideal S256x128 .f32 :=
  dynamicRotate 1 64#32 none a rotates_S256x128_d1

/-- The chunk stored for two heads: the first head's result in the lower half, the second's in the upper half. -/
def joined (a b : FVec Ideal S256x128 .f32) : FVec Ideal S1x256x128 .f32 :=
  shapeCast S1x256x128 (select (cmpi .eq k0_pay2 (broadcast S256x128 1#32)) b
    (select (cmpi .eq k0_pay2 (broadcast S256x128 0#32)) a
      (broadcast S256x128 (Scalar.ofBits (F := Ideal) .f32 0x00000000#32)))) shapeCasts_S256x128_S1x256x128

/-- A loaded chunk of queries without its unit axis. -/
def chunk (x : Vec Ideal S1x256x128 .f32) : FVec Ideal S256x128 .f32 :=
  shapeCast S256x128 x shapeCasts_S1x256x128_S256x128

/-- The chunk two heads of the first key head store. -/
def lowPair (x : Vec Ideal S1x256x128 .f32) (kc : Vec Ideal S1x256x128 .bf16) (vc : Vec Ideal S1x256x128 .bf16)
    (kl : Vec Ideal S1x4096x128 .bf16) (vl : Vec Ideal S1x4096x128 .bf16) : FVec Ideal S1x256x128 .f32 :=
  joined (k0_pay10 (masked (chunk x) 0#32) kc kl vc vl) (turned (k0_pay10 (masked (turned (chunk x)) 0#32) kc kl vc vl))

/-- The chunk two heads of the second key head store. -/
def highPair (x : Vec Ideal S1x256x128 .f32) (kc : Vec Ideal S1x256x128 .bf16) (vc : Vec Ideal S1x256x128 .bf16)
    (kl : Vec Ideal S1x4096x128 .bf16) (vl : Vec Ideal S1x4096x128 .bf16) : FVec Ideal S1x256x128 .f32 :=
  joined (turned (k0_pay10 (masked (turned (chunk x)) 1#32) kc kl vc vl)) (k0_pay10 (masked (chunk x) 1#32) kc kl vc vl)

/-- What a point leaves in the output block: four chunks, the first two of the first key head, the last two of the second. -/
theorem out_eq (x0 : Vec Ideal S1x256x512 .f32) (x1 : Vec Ideal S1x256x128 .bf16) (x2 : Vec Ideal S1x256x128 .bf16)
    (x3 : Vec Ideal S1x4096x128 .bf16) (x4 : Vec Ideal S1x4096x128 .bf16) :
    out0_5 (F := Ideal) x0 x1 x2 x3 x4
      = View.canon [⟨r0_5, highPair (View.ld x0 r0_5) (View.ld x1 r0_1) (View.ld x2 r0_1) (View.ld x3 r0_2) (View.ld x4 r0_2)⟩,
          ⟨r0_4, highPair (View.ld x0 r0_4) (View.ld x1 r0_1) (View.ld x2 r0_1) (View.ld x3 r0_2) (View.ld x4 r0_2)⟩,
          ⟨r0_3, lowPair (View.ld x0 r0_3) (View.ld x1 r0_1) (View.ld x2 r0_1) (View.ld x3 r0_2) (View.ld x4 r0_2)⟩,
          ⟨r0_0, lowPair (View.ld x0 r0_0) (View.ld x1 r0_1) (View.ld x2 r0_1) (View.ld x3 r0_2) (View.ld x4 r0_2)⟩] := rfl

/-- The half a lane lies in. -/
theorem half_apply (r : Fin 256) (d : Fin 128) : k0_pay2 (ix2 r d) = BitVec.ofNat 32 (d.val / 64) := by
  pointwise [k0_pay2]
  revert d
  decide +kernel

/-- A chunk masked to its lower half, at an index. -/
theorem masked_low (a : FVec Ideal S256x128 .f32) (r : Fin 256) (d : Fin 128) :
    masked a 0#32 (ix2 r d) = if d.val < 64 then a (ix2 r d) else 0 := by
  pointwise [masked, half_apply]
  generalize a (ix2 r d) = y
  have h : ∀ d : Fin 128, IntOp.cmpi .eq (BitVec.ofNat 32 (d.val / 64)) 0#32 = if d.val < 64 then 1#1 else 0#1 := by
    decide +kernel
  rw [h d]
  split <;> rfl

/-- A chunk masked to its upper half, at an index. -/
theorem masked_high (a : FVec Ideal S256x128 .f32) (r : Fin 256) (d : Fin 128) :
    masked a 1#32 (ix2 r d) = if d.val < 64 then 0 else a (ix2 r d) := by
  pointwise [masked, half_apply]
  generalize a (ix2 r d) = y
  have h : ∀ d : Fin 128, IntOp.cmpi .eq (BitVec.ofNat 32 (d.val / 64)) 1#32 = if d.val < 64 then 0#1 else 1#1 := by
    decide +kernel
  rw [h d]
  split <;> rfl

/-- A turned chunk at an index: the lane 64 further round. -/
theorem turned_apply (a : FVec Ideal S256x128 .f32) (r : Fin 256) (d : Fin 128) :
    turned a (ix2 r d) = a (ix2 r ⟨(d.val + 64) % 128, Nat.mod_lt _ (by decide)⟩) := by
  pointwise [turned]
  rfl

/-- Two heads' chunk at an index: the first head's result on the lower lanes, the second's on the upper. -/
theorem joined_apply (a b : FVec Ideal S256x128 .f32) (r : Fin 256) (d : Fin 128) :
    joined a b (ix3 0 r d) = if d.val < 64 then a (ix2 r d) else b (ix2 r d) := by
  pointwise [joined, half_apply]
  generalize a (ix2 r d) = y
  generalize b (ix2 r d) = z
  have h0 : ∀ d : Fin 128, IntOp.cmpi .eq (BitVec.ofNat 32 (d.val / 64)) 0#32 = if d.val < 64 then 1#1 else 0#1 := by
    decide +kernel
  have h1 : ∀ d : Fin 128, IntOp.cmpi .eq (BitVec.ofNat 32 (d.val / 64)) 1#32 = if d.val < 64 then 0#1 else 1#1 := by
    decide +kernel
  rw [h0 d, h1 d]
  split <;> rfl

/-- A chunk of queries at an index. -/
theorem chunk_apply (x : Vec Ideal S1x256x128 .f32) (r : Fin 256) (d : Fin 128) : chunk x (ix2 r d) = x (ix3 0 r d) := by
  pointwise [chunk]

/-- The largest of two families of scores. -/
def top {m n : ℕ} (s : Fin m → EReal) (t : Fin n → EReal) : EReal :=
  max (Finset.univ.fold max ⊥ s) (Finset.univ.fold max ⊥ t)

/-- One head's result from its scores and values on two sets of keys: the values weighted by the exponentials of the
    scores less the largest, over the sum of the weights. -/
def weigh {m n : ℕ} (s : Fin m → EReal) (t : Fin n → EReal) (v : Fin m → EReal) (w : Fin n → EReal) : EReal :=
  Ideal.div (∑ i, Ideal.exp (s i - top s t) * v i + ∑ i, Ideal.exp (t i - top s t) * w i)
    (∑ i, Ideal.exp (s i - top s t) + ∑ i, Ideal.exp (t i - top s t))

/-- The word of minus infinity is the least extended real. -/
theorem ofBits_bot : Ideal.ofBits .f32 4286578688#32 = ⊥ := by simp [Ideal.ofBits, Ideal.ieee]

/-- A head's result at an index, from its masked queries. -/
theorem head_apply (q : FVec Ideal S256x128 .bf16) (kc : Vec Ideal S1x256x128 .bf16) (vc : Vec Ideal S1x256x128 .bf16)
    (kl : Vec Ideal S1x4096x128 .bf16) (vl : Vec Ideal S1x4096x128 .bf16) (r : Fin 256) (d : Fin 128) :
    k0_pay10 q kc kl vc vl (ix2 r d)
      = weigh (fun s => ∑ e : Fin 128, q (ix2 r e) * kc (ix3 0 s e)) (fun s => ∑ e : Fin 128, q (ix2 r e) * kl (ix3 0 s e))
          (fun s => vc (ix3 0 s d)) (fun s => vl (ix3 0 s d)) := by
  pointwise [k0_pay10]
  rw [ofBits_bot]
  rfl

/-- A sum over 128 lanes of which the upper half vanish. -/
theorem sum_low (a k : Fin 128 → EReal) :
    ∑ e : Fin 128, (if e.val < 64 then a e else 0) * k e
      = ∑ e : Fin 64, a ⟨e.val, by omega⟩ * k ⟨e.val, by omega⟩ := by
  rw [Fin.sum_univ_add (a := 64) (b := 64) (fun e : Fin 128 => (if e.val < 64 then a e else 0) * k e)]
  rw [Finset.sum_eq_zero (s := Finset.univ) (f := fun i : Fin 64 =>
    (if (Fin.natAdd 64 i).val < 64 then a (Fin.natAdd 64 i) else 0) * k (Fin.natAdd 64 i)), add_zero]
  · refine Finset.sum_congr rfl fun e _ => ?_
    rw [if_pos (by simp)]
    rfl
  · intro e _
    rw [if_neg (by simp), zero_mul]

/-- A sum over 128 lanes of which the lower half vanish. -/
theorem sum_high (a k : Fin 128 → EReal) :
    ∑ e : Fin 128, (if e.val < 64 then 0 else a e) * k e
      = ∑ e : Fin 64, a ⟨64 + e.val, by omega⟩ * k ⟨64 + e.val, by omega⟩ := by
  rw [Fin.sum_univ_add (a := 64) (b := 64) (fun e : Fin 128 => (if e.val < 64 then 0 else a e) * k e)]
  rw [Finset.sum_eq_zero (s := Finset.univ) (f := fun i : Fin 64 =>
    (if (Fin.castAdd 64 i).val < 64 then 0 else a (Fin.castAdd 64 i)) * k (Fin.castAdd 64 i)), zero_add]
  · refine Finset.sum_congr rfl fun e _ => ?_
    rw [if_neg (by simp)]
    rfl
  · intro e _
    rw [if_pos (by simp), zero_mul]

/-- The result of one head at one lane, from a row of queries, the keys and values of the two sets, the first lane `a` of
    the head's queries and the first lane `b` of its keys. -/
def headAt {m n : ℕ} (q : ℕ → EReal) (kc vc : Fin m → ℕ → EReal) (kl vl : Fin n → ℕ → EReal) (a b d : ℕ) : EReal :=
  weigh (fun s => ∑ e : Fin 64, q (a + e.val) * kc s (b + e.val)) (fun s => ∑ e : Fin 64, q (a + e.val) * kl s (b + e.val))
    (fun s => vc s d) (fun s => vl s d)

/-- Lane `d` of a row of a block of `n` lanes, zero past the last. -/
def lane {n : ℕ} (f : Fin n → EReal) (d : ℕ) : EReal := if h : d < n then f ⟨d, h⟩ else 0

/-- A lane inside the row. -/
theorem lane_of_lt {n : ℕ} (f : Fin n → EReal) (d : ℕ) (h : d < n) : lane f d = f ⟨d, h⟩ := dif_pos h

section
variable (x : Vec Ideal S1x256x128 .f32) (kc vc : Vec Ideal S1x256x128 .bf16) (kl vl : Vec Ideal S1x4096x128 .bf16)

/-- Two heads of the first key head, at an index. -/
theorem lowPair_apply (r : Fin 256) (d : Fin 128) :
    lowPair x kc vc kl vl (ix3 0 r d)
      = headAt (lane fun e => x (ix3 0 r e)) (fun s => lane fun e => kc (ix3 0 s e)) (fun s => lane fun e => vc (ix3 0 s e))
          (fun s => lane fun e => kl (ix3 0 s e)) (fun s => lane fun e => vl (ix3 0 s e))
          (64 * (d.val / 64)) 0 (d.val % 64) := by
  rw [lowPair, joined_apply]
  split
  · next h =>
    rw [head_apply]
    simp only [masked_low, sum_low, chunk_apply]
    rw [Nat.div_eq_of_lt h, Nat.mod_eq_of_lt h]
    unfold headAt
    simp (disch := omega) only [lane_of_lt, Nat.mul_zero, Nat.zero_add]
  · next h =>
    rw [turned_apply, head_apply]
    simp only [masked_low, sum_low, turned_apply, chunk_apply]
    have h1 : d.val / 64 = 1 := by omega
    have h2 : (d.val + 64) % 128 = d.val % 64 := by omega
    rw [h1]
    unfold headAt
    have h3 : ∀ e : Fin 64, (e.val + 64) % 128 = 64 + e.val := fun e => by omega
    simp (disch := omega) only [lane_of_lt, Nat.mul_one, Nat.zero_add, h2, h3]

/-- Two heads of the second key head, at an index. -/
theorem highPair_apply (r : Fin 256) (d : Fin 128) :
    highPair x kc vc kl vl (ix3 0 r d)
      = headAt (lane fun e => x (ix3 0 r e)) (fun s => lane fun e => kc (ix3 0 s e)) (fun s => lane fun e => vc (ix3 0 s e))
          (fun s => lane fun e => kl (ix3 0 s e)) (fun s => lane fun e => vl (ix3 0 s e))
          (64 * (d.val / 64)) 64 (64 + d.val % 64) := by
  rw [highPair, joined_apply]
  split
  · next h =>
    rw [turned_apply, head_apply]
    simp only [masked_high, sum_high, turned_apply, chunk_apply]
    have h2 : (d.val + 64) % 128 = 64 + d.val % 64 := by omega
    rw [Nat.div_eq_of_lt h]
    unfold headAt
    have h3 : ∀ e : Fin 64, (64 + e.val + 64) % 128 = e.val := fun e => by omega
    simp (disch := omega) only [lane_of_lt, Nat.mul_zero, Nat.zero_add, h2, h3]
  · next h =>
    rw [head_apply]
    simp only [masked_high, sum_high, chunk_apply]
    have h1 : d.val / 64 = 1 := by omega
    have h2 : d.val = 64 + d.val % 64 := by omega
    rw [h1]
    unfold headAt
    rw [← h2]
    simp (disch := omega) only [lane_of_lt, Nat.mul_one]

end

end Cert.Attention

end
-- ==== Proof.Softmax.lean ====
/-
  The normaliser of a softmax moves out of the weighted sum: for finite scores, dividing every weight by the sum of the
  weights and then weighting the values is weighting the values and dividing once. Values may be infinite.
-/
module

public import proofs.«01_k».proof.Proof.Head
public import proofs.«01_k».proof.Proof.Common

@[expose] public section

noncomputable section

namespace Cert.Attention

open Idealize.ShloMosaic Cert.Layer

/-- A real nonnegative factor distributes over a finite sum of extended reals. -/
theorem sum_mul_real {ι : Type} (s : Finset ι) (f : ι → EReal) (c : ℝ) (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha, ← ih, mul_comm, mul_comm (f a), mul_comm (∑ i ∈ s, f i)]
    exact EReal.left_distrib_of_nonneg_of_ne_top (by exact_mod_cast hc) (EReal.coe_ne_top c) _ _

/-- Folding with `max` from the least element is the supremum. -/
theorem fold_max_eq_sup {ι : Type} (s : Finset ι) (f : ι → EReal) : s.fold max ⊥ f = s.sup f := rfl

/-- The largest of finitely many real scores, at least one, is real. -/
theorem sup_real {ι : Type} [Fintype ι] [Nonempty ι] (f : ι → EReal) (hf : ∀ i, ∃ r : ℝ, f i = r) :
    ∃ r : ℝ, Finset.univ.fold max ⊥ f = r := by
  obtain ⟨i, -, hi⟩ := Finset.exists_mem_eq_sup Finset.univ Finset.univ_nonempty f
  obtain ⟨r, hr⟩ := hf i
  exact ⟨r, (fold_max_eq_sup _ _).trans (hi.trans hr)⟩

/-- Softmax over real scores: normalising the weights one by one or once after the weighted sum is the same. -/
theorem normalise {ι : Type} [Fintype ι] [Nonempty ι] (s v : ι → EReal) (hs : ∀ i, ∃ r : ℝ, s i = r) :
    ∑ i, Ideal.div (Ideal.exp (s i - Finset.univ.fold max ⊥ s)) (∑ k, Ideal.exp (s k - Finset.univ.fold max ⊥ s)) * v i
      = Ideal.div (∑ i, Ideal.exp (s i - Finset.univ.fold max ⊥ s) * v i)
          (∑ k, Ideal.exp (s k - Finset.univ.fold max ⊥ s)) := by
  obtain ⟨M, hM⟩ := sup_real s hs
  choose f hf using hs
  have he : ∀ i, Ideal.exp (s i - Finset.univ.fold max ⊥ s) = ((Real.exp (f i - M) : ℝ) : EReal) := fun i => by
    rw [hM, hf i, ← EReal.coe_sub]; rfl
  have hL : ∑ k, Ideal.exp (s k - Finset.univ.fold max ⊥ s) = ((∑ k, Real.exp (f k - M) : ℝ) : EReal) := by
    rw [← sum_coe]; exact Finset.sum_congr rfl fun i _ => he i
  have hpos : 0 < ∑ k, Real.exp (f k - M) := Finset.sum_pos (fun k _ => Real.exp_pos _) Finset.univ_nonempty
  rw [hL]
  have hne : ((∑ k, Real.exp (f k - M) : ℝ) : EReal) ≠ 0 := by exact_mod_cast hpos.ne'
  have hdiv : ∀ x : EReal, Ideal.div x ((∑ k, Real.exp (f k - M) : ℝ) : EReal)
      = x * (((∑ k, Real.exp (f k - M))⁻¹ : ℝ) : EReal) := fun x => by
    unfold Ideal.div; rw [if_neg hne, EReal.coe_inv]
  simp only [hdiv]
  rw [sum_mul_real _ _ _ (inv_nonneg.mpr hpos.le)]
  exact Finset.sum_congr rfl fun i _ => by rw [mul_right_comm]

/-- The supremum over two families laid end to end is the larger of the two suprema. -/
theorem fold_max_append {m n : ℕ} (f : Fin (m + n) → EReal) :
    Finset.univ.fold max ⊥ f
      = max (Finset.univ.fold max ⊥ fun i : Fin m => f (Fin.castAdd n i)) (Finset.univ.fold max ⊥ fun i : Fin n => f (Fin.natAdd m i)) := by
  simp only [fold_max_eq_sup]
  refine le_antisymm (Finset.sup_le fun i _ => ?_) (max_le (Finset.sup_le fun i _ => ?_) (Finset.sup_le fun i _ => ?_))
  · refine Fin.addCases (fun i => ?_) (fun i => ?_) i
    · exact le_max_of_le_left (Finset.le_sup (f := fun i : Fin m => f (Fin.castAdd n i)) (Finset.mem_univ i))
    · exact le_max_of_le_right (Finset.le_sup (f := fun i : Fin n => f (Fin.natAdd m i)) (Finset.mem_univ i))
  · exact Finset.le_sup (f := f) (Finset.mem_univ _)
  · exact Finset.le_sup (f := f) (Finset.mem_univ _)

/-- A head's result over two sets of keys laid end to end: the softmax of all the scores, then the weighted sum. -/
theorem weigh_eq {m n : ℕ} (s v : Fin (m + n) → EReal) (hs : ∀ i, ∃ r : ℝ, s i = r) (hm : 0 < m + n) :
    weigh (fun i => s (Fin.castAdd n i)) (fun i => s (Fin.natAdd m i)) (fun i => v (Fin.castAdd n i)) (fun i => v (Fin.natAdd m i))
      = ∑ i, Ideal.div (Ideal.exp (s i - Finset.univ.fold max ⊥ s)) (∑ k, Ideal.exp (s k - Finset.univ.fold max ⊥ s)) * v i := by
  haveI : Nonempty (Fin (m + n)) := ⟨⟨0, hm⟩⟩
  rw [normalise s v hs]
  unfold weigh top
  rw [← fold_max_append, Fin.sum_univ_add, Fin.sum_univ_add]

end Cert.Attention

end
-- ==== Proof.Block.lean ====
/-
  The kernel's result array after the run, at an index: each grid point's block of the result is every head's weighted
  values, and the blocks tile the array.
-/
module

public import proofs.«01_k».proof.Proof.Head
public import proofs.«01_k».proof.Proof.Gen.KernelIdeal.Value

@[expose] public section

set_option maxRecDepth 16384

noncomputable section

namespace Cert.Attention

open Idealize.ShloMosaic Idealize.ShloMosaic.TcCoe Cert.KernelIdeal Cert.KernelIdeal.Gen Cert.KernelIdeal.Value
open Idealize.ShloMosaic.Pipeline (Dat)

/-- The attention of five arrays at batch `b`, position `t` and lane `c`: lane `c` belongs to query head `c / 64` and key
    head `c / 256`. -/
def attn {n t : ℕ} (q : Fin n → Fin t → Fin 512 → EReal) (kc vc : Fin n → Fin 256 → Fin 128 → EReal)
    (kl vl : Fin n → Fin 4096 → Fin 128 → EReal) (b : Fin n) (r : Fin t) (c : Fin 512) : EReal :=
  headAt (lane (q b r)) (fun s => lane (kc b s)) (fun s => lane (vc b s)) (fun s => lane (kl b s)) (fun s => lane (vl b s))
    (64 * (c.val / 64)) (64 * (c.val / 256)) (64 * (c.val / 256) + c.val % 64)

section
variable (x0 : Vec Ideal S1x256x512 .f32) (x1 x2 : Vec Ideal S1x256x128 .bf16) (x3 x4 : Vec Ideal S1x4096x128 .bf16)

/-- The attention of a point's blocks. -/
def blockAttn : Vec Ideal S1x256x512 .f32 := fun i =>
  attn (fun b r c => x0 (ix3 b r c)) (fun b r c => x1 (ix3 b r c)) (fun b r c => x2 (ix3 b r c)) (fun b r c => x3 (ix3 b r c))
    (fun b r c => x4 (ix3 b r c)) (i 0) (i 1) (i 2)

/-- A head's result depends on the queries only through the 64 lanes it reads. -/
theorem headAt_congr {m n : ℕ} (q q' : ℕ → EReal) (kc vc : Fin m → ℕ → EReal) (kl vl : Fin n → ℕ → EReal) (a a' b d : ℕ)
    (h : ∀ e, e < 64 → q (a + e) = q' (a' + e)) : headAt q kc vc kl vl a b d = headAt q' kc vc kl vl a' b d := by
  unfold headAt
  have h' : ∀ e : Fin 64, q (a + e.val) = q' (a' + e.val) := fun e => h e.val e.isLt
  simp only [h']

/-- The chunk of the query block from lane `o` on, at an index. -/
theorem ld_chunk (o : ℕ) (h : ∀ a, (![0, 0, o] : Fin 3 → ℕ) a + S1x256x128.size a ≤ S1x256x512.size a) (ho : o + 128 ≤ 512)
    (r : Fin 256) (d : Fin 128) :
    View.ld x0 (Rect.unit (s := S1x256x512) ![0, 0, o] S1x256x128.size h) (ix3 0 r d) = x0 (ix3 0 r ⟨o + d.val, by omega⟩) := by
  pointwise

/-- The place of a chunk's index in the block. -/
theorem emb_chunk (o : ℕ) (h : ∀ a, (![0, 0, o] : Fin 3 → ℕ) a + S1x256x128.size a ≤ S1x256x512.size a) (ho : o + 128 ≤ 512)
    (r : Fin 256) (d : Fin 128) :
    (Rect.unit (s := S1x256x512) ![0, 0, o] S1x256x128.size h).emb (ix3 0 r d) = ix3 0 r ⟨o + d.val, by omega⟩ := by
  funext a
  apply Fin.ext
  match a with
  | ⟨0, _⟩ => rfl
  | ⟨1, _⟩ => show 0 + 1 * r.val = r.val; omega
  | ⟨2, _⟩ => show o + 1 * d.val = o + d.val; omega

/-- The lanes a head reads, in the chunk and in the block. -/
theorem lane_chunk (o : ℕ) (h : ∀ a, (![0, 0, o] : Fin 3 → ℕ) a + S1x256x128.size a ≤ S1x256x512.size a) (ho : o + 128 ≤ 512)
    (h64 : o % 64 = 0) (r : Fin 256) (d : Fin 128) (e : ℕ) (he : e < 64) :
    lane (fun e => View.ld x0 (Rect.unit (s := S1x256x512) ![0, 0, o] S1x256x128.size h) (ix3 0 r e)) (64 * (d.val / 64) + e)
      = lane (fun e => x0 (ix3 0 r e)) (64 * ((o + d.val) / 64) + e) := by
  rw [lane_of_lt _ _ (by omega), lane_of_lt _ _ (by omega), ld_chunk x0 o h ho]
  congr 2
  apply Fin.ext
  show o + (64 * (d.val / 64) + e) = 64 * ((o + d.val) / 64) + e
  omega

/-- A chunk of the first key head is its part of the block's attention. -/
theorem low_chunk (o : ℕ) (h : ∀ a, (![0, 0, o] : Fin 3 → ℕ) a + S1x256x128.size a ≤ S1x256x512.size a) (ho : o + 128 ≤ 256)
    (h64 : o % 64 = 0) (x : S1x256x128.Idx) :
    lowPair (View.ld x0 (Rect.unit (s := S1x256x512) ![0, 0, o] S1x256x128.size h)) x1 x2 x3 x4 x
      = blockAttn x0 x1 x2 x3 x4 ((Rect.unit (s := S1x256x512) ![0, 0, o] S1x256x128.size h).emb x) := by
  obtain ⟨z, r, d, rfl⟩ : ∃ (z : Fin 1) (r : Fin 256) (d : Fin 128), x = ix3 z r d := ⟨x 0, x 1, x 2, eq_ix3 x⟩
  obtain rfl : z = 0 := Subsingleton.elim _ _
  rw [lowPair_apply, emb_chunk o h (by omega)]
  unfold blockAttn attn
  have e1 : (o + d.val) / 256 = 0 := by omega
  have e2 : (o + d.val) % 64 = d.val % 64 := by omega
  show _ = headAt (lane fun e => x0 (ix3 0 r e)) _ _ _ _ (64 * ((o + d.val) / 64)) (64 * ((o + d.val) / 256))
    (64 * ((o + d.val) / 256) + (o + d.val) % 64)
  rw [e1, e2, Nat.mul_zero, Nat.zero_add]
  exact headAt_congr _ _ _ _ _ _ _ _ _ _ fun e he => lane_chunk x0 o h (by omega) h64 r d e he

/-- A chunk of the second key head is its part of the block's attention. -/
theorem high_chunk (o : ℕ) (h : ∀ a, (![0, 0, o] : Fin 3 → ℕ) a + S1x256x128.size a ≤ S1x256x512.size a) (ho : 256 ≤ o)
    (ho' : o + 128 ≤ 512) (h64 : o % 64 = 0) (x : S1x256x128.Idx) :
    highPair (View.ld x0 (Rect.unit (s := S1x256x512) ![0, 0, o] S1x256x128.size h)) x1 x2 x3 x4 x
      = blockAttn x0 x1 x2 x3 x4 ((Rect.unit (s := S1x256x512) ![0, 0, o] S1x256x128.size h).emb x) := by
  obtain ⟨z, r, d, rfl⟩ : ∃ (z : Fin 1) (r : Fin 256) (d : Fin 128), x = ix3 z r d := ⟨x 0, x 1, x 2, eq_ix3 x⟩
  obtain rfl : z = 0 := Subsingleton.elim _ _
  rw [highPair_apply, emb_chunk o h ho']
  unfold blockAttn attn
  have e1 : (o + d.val) / 256 = 1 := by omega
  have e2 : (o + d.val) % 64 = d.val % 64 := by omega
  show _ = headAt (lane fun e => x0 (ix3 0 r e)) _ _ _ _ (64 * ((o + d.val) / 64)) (64 * ((o + d.val) / 256))
    (64 * ((o + d.val) / 256) + (o + d.val) % 64)
  rw [e1, e2, Nat.mul_one]
  exact headAt_congr _ _ _ _ _ _ _ _ _ _ fun e he => lane_chunk x0 o h ho' h64 r d e he

theorem hz3 : (![0, 0, 0] : Fin 3 → ℕ) = fun _ => 0 := funext fun a => by fin_cases a <;> rfl

/-- What a point leaves in the output's staging buffer is the attention of its blocks. -/
theorem block_apply (i : S1x256x512.Idx) : out0_5 (F := Ideal) x0 x1 x2 x3 x4 i = blockAttn x0 x1 x2 x3 x4 i := by
  rw [out_eq, View.ld_unit_zero hz3, View.ld_unit_zero hz3, View.ld_unit_zero hz3, View.ld_unit_zero hz3]
  refine View.canon_apply_of_pieces (blockAttn x0 x1 x2 x3 x4) _ ?_ i (cover0_5 _ _ _ _ i)
  intro p hp x
  simp only [List.mem_cons, List.not_mem_nil, or_false] at hp
  rcases hp with rfl | rfl | rfl | rfl
  · exact high_chunk x0 x1 x2 x3 x4 384 _ (by omega) (by omega) (by omega) x
  · exact high_chunk x0 x1 x2 x3 x4 256 _ (by omega) (by omega) (by omega) x
  · exact low_chunk x0 x1 x2 x3 x4 128 _ (by omega) (by omega) x
  · exact low_chunk x0 x1 x2 x3 x4 0 _ (by omega) (by omega) x

end

variable (m : (ℓ : Loc nD τ sig) → Buf (Elt Ideal) ℓ)

/-- Where each window's block lies at a grid point: batch `t / 16`, and for queries and result position block `t % 16`. -/
theorem idx0 : ∀ t : Fin cfg0.N, win0_0.index t (0 : Fin 3) = t.val / 16 ∧ win0_0.index t (1 : Fin 3) = t.val % 16 ∧ win0_0.index t (2 : Fin 3) = 0 :=
  (by decide +kernel : ∀ t : Fin grid0.N, _)
theorem idx1 : ∀ t : Fin cfg0.N, win0_1.index t (0 : Fin 3) = t.val / 16 ∧ win0_1.index t (1 : Fin 3) = 0 ∧ win0_1.index t (2 : Fin 3) = 0 :=
  (by decide +kernel : ∀ t : Fin grid0.N, _)
theorem idx2 : ∀ t : Fin cfg0.N, win0_2.index t (0 : Fin 3) = t.val / 16 ∧ win0_2.index t (1 : Fin 3) = 0 ∧ win0_2.index t (2 : Fin 3) = 0 :=
  (by decide +kernel : ∀ t : Fin grid0.N, _)
theorem idx3 : ∀ t : Fin cfg0.N, win0_3.index t (0 : Fin 3) = t.val / 16 ∧ win0_3.index t (1 : Fin 3) = 0 ∧ win0_3.index t (2 : Fin 3) = 0 :=
  (by decide +kernel : ∀ t : Fin grid0.N, _)
theorem idx4 : ∀ t : Fin cfg0.N, win0_4.index t (0 : Fin 3) = t.val / 16 ∧ win0_4.index t (1 : Fin 3) = 0 ∧ win0_4.index t (2 : Fin 3) = 0 :=
  (by decide +kernel : ∀ t : Fin grid0.N, _)
theorem idx5 : ∀ t : Fin cfg0.N, win0_5.index t (0 : Fin 3) = t.val / 16 ∧ win0_5.index t (1 : Fin 3) = t.val % 16 ∧ win0_5.index t (2 : Fin 3) = 0 :=
  (by decide +kernel : ∀ t : Fin grid0.N, _)

/-- A grid point is below 128. -/
theorem point_lt (t : Fin cfg0.N) : t.val < 128 := t.isLt

/-- The query block's index in the query array. -/
theorem emb0 (t : Fin cfg0.N) (r : Fin 256) (c : Fin 512) :
    ((cfg0.win 0).blk t).view.emb (ix3 0 r c)
      = (ix3 ⟨t.val / 16, by have := point_lt t; omega⟩ ⟨256 * (t.val % 16) + r.val, by omega⟩ c : S8x4096x512.Idx) := by
  obtain ⟨e0, e1, e2⟩ := idx0 t
  funext a; apply Fin.ext
  match a with
  | ⟨0, _⟩ => show win0_0.index t (0 : Fin 3) * 1 + 1 * 0 = t.val / 16; omega
  | ⟨1, _⟩ => show win0_0.index t (1 : Fin 3) * 256 + 1 * r.val = 256 * (t.val % 16) + r.val; omega
  | ⟨2, _⟩ => show win0_0.index t (2 : Fin 3) * 512 + 1 * c.val = c.val; omega

/-- The result block's index in the result array. -/
theorem emb5 (t : Fin cfg0.N) (r : Fin 256) (c : Fin 512) :
    ((cfg0.win 5).blk t).view.emb (ix3 0 r c)
      = (ix3 ⟨t.val / 16, by have := point_lt t; omega⟩ ⟨256 * (t.val % 16) + r.val, by omega⟩ c : S8x4096x512.Idx) := by
  obtain ⟨e0, e1, e2⟩ := idx5 t
  funext a; apply Fin.ext
  match a with
  | ⟨0, _⟩ => show win0_5.index t (0 : Fin 3) * 1 + 1 * 0 = t.val / 16; omega
  | ⟨1, _⟩ => show win0_5.index t (1 : Fin 3) * 256 + 1 * r.val = 256 * (t.val % 16) + r.val; omega
  | ⟨2, _⟩ => show win0_5.index t (2 : Fin 3) * 512 + 1 * c.val = c.val; omega

/-- The context keys' block is the batch's part of their array. -/
theorem emb1 (t : Fin cfg0.N) (s : Fin 256) (e : Fin 128) :
    ((cfg0.win 1).blk t).view.emb (ix3 0 s e) = (ix3 ⟨t.val / 16, by have := point_lt t; omega⟩ s e : S8x256x128.Idx) := by
  obtain ⟨e0, e1, e2⟩ := idx1 t
  funext a; apply Fin.ext
  match a with
  | ⟨0, _⟩ => show win0_1.index t (0 : Fin 3) * 1 + 1 * 0 = t.val / 16; omega
  | ⟨1, _⟩ => show win0_1.index t (1 : Fin 3) * 256 + 1 * s.val = s.val; omega
  | ⟨2, _⟩ => show win0_1.index t (2 : Fin 3) * 128 + 1 * e.val = e.val; omega

/-- The context values' block is the batch's part of their array. -/
theorem emb2 (t : Fin cfg0.N) (s : Fin 256) (e : Fin 128) :
    ((cfg0.win 2).blk t).view.emb (ix3 0 s e) = (ix3 ⟨t.val / 16, by have := point_lt t; omega⟩ s e : S8x256x128.Idx) := by
  obtain ⟨e0, e1, e2⟩ := idx2 t
  funext a; apply Fin.ext
  match a with
  | ⟨0, _⟩ => show win0_2.index t (0 : Fin 3) * 1 + 1 * 0 = t.val / 16; omega
  | ⟨1, _⟩ => show win0_2.index t (1 : Fin 3) * 256 + 1 * s.val = s.val; omega
  | ⟨2, _⟩ => show win0_2.index t (2 : Fin 3) * 128 + 1 * e.val = e.val; omega

/-- The latent keys' block is the batch's part of their array. -/
theorem emb3 (t : Fin cfg0.N) (s : Fin 4096) (e : Fin 128) :
    ((cfg0.win 3).blk t).view.emb (ix3 0 s e) = (ix3 ⟨t.val / 16, by have := point_lt t; omega⟩ s e : S8x4096x128.Idx) := by
  obtain ⟨e0, e1, e2⟩ := idx3 t
  funext a; apply Fin.ext
  match a with
  | ⟨0, _⟩ => show win0_3.index t (0 : Fin 3) * 1 + 1 * 0 = t.val / 16; omega
  | ⟨1, _⟩ => show win0_3.index t (1 : Fin 3) * 4096 + 1 * s.val = s.val; omega
  | ⟨2, _⟩ => show win0_3.index t (2 : Fin 3) * 128 + 1 * e.val = e.val; omega

/-- The latent values' block is the batch's part of their array. -/
theorem emb4 (t : Fin cfg0.N) (s : Fin 4096) (e : Fin 128) :
    ((cfg0.win 4).blk t).view.emb (ix3 0 s e) = (ix3 ⟨t.val / 16, by have := point_lt t; omega⟩ s e : S8x4096x128.Idx) := by
  obtain ⟨e0, e1, e2⟩ := idx4 t
  funext a; apply Fin.ext
  match a with
  | ⟨0, _⟩ => show win0_4.index t (0 : Fin 3) * 1 + 1 * 0 = t.val / 16; omega
  | ⟨1, _⟩ => show win0_4.index t (1 : Fin 3) * 4096 + 1 * s.val = s.val; omega
  | ⟨2, _⟩ => show win0_4.index t (2 : Fin 3) * 128 + 1 * e.val = e.val; omega

/-- The attention of five whole arrays. -/
def wholeAttn (q : Vec Ideal S8x4096x512 .f32) (kc vc : Vec Ideal S8x256x128 .bf16) (kl vl : Vec Ideal S8x4096x128 .bf16) :
    Vec Ideal S8x4096x512 .f32 := fun i =>
  attn (fun b r c => q (ix3 b r c)) (fun b r c => kc (ix3 b r c)) (fun b r c => vc (ix3 b r c)) (fun b r c => kl (ix3 b r c))
    (fun b r c => vl (ix3 b r c)) (i 0) (i 1) (i 2)

/-- The attention of the arrays a core holds when the kernel is entered. -/
def result (c : Dev nD) : Vec Ideal S8x4096x512 .f32 :=
  wholeAttn (V m c main_arg0) (V m c main_arg1) (V m c main_arg2) (V m c main_arg3) (V m c main_arg4)

/-- What point `t` writes back is its block of the attention of the whole arrays. -/
theorem flushed_eq (c : Dev nD) (t : Fin cfg0.N) :
    (dats m 0 c).flushed 5 t = ((cfg0.win 5).blk t).view.read (Elt Ideal) (result m c) := by
  rw [flushed5]
  funext i
  obtain ⟨z, r, l, rfl⟩ : ∃ (z : Fin 1) (r : Fin 256) (l : Fin 512), i = (ix3 z r l : S1x256x512.Idx) := ⟨i 0, i 1, i 2, eq_ix3 (n0 := 1) (n1 := 256) (n2 := 512) i⟩
  obtain rfl : z = 0 := Subsingleton.elim _ _
  show out0_5 (F := Ideal) (iblk m c 0 t) (iblk m c 1 t) (iblk m c 2 t) (iblk m c 3 t) (iblk m c 4 t) (ix3 0 r l)
    = result m c (((cfg0.win 5).blk t).view.emb (ix3 0 r l))
  rw [block_apply, emb5]
  have h0 : ∀ (r : Fin 256) (l : Fin 512), iblk m c 0 t (ix3 0 r l)
      = V m c main_arg0 (ix3 ⟨t.val / 16, by have := point_lt t; omega⟩ ⟨256 * (t.val % 16) + r.val, by omega⟩ l) := fun r l => by
    rw [← emb0]; rfl
  have h1 : ∀ (s : Fin 256) (e : Fin 128), iblk m c 1 t (ix3 0 s e)
      = V m c main_arg1 (ix3 ⟨t.val / 16, by have := point_lt t; omega⟩ s e) := fun s e => by
    rw [← emb1]; rfl
  have h2 : ∀ (s : Fin 256) (e : Fin 128), iblk m c 2 t (ix3 0 s e)
      = V m c main_arg2 (ix3 ⟨t.val / 16, by have := point_lt t; omega⟩ s e) := fun s e => by
    rw [← emb2]; rfl
  have h3 : ∀ (s : Fin 4096) (e : Fin 128), iblk m c 3 t (ix3 0 s e)
      = V m c main_arg3 (ix3 ⟨t.val / 16, by have := point_lt t; omega⟩ s e) := fun s e => by
    rw [← emb3]; rfl
  have h4 : ∀ (s : Fin 4096) (e : Fin 128), iblk m c 4 t (ix3 0 s e)
      = V m c main_arg4 (ix3 ⟨t.val / 16, by have := point_lt t; omega⟩ s e) := fun s e => by
    rw [← emb4]; rfl
  unfold blockAttn result wholeAttn attn
  show headAt (lane fun e => iblk m c 0 t (ix3 0 r e)) (fun s => lane fun e => iblk m c 1 t (ix3 0 s e))
    (fun s => lane fun e => iblk m c 2 t (ix3 0 s e)) (fun s => lane fun e => iblk m c 3 t (ix3 0 s e))
    (fun s => lane fun e => iblk m c 4 t (ix3 0 s e)) _ _ _ = _
  simp only [h0, h1, h2, h3, h4]
  rfl

/-- Every index of the result array lies in some point's block. -/
theorem cover (i : S8x4096x512.Idx) : ∃ t : Fin cfg0.N, (cfg0.win 5).flush t = true ∧ i ∈ ((cfg0.win 5).blk t).view.set := by
  obtain ⟨b, r, l, rfl⟩ : ∃ (b : Fin 8) (r : Fin 4096) (l : Fin 512), i = ix3 b r l := ⟨i 0, i 1, i 2, eq_ix3 i⟩
  have hp : 16 * b.val + r.val / 256 < 128 := by omega
  have h := ((cfg0.win 5).blk (⟨16 * b.val + r.val / 256, hp⟩ : Fin cfg0.N)).view.emb_mem_set (ix3 0 ⟨r.val % 256, by omega⟩ l)
  rw [emb5] at h
  have e : ∀ (b' : Fin 8) (r' : Fin 4096), b'.val = b.val → r'.val = r.val → (ix3 b' r' l : S8x4096x512.Idx) = ix3 b r l :=
    fun b' r' hb hr => by rw [Fin.ext hb, Fin.ext hr]
  rw [e _ _ (by show (16 * b.val + r.val / 256) / 16 = b.val; omega)
    (by show 256 * ((16 * b.val + r.val / 256) % 16) + r.val % 256 = r.val; omega)] at h
  exact ⟨_, flush0_5 _, h⟩

/-- The result array after the run is the attention of the arrays as launched. -/
theorem final (c : Dev nD) : (dats m 0 c).arrAt 5 cfg0.N
    = wholeAttn (m ((c : Thread nD τ).loc main_arg0)) (m ((c : Thread nD τ).loc main_arg1)) (m ((c : Thread nD τ).loc main_arg2))
        (m ((c : Thread nD τ).loc main_arg3)) (m ((c : Thread nD τ).loc main_arg4)) :=
  ((dats m 0 c).arrAt_eq_of_cover 5 (result m c) (fun t _ => flushed_eq m c t) cover).trans rfl

end Cert.Attention

end
-- ==== Proof.Ref.lean ====
/-
  The reference at an index: the scores, their largest, the normalised weights and the weighted sum of the values.
-/
module

public import proofs.«01_k».proof.Proof.Gen.ReferenceIdeal.Read
public import Idealize.ShloMosaic.Lib.Pointwise

@[expose] public section

set_option maxRecDepth 16384

noncomputable section

namespace Cert.Attention

open Idealize.ShloMosaic Cert.ReferenceIdeal Cert.ReferenceIdeal.Gen Cert.ReferenceIdeal.Read

variable (x0 : Vec Ideal S8x4096x512 .f32) (x1 x2 : Vec Ideal S8x256x128 .bf16) (x3 x4 : Vec Ideal S8x4096x128 .bf16)

/-- The scores of a query against all keys. -/
theorem score_apply (b : Fin 8) (t : Fin 4096) (j : Fin 2) (g : Fin 4) (s : Fin 4352) :
    val_main_v12 (F := Ideal) x0 x1 x3 (ix5 b j g t s) = ∑ e : Fin 64, val_main_v5 (F := Ideal) x1 x3 (ix4 b s j e) * val_main_v0 (F := Ideal) x0 (ix5 b t j g e) := by
  pointwise [val_main_v12, val_main_v11]

/-- The largest score of a query. -/
theorem max_apply (b : Fin 8) (t : Fin 4096) (j : Fin 2) (g : Fin 4) :
    val_main_v13 (F := Ideal) x0 x1 x3 (ix4 b j g t) = Finset.univ.fold max (Ideal.ofBits .f32 4286578688#32) fun s : Fin 4352 => val_main_v12 (F := Ideal) x0 x1 x3 (ix5 b j g t s) := by
  pointwise [val_main_v13, val_main_cst]

theorem sum_apply (b : Fin 8) (t : Fin 4096) (j : Fin 2) (g : Fin 4) :
    val_main_v20 (F := Ideal) x0 x1 x3 (ix4 b j g t) = ∑ s : Fin 4352, val_main_v19 (F := Ideal) x0 x1 x3 (ix5 b j g t s) := by
  pointwise [val_main_v20, val_main_cst_1]

theorem less_apply (b : Fin 8) (t : Fin 4096) (j : Fin 2) (g : Fin 4) (s : Fin 4352) :
    val_main_v17 (F := Ideal) x0 x1 x3 (ix5 b j g t s) = max (Ideal.ofBits .f32 4286578688#32) (val_main_v13 (F := Ideal) x0 x1 x3 (ix4 b j g t)) := by
  rw [val_main_v17_apply, val_main_v16_apply, val_main_v15_apply, val_main_v14_apply, val_main_cst_0_apply]
  generalize val_main_v13 (F := Ideal) x0 x1 x3 = y
  have e : idx_main_v16 (idx_main_v17 (ix5 b j g t s)) = ix4 b j g t := funext fun a => by fin_cases a <;> rfl
  rw [e]
  rfl

theorem over_apply (b : Fin 8) (t : Fin 4096) (j : Fin 2) (g : Fin 4) (s : Fin 4352) :
    val_main_v22 (F := Ideal) x0 x1 x3 (ix5 b j g t s) = val_main_v20 (F := Ideal) x0 x1 x3 (ix4 b j g t) := by
  pointwise [val_main_v22, val_main_v21]

/-- The keys, the context's before the latent's. -/
theorem key_apply (b : Fin 8) (s : Fin 4352) (j : Fin 2) (e : Fin 64) :
    val_main_v5 (F := Ideal) x1 x3 (ix4 b s j e)
      = if h : s.val < 256 then x1 (ix3 b ⟨s.val, h⟩ ⟨64 * j.val + e.val, by omega⟩)
        else x3 (ix3 b ⟨s.val - 256, by omega⟩ ⟨64 * j.val + e.val, by omega⟩) := by
  pointwise [val_main_v5, val_main_v4, val_main_v3, val_main_v2, val_main_v1, Nat.mul_comm 64 j.val]

/-- The values, the context's before the latent's. -/
theorem value_apply (b : Fin 8) (s : Fin 4352) (j : Fin 2) (e : Fin 64) :
    val_main_v10 (F := Ideal) x2 x4 (ix4 b s j e)
      = if h : s.val < 256 then x2 (ix3 b ⟨s.val, h⟩ ⟨64 * j.val + e.val, by omega⟩)
        else x4 (ix3 b ⟨s.val - 256, by omega⟩ ⟨64 * j.val + e.val, by omega⟩) := by
  pointwise [val_main_v10, val_main_v9, val_main_v8, val_main_v7, val_main_v6, Nat.mul_comm 64 j.val]

/-- The queries by head. -/
theorem query_apply (b : Fin 8) (t : Fin 4096) (j : Fin 2) (g : Fin 4) (e : Fin 64) :
    val_main_v0 (F := Ideal) x0 (ix5 b t j g e) = x0 (ix3 b t ⟨256 * j.val + 64 * g.val + e.val, by omega⟩) := by
  pointwise [val_main_v0, Nat.mul_comm 64 g.val, Nat.mul_comm 256 j.val]

/-- The normalised weights. -/
theorem weight_apply (b : Fin 8) (t : Fin 4096) (j : Fin 2) (g : Fin 4) (s : Fin 4352) :
    val_main_v23 (F := Ideal) x0 x1 x3 (ix5 b j g t s)
      = Ideal.div (val_main_v19 (F := Ideal) x0 x1 x3 (ix5 b j g t s)) (val_main_v20 (F := Ideal) x0 x1 x3 (ix4 b j g t)) := by
  rw [val_main_v23_apply, over_apply]
  rfl

/-- The exponentials. -/
theorem exp_apply (b : Fin 8) (t : Fin 4096) (j : Fin 2) (g : Fin 4) (s : Fin 4352) :
    val_main_v19 (F := Ideal) x0 x1 x3 (ix5 b j g t s)
      = Ideal.exp (val_main_v12 (F := Ideal) x0 x1 x3 (ix5 b j g t s) - val_main_v17 (F := Ideal) x0 x1 x3 (ix5 b j g t s)) := by
  rw [val_main_v19_apply, val_main_v18_apply]
  rfl

/-- The result: each head's values weighted. -/
theorem ref_apply (b : Fin 8) (t : Fin 4096) (c : Fin 512) :
    val_main_v26 (F := Ideal) x0 x1 x2 x3 x4 (ix3 b t c)
      = ∑ s : Fin 4352, val_main_v10 (F := Ideal) x2 x4 (ix4 b s ⟨c.val / 256, by omega⟩ ⟨c.val % 64, by omega⟩)
          * val_main_v23 (F := Ideal) x0 x1 x3 (ix5 b ⟨c.val / 256, by omega⟩ ⟨c.val / 64 % 4, by omega⟩ t s) := by
  pointwise [val_main_v26, val_main_v25, val_main_v24]

end Cert.Attention

end
-- ==== Proof.Equal.lean ====
/-
  For finite queries and keys the reference's result is the attention the kernel computes: the concatenated keys split into
  the two sets, and the division by the sum of the weights moves out of the weighted sum.
-/
module

public import proofs.«01_k».proof.Proof.Softmax
public import proofs.«01_k».proof.Proof.Block
public import proofs.«01_k».proof.Proof.Ref
public import proofs.«01_k».proof.Pre_finite_qk

@[expose] public section

set_option maxRecDepth 16384

noncomputable section

namespace Cert.Attention

open Idealize.ShloMosaic Cert.Layer

section
open Cert.ReferenceIdeal Cert.ReferenceIdeal.Gen Cert.ReferenceIdeal.Read
variable (x0 : Vec Ideal S8x4096x512 .f32) (x1 x2 : Vec Ideal S8x256x128 .bf16) (x3 x4 : Vec Ideal S8x4096x128 .bf16)

/-- The reference's normalised weight, in the scores. -/
theorem weight_eq (b : Fin 8) (t : Fin 4096) (j : Fin 2) (g : Fin 4) (s : Fin 4352) :
    val_main_v23 (F := Ideal) x0 x1 x3 (ix5 b j g t s)
      = Ideal.div (Ideal.exp (val_main_v12 (F := Ideal) x0 x1 x3 (ix5 b j g t s)
            - Finset.univ.fold max ⊥ fun s : Fin 4352 => val_main_v12 (F := Ideal) x0 x1 x3 (ix5 b j g t s)))
          (∑ k : Fin 4352, Ideal.exp (val_main_v12 (F := Ideal) x0 x1 x3 (ix5 b j g t k)
            - Finset.univ.fold max ⊥ fun s : Fin 4352 => val_main_v12 (F := Ideal) x0 x1 x3 (ix5 b j g t s))) := by
  rw [weight_apply, sum_apply]
  simp only [exp_apply, less_apply, max_apply, ofBits_bot]
  rw [max_eq_right bot_le]

/-- A key of the concatenation, from the context's and the latent's. -/
theorem key_context (b : Fin 8) (s : Fin 256) (j : Fin 2) (e : Fin 64) :
    val_main_v5 (F := Ideal) x1 x3 (ix4 b (Fin.castAdd 4096 s) j e) = lane (fun d => x1 (ix3 b s d)) (64 * j.val + e.val) := by
  rw [key_apply, dif_pos (show (Fin.castAdd 4096 s).val < 256 from s.isLt), lane_of_lt _ _ (by omega)]
  rfl

theorem key_latent (b : Fin 8) (s : Fin 4096) (j : Fin 2) (e : Fin 64) :
    val_main_v5 (F := Ideal) x1 x3 (ix4 b (Fin.natAdd 256 s) j e) = lane (fun d => x3 (ix3 b s d)) (64 * j.val + e.val) := by
  have hs : (Fin.natAdd 256 s).val = 256 + s.val := rfl
  have es : (⟨(Fin.natAdd 256 s).val - 256, by omega⟩ : Fin 4096) = s := Fin.ext (by show 256 + s.val - 256 = s.val; omega)
  rw [key_apply, dif_neg (by omega), lane_of_lt _ _ (by omega), es]

/-- A value of the concatenation, from the context's and the latent's. -/
theorem value_context (b : Fin 8) (s : Fin 256) (j : Fin 2) (e : Fin 64) :
    val_main_v10 (F := Ideal) x2 x4 (ix4 b (Fin.castAdd 4096 s) j e) = lane (fun d => x2 (ix3 b s d)) (64 * j.val + e.val) := by
  rw [value_apply, dif_pos (show (Fin.castAdd 4096 s).val < 256 from s.isLt), lane_of_lt _ _ (by omega)]
  rfl

theorem value_latent (b : Fin 8) (s : Fin 4096) (j : Fin 2) (e : Fin 64) :
    val_main_v10 (F := Ideal) x2 x4 (ix4 b (Fin.natAdd 256 s) j e) = lane (fun d => x4 (ix3 b s d)) (64 * j.val + e.val) := by
  have hs : (Fin.natAdd 256 s).val = 256 + s.val := rfl
  have es : (⟨(Fin.natAdd 256 s).val - 256, by omega⟩ : Fin 4096) = s := Fin.ext (by show 256 + s.val - 256 = s.val; omega)
  rw [value_apply, dif_neg (by omega), lane_of_lt _ _ (by omega), es]

/-- With finite queries and keys every score is finite. -/
theorem score_finite (h0 : ∀ i, Finite (x0 i)) (h1 : ∀ i, Finite (x1 i)) (h3 : ∀ i, Finite (x3 i))
    (b : Fin 8) (t : Fin 4096) (j : Fin 2) (g : Fin 4) (s : Fin 4352) :
    Finite (val_main_v12 (F := Ideal) x0 x1 x3 (ix5 b j g t s)) := by
  rw [score_apply]
  refine finite_dot _ _ (fun e => ?_) fun e => ?_
  · rw [key_apply]
    split
    · exact h1 _
    · exact h3 _
  · rw [query_apply]
    exact h0 _

/-- A score of the reference against a key of lanes `k`. -/
theorem score_lane (b : Fin 8) (t : Fin 4096) (c : Fin 512) (s : Fin 4352) (k : ℕ → EReal)
    (hk : ∀ e : Fin 64, val_main_v5 (F := Ideal) x1 x3 (ix4 b s ⟨c.val / 256, by omega⟩ e) = k (64 * (c.val / 256) + e.val)) :
    val_main_v12 (F := Ideal) x0 x1 x3 (ix5 b ⟨c.val / 256, by omega⟩ ⟨c.val / 64 % 4, by omega⟩ t s)
      = ∑ e : Fin 64, lane (fun d => x0 (ix3 b t d)) (64 * (c.val / 64) + e.val) * k (64 * (c.val / 256) + e.val) := by
  rw [score_apply]
  refine Finset.sum_congr rfl fun e _ => ?_
  rw [hk, query_apply, lane_of_lt _ _ (by omega), mul_comm]
  congr 3
  apply Fin.ext
  show 256 * (c.val / 256) + 64 * (c.val / 64 % 4) + e.val = 64 * (c.val / 64) + e.val
  omega

/-- THE REFERENCE IS THE ATTENTION, for finite queries and keys and any values. -/
theorem ref_eq (h0 : ∀ i, Finite (x0 i)) (h1 : ∀ i, Finite (x1 i)) (h3 : ∀ i, Finite (x3 i)) :
    val_main_v26 (F := Ideal) x0 x1 x2 x3 x4 = wholeAttn x0 x1 x2 x3 x4 := by
  funext i
  obtain ⟨b, t, c, rfl⟩ : ∃ (b : Fin 8) (t : Fin 4096) (c : Fin 512), i = ix3 b t c := ⟨i 0, i 1, i 2, eq_ix3 i⟩
  rw [ref_apply]
  have hw := weigh_eq (m := 256) (n := 4096)
    (fun s => val_main_v12 (F := Ideal) x0 x1 x3 (ix5 b ⟨c.val / 256, by omega⟩ ⟨c.val / 64 % 4, by omega⟩ t s))
    (fun s => val_main_v10 (F := Ideal) x2 x4 (ix4 b s ⟨c.val / 256, by omega⟩ ⟨c.val % 64, by omega⟩))
    (fun s => score_finite x0 x1 x3 h0 h1 h3 b t _ _ s) (by omega)
  simp only [weight_eq, mul_comm (val_main_v10 (F := Ideal) x2 x4 _)]
  refine hw.symm.trans ?_
  simp only [value_context, value_latent]
  have hc : ∀ s : Fin 256, val_main_v12 (F := Ideal) x0 x1 x3 (ix5 b ⟨c.val / 256, by omega⟩ ⟨c.val / 64 % 4, by omega⟩ t (Fin.castAdd 4096 s)) = _ :=
    fun s => score_lane x0 x1 x3 b t c (Fin.castAdd 4096 s) (lane fun d => x1 (ix3 b s d)) fun e => key_context x1 x3 b s _ e
  have hl : ∀ s : Fin 4096, val_main_v12 (F := Ideal) x0 x1 x3 (ix5 b ⟨c.val / 256, by omega⟩ ⟨c.val / 64 % 4, by omega⟩ t (Fin.natAdd 256 s)) = _ :=
    fun s => score_lane x0 x1 x3 b t c (Fin.natAdd 256 s) (lane fun d => x3 (ix3 b s d)) fun e => key_latent x1 x3 b s _ e
  simp only [hc, hl]
  rfl

end

/-- The side conditions the precondition's operations state. -/
theorem preFacts : Cert.Pre_finite_qk.Facts where
  bcast_S_S8x4096x512 := by decide
  bitsLt_bf16_f32 := by decide
  bcast_S_S8x256x128 := by decide
  bcast_S_S8x4096x128 := by decide

section
open Cert.Pre_finite_qk
variable [Cert.Pre_finite_qk.Facts] (x0 : Vec Ideal S8x4096x512 .f32) (x1 x2 : Vec Ideal S8x256x128 .bf16) (x3 x4 : Vec Ideal S8x4096x128 .bf16)

/-- The precondition says that the queries are finite, -/
theorem pre_q (h : (fn (F := Ideal) x0 x1 x2 x3 x4).1 = fun _ => 1#1) (i : S8x4096x512.Idx) : Finite (x0 i) := by
  have := congrFun h i
  pointwise [fn] at this
  exact finite_of_word this

/-- that the context keys are, -/
theorem pre_kc (h : (fn (F := Ideal) x0 x1 x2 x3 x4).2.1 = fun _ => 1#1) (i : S8x256x128.Idx) : Finite (x1 i) := by
  have := congrFun h i
  pointwise [fn] at this
  exact finite_of_word this

/-- and that the latent keys are. -/
theorem pre_kl (h : (fn (F := Ideal) x0 x1 x2 x3 x4).2.2 = fun _ => 1#1) (i : S8x4096x128.Idx) : Finite (x3 i) := by
  have := congrFun h i
  pointwise [fn] at this
  exact finite_of_word this

end

end Cert.Attention

end
-- ==== Proof.lean ====
/-
  The certificate of four calls of the layer: the latent attention, the short convolution with the output product, the
  projections of the time mixing, and its readout. For each: the frames of the kernel at both instances and of the reference, that the
  idealized kernel preserves the kernel, and that over the extended reals kernel and reference compute the same arrays,
  the attention whenever the queries and the keys are finite, the projections whenever what the normed key is made of is,
  the readout whenever what is summed over a head is.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.ConvOut
public import proofs.«01_k».proof.Proof.Gen.ConvOut.Frame
public import proofs.«01_k».proof.Proof.Gen.ConvOutIdeal
public import proofs.«01_k».proof.Proof.Gen.ConvOutIdeal.Frame
public import proofs.«01_k».proof.Proof.Gen.ConvOutRefIdeal
public import proofs.«01_k».proof.Proof.Gen.Rwkv
public import proofs.«01_k».proof.Proof.Gen.RwkvIdeal
public import proofs.«01_k».proof.Proof.Gen.RwkvRefIdeal
public import proofs.«01_k».proof.Proof.Gen.Readout
public import proofs.«01_k».proof.Proof.Gen.Readout.Frame
public import proofs.«01_k».proof.Proof.Gen.ReadoutIdeal
public import proofs.«01_k».proof.Proof.Gen.ReadoutIdeal.Frame
public import proofs.«01_k».proof.Proof.Gen.ReadoutRefIdeal
public import proofs.«01_k».proof.Proof.ConvEqual
public import proofs.«01_k».proof.Proof.MixBitsFrame
public import proofs.«01_k».proof.Proof.MixFrame
public import proofs.«01_k».proof.Proof.MixEqual
public import proofs.«01_k».proof.Proof.ReadEqual
public import proofs.«01_k».proof.Proof.Equal
public import Idealize.ShloMosaic.Adequacy
public import Idealize.ShloMosaic.Init

@[expose] public section

noncomputable section

namespace Cert.Proof

open Idealize.ShloMosaic Idealize.SL.Sem Cert.Attention

/-- From memories that agree on the arguments, the queries and keys finite, kernel and reference run to the
    same array, the attention of the arguments. -/
theorem algebraic :
    Cert.algebraic_KernelIdeal_ReferenceIdeal_pre_finite_qk (hKernelIdeal := Cert.KernelIdeal.Gen.facts)
      (hReferenceIdeal := Cert.ReferenceIdeal.Gen.facts) (hPre_finite_qk := preFacts) := by
  intro m g m' g' hpre hagree
  refine ⟨fun c => wholeAttn (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4)), ?_, ?_⟩
  · exact (θ_run _ _ _).mono (fun r h c => ⟨(h c).1.trans (final m c), (h c).2⟩) (Cert.KernelIdeal.Value.run_blocks m g)
  · refine (θ_run _ _ _).mono (fun r h c => ⟨(h c).1.trans ?_, (h c).2⟩) (Cert.ReferenceIdeal.Value.run m' g')
    obtain ⟨hq, hkc, hkl⟩ := hpre c
    obtain ⟨a0, a1, a2, a3, a4⟩ := hagree c
    rw [Cert.ReferenceIdeal.Read.val_main_v26_eq, a0, a1, a2, a3, a4]
    letI := preFacts
    exact ref_eq _ _ _ _ _ (pre_q _ _ _ _ _ hq) (pre_kc _ _ _ _ _ hkc) (pre_kl _ _ _ _ _ hkl)

/-- The reference runs and keeps its arguments; it declares no semaphore. -/
theorem frame_ref : Cert.quiescent_ReferenceIdeal (hReferenceIdeal := Cert.ReferenceIdeal.Gen.facts) := fun m g _ =>
  (θ_run _ _ _).mono (fun r h => ⟨fun c => (h c).2, sem_eq_zero_of_no_sems (by decide) r.2⟩) (Cert.ReferenceIdeal.Value.run m g)

/-- All the claims. -/
theorem claim : Cert.Claim :=
  ⟨Cert.Kernel.Gen.facts, Cert.KernelIdeal.Gen.facts, Cert.ReferenceIdeal.Gen.facts,
    Cert.ConvOut.Gen.facts, Cert.ConvOutIdeal.Gen.facts, Cert.ConvOutRefIdeal.Gen.facts,
    Cert.Rwkv.Gen.facts, Cert.RwkvIdeal.Gen.facts, Cert.RwkvRefIdeal.Gen.facts,
    Cert.Readout.Gen.facts, Cert.ReadoutIdeal.Gen.facts, Cert.ReadoutRefIdeal.Gen.facts, preFacts, Cert.Mix.keyFacts, Cert.Readoff.headsFacts,
    fun m g _ => Cert.Kernel.Gen.frame m g, fun m g _ => Cert.KernelIdeal.Gen.frame m g, fun m g _ => Cert.KernelIdeal.Gen.frame m g,
    frame_ref, fun m g _ => frame_ref m g trivial,
    fun m g _ => Cert.ConvOut.Gen.frame m g, fun m g _ => Cert.ConvOutIdeal.Gen.frame m g, Cert.Conv.frame_ref,
    fun m g _ => Cert.MixBits.frame m g, fun m g _ => Cert.MixIdeal.frame m g, fun m g _ => Cert.MixIdeal.frame m g,
    Cert.Mix.frame_ref, fun m g _ => Cert.Mix.frame_ref m g trivial,
    fun m g _ => Cert.Readout.Gen.frame m g, fun m g _ => Cert.ReadoutIdeal.Gen.frame m g, fun m g _ => Cert.ReadoutIdeal.Gen.frame m g,
    Cert.Readoff.frame_ref, fun m g _ => Cert.Readoff.frame_ref m g trivial,
    trivial, algebraic, trivial, Cert.Conv.algebraic, trivial, Cert.Mix.algebraic, trivial, Cert.Readoff.algebraic⟩

end Cert.Proof

end
